-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ValueScales (m : (ℓ : Loc Cert.ValueScales.nD Cert.ValueScales.τ Cert.ValueScales.sig) → Buf (Elt Bits) ℓ) : Prop :=
  True

def Pre_ValueScalesIdeal (m : (ℓ : Loc Cert.ValueScalesIdeal.nD Cert.ValueScalesIdeal.τ Cert.ValueScalesIdeal.sig) → Buf (Elt Ideal) ℓ) : Prop :=
  True

def Pre_ValueScalesIdeal_finite_values [hPre_finite_values : Cert.Pre_finite_values.Facts] (m : (ℓ : Loc Cert.ValueScalesIdeal.nD Cert.ValueScalesIdeal.τ Cert.ValueScalesIdeal.sig) → Buf (Elt Ideal) ℓ) : Prop :=
  ∀ c : Dev Cert.ValueScalesIdeal.nD,
    (Cert.Pre_finite_values.fn (F := Ideal) (m ((c.tc : Thread Cert.ValueScalesIdeal.nD Cert.ValueScalesIdeal.τ).loc Cert.ValueScalesIdeal.main_arg0))) = (fun _ => 1#1)

def Pre_ValueScalesReferenceIdeal (m : (ℓ : Loc Cert.ValueScalesReferenceIdeal.nD Cert.ValueScalesReferenceIdeal.τ Cert.ValueScalesReferenceIdeal.sig) → Buf (Elt Ideal) ℓ) : Prop :=
  True

def Pre_ValueScalesReferenceIdeal_finite_values [hPre_finite_values : Cert.Pre_finite_values.Facts] (m : (ℓ : Loc Cert.ValueScalesReferenceIdeal.nD Cert.ValueScalesReferenceIdeal.τ Cert.ValueScalesReferenceIdeal.sig) → Buf (Elt Ideal) ℓ) : Prop :=
  ∀ c : Dev Cert.ValueScalesReferenceIdeal.nD,
    (Cert.Pre_finite_values.fn (F := Ideal) (m ((c.tc : Thread Cert.ValueScalesReferenceIdeal.nD Cert.ValueScalesReferenceIdeal.τ).loc Cert.ValueScalesReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ValueScales [hValueScales : Cert.ValueScales.Facts] : Prop :=
  ∀ (m : (ℓ : Loc Cert.ValueScales.nD Cert.ValueScales.τ Cert.ValueScales.sig) → Buf (Elt Bits) ℓ) (g : Dev Cert.ValueScales.nD → PrngReg), Pre_ValueScales m →
    θ_run (Cert.ValueScales.defs (F := Bits)) (onTc (τ := Cert.ValueScales.τ) (Cert.ValueScales.main (F := Bits))) ⟨m, fun _ => 0, g⟩ (fun r => (∀ c : Dev Cert.ValueScales.nD,
      r.2.mem ((c.tc : Thread Cert.ValueScales.nD Cert.ValueScales.τ).loc Cert.ValueScales.main_arg0) = m ((c.tc : Thread Cert.ValueScales.nD Cert.ValueScales.τ).loc Cert.ValueScales.main_arg0))
      ∧ r.2.sem = fun _ => 0)

def quiescent_ValueScalesIdeal [hValueScalesIdeal : Cert.ValueScalesIdeal.Facts] : Prop :=
  ∀ (m : (ℓ : Loc Cert.ValueScalesIdeal.nD Cert.ValueScalesIdeal.τ Cert.ValueScalesIdeal.sig) → Buf (Elt Ideal) ℓ) (g : Dev Cert.ValueScalesIdeal.nD → PrngReg), Pre_ValueScalesIdeal m →
    θ_run (Cert.ValueScalesIdeal.defs (F := Ideal)) (onTc (τ := Cert.ValueScalesIdeal.τ) (Cert.ValueScalesIdeal.main (F := Ideal))) ⟨m, fun _ => 0, g⟩ (fun r => (∀ c : Dev Cert.ValueScalesIdeal.nD,
      r.2.mem ((c.tc : Thread Cert.ValueScalesIdeal.nD Cert.ValueScalesIdeal.τ).loc Cert.ValueScalesIdeal.main_arg0) = m ((c.tc : Thread Cert.ValueScalesIdeal.nD Cert.ValueScalesIdeal.τ).loc Cert.ValueScalesIdeal.main_arg0))
      ∧ r.2.sem = fun _ => 0)

def quiescent_ValueScalesIdeal_pre_finite_values [hValueScalesIdeal : Cert.ValueScalesIdeal.Facts] [hPre_finite_values : Cert.Pre_finite_values.Facts] : Prop :=
  ∀ (m : (ℓ : Loc Cert.ValueScalesIdeal.nD Cert.ValueScalesIdeal.τ Cert.ValueScalesIdeal.sig) → Buf (Elt Ideal) ℓ) (g : Dev Cert.ValueScalesIdeal.nD → PrngReg), Pre_ValueScalesIdeal_finite_values m →
    θ_run (Cert.ValueScalesIdeal.defs (F := Ideal)) (onTc (τ := Cert.ValueScalesIdeal.τ) (Cert.ValueScalesIdeal.main (F := Ideal))) ⟨m, fun _ => 0, g⟩ (fun r => (∀ c : Dev Cert.ValueScalesIdeal.nD,
      r.2.mem ((c.tc : Thread Cert.ValueScalesIdeal.nD Cert.ValueScalesIdeal.τ).loc Cert.ValueScalesIdeal.main_arg0) = m ((c.tc : Thread Cert.ValueScalesIdeal.nD Cert.ValueScalesIdeal.τ).loc Cert.ValueScalesIdeal.main_arg0))
      ∧ r.2.sem = fun _ => 0)

def quiescent_ValueScalesReferenceIdeal [hValueScalesReferenceIdeal : Cert.ValueScalesReferenceIdeal.Facts] : Prop :=
  ∀ (m : (ℓ : Loc Cert.ValueScalesReferenceIdeal.nD Cert.ValueScalesReferenceIdeal.τ Cert.ValueScalesReferenceIdeal.sig) → Buf (Elt Ideal) ℓ) (g : Dev Cert.ValueScalesReferenceIdeal.nD → PrngReg), Pre_ValueScalesReferenceIdeal m →
    θ_run (Cert.ValueScalesReferenceIdeal.defs (F := Ideal)) (onTc (τ := Cert.ValueScalesReferenceIdeal.τ) (Cert.ValueScalesReferenceIdeal.main (F := Ideal))) ⟨m, fun _ => 0, g⟩ (fun r => (∀ c : Dev Cert.ValueScalesReferenceIdeal.nD,
      r.2.mem ((c.tc : Thread Cert.ValueScalesReferenceIdeal.nD Cert.ValueScalesReferenceIdeal.τ).loc Cert.ValueScalesReferenceIdeal.main_arg0) = m ((c.tc : Thread Cert.ValueScalesReferenceIdeal.nD Cert.ValueScalesReferenceIdeal.τ).loc Cert.ValueScalesReferenceIdeal.main_arg0))
      ∧ r.2.sem = fun _ => 0)

def quiescent_ValueScalesReferenceIdeal_pre_finite_values [hValueScalesReferenceIdeal : Cert.ValueScalesReferenceIdeal.Facts] [hPre_finite_values : Cert.Pre_finite_values.Facts] : Prop :=
  ∀ (m : (ℓ : Loc Cert.ValueScalesReferenceIdeal.nD Cert.ValueScalesReferenceIdeal.τ Cert.ValueScalesReferenceIdeal.sig) → Buf (Elt Ideal) ℓ) (g : Dev Cert.ValueScalesReferenceIdeal.nD → PrngReg), Pre_ValueScalesReferenceIdeal_finite_values m →
    θ_run (Cert.ValueScalesReferenceIdeal.defs (F := Ideal)) (onTc (τ := Cert.ValueScalesReferenceIdeal.τ) (Cert.ValueScalesReferenceIdeal.main (F := Ideal))) ⟨m, fun _ => 0, g⟩ (fun r => (∀ c : Dev Cert.ValueScalesReferenceIdeal.nD,
      r.2.mem ((c.tc : Thread Cert.ValueScalesReferenceIdeal.nD Cert.ValueScalesReferenceIdeal.τ).loc Cert.ValueScalesReferenceIdeal.main_arg0) = m ((c.tc : Thread Cert.ValueScalesReferenceIdeal.nD Cert.ValueScalesReferenceIdeal.τ).loc Cert.ValueScalesReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ValueScales_ValueScalesIdeal : Prop :=
  True

def algebraic_ValueScalesIdeal_ValueScalesReferenceIdeal_pre_finite_values [hValueScalesIdeal : Cert.ValueScalesIdeal.Facts] [hValueScalesReferenceIdeal : Cert.ValueScalesReferenceIdeal.Facts] [hPre_finite_values : Cert.Pre_finite_values.Facts] : Prop :=
  ∀ (m : (ℓ : Loc Cert.ValueScalesIdeal.nD Cert.ValueScalesIdeal.τ Cert.ValueScalesIdeal.sig) → Buf (Elt Ideal) ℓ) (g : Dev Cert.ValueScalesIdeal.nD → PrngReg)
    (m' : (ℓ : Loc Cert.ValueScalesReferenceIdeal.nD Cert.ValueScalesReferenceIdeal.τ Cert.ValueScalesReferenceIdeal.sig) → Buf (Elt Ideal) ℓ) (g' : Dev Cert.ValueScalesReferenceIdeal.nD → PrngReg), Pre_ValueScalesIdeal_finite_values m →
    (∀ c : Dev Cert.ValueScalesIdeal.nD,
      m' ((c.tc : Thread Cert.ValueScalesReferenceIdeal.nD Cert.ValueScalesReferenceIdeal.τ).loc Cert.ValueScalesReferenceIdeal.main_arg0) = m ((c.tc : Thread Cert.ValueScalesIdeal.nD Cert.ValueScalesIdeal.τ).loc Cert.ValueScalesIdeal.main_arg0)) →
    ∃ (v0 : (c : Dev Cert.ValueScalesIdeal.nD) → Buf (Elt Ideal) ((c.tc : Thread Cert.ValueScalesIdeal.nD Cert.ValueScalesIdeal.τ).loc Cert.ValueScalesIdeal.main_v0)),
      θ_run (Cert.ValueScalesIdeal.defs (F := Ideal)) (onTc (τ := Cert.ValueScalesIdeal.τ) (Cert.ValueScalesIdeal.main (F := Ideal))) ⟨m, fun _ => 0, g⟩ (fun r => ∀ c : Dev Cert.ValueScalesIdeal.nD,
          r.2.mem ((c.tc : Thread Cert.ValueScalesIdeal.nD Cert.ValueScalesIdeal.τ).loc Cert.ValueScalesIdeal.main_v0) = v0 c
          ∧ r.2.mem ((c.tc : Thread Cert.ValueScalesIdeal.nD Cert.ValueScalesIdeal.τ).loc Cert.ValueScalesIdeal.main_arg0) = m ((c.tc : Thread Cert.ValueScalesIdeal.nD Cert.ValueScalesIdeal.τ).loc Cert.ValueScalesIdeal.main_arg0))
      ∧ θ_run (Cert.ValueScalesReferenceIdeal.defs (F := Ideal)) (onTc (τ := Cert.ValueScalesReferenceIdeal.τ) (Cert.ValueScalesReferenceIdeal.main (F := Ideal))) ⟨m', fun _ => 0, g'⟩ (fun r => ∀ c : Dev Cert.ValueScalesReferenceIdeal.nD,
          r.2.mem ((c.tc : Thread Cert.ValueScalesReferenceIdeal.nD Cert.ValueScalesReferenceIdeal.τ).loc Cert.ValueScalesReferenceIdeal.main_v22) = v0 c
          ∧ r.2.mem ((c.tc : Thread Cert.ValueScalesReferenceIdeal.nD Cert.ValueScalesReferenceIdeal.τ).loc Cert.ValueScalesReferenceIdeal.main_arg0) = m' ((c.tc : Thread Cert.ValueScalesReferenceIdeal.nD Cert.ValueScalesReferenceIdeal.τ).loc Cert.ValueScalesReferenceIdeal.main_arg0))

def Claim : Prop :=
  ∃ (hKernel : Cert.Kernel.Facts) (hKernelIdeal : Cert.KernelIdeal.Facts) (hReferenceIdeal : Cert.ReferenceIdeal.Facts) (hValueScales : Cert.ValueScales.Facts) (hValueScalesIdeal : Cert.ValueScalesIdeal.Facts) (hValueScalesReferenceIdeal : Cert.ValueScalesReferenceIdeal.Facts) (hPre_finite : Cert.Pre_finite.Facts) (hPre_finite_values : Cert.Pre_finite_values.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ValueScales (hValueScales := hValueScales)
    ∧ quiescent_ValueScalesIdeal (hValueScalesIdeal := hValueScalesIdeal)
    ∧ quiescent_ValueScalesIdeal_pre_finite_values (hValueScalesIdeal := hValueScalesIdeal) (hPre_finite_values := hPre_finite_values)
    ∧ quiescent_ValueScalesReferenceIdeal (hValueScalesReferenceIdeal := hValueScalesReferenceIdeal)
    ∧ quiescent_ValueScalesReferenceIdeal_pre_finite_values (hValueScalesReferenceIdeal := hValueScalesReferenceIdeal) (hPre_finite_values := hPre_finite_values)
    ∧ preserves_Kernel_KernelIdeal
    ∧ algebraic_KernelIdeal_ReferenceIdeal_pre_finite (hKernelIdeal := hKernelIdeal) (hReferenceIdeal := hReferenceIdeal) (hPre_finite := hPre_finite)
    ∧ preserves_ValueScales_ValueScalesIdeal
    ∧ algebraic_ValueScalesIdeal_ValueScalesReferenceIdeal_pre_finite_values (hValueScalesIdeal := hValueScalesIdeal) (hValueScalesReferenceIdeal := hValueScalesReferenceIdeal) (hPre_finite_values := hPre_finite_values)
-- ==== Pre_finite.lean ====
abbrev S4x8192x4096 : Shape := ⟨3, ![4, 8192, 4096]⟩
abbrev S4x8192x512 : Shape := ⟨3, ![4, 8192, 512]⟩
abbrev S4x1x512 : Shape := ⟨3, ![4, 1, 512]⟩
abbrev S_ : Shape := ⟨0, ![]⟩

class Facts : Prop where
  bitsLt_bf16_f32 : FTy.bits .bf16 < FTy.bits .f32
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S4x8192x512 : S_.BroadcastsInDim S4x8192x512 (![] : Fin 0 → Fin S4x8192x512.rank)
  reducesTo_S4x8192x512_S_d0_1_2 : S4x8192x512.ReducesTo [0, 1, 2] S_

variable [Facts]

def fn {F : FTy → Type} [FloatOps F] (main_arg0 : FVec F S4x8192x4096 .bf16) (main_arg1 : FVec F S4x8192x512 .bf16) (main_arg2 : FVec F S4x8192x512 .bf16) (main_arg3 : FVec F S4x1x512 .f32) : IVec S_ 1 :=
  let main_v0 : FVec F S4x8192x4096 .f32 := (extf .f32 · bitsLt_bf16_f32) main_arg0
  let main_v1 : FVec F S4x8192x4096 .f32 := Host.absf main_v0
  let main_cst : FVec F S_ .f32 := constant S_ .f32 0x7F7F0000#32
  let main_v2 : FVec F S4x8192x4096 .f32 := broadcastInDim S4x8192x4096 ![] bcast_S_S4x8192x4096 main_cst
  let main_v3 : IVec S4x8192x4096 1 := cmpf .ole main_v1 main_v2
  let main_c : IVec S_ 1 := constantI S_ 1 1#1
  let main_v4 : IVec S_ 1 := (fun x v => Host.reduce IntOp.andi x v reducesTo_S4x8192x4096_S_d0_1_2 h_S_) main_v3 main_c
  let main_v5 : FVec F S4x8192x512 .f32 := (extf .f32 · bitsLt_bf16_f32) main_arg1
  let main_v6 : FVec F S4x8192x512 .f32 := Host.absf main_v5
  let main_cst_0 : FVec F S_ .f32 := constant S_ .f32 0x7F7F0000#32
  let main_v7 : FVec F S4x8192x512 .f32 := broadcastInDim S4x8192x512 ![] bcast_S_S4x8192x512 main_cst_0
  let main_v8 : IVec S4x8192x512 1 := cmpf .ole main_v6 main_v7
  let main_c_1 : IVec S_ 1 := constantI S_ 1 1#1
  let main_v9 : IVec S_ 1 := (fun x v => Host.reduce IntOp.andi x v reducesTo_S4x8192x512_S_d0_1_2 h_S_) main_v8 main_c_1
  let main_v10 : IVec S_ 1 := andi main_v4 main_v9
  main_v10
-- ==== Pre_finite_values.lean ====
abbrev S4x8192x512 : Shape := ⟨3, ![4, 8192, 512]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel

variable [Facts]

def fn {F : FTy → Type} [FloatOps F] (main_arg0 : FVec F S4x8192x512 .bf16) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F7F0000#32
  let main_v2 : FVec F S4x8192x512 .f32 := broadcastInDim S4x8192x512 ![] bcast_S_S4x8192x512 main_cst
  let main_v3 : IVec S4x8192x512 1 := cmpf .ole main_v1 main_v2
  let main_c : IVec S_ 1 := constantI S_ 1 1#1
  let main_v4 : IVec S_ 1 := (fun x v => Host.reduce IntOp.andi x v reducesTo_S4x8192x512_S_d0_1_2 h_S_) main_v3 main_c
  main_v4
-- ==== Kernel.lean ====
abbrev S4x8192x4096 : Shape := ⟨3, ![4, 8192, 4096]⟩
abbrev S4x8192x512 : Shape := ⟨3, ![4, 8192, 512]⟩
abbrev S4x1x512 : Shape := ⟨3, ![4, 1, 512]⟩
abbrev S4x8192x32 : Shape := ⟨3, ![4, 8192, 32]⟩
abbrev S4x8192x4 : Shape := ⟨3, ![4, 8192, 4]⟩
abbrev S1x128x4096 : Shape := ⟨3, ![1, 128, 4096]⟩
abbrev S1x128x512 : Shape := ⟨3, ![1, 128, 512]⟩
abbrev S1x1x512 : Shape := ⟨3, ![1, 1, 512]⟩
abbrev S1x128x32 : Shape := ⟨3, ![1, 128, 32]⟩
abbrev S1x128x4 : Shape := ⟨3, ![1, 128, 4]⟩
abbrev S4x8192x128 : Shape := ⟨3, ![4, 8192, 128]⟩
abbrev S4x64x128x128 : Shape := ⟨4, ![4, 64, 128, 128]⟩
abbrev S4x4x256x128 : Shape := ⟨4, ![4, 4, 256, 128]⟩
abbrev S4x4x2x1x128 : Shape := ⟨5, ![4, 4, 2, 1, 128]⟩
abbrev S4x128x128 : Shape := ⟨3, ![4, 128, 128]⟩
abbrev S1536x256 : Shape := ⟨2, ![1536, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩
abbrev S32x128 : Shape := ⟨2, ![32, 128]⟩
abbrev S1x1x32x128 : Shape := ⟨4, ![1, 1, 32, 128]⟩
abbrev S128x32 : Shape := ⟨2, ![128, 32]⟩
abbrev S8x128 : Shape := ⟨2, ![8, 128]⟩
abbrev S1x128 : Shape := ⟨2, ![1, 128]⟩
abbrev S1x1x1x1x128 : Shape := ⟨5, ![1, 1, 1, 1, 128]⟩
abbrev S1x1x128 : Shape := ⟨3, ![1, 1, 128]⟩
abbrev S1x1x128x128 : Shape := ⟨4, ![1, 1, 128, 128]⟩
abbrev S128x4 : Shape := ⟨2, ![128, 4]⟩
abbrev S32x256 : Shape := ⟨2, ![32, 256]⟩
abbrev S1x1x256x128 : Shape := ⟨4, ![1, 1, 256, 128]⟩
abbrev S256x128 : Shape := ⟨2, ![256, 128]⟩
abbrev S1x256 : Shape := ⟨2, ![1, 256]⟩
abbrev S8x256 : Shape := ⟨2, ![8, 256]⟩
abbrev S1x32x128 : Shape := ⟨3, ![1, 32, 128]⟩
abbrev S1x8x128 : Shape := ⟨3, ![1, 8, 128]⟩
abbrev S24x128 : Shape := ⟨2, ![24, 128]⟩
abbrev S256x256 : Shape := ⟨2, ![256, 256]⟩
abbrev S4x8x256 : Shape := ⟨3, ![4, 8, 256]⟩
abbrev S1x256x128 : Shape := ⟨3, ![1, 256, 128]⟩
abbrev S32x8x256 : Shape := ⟨3, ![32, 8, 256]⟩
abbrev S256 : Shape := ⟨1, ![256]⟩
abbrev S16x8x256 : Shape := ⟨3, ![16, 8, 256]⟩

abbrev nBuf : Space → Nat
  | .hbm => 10
  | .vmem => 27
  | .smem => 0
  | _ => 0

abbrev bufTy : (tb : Table) → Fin (tcTables nBuf tb) → BufTy
  | .hbm, ⟨0, _⟩ => ⟨S4x8192x4096, .bf16⟩
  | .hbm, ⟨1, _⟩ => ⟨S4x8192x512, .bf16⟩
  | .hbm, ⟨2, _⟩ => ⟨S4x8192x512, .bf16⟩
  | .hbm, ⟨3, _⟩ => ⟨S4x1x512, .f32⟩
  | .hbm, ⟨4, _⟩ => ⟨S4x8192x4096, .bf16⟩
  | .hbm, ⟨5, _⟩ => ⟨S4x8192x4096, .fp8e4m3⟩
  | .hbm, ⟨6, _⟩ => ⟨S4x8192x32, .f32⟩
  | .hbm, ⟨7, _⟩ => ⟨S4x8192x512, .fp8e4m3⟩
  | .hbm, ⟨8, _⟩ => ⟨S4x8192x4, .f32⟩
  | .hbm, ⟨9, _⟩ => ⟨S4x8192x512, .fp8e4m3⟩
  | .local _ .vmem, ⟨0, _⟩ => ⟨S1x128x4096, .bf16⟩
  | .local _ .vmem, ⟨1, _⟩ => ⟨S1x128x4096, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x1x512, .f32⟩
  | .local _ .vmem, ⟨7, _⟩ => ⟨S1x1x512, .f32⟩
  | .local _ .vmem, ⟨8, _⟩ => ⟨S1x128x4096, .bf16⟩
  | .local _ .vmem, ⟨9, _⟩ => ⟨S1x128x4096, .bf16⟩
  | .local _ .vmem, ⟨10, _⟩ => ⟨S1x128x4096, .fp8e4m3⟩
  | .local _ .vmem, ⟨11, _⟩ => ⟨S1x128x4096, .fp8e4m3⟩
  | .local _ .vmem, ⟨12, _⟩ => ⟨S1x128x32, .f32⟩
  | .local _ .vmem, ⟨13, _⟩ => ⟨S1x128x32, .f32⟩
  | .local _ .vmem, ⟨14, _⟩ => ⟨S1x128x512, .fp8e4m3⟩
  | .local _ .vmem, ⟨15, _⟩ => ⟨S1x128x512, .fp8e4m3⟩
  | .local _ .vmem, ⟨16, _⟩ => ⟨S1x128x4, .f32⟩
  | .local _ .vmem, ⟨17, _⟩ => ⟨S1x128x4, .f32⟩
  | .local _ .vmem, ⟨18, _⟩ => ⟨S1x128x512, .fp8e4m3⟩
  | .local _ .vmem, ⟨19, _⟩ => ⟨S1x128x512, .fp8e4m3⟩
  | .local _ .vmem, ⟨20, _⟩ => ⟨S4x8192x128, .fp8e4m3⟩
  | .local _ .vmem, ⟨21, _⟩ => ⟨S4x64x128x128, .fp8e4m3⟩
  | .local _ .vmem, ⟨22, _⟩ => ⟨S4x8192x128, .f32⟩
  | .local _ .vmem, ⟨23, _⟩ => ⟨S4x4x256x128, .fp8e4m3⟩
  | .local _ .vmem, ⟨24, _⟩ => ⟨S4x4x2x1x128, .f32⟩
  | .local _ .vmem, ⟨25, _⟩ => ⟨S4x128x128, .f32⟩
  | .local _ .vmem, ⟨26, _⟩ => ⟨S1536x256, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0_1419 : Index := 0#32
  let arg1 : BitVec 32 := BitVec.ofNat 32 (i 1).val
  let c128_i32 : BitVec 32 := 128#32
  let v0 : BitVec 32 := Scalar.muli arg1 c128_i32
  let v1 : BitVec 32 := v0
  let v2572 : Index := Scalar.indexCast v1
  let c0_1420 : Index := 0#32
  ![0, v2572.toNat, 0]
def k0_off2 (i : grid0.Coords) : Fin 4 → Nat :=
  let c0_1436 : Index := 0#32
  let arg1 : BitVec 32 := BitVec.ofNat 32 (i 1).val
  let v2606 : Index := Scalar.indexCast arg1
  let c0_1437 : Index := 0#32
  let c0_1438 : Index := 0#32
  ![0, v2606.toNat, 0, 0]
def k0_off3 (i : grid0.Coords) : Fin 3 → Nat :=
  let c1_1457 : Index := 1#32
  let arg1 : BitVec 32 := BitVec.ofNat 32 (i 1).val
  let c128_i32 : BitVec 32 := 128#32
  let v0 : BitVec 32 := Scalar.muli arg1 c128_i32
  let v1 : BitVec 32 := v0
  let v2650 : Index := Scalar.indexCast v1
  let c0_1458 : Index := 0#32
  ![1, v2650.toNat, 0]
def k0_off4 (i : grid0.Coords) : Fin 4 → Nat :=
  let c1_1474 : Index := 1#32
  let arg1 : BitVec 32 := BitVec.ofNat 32 (i 1).val
  let v2684 : Index := Scalar.indexCast arg1
  let c0_1475 : Index := 0#32
  let c0_1476 : Index := 0#32
  ![1, v2684.toNat, 0, 0]
def k0_off5 (i : grid0.Coords) : Fin 3 → Nat :=
  let c2_1495 : Index := 2#32
  let arg1 : BitVec 32 := BitVec.ofNat 32 (i 1).val
  let c128_i32 : BitVec 32 := 128#32
  let v0 : BitVec 32 := Scalar.muli arg1 c128_i32
  let v1 : BitVec 32 := v0
  let v2728 : Index := Scalar.indexCast v1
  let c0_1496 : Index := 0#32
  ![2, v2728.toNat, 0]
def k0_off6 (i : grid0.Coords) : Fin 4 → Nat :=
  let c2_1512 : Index := 2#32
  let arg1 : BitVec 32 := BitVec.ofNat 32 (i 1).val
  let v2762 : Index := Scalar.indexCast arg1
  let c0_1513 : Index := 0#32
  let c0_1514 : Index := 0#32
  ![2, v2762.toNat, 0, 0]
def k0_off7 (i : grid0.Coords) : Fin 3 → Nat :=
  let c3_1533 : Index := 3#32
  let arg1 : BitVec 32 := BitVec.ofNat 32 (i 1).val
  let c128_i32 : BitVec 32 := 128#32
  let v0 : BitVec 32 := Scalar.muli arg1 c128_i32
  let v1 : BitVec 32 := v0
  let v2806 : Index := Scalar.indexCast v1
  let c0_1534 : Index := 0#32
  ![3, v2806.toNat, 0]
def k0_off8 (i : grid0.Coords) : Fin 4 → Nat :=
  let c3_1550 : Index := 3#32
  let arg1 : BitVec 32 := BitVec.ofNat 32 (i 1).val
  let v2840 : Index := Scalar.indexCast arg1
  let c0_1551 : Index := 0#32
  let c0_1552 : Index := 0#32
  ![3, v2840.toNat, 0, 0]
def k0_cond2 (i : grid0.Coords) : BitVec 1 :=
  let arg1 : BitVec 32 := BitVec.ofNat 32 (i 1).val
  let c12_i32_1558 : BitVec 32 := 12#32
  let v2851 : BitVec 1 := Scalar.cmpi .sge arg1 c12_i32_1558
  let v2852 : BitVec 32 := Scalar.extui v2851
  let c0_i32_1559 : BitVec 32 := 0#32
  let v2853 : BitVec 1 := Scalar.cmpi .ne v2852 c0_i32_1559
  v2853

@[reducible] def k0_t1_loop : Scf.Loop 32 :=
  let c0_i32_1571 : BitVec 32 := 0#32
  let c4_i32_1572 : BitVec 32 := 4#32
  let v2888 : BitVec 32 := Scalar.addi c0_i32_1571 c4_i32_1572
  let c1_i32_1573 : BitVec 32 := 1#32
  ⟨c0_i32_1571, v2888, c1_i32_1573⟩
def k0_off9 (k0_t1 : Fin k0_t1_loop.trips) : Fin 4 → Nat :=
  let c0_i32_1571 : BitVec 32 := 0#32
  let c1_i32_1573 : BitVec 32 := 1#32
  let arg19 : BitVec 32 := Scf.iv c0_i32_1571 c1_i32_1573 k0_t1
  let v2889 : Index := Scalar.indexCast arg19
  let c0_1575 : Index := 0#32
  let c0_1576 : Index := 0#32
  let c0_1577 : Index := 0#32
  ![v2889.toNat, 0, 0, 0]
def k0_off10 (k0_t1 : Fin k0_t1_loop.trips) : Fin 5 → Nat :=
  let c0_i32_1571 : BitVec 32 := 0#32
  let c1_i32_1573 : BitVec 32 := 1#32
  let arg19 : BitVec 32 := Scf.iv c0_i32_1571 c1_i32_1573 k0_t1
  let v2892 : Index := Scalar.indexCast arg19
  let c0_1578 : Index := 0#32
  let c0_1579 : Index := 0#32
  let c0_1580 : Index := 0#32
  let c0_1581 : Index := 0#32
  ![v2892.toNat, 0, 0, 0, 0]
def k0_off11 (k0_t1 : Fin k0_t1_loop.trips) : Fin 5 → Nat :=
  let c0_i32_1571 : BitVec 32 := 0#32
  let c1_i32_1573 : BitVec 32 := 1#32
  let arg19 : BitVec 32 := Scf.iv c0_i32_1571 c1_i32_1573 k0_t1
  let v2895 : Index := Scalar.indexCast arg19
  let c0_1582 : Index := 0#32
  let c1_1583 : Index := 1#32
  let c0_1584 : Index := 0#32
  let c0_1585 : Index := 0#32
  ![v2895.toNat, 0, 1, 0, 0]
def k0_mult2 (i : grid0.Coords) : BitVec 32 :=
  let arg1 : BitVec 32 := BitVec.ofNat 32 (i 1).val
  let c128_i32_1587 : BitVec 32 := 128#32
  let v2900 : BitVec 32 := Scalar.muli arg1 c128_i32_1587
  let c0_i32_1588 : BitVec 32 := 0#32
  let v2901 : BitVec 32 := Scalar.addi v2900 c0_i32_1588
  v2901
def k0_off12 (i : grid0.Coords) (k0_t1 : Fin k0_t1_loop.trips) (c0_i32_1588 : BitVec 32) : Fin 3 → Nat :=
  let c0_i32_1571 : BitVec 32 := 0#32
  let c1_i32_1573 : BitVec 32 := 1#32
  let arg19 : BitVec 32 := Scf.iv c0_i32_1571 c1_i32_1573 k0_t1
  let v2924 : Index := Scalar.indexCast arg19
  let arg1 : BitVec 32 := BitVec.ofNat 32 (i 1).val
  let c128_i32_1587 : BitVec 32 := 128#32
  let v2900 : BitVec 32 := Scalar.muli arg1 c128_i32_1587
  let v2901 : BitVec 32 := Scalar.addi v2900 c0_i32_1588
  let v2923 : BitVec 32 := v2901
  let v2925 : Index := Scalar.indexCast v2923
  let c0_1610 : Index := 0#32
  ![v2924.toNat, v2925.toNat, 0]
def k0_mult3 (i : grid0.Coords) : BitVec 32 :=
  let arg1 : BitVec 32 := BitVec.ofNat 32 (i 1).val
  let c12_i32_1589 : BitVec 32 := 12#32
  let v2902 : BitVec 32 := Scalar.subi arg1 c12_i32_1589
  let c128_i32_1590 : BitVec 32 := 128#32
  let v2903 : BitVec 32 := Scalar.muli v2902 c128_i32_1590
  let c32_i32_1591 : BitVec 32 := 32#32
  let v2904 : BitVec 32 := Scalar.addi v2903 c32_i32_1591
  v2904
def k0_off13 (i : grid0.Coords) (k0_t1 : Fin k0_t1_loop.trips) (c12_i32_1589 : BitVec 32) (c32_i32_1591 : BitVec 32) : Fin 3 → Nat :=
  let c0_i32_1571 : BitVec 32 := 0#32
  let c1_i32_1573 : BitVec 32 := 1#32
  let arg19 : BitVec 32 := Scf.iv c0_i32_1571 c1_i32_1573 k0_t1
  let v2933 : Index := Scalar.indexCast arg19
  let arg1 : BitVec 32 := BitVec.ofNat 32 (i 1).val
  let v2902 : BitVec 32 := Scalar.subi arg1 c12_i32_1589
  let c128_i32_1590 : BitVec 32 := 128#32
  let v2903 : BitVec 32 := Scalar.muli v2902 c128_i32_1590
  let v2904 : BitVec 32 := Scalar.addi v2903 c32_i32_1591
  let v2932 : BitVec 32 := v2904
  let v2934 : Index := Scalar.indexCast v2932
  let c0_1612 : Index := 0#32
  ![v2933.toNat, v2934.toNat, 0]
def k0_off13_at (r : Fin 7) : BitVec 32 × BitVec 32 :=
  if r.val < 3 then
    if r.val < 1 then
      (12#32, 32#32)
    else
      if r.val < 2 then
        (12#32, 64#32)
      else
        (12#32, 96#32)
  else
    if r.val < 5 then
      if r.val < 4 then
        (11#32, 0#32)
      else
        (11#32, 32#32)
    else
      if r.val < 6 then
        (11#32, 64#32)
      else
        (11#32, 96#32)
def k0_off14 (k0_t1 : Fin k0_t1_loop.trips) : Fin 3 → Nat :=
  let c0_i32_1571 : BitVec 32 := 0#32
  let c1_i32_1573 : BitVec 32 := 1#32
  let arg19 : BitVec 32 := Scf.iv c0_i32_1571 c1_i32_1573 k0_t1
  let v2941 : Index := Scalar.indexCast arg19
  let c0_1614 : Index := 0#32
  let c0_1615 : Index := 0#32
  ![v2941.toNat, 0, 0]
def k0_off15 (k0_t1 : Fin k0_t1_loop.trips) : Fin 3 → Nat :=
  let c0_i32_1571 : BitVec 32 := 0#32
  let c1_i32_1573 : BitVec 32 := 1#32
  let arg19 : BitVec 32 := Scf.iv c0_i32_1571 c1_i32_1573 k0_t1
  let v2949 : Index := Scalar.indexCast arg19
  let c0_1618 : Index := 0#32
  let c0_1619 : Index := 0#32
  ![v2949.toNat, 0, 0]
def k0_mult4 (i : grid0.Coords) : BitVec 32 :=
  let arg1 : BitVec 32 := BitVec.ofNat 32 (i 1).val
  let c12_i32_1592 : BitVec 32 := 12#32
  let v2905 : BitVec 32 := Scalar.subi arg1 c12_i32_1592
  let c128_i32_1593 : BitVec 32 := 128#32
  let v2906 : BitVec 32 := Scalar.muli v2905 c128_i32_1593
  let c64_i32_1594 : BitVec 32 := 64#32
  let v2907 : BitVec 32 := Scalar.addi v2906 c64_i32_1594
  v2907
def k0_mult5 (i : grid0.Coords) : BitVec 32 :=
  let arg1 : BitVec 32 := BitVec.ofNat 32 (i 1).val
  let c12_i32_1595 : BitVec 32 := 12#32
  let v2908 : BitVec 32 := Scalar.subi arg1 c12_i32_1595
  let c128_i32_1596 : BitVec 32 := 128#32
  let v2909 : BitVec 32 := Scalar.muli v2908 c128_i32_1596
  let c96_i32_1597 : BitVec 32 := 96#32
  let v2910 : BitVec 32 := Scalar.addi v2909 c96_i32_1597
  v2910
def k0_mult6 (i : grid0.Coords) : BitVec 32 :=
  let arg1 : BitVec 32 := BitVec.ofNat 32 (i 1).val
  let c11_i32_1598 : BitVec 32 := 11#32
  let v2911 : BitVec 32 := Scalar.subi arg1 c11_i32_1598
  let c128_i32_1599 : BitVec 32 := 128#32
  let v2912 : BitVec 32 := Scalar.muli v2911 c128_i32_1599
  let c0_i32_1600 : BitVec 32 := 0#32
  let v2913 : BitVec 32 := Scalar.addi v2912 c0_i32_1600
  v2913
def k0_mult7 (i : grid0.Coords) : BitVec 32 :=
  let arg1 : BitVec 32 := BitVec.ofNat 32 (i 1).val
  let c11_i32_1601 : BitVec 32 := 11#32
  let v2914 : BitVec 32 := Scalar.subi arg1 c11_i32_1601
  let c128_i32_1602 : BitVec 32 := 128#32
  let v2915 : BitVec 32 := Scalar.muli v2914 c128_i32_1602
  let c32_i32_1603 : BitVec 32 := 32#32
  let v2916 : BitVec 32 := Scalar.addi v2915 c32_i32_1603
  v2916
def k0_mult8 (i : grid0.Coords) : BitVec 32 :=
  let arg1 : BitVec 32 := BitVec.ofNat 32 (i 1).val
  let c11_i32_1604 : BitVec 32 := 11#32
  let v2917 : BitVec 32 := Scalar.subi arg1 c11_i32_1604
  let c128_i32_1605 : BitVec 32 := 128#32
  let v2918 : BitVec 32 := Scalar.muli v2917 c128_i32_1605
  let c64_i32_1606 : BitVec 32 := 64#32
  let v2919 : BitVec 32 := Scalar.addi v2918 c64_i32_1606
  v2919
def k0_mult9 (i : grid0.Coords) : BitVec 32 :=
  let arg1 : BitVec 32 := BitVec.ofNat 32 (i 1).val
  let c11_i32_1607 : BitVec 32 := 11#32
  let v2920 : BitVec 32 := Scalar.subi arg1 c11_i32_1607
  let c128_i32_1608 : BitVec 32 := 128#32
  let v2921 : BitVec 32 := Scalar.muli v2920 c128_i32_1608
  let c96_i32_1609 : BitVec 32 := 96#32
  let v2922 : BitVec 32 := Scalar.addi v2921 c96_i32_1609
  v2922
def k0_mult10 (i : grid0.Coords) : BitVec 32 :=
  let arg1 : BitVec 32 := BitVec.ofNat 32 (i 1).val
  let c12_i32_1660 : BitVec 32 := 12#32
  let v3090 : BitVec 32 := Scalar.subi arg1 c12_i32_1660
  let c2_i32_1661 : BitVec 32 := 2#32
  let v3091 : BitVec 32 := Scalar.addi v3090 c2_i32_1661
  let c128_i32_1662 : BitVec 32 := 128#32
  let v3092 : BitVec 32 := Scalar.muli v3091 c128_i32_1662
  v3092
def k0_off16 (i : grid0.Coords) (k0_t1 : Fin k0_t1_loop.trips) (c2_i32_1661 : BitVec 32) : Fin 3 → Nat :=
  let c0_i32_1571 : BitVec 32 := 0#32
  let c1_i32_1573 : BitVec 32 := 1#32
  let arg19 : BitVec 32 := Scf.iv c0_i32_1571 c1_i32_1573 k0_t1
  let v3094 : Index := Scalar.indexCast arg19
  let arg1 : BitVec 32 := BitVec.ofNat 32 (i 1).val
  let c12_i32_1660 : BitVec 32 := 12#32
  let v3090 : BitVec 32 := Scalar.subi arg1 c12_i32_1660
  let v3091 : BitVec 32 := Scalar.addi v3090 c2_i32_1661
  let c128_i32_1662 : BitVec 32 := 128#32
  let v3092 : BitVec 32 := Scalar.muli v3091 c128_i32_1662
  let v3093 : BitVec 32 := v3092
  let v3095 : Index := Scalar.indexCast v3093
  let c0_1663 : Index := 0#32
  ![v3094.toNat, v3095.toNat, 0]
def k0_mult11 (i : grid0.Coords) : BitVec 32 :=
  let arg1 : BitVec 32 := BitVec.ofNat 32 (i 1).val
  let c12_i32_1669 : BitVec 32 := 12#32
  let v3111 : BitVec 32 := Scalar.subi arg1 c12_i32_1669
  let c4_i32_1670 : BitVec 32 := 4#32
  let v3112 : BitVec 32 := Scalar.addi v3111 c4_i32_1670
  let c128_i32_1671 : BitVec 32 := 128#32
  let v3113 : BitVec 32 := Scalar.muli v3112 c128_i32_1671
  v3113
def k0_mult12 (i : grid0.Coords) : BitVec 32 :=
  let arg1 : BitVec 32 := BitVec.ofNat 32 (i 1).val
  let c12_i32_1678 : BitVec 32 := 12#32
  let v3132 : BitVec 32 := Scalar.subi arg1 c12_i32_1678
  let c6_i32_1679 : BitVec 32 := 6#32
  let v3133 : BitVec 32 := Scalar.addi v3132 c6_i32_1679
  let c128_i32_1680 : BitVec 32 := 128#32
  let v3134 : BitVec 32 := Scalar.muli v3133 c128_i32_1680
  v3134
def k0_mult13 (i : grid0.Coords) : BitVec 32 :=
  let arg1 : BitVec 32 := BitVec.ofNat 32 (i 1).val
  let c12_i32_1687 : BitVec 32 := 12#32
  let v3153 : BitVec 32 := Scalar.subi arg1 c12_i32_1687
  let c8_i32_1688 : BitVec 32 := 8#32
  let v3154 : BitVec 32 := Scalar.addi v3153 c8_i32_1688
  let c128_i32_1689 : BitVec 32 := 128#32
  let v3155 : BitVec 32 := Scalar.muli v3154 c128_i32_1689
  v3155
def k0_mult14 (i : grid0.Coords) : BitVec 32 :=
  let arg1 : BitVec 32 := BitVec.ofNat 32 (i 1).val
  let c12_i32_1696 : BitVec 32 := 12#32
  let v3174 : BitVec 32 := Scalar.subi arg1 c12_i32_1696
  let c10_i32_1697 : BitVec 32 := 10#32
  let v3175 : BitVec 32 := Scalar.addi v3174 c10_i32_1697
  let c128_i32_1698 : BitVec 32 := 128#32
  let v3176 : BitVec 32 := Scalar.muli v3175 c128_i32_1698
  v3176
def k0_off17 (i : grid0.Coords) (k0_t1 : Fin k0_t1_loop.trips) : Fin 4 → Nat :=
  let c0_i32_1571 : BitVec 32 := 0#32
  let c1_i32_1573 : BitVec 32 := 1#32
  let arg19 : BitVec 32 := Scf.iv c0_i32_1571 c1_i32_1573 k0_t1
  let v3201 : Index := Scalar.indexCast arg19
  let arg1 : BitVec 32 := BitVec.ofNat 32 (i 1).val
  let v3202 : Index := Scalar.indexCast arg1
  let c0_1708 : Index := 0#32
  let c0_1709 : Index := 0#32
  ![v3201.toNat, v3202.toNat, 0, 0]
def k0_off18 (i : grid0.Coords) (k0_t1 : Fin k0_t1_loop.trips) (c11_i32_1710 : BitVec 32) : Fin 4 → Nat :=
  let c0_i32_1571 : BitVec 32 := 0#32
  let c1_i32_1573 : BitVec 32 := 1#32
  let arg19 : BitVec 32 := Scf.iv c0_i32_1571 c1_i32_1573 k0_t1
  let v3206 : Index := Scalar.indexCast arg19
  let arg1 : BitVec 32 := BitVec.ofNat 32 (i 1).val
  let v3205 : BitVec 32 := Scalar.subi arg1 c11_i32_1710
  let v3207 : Index := Scalar.indexCast v3205
  let c0_1711 : Index := 0#32
  let c0_1712 : Index := 0#32
  ![v3206.toNat, v3207.toNat, 0, 0]
def k0_off19 (k0_t1 : Fin k0_t1_loop.trips) : Fin 4 → Nat :=
  let c0_i32_1571 : BitVec 32 := 0#32
  let c1_i32_1573 : BitVec 32 := 1#32
  let arg19 : BitVec 32 := Scf.iv c0_i32_1571 c1_i32_1573 k0_t1
  let v3210 : Index := Scalar.indexCast arg19
  let c0_1713 : Index := 0#32
  let c0_1714 : Index := 0#32
  let c0_1715 : Index := 0#32
  ![v3210.toNat, 0, 0, 0]
def k0_off20 (i : grid0.Coords) (k0_t1 : Fin k0_t1_loop.trips) (c12_i32_1771 : BitVec 32) (c2_i32_1772 : BitVec 32) : Fin 4 → Nat :=
  let c0_i32_1571 : BitVec 32 := 0#32
  let c1_i32_1573 : BitVec 32 := 1#32
  let arg19 : BitVec 32 := Scf.iv c0_i32_1571 c1_i32_1573 k0_t1
  let v3365 : Index := Scalar.indexCast arg19
  let arg1 : BitVec 32 := BitVec.ofNat 32 (i 1).val
  let v3363 : BitVec 32 := Scalar.subi arg1 c12_i32_1771
  let v3364 : BitVec 32 := Scalar.addi v3363 c2_i32_1772
  let v3366 : Index := Scalar.indexCast v3364
  let c0_1773 : Index := 0#32
  let c0_1774 : Index := 0#32
  ![v3365.toNat, v3366.toNat, 0, 0]
def k0_off21 (k0_t1 : Fin k0_t1_loop.trips) : Fin 3 → Nat :=
  let c0_i32_1571 : BitVec 32 := 0#32
  let c1_i32_1573 : BitVec 32 := 1#32
  let arg19 : BitVec 32 := Scf.iv c0_i32_1571 c1_i32_1573 k0_t1
  let v3498 : Index := Scalar.indexCast arg19
  let c0_1838 : Index := 0#32
  let c0_1839 : Index := 0#32
  ![v3498.toNat, 0, 0]
def k0_mult15 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_1840 : BitVec 32 := 8#32
  let v3507 : BitVec 32 := Scalar.muli arg19 c8_i32_1840
  let c0_i32_1841 : BitVec 32 := 0#32
  let v3508 : BitVec 32 := Scalar.addi v3507 c0_i32_1841
  let c128_i32_1842 : BitVec 32 := 128#32
  let v3509 : BitVec 32 := Scalar.muli v3508 c128_i32_1842
  v3509
def k0_off22 (k0_t1 : Fin k0_t1_loop.trips) (c0_i32_1841 : BitVec 32) : Fin 3 → Nat :=
  let c0_1843 : Index := 0#32
  let c0_1844 : Index := 0#32
  let c0_i32_1571 : BitVec 32 := 0#32
  let c1_i32_1573 : BitVec 32 := 1#32
  let arg19 : BitVec 32 := Scf.iv c0_i32_1571 c1_i32_1573 k0_t1
  let c8_i32_1840 : BitVec 32 := 8#32
  let v3507 : BitVec 32 := Scalar.muli arg19 c8_i32_1840
  let v3508 : BitVec 32 := Scalar.addi v3507 c0_i32_1841
  let c128_i32_1842 : BitVec 32 := 128#32
  let v3509 : BitVec 32 := Scalar.muli v3508 c128_i32_1842
  let v3510 : BitVec 32 := v3509
  let v3512 : Index := Scalar.indexCast v3510
  ![0, 0, v3512.toNat]
def k0_mult16 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_1845 : BitVec 32 := 8#32
  let v3516 : BitVec 32 := Scalar.muli arg19 c8_i32_1845
  let c1_i32_1846 : BitVec 32 := 1#32
  let v3517 : BitVec 32 := Scalar.addi v3516 c1_i32_1846
  let c128_i32_1847 : BitVec 32 := 128#32
  let v3518 : BitVec 32 := Scalar.muli v3517 c128_i32_1847
  v3518
def k0_mult17 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_1850 : BitVec 32 := 8#32
  let v3525 : BitVec 32 := Scalar.muli arg19 c8_i32_1850
  let c2_i32_1851 : BitVec 32 := 2#32
  let v3526 : BitVec 32 := Scalar.addi v3525 c2_i32_1851
  let c128_i32_1852 : BitVec 32 := 128#32
  let v3527 : BitVec 32 := Scalar.muli v3526 c128_i32_1852
  v3527
def k0_mult18 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_1855 : BitVec 32 := 8#32
  let v3534 : BitVec 32 := Scalar.muli arg19 c8_i32_1855
  let c3_i32_1856 : BitVec 32 := 3#32
  let v3535 : BitVec 32 := Scalar.addi v3534 c3_i32_1856
  let c128_i32_1857 : BitVec 32 := 128#32
  let v3536 : BitVec 32 := Scalar.muli v3535 c128_i32_1857
  v3536
def k0_mult19 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_1860 : BitVec 32 := 8#32
  let v3543 : BitVec 32 := Scalar.muli arg19 c8_i32_1860
  let c4_i32_1861 : BitVec 32 := 4#32
  let v3544 : BitVec 32 := Scalar.addi v3543 c4_i32_1861
  let c128_i32_1862 : BitVec 32 := 128#32
  let v3545 : BitVec 32 := Scalar.muli v3544 c128_i32_1862
  v3545
def k0_mult20 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_1865 : BitVec 32 := 8#32
  let v3552 : BitVec 32 := Scalar.muli arg19 c8_i32_1865
  let c5_i32_1866 : BitVec 32 := 5#32
  let v3553 : BitVec 32 := Scalar.addi v3552 c5_i32_1866
  let c128_i32_1867 : BitVec 32 := 128#32
  let v3554 : BitVec 32 := Scalar.muli v3553 c128_i32_1867
  v3554
def k0_mult21 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_1870 : BitVec 32 := 8#32
  let v3561 : BitVec 32 := Scalar.muli arg19 c8_i32_1870
  let c6_i32_1871 : BitVec 32 := 6#32
  let v3562 : BitVec 32 := Scalar.addi v3561 c6_i32_1871
  let c128_i32_1872 : BitVec 32 := 128#32
  let v3563 : BitVec 32 := Scalar.muli v3562 c128_i32_1872
  v3563
def k0_mult22 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_1875 : BitVec 32 := 8#32
  let v3570 : BitVec 32 := Scalar.muli arg19 c8_i32_1875
  let c7_i32_1876 : BitVec 32 := 7#32
  let v3571 : BitVec 32 := Scalar.addi v3570 c7_i32_1876
  let c128_i32_1877 : BitVec 32 := 128#32
  let v3572 : BitVec 32 := Scalar.muli v3571 c128_i32_1877
  v3572
def k0_off23 (k0_t1 : Fin k0_t1_loop.trips) : Fin 4 → Nat :=
  let c0_i32_1571 : BitVec 32 := 0#32
  let c1_i32_1573 : BitVec 32 := 1#32
  let arg19 : BitVec 32 := Scf.iv c0_i32_1571 c1_i32_1573 k0_t1
  let v3579 : Index := Scalar.indexCast arg19
  let c1_1880 : Index := 1#32
  let c0_1881 : Index := 0#32
  let c0_1882 : Index := 0#32
  ![v3579.toNat, 1, 0, 0]
def k0_off24 (k0_t1 : Fin k0_t1_loop.trips) : Fin 5 → Nat :=
  let c0_i32_1571 : BitVec 32 := 0#32
  let c1_i32_1573 : BitVec 32 := 1#32
  let arg19 : BitVec 32 := Scf.iv c0_i32_1571 c1_i32_1573 k0_t1
  let v3582 : Index := Scalar.indexCast arg19
  let c1_1883 : Index := 1#32
  let c0_1884 : Index := 0#32
  let c0_1885 : Index := 0#32
  let c0_1886 : Index := 0#32
  ![v3582.toNat, 1, 0, 0, 0]
def k0_off25 (k0_t1 : Fin k0_t1_loop.trips) : Fin 5 → Nat :=
  let c0_i32_1571 : BitVec 32 := 0#32
  let c1_i32_1573 : BitVec 32 := 1#32
  let arg19 : BitVec 32 := Scf.iv c0_i32_1571 c1_i32_1573 k0_t1
  let v3585 : Index := Scalar.indexCast arg19
  let c1_1887 : Index := 1#32
  let c1_1888 : Index := 1#32
  let c0_1889 : Index := 0#32
  let c0_1890 : Index := 0#32
  ![v3585.toNat, 1, 1, 0, 0]
def k0_mult23 (i : grid0.Coords) : BitVec 32 :=
  let arg1 : BitVec 32 := BitVec.ofNat 32 (i 1).val
  let c128_i32_1892 : BitVec 32 := 128#32
  let v3590 : BitVec 32 := Scalar.muli arg1 c128_i32_1892
  let c0_i32_1893 : BitVec 32 := 0#32
  let v3591 : BitVec 32 := Scalar.addi v3590 c0_i32_1893
  v3591
def k0_mult24 (i : grid0.Coords) : BitVec 32 :=
  let arg1 : BitVec 32 := BitVec.ofNat 32 (i 1).val
  let c128_i32_1894 : BitVec 32 := 128#32
  let v3592 : BitVec 32 := Scalar.muli arg1 c128_i32_1894
  let c32_i32_1895 : BitVec 32 := 32#32
  let v3593 : BitVec 32 := Scalar.addi v3592 c32_i32_1895
  v3593
def k0_mult25 (i : grid0.Coords) : BitVec 32 :=
  let arg1 : BitVec 32 := BitVec.ofNat 32 (i 1).val
  let c12_i32_1896 : BitVec 32 := 12#32
  let v3594 : BitVec 32 := Scalar.subi arg1 c12_i32_1896
  let c128_i32_1897 : BitVec 32 := 128#32
  let v3595 : BitVec 32 := Scalar.muli v3594 c128_i32_1897
  let c64_i32_1898 : BitVec 32 := 64#32
  let v3596 : BitVec 32 := Scalar.addi v3595 c64_i32_1898
  v3596
def k0_mult26 (i : grid0.Coords) : BitVec 32 :=
  let arg1 : BitVec 32 := BitVec.ofNat 32 (i 1).val
  let c12_i32_1899 : BitVec 32 := 12#32
  let v3597 : BitVec 32 := Scalar.subi arg1 c12_i32_1899
  let c128_i32_1900 : BitVec 32 := 128#32
  let v3598 : BitVec 32 := Scalar.muli v3597 c128_i32_1900
  let c96_i32_1901 : BitVec 32 := 96#32
  let v3599 : BitVec 32 := Scalar.addi v3598 c96_i32_1901
  v3599
def k0_mult27 (i : grid0.Coords) : BitVec 32 :=
  let arg1 : BitVec 32 := BitVec.ofNat 32 (i 1).val
  let c11_i32_1902 : BitVec 32 := 11#32
  let v3600 : BitVec 32 := Scalar.subi arg1 c11_i32_1902
  let c128_i32_1903 : BitVec 32 := 128#32
  let v3601 : BitVec 32 := Scalar.muli v3600 c128_i32_1903
  let c0_i32_1904 : BitVec 32 := 0#32
  let v3602 : BitVec 32 := Scalar.addi v3601 c0_i32_1904
  v3602
def k0_mult28 (i : grid0.Coords) : BitVec 32 :=
  let arg1 : BitVec 32 := BitVec.ofNat 32 (i 1).val
  let c11_i32_1905 : BitVec 32 := 11#32
  let v3603 : BitVec 32 := Scalar.subi arg1 c11_i32_1905
  let c128_i32_1906 : BitVec 32 := 128#32
  let v3604 : BitVec 32 := Scalar.muli v3603 c128_i32_1906
  let c32_i32_1907 : BitVec 32 := 32#32
  let v3605 : BitVec 32 := Scalar.addi v3604 c32_i32_1907
  v3605
def k0_mult29 (i : grid0.Coords) : BitVec 32 :=
  let arg1 : BitVec 32 := BitVec.ofNat 32 (i 1).val
  let c11_i32_1908 : BitVec 32 := 11#32
  let v3606 : BitVec 32 := Scalar.subi arg1 c11_i32_1908
  let c128_i32_1909 : BitVec 32 := 128#32
  let v3607 : BitVec 32 := Scalar.muli v3606 c128_i32_1909
  let c64_i32_1910 : BitVec 32 := 64#32
  let v3608 : BitVec 32 := Scalar.addi v3607 c64_i32_1910
  v3608
def k0_mult30 (i : grid0.Coords) : BitVec 32 :=
  let arg1 : BitVec 32 := BitVec.ofNat 32 (i 1).val
  let c11_i32_1911 : BitVec 32 := 11#32
  let v3609 : BitVec 32 := Scalar.subi arg1 c11_i32_1911
  let c128_i32_1912 : BitVec 32 := 128#32
  let v3610 : BitVec 32 := Scalar.muli v3609 c128_i32_1912
  let c96_i32_1913 : BitVec 32 := 96#32
  let v3611 : BitVec 32 := Scalar.addi v3610 c96_i32_1913
  v3611
def k0_mult31 (i : grid0.Coords) : BitVec 32 :=
  let arg1 : BitVec 32 := BitVec.ofNat 32 (i 1).val
  let c12_i32_1964 : BitVec 32 := 12#32
  let v3779 : BitVec 32 := Scalar.subi arg1 c12_i32_1964
  let c2_i32_1965 : BitVec 32 := 2#32
  let v3780 : BitVec 32 := Scalar.addi v3779 c2_i32_1965
  let c128_i32_1966 : BitVec 32 := 128#32
  let v3781 : BitVec 32 := Scalar.muli v3780 c128_i32_1966
  v3781
def k0_mult32 (i : grid0.Coords) : BitVec 32 :=
  let arg1 : BitVec 32 := BitVec.ofNat 32 (i 1).val
  let c12_i32_1973 : BitVec 32 := 12#32
  let v3800 : BitVec 32 := Scalar.subi arg1 c12_i32_1973
  let c4_i32_1974 : BitVec 32 := 4#32
  let v3801 : BitVec 32 := Scalar.addi v3800 c4_i32_1974
  let c128_i32_1975 : BitVec 32 := 128#32
  let v3802 : BitVec 32 := Scalar.muli v3801 c128_i32_1975
  v3802
def k0_mult33 (i : grid0.Coords) : BitVec 32 :=
  let arg1 : BitVec 32 := BitVec.ofNat 32 (i 1).val
  let c12_i32_1982 : BitVec 32 := 12#32
  let v3821 : BitVec 32 := Scalar.subi arg1 c12_i32_1982
  let c6_i32_1983 : BitVec 32 := 6#32
  let v3822 : BitVec 32 := Scalar.addi v3821 c6_i32_1983
  let c128_i32_1984 : BitVec 32 := 128#32
  let v3823 : BitVec 32 := Scalar.muli v3822 c128_i32_1984
  v3823
def k0_mult34 (i : grid0.Coords) : BitVec 32 :=
  let arg1 : BitVec 32 := BitVec.ofNat 32 (i 1).val
  let c12_i32_1991 : BitVec 32 := 12#32
  let v3842 : BitVec 32 := Scalar.subi arg1 c12_i32_1991
  let c8_i32_1992 : BitVec 32 := 8#32
  let v3843 : BitVec 32 := Scalar.addi v3842 c8_i32_1992
  let c128_i32_1993 : BitVec 32 := 128#32
  let v3844 : BitVec 32 := Scalar.muli v3843 c128_i32_1993
  v3844
def k0_mult35 (i : grid0.Coords) : BitVec 32 :=
  let arg1 : BitVec 32 := BitVec.ofNat 32 (i 1).val
  let c12_i32_2000 : BitVec 32 := 12#32
  let v3863 : BitVec 32 := Scalar.subi arg1 c12_i32_2000
  let c10_i32_2001 : BitVec 32 := 10#32
  let v3864 : BitVec 32 := Scalar.addi v3863 c10_i32_2001
  let c128_i32_2002 : BitVec 32 := 128#32
  let v3865 : BitVec 32 := Scalar.muli v3864 c128_i32_2002
  v3865
def k0_mult36 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2144 : BitVec 32 := 8#32
  let v4196 : BitVec 32 := Scalar.muli arg19 c8_i32_2144
  let c0_i32_2145 : BitVec 32 := 0#32
  let v4197 : BitVec 32 := Scalar.addi v4196 c0_i32_2145
  let c128_i32_2146 : BitVec 32 := 128#32
  let v4198 : BitVec 32 := Scalar.muli v4197 c128_i32_2146
  v4198
def k0_off26 (k0_t1 : Fin k0_t1_loop.trips) (c0_i32_2145 : BitVec 32) : Fin 3 → Nat :=
  let c0_2147 : Index := 0#32
  let c32_2148 : Index := 32#32
  let c0_i32_1571 : BitVec 32 := 0#32
  let c1_i32_1573 : BitVec 32 := 1#32
  let arg19 : BitVec 32 := Scf.iv c0_i32_1571 c1_i32_1573 k0_t1
  let c8_i32_2144 : BitVec 32 := 8#32
  let v4196 : BitVec 32 := Scalar.muli arg19 c8_i32_2144
  let v4197 : BitVec 32 := Scalar.addi v4196 c0_i32_2145
  let c128_i32_2146 : BitVec 32 := 128#32
  let v4198 : BitVec 32 := Scalar.muli v4197 c128_i32_2146
  let v4199 : BitVec 32 := v4198
  let v4201 : Index := Scalar.indexCast v4199
  ![0, 32, v4201.toNat]
def k0_mult37 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2149 : BitVec 32 := 8#32
  let v4205 : BitVec 32 := Scalar.muli arg19 c8_i32_2149
  let c1_i32_2150 : BitVec 32 := 1#32
  let v4206 : BitVec 32 := Scalar.addi v4205 c1_i32_2150
  let c128_i32_2151 : BitVec 32 := 128#32
  let v4207 : BitVec 32 := Scalar.muli v4206 c128_i32_2151
  v4207
def k0_mult38 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2154 : BitVec 32 := 8#32
  let v4214 : BitVec 32 := Scalar.muli arg19 c8_i32_2154
  let c2_i32_2155 : BitVec 32 := 2#32
  let v4215 : BitVec 32 := Scalar.addi v4214 c2_i32_2155
  let c128_i32_2156 : BitVec 32 := 128#32
  let v4216 : BitVec 32 := Scalar.muli v4215 c128_i32_2156
  v4216
def k0_mult39 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2159 : BitVec 32 := 8#32
  let v4223 : BitVec 32 := Scalar.muli arg19 c8_i32_2159
  let c3_i32_2160 : BitVec 32 := 3#32
  let v4224 : BitVec 32 := Scalar.addi v4223 c3_i32_2160
  let c128_i32_2161 : BitVec 32 := 128#32
  let v4225 : BitVec 32 := Scalar.muli v4224 c128_i32_2161
  v4225
def k0_mult40 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2164 : BitVec 32 := 8#32
  let v4232 : BitVec 32 := Scalar.muli arg19 c8_i32_2164
  let c4_i32_2165 : BitVec 32 := 4#32
  let v4233 : BitVec 32 := Scalar.addi v4232 c4_i32_2165
  let c128_i32_2166 : BitVec 32 := 128#32
  let v4234 : BitVec 32 := Scalar.muli v4233 c128_i32_2166
  v4234
def k0_mult41 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2169 : BitVec 32 := 8#32
  let v4241 : BitVec 32 := Scalar.muli arg19 c8_i32_2169
  let c5_i32_2170 : BitVec 32 := 5#32
  let v4242 : BitVec 32 := Scalar.addi v4241 c5_i32_2170
  let c128_i32_2171 : BitVec 32 := 128#32
  let v4243 : BitVec 32 := Scalar.muli v4242 c128_i32_2171
  v4243
def k0_mult42 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2174 : BitVec 32 := 8#32
  let v4250 : BitVec 32 := Scalar.muli arg19 c8_i32_2174
  let c6_i32_2175 : BitVec 32 := 6#32
  let v4251 : BitVec 32 := Scalar.addi v4250 c6_i32_2175
  let c128_i32_2176 : BitVec 32 := 128#32
  let v4252 : BitVec 32 := Scalar.muli v4251 c128_i32_2176
  v4252
def k0_mult43 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2179 : BitVec 32 := 8#32
  let v4259 : BitVec 32 := Scalar.muli arg19 c8_i32_2179
  let c7_i32_2180 : BitVec 32 := 7#32
  let v4260 : BitVec 32 := Scalar.addi v4259 c7_i32_2180
  let c128_i32_2181 : BitVec 32 := 128#32
  let v4261 : BitVec 32 := Scalar.muli v4260 c128_i32_2181
  v4261
def k0_off27 (k0_t1 : Fin k0_t1_loop.trips) : Fin 4 → Nat :=
  let c0_i32_1571 : BitVec 32 := 0#32
  let c1_i32_1573 : BitVec 32 := 1#32
  let arg19 : BitVec 32 := Scf.iv c0_i32_1571 c1_i32_1573 k0_t1
  let v4268 : Index := Scalar.indexCast arg19
  let c2_2184 : Index := 2#32
  let c0_2185 : Index := 0#32
  let c0_2186 : Index := 0#32
  ![v4268.toNat, 2, 0, 0]
def k0_off28 (k0_t1 : Fin k0_t1_loop.trips) : Fin 5 → Nat :=
  let c0_i32_1571 : BitVec 32 := 0#32
  let c1_i32_1573 : BitVec 32 := 1#32
  let arg19 : BitVec 32 := Scf.iv c0_i32_1571 c1_i32_1573 k0_t1
  let v4271 : Index := Scalar.indexCast arg19
  let c2_2187 : Index := 2#32
  let c0_2188 : Index := 0#32
  let c0_2189 : Index := 0#32
  let c0_2190 : Index := 0#32
  ![v4271.toNat, 2, 0, 0, 0]
def k0_off29 (k0_t1 : Fin k0_t1_loop.trips) : Fin 5 → Nat :=
  let c0_i32_1571 : BitVec 32 := 0#32
  let c1_i32_1573 : BitVec 32 := 1#32
  let arg19 : BitVec 32 := Scf.iv c0_i32_1571 c1_i32_1573 k0_t1
  let v4274 : Index := Scalar.indexCast arg19
  let c2_2191 : Index := 2#32
  let c1_2192 : Index := 1#32
  let c0_2193 : Index := 0#32
  let c0_2194 : Index := 0#32
  ![v4274.toNat, 2, 1, 0, 0]
def k0_mult44 (i : grid0.Coords) : BitVec 32 :=
  let arg1 : BitVec 32 := BitVec.ofNat 32 (i 1).val
  let c128_i32_2196 : BitVec 32 := 128#32
  let v4279 : BitVec 32 := Scalar.muli arg1 c128_i32_2196
  let c0_i32_2197 : BitVec 32 := 0#32
  let v4280 : BitVec 32 := Scalar.addi v4279 c0_i32_2197
  v4280
def k0_mult45 (i : grid0.Coords) : BitVec 32 :=
  let arg1 : BitVec 32 := BitVec.ofNat 32 (i 1).val
  let c128_i32_2198 : BitVec 32 := 128#32
  let v4281 : BitVec 32 := Scalar.muli arg1 c128_i32_2198
  let c32_i32_2199 : BitVec 32 := 32#32
  let v4282 : BitVec 32 := Scalar.addi v4281 c32_i32_2199
  v4282
def k0_mult46 (i : grid0.Coords) : BitVec 32 :=
  let arg1 : BitVec 32 := BitVec.ofNat 32 (i 1).val
  let c128_i32_2200 : BitVec 32 := 128#32
  let v4283 : BitVec 32 := Scalar.muli arg1 c128_i32_2200
  let c64_i32_2201 : BitVec 32 := 64#32
  let v4284 : BitVec 32 := Scalar.addi v4283 c64_i32_2201
  v4284
def k0_mult47 (i : grid0.Coords) : BitVec 32 :=
  let arg1 : BitVec 32 := BitVec.ofNat 32 (i 1).val
  let c12_i32_2202 : BitVec 32 := 12#32
  let v4285 : BitVec 32 := Scalar.subi arg1 c12_i32_2202
  let c128_i32_2203 : BitVec 32 := 128#32
  let v4286 : BitVec 32 := Scalar.muli v4285 c128_i32_2203
  let c96_i32_2204 : BitVec 32 := 96#32
  let v4287 : BitVec 32 := Scalar.addi v4286 c96_i32_2204
  v4287
def k0_mult48 (i : grid0.Coords) : BitVec 32 :=
  let arg1 : BitVec 32 := BitVec.ofNat 32 (i 1).val
  let c11_i32_2205 : BitVec 32 := 11#32
  let v4288 : BitVec 32 := Scalar.subi arg1 c11_i32_2205
  let c128_i32_2206 : BitVec 32 := 128#32
  let v4289 : BitVec 32 := Scalar.muli v4288 c128_i32_2206
  let c0_i32_2207 : BitVec 32 := 0#32
  let v4290 : BitVec 32 := Scalar.addi v4289 c0_i32_2207
  v4290
def k0_mult49 (i : grid0.Coords) : BitVec 32 :=
  let arg1 : BitVec 32 := BitVec.ofNat 32 (i 1).val
  let c11_i32_2208 : BitVec 32 := 11#32
  let v4291 : BitVec 32 := Scalar.subi arg1 c11_i32_2208
  let c128_i32_2209 : BitVec 32 := 128#32
  let v4292 : BitVec 32 := Scalar.muli v4291 c128_i32_2209
  let c32_i32_2210 : BitVec 32 := 32#32
  let v4293 : BitVec 32 := Scalar.addi v4292 c32_i32_2210
  v4293
def k0_mult50 (i : grid0.Coords) : BitVec 32 :=
  let arg1 : BitVec 32 := BitVec.ofNat 32 (i 1).val
  let c11_i32_2211 : BitVec 32 := 11#32
  let v4294 : BitVec 32 := Scalar.subi arg1 c11_i32_2211
  let c128_i32_2212 : BitVec 32 := 128#32
  let v4295 : BitVec 32 := Scalar.muli v4294 c128_i32_2212
  let c64_i32_2213 : BitVec 32 := 64#32
  let v4296 : BitVec 32 := Scalar.addi v4295 c64_i32_2213
  v4296
def k0_mult51 (i : grid0.Coords) : BitVec 32 :=
  let arg1 : BitVec 32 := BitVec.ofNat 32 (i 1).val
  let c11_i32_2214 : BitVec 32 := 11#32
  let v4297 : BitVec 32 := Scalar.subi arg1 c11_i32_2214
  let c128_i32_2215 : BitVec 32 := 128#32
  let v4298 : BitVec 32 := Scalar.muli v4297 c128_i32_2215
  let c96_i32_2216 : BitVec 32 := 96#32
  let v4299 : BitVec 32 := Scalar.addi v4298 c96_i32_2216
  v4299
def k0_mult52 (i : grid0.Coords) : BitVec 32 :=
  let arg1 : BitVec 32 := BitVec.ofNat 32 (i 1).val
  let c12_i32_2267 : BitVec 32 := 12#32
  let v4467 : BitVec 32 := Scalar.subi arg1 c12_i32_2267
  let c2_i32_2268 : BitVec 32 := 2#32
  let v4468 : BitVec 32 := Scalar.addi v4467 c2_i32_2268
  let c128_i32_2269 : BitVec 32 := 128#32
  let v4469 : BitVec 32 := Scalar.muli v4468 c128_i32_2269
  v4469
def k0_mult53 (i : grid0.Coords) : BitVec 32 :=
  let arg1 : BitVec 32 := BitVec.ofNat 32 (i 1).val
  let c12_i32_2276 : BitVec 32 := 12#32
  let v4488 : BitVec 32 := Scalar.subi arg1 c12_i32_2276
  let c4_i32_2277 : BitVec 32 := 4#32
  let v4489 : BitVec 32 := Scalar.addi v4488 c4_i32_2277
  let c128_i32_2278 : BitVec 32 := 128#32
  let v4490 : BitVec 32 := Scalar.muli v4489 c128_i32_2278
  v4490
def k0_mult54 (i : grid0.Coords) : BitVec 32 :=
  let arg1 : BitVec 32 := BitVec.ofNat 32 (i 1).val
  let c12_i32_2285 : BitVec 32 := 12#32
  let v4509 : BitVec 32 := Scalar.subi arg1 c12_i32_2285
  let c6_i32_2286 : BitVec 32 := 6#32
  let v4510 : BitVec 32 := Scalar.addi v4509 c6_i32_2286
  let c128_i32_2287 : BitVec 32 := 128#32
  let v4511 : BitVec 32 := Scalar.muli v4510 c128_i32_2287
  v4511
def k0_mult55 (i : grid0.Coords) : BitVec 32 :=
  let arg1 : BitVec 32 := BitVec.ofNat 32 (i 1).val
  let c12_i32_2294 : BitVec 32 := 12#32
  let v4530 : BitVec 32 := Scalar.subi arg1 c12_i32_2294
  let c8_i32_2295 : BitVec 32 := 8#32
  let v4531 : BitVec 32 := Scalar.addi v4530 c8_i32_2295
  let c128_i32_2296 : BitVec 32 := 128#32
  let v4532 : BitVec 32 := Scalar.muli v4531 c128_i32_2296
  v4532
def k0_mult56 (i : grid0.Coords) : BitVec 32 :=
  let arg1 : BitVec 32 := BitVec.ofNat 32 (i 1).val
  let c12_i32_2303 : BitVec 32 := 12#32
  let v4551 : BitVec 32 := Scalar.subi arg1 c12_i32_2303
  let c10_i32_2304 : BitVec 32 := 10#32
  let v4552 : BitVec 32 := Scalar.addi v4551 c10_i32_2304
  let c128_i32_2305 : BitVec 32 := 128#32
  let v4553 : BitVec 32 := Scalar.muli v4552 c128_i32_2305
  v4553
def k0_mult57 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2447 : BitVec 32 := 8#32
  let v4884 : BitVec 32 := Scalar.muli arg19 c8_i32_2447
  let c0_i32_2448 : BitVec 32 := 0#32
  let v4885 : BitVec 32 := Scalar.addi v4884 c0_i32_2448
  let c128_i32_2449 : BitVec 32 := 128#32
  let v4886 : BitVec 32 := Scalar.muli v4885 c128_i32_2449
  v4886
def k0_off30 (k0_t1 : Fin k0_t1_loop.trips) (c0_i32_2448 : BitVec 32) : Fin 3 → Nat :=
  let c0_2450 : Index := 0#32
  let c64_2451 : Index := 64#32
  let c0_i32_1571 : BitVec 32 := 0#32
  let c1_i32_1573 : BitVec 32 := 1#32
  let arg19 : BitVec 32 := Scf.iv c0_i32_1571 c1_i32_1573 k0_t1
  let c8_i32_2447 : BitVec 32 := 8#32
  let v4884 : BitVec 32 := Scalar.muli arg19 c8_i32_2447
  let v4885 : BitVec 32 := Scalar.addi v4884 c0_i32_2448
  let c128_i32_2449 : BitVec 32 := 128#32
  let v4886 : BitVec 32 := Scalar.muli v4885 c128_i32_2449
  let v4887 : BitVec 32 := v4886
  let v4889 : Index := Scalar.indexCast v4887
  ![0, 64, v4889.toNat]
def k0_mult58 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2452 : BitVec 32 := 8#32
  let v4893 : BitVec 32 := Scalar.muli arg19 c8_i32_2452
  let c1_i32_2453 : BitVec 32 := 1#32
  let v4894 : BitVec 32 := Scalar.addi v4893 c1_i32_2453
  let c128_i32_2454 : BitVec 32 := 128#32
  let v4895 : BitVec 32 := Scalar.muli v4894 c128_i32_2454
  v4895
def k0_mult59 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2457 : BitVec 32 := 8#32
  let v4902 : BitVec 32 := Scalar.muli arg19 c8_i32_2457
  let c2_i32_2458 : BitVec 32 := 2#32
  let v4903 : BitVec 32 := Scalar.addi v4902 c2_i32_2458
  let c128_i32_2459 : BitVec 32 := 128#32
  let v4904 : BitVec 32 := Scalar.muli v4903 c128_i32_2459
  v4904
def k0_mult60 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2462 : BitVec 32 := 8#32
  let v4911 : BitVec 32 := Scalar.muli arg19 c8_i32_2462
  let c3_i32_2463 : BitVec 32 := 3#32
  let v4912 : BitVec 32 := Scalar.addi v4911 c3_i32_2463
  let c128_i32_2464 : BitVec 32 := 128#32
  let v4913 : BitVec 32 := Scalar.muli v4912 c128_i32_2464
  v4913
def k0_mult61 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2467 : BitVec 32 := 8#32
  let v4920 : BitVec 32 := Scalar.muli arg19 c8_i32_2467
  let c4_i32_2468 : BitVec 32 := 4#32
  let v4921 : BitVec 32 := Scalar.addi v4920 c4_i32_2468
  let c128_i32_2469 : BitVec 32 := 128#32
  let v4922 : BitVec 32 := Scalar.muli v4921 c128_i32_2469
  v4922
def k0_mult62 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2472 : BitVec 32 := 8#32
  let v4929 : BitVec 32 := Scalar.muli arg19 c8_i32_2472
  let c5_i32_2473 : BitVec 32 := 5#32
  let v4930 : BitVec 32 := Scalar.addi v4929 c5_i32_2473
  let c128_i32_2474 : BitVec 32 := 128#32
  let v4931 : BitVec 32 := Scalar.muli v4930 c128_i32_2474
  v4931
def k0_mult63 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2477 : BitVec 32 := 8#32
  let v4938 : BitVec 32 := Scalar.muli arg19 c8_i32_2477
  let c6_i32_2478 : BitVec 32 := 6#32
  let v4939 : BitVec 32 := Scalar.addi v4938 c6_i32_2478
  let c128_i32_2479 : BitVec 32 := 128#32
  let v4940 : BitVec 32 := Scalar.muli v4939 c128_i32_2479
  v4940
def k0_mult64 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2482 : BitVec 32 := 8#32
  let v4947 : BitVec 32 := Scalar.muli arg19 c8_i32_2482
  let c7_i32_2483 : BitVec 32 := 7#32
  let v4948 : BitVec 32 := Scalar.addi v4947 c7_i32_2483
  let c128_i32_2484 : BitVec 32 := 128#32
  let v4949 : BitVec 32 := Scalar.muli v4948 c128_i32_2484
  v4949
def k0_off31 (k0_t1 : Fin k0_t1_loop.trips) : Fin 4 → Nat :=
  let c0_i32_1571 : BitVec 32 := 0#32
  let c1_i32_1573 : BitVec 32 := 1#32
  let arg19 : BitVec 32 := Scf.iv c0_i32_1571 c1_i32_1573 k0_t1
  let v4956 : Index := Scalar.indexCast arg19
  let c3_2487 : Index := 3#32
  let c0_2488 : Index := 0#32
  let c0_2489 : Index := 0#32
  ![v4956.toNat, 3, 0, 0]
def k0_off32 (k0_t1 : Fin k0_t1_loop.trips) : Fin 5 → Nat :=
  let c0_i32_1571 : BitVec 32 := 0#32
  let c1_i32_1573 : BitVec 32 := 1#32
  let arg19 : BitVec 32 := Scf.iv c0_i32_1571 c1_i32_1573 k0_t1
  let v4959 : Index := Scalar.indexCast arg19
  let c3_2490 : Index := 3#32
  let c0_2491 : Index := 0#32
  let c0_2492 : Index := 0#32
  let c0_2493 : Index := 0#32
  ![v4959.toNat, 3, 0, 0, 0]
def k0_off33 (k0_t1 : Fin k0_t1_loop.trips) : Fin 5 → Nat :=
  let c0_i32_1571 : BitVec 32 := 0#32
  let c1_i32_1573 : BitVec 32 := 1#32
  let arg19 : BitVec 32 := Scf.iv c0_i32_1571 c1_i32_1573 k0_t1
  let v4962 : Index := Scalar.indexCast arg19
  let c3_2494 : Index := 3#32
  let c1_2495 : Index := 1#32
  let c0_2496 : Index := 0#32
  let c0_2497 : Index := 0#32
  ![v4962.toNat, 3, 1, 0, 0]
def k0_mult65 (i : grid0.Coords) : BitVec 32 :=
  let arg1 : BitVec 32 := BitVec.ofNat 32 (i 1).val
  let c128_i32_2499 : BitVec 32 := 128#32
  let v4967 : BitVec 32 := Scalar.muli arg1 c128_i32_2499
  let c0_i32_2500 : BitVec 32 := 0#32
  let v4968 : BitVec 32 := Scalar.addi v4967 c0_i32_2500
  v4968
def k0_mult66 (i : grid0.Coords) : BitVec 32 :=
  let arg1 : BitVec 32 := BitVec.ofNat 32 (i 1).val
  let c128_i32_2501 : BitVec 32 := 128#32
  let v4969 : BitVec 32 := Scalar.muli arg1 c128_i32_2501
  let c32_i32_2502 : BitVec 32 := 32#32
  let v4970 : BitVec 32 := Scalar.addi v4969 c32_i32_2502
  v4970
def k0_mult67 (i : grid0.Coords) : BitVec 32 :=
  let arg1 : BitVec 32 := BitVec.ofNat 32 (i 1).val
  let c128_i32_2503 : BitVec 32 := 128#32
  let v4971 : BitVec 32 := Scalar.muli arg1 c128_i32_2503
  let c64_i32_2504 : BitVec 32 := 64#32
  let v4972 : BitVec 32 := Scalar.addi v4971 c64_i32_2504
  v4972
def k0_mult68 (i : grid0.Coords) : BitVec 32 :=
  let arg1 : BitVec 32 := BitVec.ofNat 32 (i 1).val
  let c128_i32_2505 : BitVec 32 := 128#32
  let v4973 : BitVec 32 := Scalar.muli arg1 c128_i32_2505
  let c96_i32_2506 : BitVec 32 := 96#32
  let v4974 : BitVec 32 := Scalar.addi v4973 c96_i32_2506
  v4974
def k0_mult69 (i : grid0.Coords) : BitVec 32 :=
  let arg1 : BitVec 32 := BitVec.ofNat 32 (i 1).val
  let c11_i32_2507 : BitVec 32 := 11#32
  let v4975 : BitVec 32 := Scalar.subi arg1 c11_i32_2507
  let c128_i32_2508 : BitVec 32 := 128#32
  let v4976 : BitVec 32 := Scalar.muli v4975 c128_i32_2508
  let c0_i32_2509 : BitVec 32 := 0#32
  let v4977 : BitVec 32 := Scalar.addi v4976 c0_i32_2509
  v4977
def k0_mult70 (i : grid0.Coords) : BitVec 32 :=
  let arg1 : BitVec 32 := BitVec.ofNat 32 (i 1).val
  let c11_i32_2510 : BitVec 32 := 11#32
  let v4978 : BitVec 32 := Scalar.subi arg1 c11_i32_2510
  let c128_i32_2511 : BitVec 32 := 128#32
  let v4979 : BitVec 32 := Scalar.muli v4978 c128_i32_2511
  let c32_i32_2512 : BitVec 32 := 32#32
  let v4980 : BitVec 32 := Scalar.addi v4979 c32_i32_2512
  v4980
def k0_mult71 (i : grid0.Coords) : BitVec 32 :=
  let arg1 : BitVec 32 := BitVec.ofNat 32 (i 1).val
  let c11_i32_2513 : BitVec 32 := 11#32
  let v4981 : BitVec 32 := Scalar.subi arg1 c11_i32_2513
  let c128_i32_2514 : BitVec 32 := 128#32
  let v4982 : BitVec 32 := Scalar.muli v4981 c128_i32_2514
  let c64_i32_2515 : BitVec 32 := 64#32
  let v4983 : BitVec 32 := Scalar.addi v4982 c64_i32_2515
  v4983
def k0_mult72 (i : grid0.Coords) : BitVec 32 :=
  let arg1 : BitVec 32 := BitVec.ofNat 32 (i 1).val
  let c11_i32_2516 : BitVec 32 := 11#32
  let v4984 : BitVec 32 := Scalar.subi arg1 c11_i32_2516
  let c128_i32_2517 : BitVec 32 := 128#32
  let v4985 : BitVec 32 := Scalar.muli v4984 c128_i32_2517
  let c96_i32_2518 : BitVec 32 := 96#32
  let v4986 : BitVec 32 := Scalar.addi v4985 c96_i32_2518
  v4986
def k0_mult73 (i : grid0.Coords) : BitVec 32 :=
  let arg1 : BitVec 32 := BitVec.ofNat 32 (i 1).val
  let c12_i32_2569 : BitVec 32 := 12#32
  let v5154 : BitVec 32 := Scalar.subi arg1 c12_i32_2569
  let c2_i32_2570 : BitVec 32 := 2#32
  let v5155 : BitVec 32 := Scalar.addi v5154 c2_i32_2570
  let c128_i32_2571 : BitVec 32 := 128#32
  let v5156 : BitVec 32 := Scalar.muli v5155 c128_i32_2571
  v5156
def k0_mult74 (i : grid0.Coords) : BitVec 32 :=
  let arg1 : BitVec 32 := BitVec.ofNat 32 (i 1).val
  let c12_i32_2578 : BitVec 32 := 12#32
  let v5175 : BitVec 32 := Scalar.subi arg1 c12_i32_2578
  let c4_i32_2579 : BitVec 32 := 4#32
  let v5176 : BitVec 32 := Scalar.addi v5175 c4_i32_2579
  let c128_i32_2580 : BitVec 32 := 128#32
  let v5177 : BitVec 32 := Scalar.muli v5176 c128_i32_2580
  v5177
def k0_mult75 (i : grid0.Coords) : BitVec 32 :=
  let arg1 : BitVec 32 := BitVec.ofNat 32 (i 1).val
  let c12_i32_2587 : BitVec 32 := 12#32
  let v5196 : BitVec 32 := Scalar.subi arg1 c12_i32_2587
  let c6_i32_2588 : BitVec 32 := 6#32
  let v5197 : BitVec 32 := Scalar.addi v5196 c6_i32_2588
  let c128_i32_2589 : BitVec 32 := 128#32
  let v5198 : BitVec 32 := Scalar.muli v5197 c128_i32_2589
  v5198
def k0_mult76 (i : grid0.Coords) : BitVec 32 :=
  let arg1 : BitVec 32 := BitVec.ofNat 32 (i 1).val
  let c12_i32_2596 : BitVec 32 := 12#32
  let v5217 : BitVec 32 := Scalar.subi arg1 c12_i32_2596
  let c8_i32_2597 : BitVec 32 := 8#32
  let v5218 : BitVec 32 := Scalar.addi v5217 c8_i32_2597
  let c128_i32_2598 : BitVec 32 := 128#32
  let v5219 : BitVec 32 := Scalar.muli v5218 c128_i32_2598
  v5219
def k0_mult77 (i : grid0.Coords) : BitVec 32 :=
  let arg1 : BitVec 32 := BitVec.ofNat 32 (i 1).val
  let c12_i32_2605 : BitVec 32 := 12#32
  let v5238 : BitVec 32 := Scalar.subi arg1 c12_i32_2605
  let c10_i32_2606 : BitVec 32 := 10#32
  let v5239 : BitVec 32 := Scalar.addi v5238 c10_i32_2606
  let c128_i32_2607 : BitVec 32 := 128#32
  let v5240 : BitVec 32 := Scalar.muli v5239 c128_i32_2607
  v5240
def k0_mult78 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2744 : BitVec 32 := 8#32
  let v5559 : BitVec 32 := Scalar.muli arg19 c8_i32_2744
  let c0_i32_2745 : BitVec 32 := 0#32
  let v5560 : BitVec 32 := Scalar.addi v5559 c0_i32_2745
  let c128_i32_2746 : BitVec 32 := 128#32
  let v5561 : BitVec 32 := Scalar.muli v5560 c128_i32_2746
  v5561
def k0_off34 (k0_t1 : Fin k0_t1_loop.trips) (c0_i32_2745 : BitVec 32) : Fin 3 → Nat :=
  let c0_2747 : Index := 0#32
  let c96_2748 : Index := 96#32
  let c0_i32_1571 : BitVec 32 := 0#32
  let c1_i32_1573 : BitVec 32 := 1#32
  let arg19 : BitVec 32 := Scf.iv c0_i32_1571 c1_i32_1573 k0_t1
  let c8_i32_2744 : BitVec 32 := 8#32
  let v5559 : BitVec 32 := Scalar.muli arg19 c8_i32_2744
  let v5560 : BitVec 32 := Scalar.addi v5559 c0_i32_2745
  let c128_i32_2746 : BitVec 32 := 128#32
  let v5561 : BitVec 32 := Scalar.muli v5560 c128_i32_2746
  let v5562 : BitVec 32 := v5561
  let v5564 : Index := Scalar.indexCast v5562
  ![0, 96, v5564.toNat]
def k0_mult79 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2749 : BitVec 32 := 8#32
  let v5568 : BitVec 32 := Scalar.muli arg19 c8_i32_2749
  let c1_i32_2750 : BitVec 32 := 1#32
  let v5569 : BitVec 32 := Scalar.addi v5568 c1_i32_2750
  let c128_i32_2751 : BitVec 32 := 128#32
  let v5570 : BitVec 32 := Scalar.muli v5569 c128_i32_2751
  v5570
def k0_mult80 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2754 : BitVec 32 := 8#32
  let v5577 : BitVec 32 := Scalar.muli arg19 c8_i32_2754
  let c2_i32_2755 : BitVec 32 := 2#32
  let v5578 : BitVec 32 := Scalar.addi v5577 c2_i32_2755
  let c128_i32_2756 : BitVec 32 := 128#32
  let v5579 : BitVec 32 := Scalar.muli v5578 c128_i32_2756
  v5579
def k0_mult81 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2759 : BitVec 32 := 8#32
  let v5586 : BitVec 32 := Scalar.muli arg19 c8_i32_2759
  let c3_i32_2760 : BitVec 32 := 3#32
  let v5587 : BitVec 32 := Scalar.addi v5586 c3_i32_2760
  let c128_i32_2761 : BitVec 32 := 128#32
  let v5588 : BitVec 32 := Scalar.muli v5587 c128_i32_2761
  v5588
def k0_mult82 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2764 : BitVec 32 := 8#32
  let v5595 : BitVec 32 := Scalar.muli arg19 c8_i32_2764
  let c4_i32_2765 : BitVec 32 := 4#32
  let v5596 : BitVec 32 := Scalar.addi v5595 c4_i32_2765
  let c128_i32_2766 : BitVec 32 := 128#32
  let v5597 : BitVec 32 := Scalar.muli v5596 c128_i32_2766
  v5597
def k0_mult83 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2769 : BitVec 32 := 8#32
  let v5604 : BitVec 32 := Scalar.muli arg19 c8_i32_2769
  let c5_i32_2770 : BitVec 32 := 5#32
  let v5605 : BitVec 32 := Scalar.addi v5604 c5_i32_2770
  let c128_i32_2771 : BitVec 32 := 128#32
  let v5606 : BitVec 32 := Scalar.muli v5605 c128_i32_2771
  v5606
def k0_mult84 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2774 : BitVec 32 := 8#32
  let v5613 : BitVec 32 := Scalar.muli arg19 c8_i32_2774
  let c6_i32_2775 : BitVec 32 := 6#32
  let v5614 : BitVec 32 := Scalar.addi v5613 c6_i32_2775
  let c128_i32_2776 : BitVec 32 := 128#32
  let v5615 : BitVec 32 := Scalar.muli v5614 c128_i32_2776
  v5615
def k0_mult85 (k0_t1 : Fin k0_t1_loop.trips) : BitVec 32 :=
  let c0_i32_1571 : BitVec 32 := 0#32
  let c1_i32_1573 : BitVec 32 := 1#32
  let arg19 : BitVec 32 := Scf.iv c0_i32_1571 c1_i32_1573 k0_t1
  let c8_i32_2779 : BitVec 32 := 8#32
  let v5622 : BitVec 32 := Scalar.muli arg19 c8_i32_2779
  let c7_i32_2780 : BitVec 32 := 7#32
  let v5623 : BitVec 32 := Scalar.addi v5622 c7_i32_2780
  let c128_i32_2781 : BitVec 32 := 128#32
  let v5624 : BitVec 32 := Scalar.muli v5623 c128_i32_2781
  v5624
def k0_cond3 (i : grid0.Coords) : BitVec 1 :=
  let arg1 : BitVec 32 := BitVec.ofNat 32 (i 1).val
  let c12_i32_1560 : BitVec 32 := 12#32
  let v2854 : BitVec 1 := Scalar.cmpi .slt arg1 c12_i32_1560
  let v2855 : BitVec 32 := Scalar.extui v2854
  let c0_i32_1561 : BitVec 32 := 0#32
  let v2856 : BitVec 1 := Scalar.cmpi .ne v2855 c0_i32_1561
  v2856

@[reducible] def k0_t2_loop : Scf.Loop 32 :=
  let c0_i32_1568 : BitVec 32 := 0#32
  let c16_i32_1569 : BitVec 32 := 16#32
  let v2875 : BitVec 32 := Scalar.addi c0_i32_1568 c16_i32_1569
  let c1_i32_1570 : BitVec 32 := 1#32
  ⟨c0_i32_1568, v2875, c1_i32_1570⟩
def k0_off35 (k0_t2 : Fin k0_t2_loop.trips) : Fin 4 → Nat :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let v2903 : Index := Scalar.indexCast v2892
  let c4_i32_1579 : BitVec 32 := 4#32
  let c0_i32_1580 : BitVec 32 := 0#32
  let v2893 : BitVec 1 := Scalar.cmpi .eq c4_i32_1579 c0_i32_1580
  let c1_i32_1581 : BitVec 32 := 1#32
  let v2894 : BitVec 32 := Scalar.select v2893 c1_i32_1581 c4_i32_1579
  let v2895 : BitVec 32 := Scalar.remsi arg19 v2894
  let c0_i32_1583 : BitVec 32 := 0#32
  let v2897 : BitVec 1 := Scalar.cmpi .slt v2895 c0_i32_1583
  let c0_i32_1584 : BitVec 32 := 0#32
  let v2898 : BitVec 1 := Scalar.cmpi .slt v2894 c0_i32_1584
  let v2899 : BitVec 1 := Scalar.xori v2897 v2898
  let c0_i32_1582 : BitVec 32 := 0#32
  let v2896 : BitVec 1 := Scalar.cmpi .ne v2895 c0_i32_1582
  let v2900 : BitVec 1 := Scalar.andi v2899 v2896
  let v2901 : BitVec 32 := Scalar.addi v2895 v2894
  let v2902 : BitVec 32 := Scalar.select v2900 v2901 v2895
  let v2904 : Index := Scalar.indexCast v2902
  let c0_1585 : Index := 0#32
  let c0_1586 : Index := 0#32
  ![v2903.toNat, v2904.toNat, 0, 0]
def k0_off36 (k0_t2 : Fin k0_t2_loop.trips) : Fin 5 → Nat :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let v2907 : Index := Scalar.indexCast v2892
  let c4_i32_1579 : BitVec 32 := 4#32
  let c0_i32_1580 : BitVec 32 := 0#32
  let v2893 : BitVec 1 := Scalar.cmpi .eq c4_i32_1579 c0_i32_1580
  let c1_i32_1581 : BitVec 32 := 1#32
  let v2894 : BitVec 32 := Scalar.select v2893 c1_i32_1581 c4_i32_1579
  let v2895 : BitVec 32 := Scalar.remsi arg19 v2894
  let c0_i32_1583 : BitVec 32 := 0#32
  let v2897 : BitVec 1 := Scalar.cmpi .slt v2895 c0_i32_1583
  let c0_i32_1584 : BitVec 32 := 0#32
  let v2898 : BitVec 1 := Scalar.cmpi .slt v2894 c0_i32_1584
  let v2899 : BitVec 1 := Scalar.xori v2897 v2898
  let c0_i32_1582 : BitVec 32 := 0#32
  let v2896 : BitVec 1 := Scalar.cmpi .ne v2895 c0_i32_1582
  let v2900 : BitVec 1 := Scalar.andi v2899 v2896
  let v2901 : BitVec 32 := Scalar.addi v2895 v2894
  let v2902 : BitVec 32 := Scalar.select v2900 v2901 v2895
  let v2908 : Index := Scalar.indexCast v2902
  let c0_1587 : Index := 0#32
  let c0_1588 : Index := 0#32
  let c0_1589 : Index := 0#32
  ![v2907.toNat, v2908.toNat, 0, 0, 0]
def k0_off37 (k0_t2 : Fin k0_t2_loop.trips) : Fin 5 → Nat :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let v2911 : Index := Scalar.indexCast v2892
  let c4_i32_1579 : BitVec 32 := 4#32
  let c0_i32_1580 : BitVec 32 := 0#32
  let v2893 : BitVec 1 := Scalar.cmpi .eq c4_i32_1579 c0_i32_1580
  let c1_i32_1581 : BitVec 32 := 1#32
  let v2894 : BitVec 32 := Scalar.select v2893 c1_i32_1581 c4_i32_1579
  let v2895 : BitVec 32 := Scalar.remsi arg19 v2894
  let c0_i32_1583 : BitVec 32 := 0#32
  let v2897 : BitVec 1 := Scalar.cmpi .slt v2895 c0_i32_1583
  let c0_i32_1584 : BitVec 32 := 0#32
  let v2898 : BitVec 1 := Scalar.cmpi .slt v2894 c0_i32_1584
  let v2899 : BitVec 1 := Scalar.xori v2897 v2898
  let c0_i32_1582 : BitVec 32 := 0#32
  let v2896 : BitVec 1 := Scalar.cmpi .ne v2895 c0_i32_1582
  let v2900 : BitVec 1 := Scalar.andi v2899 v2896
  let v2901 : BitVec 32 := Scalar.addi v2895 v2894
  let v2902 : BitVec 32 := Scalar.select v2900 v2901 v2895
  let v2912 : Index := Scalar.indexCast v2902
  let c1_1590 : Index := 1#32
  let c0_1591 : Index := 0#32
  let c0_1592 : Index := 0#32
  ![v2911.toNat, v2912.toNat, 1, 0, 0]
@[reducible] def k0_t3_loop (i : grid0.Coords) : Scf.Loop 32 :=
  let c0_i32_1597 : BitVec 32 := 0#32
  let arg1 : BitVec 32 := BitVec.ofNat 32 (i 1).val
  let c1_i32_1595 : BitVec 32 := 1#32
  let v2921 : BitVec 32 := Scalar.addi arg1 c1_i32_1595
  let v2923 : BitVec 32 := Scalar.subi v2921 c0_i32_1597
  let c1_i32_1598 : BitVec 32 := 1#32
  let v2925 : BitVec 32 := Scalar.divsi v2923 c1_i32_1598
  let v2926 : BitVec 32 := Scalar.muli v2925 c1_i32_1598
  let v2927 : BitVec 32 := Scalar.addi c0_i32_1597 v2926
  let c1_i32_1599 : BitVec 32 := 1#32
  ⟨c0_i32_1597, v2927, c1_i32_1599⟩
def k0_mult86 (i : grid0.Coords) (k0_t3 : Fin (k0_t3_loop i).trips) : BitVec 32 :=
  let c0_i32_1597 : BitVec 32 := 0#32
  let c1_i32_1599 : BitVec 32 := 1#32
  let arg20 : BitVec 32 := Scf.iv c0_i32_1597 c1_i32_1599 k0_t3
  let c128_i32_1647 : BitVec 32 := 128#32
  let v3040 : BitVec 32 := Scalar.muli arg20 c128_i32_1647
  v3040
def k0_off38 (i : grid0.Coords) (k0_t2 : Fin k0_t2_loop.trips) (k0_t3 : Fin (k0_t3_loop i).trips) : Fin 3 → Nat :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let v3042 : Index := Scalar.indexCast v2892
  let c0_i32_1597 : BitVec 32 := 0#32
  let c1_i32_1599 : BitVec 32 := 1#32
  let arg20 : BitVec 32 := Scf.iv c0_i32_1597 c1_i32_1599 k0_t3
  let c128_i32_1647 : BitVec 32 := 128#32
  let v3040 : BitVec 32 := Scalar.muli arg20 c128_i32_1647
  let v3041 : BitVec 32 := v3040
  let v3043 : Index := Scalar.indexCast v3041
  let c0_1648 : Index := 0#32
  ![v3042.toNat, v3043.toNat, 0]
def k0_off39 (i : grid0.Coords) (k0_t3 : Fin (k0_t3_loop i).trips) : Fin 2 → Nat :=
  let c0_i32_1597 : BitVec 32 := 0#32
  let c1_i32_1599 : BitVec 32 := 1#32
  let arg20 : BitVec 32 := Scf.iv c0_i32_1597 c1_i32_1599 k0_t3
  let c128_i32_1647 : BitVec 32 := 128#32
  let v3040 : BitVec 32 := Scalar.muli arg20 c128_i32_1647
  let v3041 : BitVec 32 := v3040
  let v3066 : Index := Scalar.indexCast v3041
  let c0_1654 : Index := 0#32
  ![v3066.toNat, 0]
@[reducible] def k0_t4_loop (i : grid0.Coords) : Scf.Loop 32 :=
  let c0_i32_1597 : BitVec 32 := 0#32
  let arg1 : BitVec 32 := BitVec.ofNat 32 (i 1).val
  let c1_i32_1595 : BitVec 32 := 1#32
  let v2921 : BitVec 32 := Scalar.addi arg1 c1_i32_1595
  let v2923 : BitVec 32 := Scalar.subi v2921 c0_i32_1597
  let c1_i32_1598 : BitVec 32 := 1#32
  let v2925 : BitVec 32 := Scalar.divsi v2923 c1_i32_1598
  let v2926 : BitVec 32 := Scalar.muli v2925 c1_i32_1598
  let v2927 : BitVec 32 := Scalar.addi c0_i32_1597 v2926
  let v2924 : BitVec 32 := Scalar.addi c0_i32_1597 v2923
  let c1_i32_1600 : BitVec 32 := 1#32
  ⟨v2927, v2924, c1_i32_1600⟩
def k0_mult87 (i : grid0.Coords) (k0_t4 : Fin (k0_t4_loop i).trips) : BitVec 32 :=
  let c0_i32_1597 : BitVec 32 := 0#32
  let arg1 : BitVec 32 := BitVec.ofNat 32 (i 1).val
  let c1_i32_1595 : BitVec 32 := 1#32
  let v2921 : BitVec 32 := Scalar.addi arg1 c1_i32_1595
  let v2923 : BitVec 32 := Scalar.subi v2921 c0_i32_1597
  let c1_i32_1598 : BitVec 32 := 1#32
  let v2925 : BitVec 32 := Scalar.divsi v2923 c1_i32_1598
  let v2926 : BitVec 32 := Scalar.muli v2925 c1_i32_1598
  let v2927 : BitVec 32 := Scalar.addi c0_i32_1597 v2926
  let c1_i32_1600 : BitVec 32 := 1#32
  let arg20 : BitVec 32 := Scf.iv v2927 c1_i32_1600 k0_t4
  let c128_i32_1647 : BitVec 32 := 128#32
  let v3040 : BitVec 32 := Scalar.muli arg20 c128_i32_1647
  v3040
def k0_off40 (i : grid0.Coords) (k0_t2 : Fin k0_t2_loop.trips) (k0_t4 : Fin (k0_t4_loop i).trips) : Fin 3 → Nat :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let v3042 : Index := Scalar.indexCast v2892
  let c0_i32_1597 : BitVec 32 := 0#32
  let arg1 : BitVec 32 := BitVec.ofNat 32 (i 1).val
  let c1_i32_1595 : BitVec 32 := 1#32
  let v2921 : BitVec 32 := Scalar.addi arg1 c1_i32_1595
  let v2923 : BitVec 32 := Scalar.subi v2921 c0_i32_1597
  let c1_i32_1598 : BitVec 32 := 1#32
  let v2925 : BitVec 32 := Scalar.divsi v2923 c1_i32_1598
  let v2926 : BitVec 32 := Scalar.muli v2925 c1_i32_1598
  let v2927 : BitVec 32 := Scalar.addi c0_i32_1597 v2926
  let c1_i32_1600 : BitVec 32 := 1#32
  let arg20 : BitVec 32 := Scf.iv v2927 c1_i32_1600 k0_t4
  let c128_i32_1647 : BitVec 32 := 128#32
  let v3040 : BitVec 32 := Scalar.muli arg20 c128_i32_1647
  let v3041 : BitVec 32 := v3040
  let v3043 : Index := Scalar.indexCast v3041
  let c0_1648 : Index := 0#32
  ![v3042.toNat, v3043.toNat, 0]
def k0_off41 (i : grid0.Coords) (k0_t4 : Fin (k0_t4_loop i).trips) : Fin 2 → Nat :=
  let c0_i32_1597 : BitVec 32 := 0#32
  let arg1 : BitVec 32 := BitVec.ofNat 32 (i 1).val
  let c1_i32_1595 : BitVec 32 := 1#32
  let v2921 : BitVec 32 := Scalar.addi arg1 c1_i32_1595
  let v2923 : BitVec 32 := Scalar.subi v2921 c0_i32_1597
  let c1_i32_1598 : BitVec 32 := 1#32
  let v2925 : BitVec 32 := Scalar.divsi v2923 c1_i32_1598
  let v2926 : BitVec 32 := Scalar.muli v2925 c1_i32_1598
  let v2927 : BitVec 32 := Scalar.addi c0_i32_1597 v2926
  let c1_i32_1600 : BitVec 32 := 1#32
  let arg20 : BitVec 32 := Scf.iv v2927 c1_i32_1600 k0_t4
  let c128_i32_1647 : BitVec 32 := 128#32
  let v3040 : BitVec 32 := Scalar.muli arg20 c128_i32_1647
  let v3041 : BitVec 32 := v3040
  let v3066 : Index := Scalar.indexCast v3041
  let c0_1654 : Index := 0#32
  ![v3066.toNat, 0]
@[reducible] def k0_t5_loop (i : grid0.Coords) : Scf.Loop 32 :=
  let c0_i32_1606 : BitVec 32 := 0#32
  let arg1 : BitVec 32 := BitVec.ofNat 32 (i 1).val
  let c1_i32_1603 : BitVec 32 := 1#32
  let v2935 : BitVec 32 := Scalar.addi arg1 c1_i32_1603
  let v2938 : BitVec 32 := Scalar.subi v2935 c0_i32_1606
  let c1_i32_1607 : BitVec 32 := 1#32
  let v2940 : BitVec 32 := Scalar.divsi v2938 c1_i32_1607
  let v2941 : BitVec 32 := Scalar.muli v2940 c1_i32_1607
  let v2942 : BitVec 32 := Scalar.addi c0_i32_1606 v2941
  let c1_i32_1608 : BitVec 32 := 1#32
  ⟨c0_i32_1606, v2942, c1_i32_1608⟩
def k0_mult88 (i : grid0.Coords) (k0_t5 : Fin (k0_t5_loop i).trips) : BitVec 32 :=
  let c0_i32_1606 : BitVec 32 := 0#32
  let c1_i32_1608 : BitVec 32 := 1#32
  let arg20 : BitVec 32 := Scf.iv c0_i32_1606 c1_i32_1608 k0_t5
  let c128_i32_1647 : BitVec 32 := 128#32
  let v3040 : BitVec 32 := Scalar.muli arg20 c128_i32_1647
  v3040
def k0_off42 (i : grid0.Coords) (k0_t5 : Fin (k0_t5_loop i).trips) : Fin 2 → Nat :=
  let c0_i32_1606 : BitVec 32 := 0#32
  let c1_i32_1608 : BitVec 32 := 1#32
  let arg20 : BitVec 32 := Scf.iv c0_i32_1606 c1_i32_1608 k0_t5
  let c128_i32_1647 : BitVec 32 := 128#32
  let v3040 : BitVec 32 := Scalar.muli arg20 c128_i32_1647
  let v3041 : BitVec 32 := v3040
  let v3042 : Index := Scalar.indexCast v3041
  let c0_1648 : Index := 0#32
  ![v3042.toNat, 0]
def k0_off43 (i : grid0.Coords) (k0_t2 : Fin k0_t2_loop.trips) (k0_t5 : Fin (k0_t5_loop i).trips) : Fin 4 → Nat :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let v3070 : Index := Scalar.indexCast v2892
  let c0_i32_1606 : BitVec 32 := 0#32
  let c1_i32_1608 : BitVec 32 := 1#32
  let arg20 : BitVec 32 := Scf.iv c0_i32_1606 c1_i32_1608 k0_t5
  let v3071 : Index := Scalar.indexCast arg20
  let c0_1655 : Index := 0#32
  let c0_1656 : Index := 0#32
  ![v3070.toNat, v3071.toNat, 0, 0]
@[reducible] def k0_t6_loop (i : grid0.Coords) : Scf.Loop 32 :=
  let c0_i32_1606 : BitVec 32 := 0#32
  let arg1 : BitVec 32 := BitVec.ofNat 32 (i 1).val
  let c1_i32_1603 : BitVec 32 := 1#32
  let v2935 : BitVec 32 := Scalar.addi arg1 c1_i32_1603
  let v2938 : BitVec 32 := Scalar.subi v2935 c0_i32_1606
  let c1_i32_1607 : BitVec 32 := 1#32
  let v2940 : BitVec 32 := Scalar.divsi v2938 c1_i32_1607
  let v2941 : BitVec 32 := Scalar.muli v2940 c1_i32_1607
  let v2942 : BitVec 32 := Scalar.addi c0_i32_1606 v2941
  let v2939 : BitVec 32 := Scalar.addi c0_i32_1606 v2938
  let c1_i32_1609 : BitVec 32 := 1#32
  ⟨v2942, v2939, c1_i32_1609⟩
def k0_mult89 (i : grid0.Coords) (k0_t6 : Fin (k0_t6_loop i).trips) : BitVec 32 :=
  let c0_i32_1606 : BitVec 32 := 0#32
  let arg1 : BitVec 32 := BitVec.ofNat 32 (i 1).val
  let c1_i32_1603 : BitVec 32 := 1#32
  let v2935 : BitVec 32 := Scalar.addi arg1 c1_i32_1603
  let v2938 : BitVec 32 := Scalar.subi v2935 c0_i32_1606
  let c1_i32_1607 : BitVec 32 := 1#32
  let v2940 : BitVec 32 := Scalar.divsi v2938 c1_i32_1607
  let v2941 : BitVec 32 := Scalar.muli v2940 c1_i32_1607
  let v2942 : BitVec 32 := Scalar.addi c0_i32_1606 v2941
  let c1_i32_1609 : BitVec 32 := 1#32
  let arg20 : BitVec 32 := Scf.iv v2942 c1_i32_1609 k0_t6
  let c128_i32_1647 : BitVec 32 := 128#32
  let v3040 : BitVec 32 := Scalar.muli arg20 c128_i32_1647
  v3040
def k0_off44 (i : grid0.Coords) (k0_t6 : Fin (k0_t6_loop i).trips) : Fin 2 → Nat :=
  let c0_i32_1606 : BitVec 32 := 0#32
  let arg1 : BitVec 32 := BitVec.ofNat 32 (i 1).val
  let c1_i32_1603 : BitVec 32 := 1#32
  let v2935 : BitVec 32 := Scalar.addi arg1 c1_i32_1603
  let v2938 : BitVec 32 := Scalar.subi v2935 c0_i32_1606
  let c1_i32_1607 : BitVec 32 := 1#32
  let v2940 : BitVec 32 := Scalar.divsi v2938 c1_i32_1607
  let v2941 : BitVec 32 := Scalar.muli v2940 c1_i32_1607
  let v2942 : BitVec 32 := Scalar.addi c0_i32_1606 v2941
  let c1_i32_1609 : BitVec 32 := 1#32
  let arg20 : BitVec 32 := Scf.iv v2942 c1_i32_1609 k0_t6
  let c128_i32_1647 : BitVec 32 := 128#32
  let v3040 : BitVec 32 := Scalar.muli arg20 c128_i32_1647
  let v3041 : BitVec 32 := v3040
  let v3042 : Index := Scalar.indexCast v3041
  let c0_1648 : Index := 0#32
  ![v3042.toNat, 0]
def k0_off45 (i : grid0.Coords) (k0_t2 : Fin k0_t2_loop.trips) (k0_t6 : Fin (k0_t6_loop i).trips) : Fin 4 → Nat :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let v3070 : Index := Scalar.indexCast v2892
  let c0_i32_1606 : BitVec 32 := 0#32
  let arg1 : BitVec 32 := BitVec.ofNat 32 (i 1).val
  let c1_i32_1603 : BitVec 32 := 1#32
  let v2935 : BitVec 32 := Scalar.addi arg1 c1_i32_1603
  let v2938 : BitVec 32 := Scalar.subi v2935 c0_i32_1606
  let c1_i32_1607 : BitVec 32 := 1#32
  let v2940 : BitVec 32 := Scalar.divsi v2938 c1_i32_1607
  let v2941 : BitVec 32 := Scalar.muli v2940 c1_i32_1607
  let v2942 : BitVec 32 := Scalar.addi c0_i32_1606 v2941
  let c1_i32_1609 : BitVec 32 := 1#32
  let arg20 : BitVec 32 := Scf.iv v2942 c1_i32_1609 k0_t6
  let v3071 : Index := Scalar.indexCast arg20
  let c0_1655 : Index := 0#32
  let c0_1656 : Index := 0#32
  ![v3070.toNat, v3071.toNat, 0, 0]
def k0_off46 (k0_t2 : Fin k0_t2_loop.trips) : Fin 3 → Nat :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let v2949 : Index := Scalar.indexCast v2892
  let c0_1612 : Index := 0#32
  let c0_1613 : Index := 0#32
  ![v2949.toNat, 0, 0]
def k0_mult90 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c4_i32_1579 : BitVec 32 := 4#32
  let c0_i32_1580 : BitVec 32 := 0#32
  let v2893 : BitVec 1 := Scalar.cmpi .eq c4_i32_1579 c0_i32_1580
  let c1_i32_1581 : BitVec 32 := 1#32
  let v2894 : BitVec 32 := Scalar.select v2893 c1_i32_1581 c4_i32_1579
  let v2895 : BitVec 32 := Scalar.remsi arg19 v2894
  let c0_i32_1583 : BitVec 32 := 0#32
  let v2897 : BitVec 1 := Scalar.cmpi .slt v2895 c0_i32_1583
  let c0_i32_1584 : BitVec 32 := 0#32
  let v2898 : BitVec 1 := Scalar.cmpi .slt v2894 c0_i32_1584
  let v2899 : BitVec 1 := Scalar.xori v2897 v2898
  let c0_i32_1582 : BitVec 32 := 0#32
  let v2896 : BitVec 1 := Scalar.cmpi .ne v2895 c0_i32_1582
  let v2900 : BitVec 1 := Scalar.andi v2899 v2896
  let v2901 : BitVec 32 := Scalar.addi v2895 v2894
  let v2902 : BitVec 32 := Scalar.select v2900 v2901 v2895
  let c32_i32_1614 : BitVec 32 := 32#32
  let v2958 : BitVec 32 := Scalar.muli v2902 c32_i32_1614
  v2958
def k0_mult91 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1615 : BitVec 32 := 8#32
  let v2960 : BitVec 32 := Scalar.muli v2892 c8_i32_1615
  let c0_i32_1616 : BitVec 32 := 0#32
  let v2961 : BitVec 32 := Scalar.addi v2960 c0_i32_1616
  let c128_i32_1617 : BitVec 32 := 128#32
  let v2962 : BitVec 32 := Scalar.muli v2961 c128_i32_1617
  v2962
def k0_off47 (k0_t2 : Fin k0_t2_loop.trips) (c0_i32_1616 : BitVec 32) : Fin 3 → Nat :=
  let c0_1618 : Index := 0#32
  let c0_i32_1568 : BitVec 32 := 0#32
  let c1_i32_1570 : BitVec 32 := 1#32
  let arg19 : BitVec 32 := Scf.iv c0_i32_1568 c1_i32_1570 k0_t2
  let c4_i32_1579 : BitVec 32 := 4#32
  let c0_i32_1580 : BitVec 32 := 0#32
  let v2893 : BitVec 1 := Scalar.cmpi .eq c4_i32_1579 c0_i32_1580
  let c1_i32_1581 : BitVec 32 := 1#32
  let v2894 : BitVec 32 := Scalar.select v2893 c1_i32_1581 c4_i32_1579
  let v2895 : BitVec 32 := Scalar.remsi arg19 v2894
  let c0_i32_1583 : BitVec 32 := 0#32
  let v2897 : BitVec 1 := Scalar.cmpi .slt v2895 c0_i32_1583
  let c0_i32_1584 : BitVec 32 := 0#32
  let v2898 : BitVec 1 := Scalar.cmpi .slt v2894 c0_i32_1584
  let v2899 : BitVec 1 := Scalar.xori v2897 v2898
  let c0_i32_1582 : BitVec 32 := 0#32
  let v2896 : BitVec 1 := Scalar.cmpi .ne v2895 c0_i32_1582
  let v2900 : BitVec 1 := Scalar.andi v2899 v2896
  let v2901 : BitVec 32 := Scalar.addi v2895 v2894
  let v2902 : BitVec 32 := Scalar.select v2900 v2901 v2895
  let c32_i32_1614 : BitVec 32 := 32#32
  let v2958 : BitVec 32 := Scalar.muli v2902 c32_i32_1614
  let v2959 : BitVec 32 := v2958
  let v2965 : Index := Scalar.indexCast v2959
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1615 : BitVec 32 := 8#32
  let v2960 : BitVec 32 := Scalar.muli v2892 c8_i32_1615
  let v2961 : BitVec 32 := Scalar.addi v2960 c0_i32_1616
  let c128_i32_1617 : BitVec 32 := 128#32
  let v2962 : BitVec 32 := Scalar.muli v2961 c128_i32_1617
  let v2963 : BitVec 32 := v2962
  let v2966 : Index := Scalar.indexCast v2963
  ![0, v2965.toNat, v2966.toNat]
def k0_mult92 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1619 : BitVec 32 := 8#32
  let v2970 : BitVec 32 := Scalar.muli v2892 c8_i32_1619
  let c1_i32_1620 : BitVec 32 := 1#32
  let v2971 : BitVec 32 := Scalar.addi v2970 c1_i32_1620
  let c128_i32_1621 : BitVec 32 := 128#32
  let v2972 : BitVec 32 := Scalar.muli v2971 c128_i32_1621
  v2972
def k0_mult93 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1623 : BitVec 32 := 8#32
  let v2980 : BitVec 32 := Scalar.muli v2892 c8_i32_1623
  let c2_i32_1624 : BitVec 32 := 2#32
  let v2981 : BitVec 32 := Scalar.addi v2980 c2_i32_1624
  let c128_i32_1625 : BitVec 32 := 128#32
  let v2982 : BitVec 32 := Scalar.muli v2981 c128_i32_1625
  v2982
def k0_mult94 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1627 : BitVec 32 := 8#32
  let v2990 : BitVec 32 := Scalar.muli v2892 c8_i32_1627
  let c3_i32_1628 : BitVec 32 := 3#32
  let v2991 : BitVec 32 := Scalar.addi v2990 c3_i32_1628
  let c128_i32_1629 : BitVec 32 := 128#32
  let v2992 : BitVec 32 := Scalar.muli v2991 c128_i32_1629
  v2992
def k0_mult95 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1631 : BitVec 32 := 8#32
  let v3000 : BitVec 32 := Scalar.muli v2892 c8_i32_1631
  let c4_i32_1632 : BitVec 32 := 4#32
  let v3001 : BitVec 32 := Scalar.addi v3000 c4_i32_1632
  let c128_i32_1633 : BitVec 32 := 128#32
  let v3002 : BitVec 32 := Scalar.muli v3001 c128_i32_1633
  v3002
def k0_mult96 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1635 : BitVec 32 := 8#32
  let v3010 : BitVec 32 := Scalar.muli v2892 c8_i32_1635
  let c5_i32_1636 : BitVec 32 := 5#32
  let v3011 : BitVec 32 := Scalar.addi v3010 c5_i32_1636
  let c128_i32_1637 : BitVec 32 := 128#32
  let v3012 : BitVec 32 := Scalar.muli v3011 c128_i32_1637
  v3012
def k0_mult97 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1639 : BitVec 32 := 8#32
  let v3020 : BitVec 32 := Scalar.muli v2892 c8_i32_1639
  let c6_i32_1640 : BitVec 32 := 6#32
  let v3021 : BitVec 32 := Scalar.addi v3020 c6_i32_1640
  let c128_i32_1641 : BitVec 32 := 128#32
  let v3022 : BitVec 32 := Scalar.muli v3021 c128_i32_1641
  v3022
def k0_mult98 (k0_t2 : Fin k0_t2_loop.trips) : BitVec 32 :=
  let c0_i32_1568 : BitVec 32 := 0#32
  let c1_i32_1570 : BitVec 32 := 1#32
  let arg19 : BitVec 32 := Scf.iv c0_i32_1568 c1_i32_1570 k0_t2
  let c0_i32_1573 : BitVec 32 := 0#32
  let v2877 : BitVec 1 := Scalar.cmpi .sgt arg19 c0_i32_1573
  let v2878 : BitVec 32 := Scalar.extui v2877
  let c0_i32_1574 : BitVec 32 := 0#32
  let v2879 : BitVec 1 := Scalar.cmpi .slt arg19 c0_i32_1574
  let v2880 : BitVec 32 := Scalar.extui v2879
  let v2881 : BitVec 32 := Scalar.subi v2878 v2880
  let c4_i32_1572 : BitVec 32 := 4#32
  let c0_i32_1575 : BitVec 32 := 0#32
  let v2882 : BitVec 1 := Scalar.cmpi .sgt c4_i32_1572 c0_i32_1575
  let v2883 : BitVec 32 := Scalar.extui v2882
  let c0_i32_1576 : BitVec 32 := 0#32
  let v2884 : BitVec 1 := Scalar.cmpi .slt c4_i32_1572 c0_i32_1576
  let v2885 : BitVec 32 := Scalar.extui v2884
  let v2886 : BitVec 32 := Scalar.subi v2883 v2885
  let v2887 : BitVec 1 := Scalar.cmpi .ne v2881 v2886
  let v2888 : BitVec 32 := Scalar.remsi arg19 c4_i32_1572
  let c0_i32_1577 : BitVec 32 := 0#32
  let v2889 : BitVec 1 := Scalar.cmpi .ne v2888 c0_i32_1577
  let v2890 : BitVec 1 := Scalar.andi v2887 v2889
  let v2876 : BitVec 32 := Scalar.divsi arg19 c4_i32_1572
  let c1_i32_1578 : BitVec 32 := 1#32
  let v2891 : BitVec 32 := Scalar.subi v2876 c1_i32_1578
  let v2892 : BitVec 32 := Scalar.select v2890 v2891 v2876
  let c8_i32_1643 : BitVec 32 := 8#32
  let v3030 : BitVec 32 := Scalar.muli v2892 c8_i32_1643
  let c7_i32_1644 : BitVec 32 := 7#32
  let v3031 : BitVec 32 := Scalar.addi v3030 c7_i32_1644
  let c128_i32_1645 : BitVec 32 := 128#32
  let v3032 : BitVec 32 := Scalar.muli v3031 c128_i32_1645
  v3032
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x8192x4096 : Shape := ⟨3, ![4, 8192, 4096]⟩
abbrev S4x8192x512 : Shape := ⟨3, ![4, 8192, 512]⟩
abbrev S4x1x512 : Shape := ⟨3, ![4, 1, 512]⟩
abbrev S4x8192x4x8x128 : Shape := ⟨5, ![4, 8192, 4, 8, 128]⟩
abbrev S_ : Shape := ⟨0, ![]⟩
abbrev S4x8192x4x8 : Shape := ⟨4, ![4, 8192, 4, 8]⟩
abbrev S4x8192x4x8x1 : Shape := ⟨5, ![4, 8192, 4, 8, 1]⟩
abbrev S253 : Shape := ⟨1, ![253]⟩
abbrev S1x1x1x1x253 : Shape := ⟨5, ![1, 1, 1, 1, 253]⟩
abbrev S4x8192x4x8x253 : Shape := ⟨5, ![4, 8192, 4, 8, 253]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S1x1x1x253 : Shape := ⟨4, ![1, 1, 1, 253]⟩
abbrev S4x8192x4x253 : Shape := ⟨4, ![4, 8192, 4, 253]⟩
abbrev S4x1x4x128 : Shape := ⟨4, ![4, 1, 4, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x4x8192x8192x8 : Shape := ⟨5, ![4, 4, 8192, 8192, 8]⟩
abbrev S4x4x8x8192x8192 : Shape := ⟨5, ![4, 4, 8, 8192, 8192]⟩
abbrev S4x4x8x8192x1 : Shape := ⟨5, ![4, 4, 8, 8192, 1]⟩
abbrev S4x4x1x8192 : Shape := ⟨4, ![4, 4, 1, 8192]⟩
abbrev S4x4x1x1x8192 : Shape := ⟨5, ![4, 4, 1, 1, 8192]⟩
abbrev S4x4x8x8192 : Shape := ⟨4, ![4, 4, 8, 8192]⟩
abbrev S4x4x128x8x8192 : Shape := ⟨5, ![4, 4, 128, 8, 8192]⟩
abbrev S4x1x4x1x128 : Shape := ⟨5, ![4, 1, 4, 1, 128]⟩
abbrev S4x8192x32 : Shape := ⟨3, ![4, 8192, 32]⟩

abbrev nBuf : Space → Nat
  | .hbm => 190
  | .vmem => 0
  | .smem => 0
  | _ => 0

abbrev hbmTy0_0 (i : Nat) : BufTy := match i % 128 with
  | 0 => ⟨S4x8192x4096, .bf16⟩
  | 1 => ⟨S4x8192x512, .bf16⟩
  | 2 => ⟨S4x8192x512, .bf16⟩
  | 3 => ⟨S4x1x512, .f32⟩
  | 4 => ⟨S4x8192x4096, .f32⟩
  | 5 => ⟨S4x8192x4x8x128, .f32⟩
  | 6 => ⟨S4x8192x4x8x128, .f32⟩
  | 7 => ⟨S_, .f32⟩
  | 8 => ⟨S4x8192x4x8, .f32⟩
  | 9 => ⟨S4x8192x4x8x1, .f32⟩
  | 10 => ⟨S_, .f32⟩
  | 11 => ⟨S4x8192x4x8x1, .f32⟩
  | 12 => ⟨S4x8192x4x8x1, .f32⟩
  | 13 => ⟨S253, .f32⟩
  | 14 => ⟨S_, .f32⟩
  | 15 => ⟨S253, .f32⟩
  | 16 => ⟨S253, .f32⟩
  | 17 => ⟨S_, .f32⟩
  | 18 => ⟨S253, .f32⟩
  | 19 => ⟨S253, .f32⟩
  | 20 => ⟨S1x1x1x1x253, .f32⟩
  | 21 => ⟨S4x8192x4x8x253, .f32⟩
  | 22 => ⟨S4x8192x4x8x253, .f32⟩
  | 23 => ⟨S4x8192x4x8x253, .i1⟩
  | 24 => ⟨S_, .f32⟩
  | 25 => ⟨S253, .f32⟩
  | 26 => ⟨S253, .f32⟩
  | 27 => ⟨S_, .f32⟩
  | 28 => ⟨S_, .f32⟩
  | 29 => ⟨S4x8192x4x8x253, .f32⟩
  | 30 => ⟨S4x8192x4x8x253, .f32⟩
  | 31 => ⟨S4x8192x4x8x253, .f32⟩
  | 32 => ⟨S_, .f32⟩
  | 33 => ⟨S4x8192x4x8, .f32⟩
  | 34 => ⟨S4x8192x4x8x1, .f32⟩
  | 35 => ⟨S_, .f32⟩
  | 36 => ⟨S4x8192x4x8x1, .f32⟩
  | 37 => ⟨S4x8192x4x8x1, .i1⟩
  | 38 => ⟨S_, .f32⟩
  | 39 => ⟨S_, .f32⟩
  | 40 => ⟨S4x8192x4x8x1, .f32⟩
  | 41 => ⟨S4x8192x4x8x1, .f32⟩
  | 42 => ⟨S4x8192x4x8x128, .f32⟩
  | 43 => ⟨S4x8192x4x8x128, .f32⟩
  | 44 => ⟨S_, .f32⟩
  | 45 => ⟨S_, .f32⟩
  | 46 => ⟨S_, .f32⟩
  | 47 => ⟨S4x8192x4x8x128, .f32⟩
  | 48 => ⟨S4x8192x4x8x128, .f32⟩
  | 49 => ⟨S_, .f32⟩
  | 50 => ⟨S4x8192x4x8x128, .f32⟩
  | 51 => ⟨S4x8192x4x8x128, .f32⟩
  | 52 => ⟨S4x8192x512, .f32⟩
  | 53 => ⟨S4x8192x4x128, .f32⟩
  | 54 => ⟨S4x8192x4x128, .f32⟩
  | 55 => ⟨S_, .f32⟩
  | 56 => ⟨S4x8192x4, .f32⟩
  | 57 => ⟨S4x8192x4x1, .f32⟩
  | 58 => ⟨S_, .f32⟩
  | 59 => ⟨S4x8192x4x1, .f32⟩
  | 60 => ⟨S4x8192x4x1, .f32⟩
  | 61 => ⟨S253, .f32⟩
  | 62 => ⟨S_, .f32⟩
  | 63 => ⟨S253, .f32⟩
  | 64 => ⟨S253, .f32⟩
  | 65 => ⟨S_, .f32⟩
  | 66 => ⟨S253, .f32⟩
  | 67 => ⟨S253, .f32⟩
  | 68 => ⟨S1x1x1x253, .f32⟩
  | 69 => ⟨S4x8192x4x253, .f32⟩
  | 70 => ⟨S4x8192x4x253, .f32⟩
  | 71 => ⟨S4x8192x4x253, .i1⟩
  | 72 => ⟨S_, .f32⟩
  | 73 => ⟨S253, .f32⟩
  | 74 => ⟨S253, .f32⟩
  | 75 => ⟨S_, .f32⟩
  | 76 => ⟨S_, .f32⟩
  | 77 => ⟨S4x8192x4x253, .f32⟩
  | 78 => ⟨S4x8192x4x253, .f32⟩
  | 79 => ⟨S4x8192x4x253, .f32⟩
  | 80 => ⟨S_, .f32⟩
  | 81 => ⟨S4x8192x4, .f32⟩
  | 82 => ⟨S4x8192x4x1, .f32⟩
  | 83 => ⟨S_, .f32⟩
  | 84 => ⟨S4x8192x4x1, .f32⟩
  | 85 => ⟨S4x8192x4x1, .i1⟩
  | 86 => ⟨S_, .f32⟩
  | 87 => ⟨S_, .f32⟩
  | 88 => ⟨S4x8192x4x1, .f32⟩
  | 89 => ⟨S4x8192x4x1, .f32⟩
  | 90 => ⟨S4x8192x4x128, .f32⟩
  | 91 => ⟨S4x8192x4x128, .f32⟩
  | 92 => ⟨S_, .f32⟩
  | 93 => ⟨S_, .f32⟩
  | 94 => ⟨S_, .f32⟩
  | 95 => ⟨S4x8192x4x128, .f32⟩
  | 96 => ⟨S4x8192x4x128, .f32⟩
  | 97 => ⟨S_, .f32⟩
  | 98 => ⟨S4x8192x4x128, .f32⟩
  | 99 => ⟨S4x8192x4x128, .f32⟩
  | 100 => ⟨S4x1x4x128, .f32⟩
  | 101 => ⟨S4x8192x512, .f32⟩
  | 102 => ⟨S4x8192x4x128, .f32⟩
  | 103 => ⟨S4x8192x4x128, .f32⟩
  | 104 => ⟨S4x8192x4x128, .f32⟩
  | 105 => ⟨S_, .f32⟩
  | 106 => ⟨S_, .f32⟩
  | 107 => ⟨S_, .f32⟩
  | 108 => ⟨S4x8192x4x128, .f32⟩
  | 109 => ⟨S4x8192x4x128, .f32⟩
  | 110 => ⟨S_, .f32⟩
  | 111 => ⟨S4x8192x4x128, .f32⟩
  | 112 => ⟨S4x8192x4x128, .f32⟩
  | 113 => ⟨S8192, .i32⟩
  | 114 => ⟨S8192x1, .i32⟩
  | 115 => ⟨S1x8192, .i32⟩
  | 116 => ⟨S8192x8192, .i32⟩
  | 117 => ⟨S8192x8192, .i32⟩
  | 118 => ⟨S8192x8192, .i1⟩
  | 119 => ⟨S_, .i32⟩
  | 120 => ⟨S8192x1, .i32⟩
  | 121 => ⟨S8192x1, .i32⟩
  | 122 => ⟨S8192x8192, .i32⟩
  | 123 => ⟨S8192x8192, .i32⟩
  | 124 => ⟨S8192x8192, .i1⟩
  | 125 => ⟨S_, .i32⟩
  | 126 => ⟨S1x8192, .i32⟩
  | 127 => ⟨S1x8192, .i1⟩
  | _ => ⟨S4x8192x4096, .bf16⟩

abbrev hbmTy0_1 (i : Nat) : BufTy := match i % 128 with
  | 0 => ⟨S8192x8192, .i1⟩
  | 1 => ⟨S8192x8192, .i1⟩
  | 2 => ⟨S8192x8192, .i1⟩
  | 3 => ⟨S4x4x8192x8192x8, .f32⟩
  | 4 => ⟨S4x4x8x8192x8192, .f32⟩
  | 5 => ⟨S4x4x8x8192x1, .f32⟩
  | 6 => ⟨S4x4x8x8192x8192, .f32⟩
  | 7 => ⟨S4x4x8x8192x8192, .f32⟩
  | 8 => ⟨S4x4x1x8192, .f32⟩
  | 9 => ⟨S4x4x1x1x8192, .f32⟩
  | 10 => ⟨S4x4x8x8192x8192, .f32⟩
  | 11 => ⟨S4x4x8x8192x8192, .f32⟩
  | 12 => ⟨S_, .f32⟩
  | 13 => ⟨S4x4x8x8192x8192, .f32⟩
  | 14 => ⟨S4x4x8x8192x8192, .f32⟩
  | 15 => ⟨S_, .f32⟩
  | 16 => ⟨S_, .f32⟩
  | 17 => ⟨S4x4x8x8192x8192, .i1⟩
  | 18 => ⟨S4x4x8x8192x8192, .f32⟩
  | 19 => ⟨S4x4x8x8192x8192, .f32⟩
  | 20 => ⟨S_, .f32⟩
  | 21 => ⟨S4x4x8x8192, .f32⟩
  | 22 => ⟨S4x4x8x8192x1, .f32⟩
  | 23 => ⟨S4x4x8x8192x8192, .f32⟩
  | 24 => ⟨S4x4x8x8192x8192, .f32⟩
  | 25 => ⟨S_, .f32⟩
  | 26 => ⟨S4x4x8x8192x8192, .f32⟩
  | 27 => ⟨S4x4x8x8192x8192, .f32⟩
  | 28 => ⟨S_, .f32⟩
  | 29 => ⟨S_, .f32⟩
  | 30 => ⟨S4x4x8x8192x8192, .i1⟩
  | 31 => ⟨S4x4x8x8192x8192, .f32⟩
  | 32 => ⟨S4x4x8x8192x8192, .f32⟩
  | 33 => ⟨S_, .f32⟩
  | 34 => ⟨S4x4x8x8192, .f32⟩
  | 35 => ⟨S_, .f32⟩
  | 36 => ⟨S4x4x8x8192x8192, .f32⟩
  | 37 => ⟨S4x4x8x8192x8192, .f32⟩
  | 38 => ⟨S_, .f32⟩
  | 39 => ⟨S_, .f32⟩
  | 40 => ⟨S_, .f32⟩
  | 41 => ⟨S4x4x8x8192x8192, .f32⟩
  | 42 => ⟨S4x4x8x8192x8192, .f32⟩
  | 43 => ⟨S_, .f32⟩
  | 44 => ⟨S4x4x8x8192x8192, .f32⟩
  | 45 => ⟨S4x4x8x8192x8192, .f32⟩
  | 46 => ⟨S4x4x128x8x8192, .f32⟩
  | 47 => ⟨S4x8192x4x8x128, .f32⟩
  | 48 => ⟨S4x1x4x1x128, .f32⟩
  | 49 => ⟨S4x8192x4x8x128, .f32⟩
  | 50 => ⟨S4x8192x4x8x128, .f32⟩
  | 51 => ⟨S_, .f32⟩
  | 52 => ⟨S4x8192x4x8x128, .f32⟩
  | 53 => ⟨S4x8192x4x8x128, .f32⟩
  | 54 => ⟨S4x8192x4x8, .f32⟩
  | 55 => ⟨S4x8192x4x8x1, .f32⟩
  | 56 => ⟨S4x8192x4x8x128, .f32⟩
  | 57 => ⟨S4x8192x4x8x128, .f32⟩
  | 58 => ⟨S4x8192x4096, .f32⟩
  | 59 => ⟨S4x8192x4096, .bf16⟩
  | 60 => ⟨S4x8192x32, .f32⟩
  | 61 => ⟨S4x8192x4, .f32⟩
  | _ => ⟨S4x8192x4096, .bf16⟩

abbrev hbmTy (i : Nat) : BufTy := match i / 128 with
  | 0 => hbmTy0_0 i
  | 1 => hbmTy0_1 i
  | _ => ⟨S4x8192x4096, .bf16⟩

abbrev bufTy : (tb : Table) → Fin (tcTables nBuf tb) → BufTy
  | .hbm, ⟨i, _⟩ => hbmTy i
  | _, _ => ⟨S4x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_cst_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_12 : Ref sig .tc := ⟨.hbm, 62, rfl⟩
abbrev main_v35 : Ref sig .tc := ⟨.hbm, 63, rfl⟩
abbrev main_v36 : Ref sig .tc := ⟨.hbm, 64, rfl⟩
abbrev main_cst_13 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩
abbrev main_v44 : Ref sig .tc := ⟨.hbm, 74, rfl⟩
abbrev main_cst_15 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v45 : Ref sig .tc := ⟨.hbm, 79, rfl⟩
abbrev main_cst_16 : Ref sig .tc := ⟨.hbm, 80, rfl⟩
abbrev main_v46 : Ref sig .tc := ⟨.hbm, 81, rfl⟩
abbrev main_v47 : Ref sig .tc := ⟨.hbm, 82, rfl⟩
abbrev main_cst_17 : Ref sig .tc := ⟨.hbm, 83, rfl⟩
abbrev main_v48 : Ref sig .tc := ⟨.hbm, 84, rfl⟩
abbrev main_v49 : Ref sig .tc := ⟨.hbm, 85, rfl⟩
abbrev main_cst_18 : Ref sig .tc := ⟨.hbm, 86, rfl⟩
abbrev main_call4_v0 : Ref sig .tc := ⟨.hbm, 87, rfl⟩
abbrev main_call4_v1 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_19 : Ref sig .tc := ⟨.hbm, 92, rfl⟩
abbrev main_cst_20 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_cst_22 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_c : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_c_23 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_24 : Ref sig .tc := ⟨.hbm, 140, rfl⟩
abbrev main_v85 : Ref sig .tc := ⟨.hbm, 141, rfl⟩
abbrev main_v86 : Ref sig .tc := ⟨.hbm, 142, rfl⟩
abbrev main_cst_25 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_v87 : Ref sig .tc := ⟨.hbm, 147, rfl⟩
abbrev main_cst_26 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_cst_27 : Ref sig .tc := ⟨.hbm, 153, rfl⟩
abbrev main_v92 : Ref sig .tc := ⟨.hbm, 154, rfl⟩
abbrev main_v93 : Ref sig .tc := ⟨.hbm, 155, rfl⟩
abbrev main_cst_28 : Ref sig .tc := ⟨.hbm, 156, rfl⟩
abbrev main_call8_v0 : Ref sig .tc := ⟨.hbm, 157, rfl⟩
abbrev main_call8_v1 : Ref sig .tc := ⟨.hbm, 158, rfl⟩
abbrev main_call8_v2 : Ref sig .tc := ⟨.hbm, 159, rfl⟩
abbrev main_v94 : Ref sig .tc := ⟨.hbm, 160, rfl⟩
abbrev main_cst_29 : Ref sig .tc := ⟨.hbm, 161, rfl⟩
abbrev main_v95 : Ref sig .tc := ⟨.hbm, 162, rfl⟩
abbrev main_cst_30 : Ref sig .tc := ⟨.hbm, 163, rfl⟩
abbrev main_v96 : Ref sig .tc := ⟨.hbm, 164, rfl⟩
abbrev main_v97 : Ref sig .tc := ⟨.hbm, 165, rfl⟩
abbrev main_cst_31 : Ref sig .tc := ⟨.hbm, 166, rfl⟩
abbrev main_cst_32 : Ref sig .tc := ⟨.hbm, 167, rfl⟩
abbrev main_call9_v0 : Ref sig .tc := ⟨.hbm, 168, rfl⟩
abbrev main_call9_v1 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_33 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩

abbrev nD : Nat := 1
abbrev τ : Topo := Topo.v7x

variable {F : FTy → Type} [FloatOps F]
-- ==== ValueScales.lean ====
abbrev S4x8192x512 : Shape := ⟨3, ![4, 8192, 512]⟩
abbrev S4x1x512 : Shape := ⟨3, ![4, 1, 512]⟩
abbrev S1x1024x512 : Shape := ⟨3, ![1, 1024, 512]⟩
abbrev S1x1x512 : Shape := ⟨3, ![1, 1, 512]⟩
abbrev S8x512 : Shape := ⟨2, ![8, 512]⟩
abbrev S1024x512 : Shape := ⟨2, ![1024, 512]⟩
abbrev S128x8x512 : Shape := ⟨3, ![128, 8, 512]⟩
abbrev S512 : Shape := ⟨1, ![512]⟩
abbrev S1x512 : Shape := ⟨2, ![1, 512]⟩
abbrev S256x512 : Shape := ⟨2, ![256, 512]⟩

abbrev nBuf : Space → Nat
  | .hbm => 2
  | .vmem => 5
  | .smem => 0
  | _ => 0

abbrev bufTy : (tb : Table) → Fin (tcTables nBuf tb) → BufTy
  | .hbm, ⟨0, _⟩ => ⟨S4x8192x512, .bf16⟩
  | .hbm, ⟨1, _⟩ => ⟨S4x1x512, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1x512, .f32⟩
  | .local _ .vmem, ⟨3, _⟩ => ⟨S1x1x512, .f32⟩
  | .local _ .vmem, ⟨4, _⟩ => ⟨S8x512, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ValueScalesReferenceIdeal.lean ====
abbrev S4x8192x512 : Shape := ⟨3, ![4, 8192, 512]⟩
abbrev S_ : Shape := ⟨0, ![]⟩
abbrev S4x512 : Shape := ⟨2, ![4, 512]⟩
abbrev S4x1x512 : Shape := ⟨3, ![4, 1, 512]⟩
abbrev S253 : Shape := ⟨1, ![253]⟩
abbrev S4x1x512x1 : Shape := ⟨4, ![4, 1, 512, 1]⟩
abbrev S1x1x1x253 : Shape := ⟨4, ![1, 1, 1, 253]⟩
abbrev S4x1x512x253 : Shape := ⟨4, ![4, 1, 512, 253]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .f32⟩
  | .hbm, ⟨2, _⟩ => ⟨S4x8192x512, .f32⟩
  | .hbm, ⟨3, _⟩ => ⟨S_, .f32⟩
  | .hbm, ⟨4, _⟩ => ⟨S4x512, .f32⟩
  | .hbm, ⟨5, _⟩ => ⟨S4x1x512, .f32⟩
  | .hbm, ⟨6, _⟩ => ⟨S_, .f32⟩
  | .hbm, ⟨7, _⟩ => ⟨S4x1x512, .f32⟩
  | .hbm, ⟨8, _⟩ => ⟨S4x1x512, .f32⟩
  | .hbm, ⟨9, _⟩ => ⟨S253, .f32⟩
  | .hbm, ⟨10, _⟩ => ⟨S_, .f32⟩
  | .hbm, ⟨11, _⟩ => ⟨S253, .f32⟩
  | .hbm, ⟨12, _⟩ => ⟨S253, .f32⟩
  | .hbm, ⟨13, _⟩ => ⟨S_, .f32⟩
  | .hbm, ⟨14, _⟩ => ⟨S253, .f32⟩
  | .hbm, ⟨15, _⟩ => ⟨S253, .f32⟩
  | .hbm, ⟨16, _⟩ => ⟨S4x1x512x1, .f32⟩
  | .hbm, ⟨17, _⟩ => ⟨S1x1x1x253, .f32⟩
  | .hbm, ⟨18, _⟩ => ⟨S4x1x512x253, .f32⟩
  | .hbm, ⟨19, _⟩ => ⟨S4x1x512x253, .f32⟩
  | .hbm, ⟨20, _⟩ => ⟨S4x1x512x253, .i1⟩
  | .hbm, ⟨21, _⟩ => ⟨S_, .f32⟩
  | .hbm, ⟨22, _⟩ => ⟨S253, .f32⟩
  | .hbm, ⟨23, _⟩ => ⟨S253, .f32⟩
  | .hbm, ⟨24, _⟩ => ⟨S_, .f32⟩
  | .hbm, ⟨25, _⟩ => ⟨S_, .f32⟩
  | .hbm, ⟨26, _⟩ => ⟨S4x1x512x253, .f32⟩
  | .hbm, ⟨27, _⟩ => ⟨S4x1x512x253, .f32⟩
  | .hbm, ⟨28, _⟩ => ⟨S4x1x512x253, .f32⟩
  | .hbm, ⟨29, _⟩ => ⟨S_, .f32⟩
  | .hbm, ⟨30, _⟩ => ⟨S4x1x512, .f32⟩
  | .hbm, ⟨31, _⟩ => ⟨S_, .f32⟩
  | .hbm, ⟨32, _⟩ => ⟨S4x1x512, .f32⟩
  | .hbm, ⟨33, _⟩ => ⟨S4x1x512, .i1⟩
  | .hbm, ⟨34, _⟩ => ⟨S_, .f32⟩
  | .hbm, ⟨35, _⟩ => ⟨S_, .f32⟩
  | .hbm, ⟨36, _⟩ => ⟨S4x1x512, .f32⟩
  | .hbm, ⟨37, _⟩ => ⟨S4x1x512, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Proof.Cmd.lean ====
/-
  A small language for straight-line kernel bodies over named whole buffers: loads and stores of rectangles, branches on
  a decided word, counted loops, and sequencing. A command denotes a program (`Cmd.toProg`) and, apart, a plain function
  on the buffers' contents (`Cmd.run`). One theorem (`Cmd.wp_toProg`) says that a core which owns the buffers runs the
  program to exactly what the function computes; everything said of a body afterwards is said of that function.
-/
module

public import Idealize.ShloMosaic.Lib.Memref
public import Idealize.ShloMosaic.Lib.Scf
public import Idealize.ShloMosaic.Lib.Tactic

@[expose] public section

noncomputable section

namespace Idealize.ShloMosaic

open Idealize.SL Idealize.SL.RA Idealize.SL.BI Idealize.SL.Sem
open scoped Idealize.SL.BI
open Idealize.SL.BI.BIBase Idealize.SL.BI.Laws Idealize.SL.ProofMode

variable {nD : Nat} {τ : Topo} {sig : RefSig} {Val : EltTy → Type} {Λ : Labels}
variable {Ix : Type} [DecidableEq Ix] {Name : Type} [DecidableEq Name] {U : Type} [URA U] {Lvl : Type} [Preorder Lvl]

/-- The named buffers of a body: each a memref in VMEM at its shape and element type. -/
structure Bank (sig : RefSig) where
  K : Type
  sh : K → Shape
  el : K → EltTy
  mem : (j : K) → Memref sig .tc .vmem (sh j) (el j)

/-- The contents of every buffer of a bank. -/
abbrev Bank.St (B : Bank sig) (Val : EltTy → Type) : Type := (j : B.K) → (B.sh j).Idx → Val (B.el j)

/-- Commands over a bank. -/
inductive Cmd (B : Bank sig) (Val : EltTy → Type) : Type → Type 1 where
  | ret {α : Type} (a : α) : Cmd B Val α
  | ld {α : Type} (j : B.K) (r : LoadRect (B.sh j)) (h : (B.mem j).view.LoadsAt r)
      (k : (r.shape.Idx → Val (B.el j)) → Cmd B Val α) : Cmd B Val α
  | st {α : Type} (j : B.K) (r : Rect (B.sh j)) (w : r.shape.Idx → Val (B.el j))
      (h : ((B.mem j).access r).Stores Finset.univ) (k : Cmd B Val α) : Cmd B Val α
  | cond {α : Type} (c : Prop) [Decidable c] (t : c → Cmd B Val α) (e : ¬c → Cmd B Val α) : Cmd B Val α
  | loop {α β : Type} {w : Nat} (L : Scf.Loop w) (ok : L.OK) (init : β) (body : Fin L.trips → β → Cmd B Val β)
      (k : β → Cmd B Val α) : Cmd B Val α
  | seq {α β : Type} (p : Cmd B Val β) (k : β → Cmd B Val α) : Cmd B Val α

namespace Cmd

variable {B : Bank sig}

/-- The program a command denotes. -/
def toProg {α : Type} : Cmd B Val α → Prog (TpuEff nD τ sig Val Λ .tc) α
  | .ret a => .ret a
  | .ld j r h k => .op (.load (B.mem j) r h) fun v => toProg (k v)
  | .st j r w h k => .op (.store (B.mem j) r w Finset.univ h (.inl rfl)) fun _ => toProg k
  | @cond _ _ _ _ c d t e => @dite _ c d (fun h => toProg (t h)) (fun h => toProg (e h))
  | .loop L ok init body k => Scf.Loop.for L ok init (fun i a => toProg (body i a)) >>= fun a => toProg (k a)
  | .seq p k => toProg p >>= fun a => toProg (k a)

/-- The contents after a store: the rectangle's at the stored value, every other as before. -/
def put [DecidableEq B.K] (σ : B.St Val) (j : B.K) (r : Rect (B.sh j)) (w : r.shape.Idx → Val (B.el j)) : B.St Val :=
  Function.update σ j (r.overlay (σ j) w)

/-- What a command computes: the contents it leaves and its result. -/
def run [DecidableEq B.K] {α : Type} : Cmd B Val α → B.St Val → B.St Val × α
  | .ret a, σ => (σ, a)
  | .ld j r _ k, σ => run (k fun i => σ j (r.idx i)) σ
  | .st j r w _ k, σ => run k (put σ j r w)
  | @cond _ _ _ _ c d t e, σ => @dite _ c d (fun h => run (t h) σ) (fun h => run (e h) σ)
  | .loop L _ init body k, σ =>
      let q := (List.finRange L.trips).foldl (fun s i => run (body i s.2) s.1) (σ, init)
      run (k q.2) q.1
  | .seq p k, σ => run (k (run p σ).2) (run p σ).1

end Cmd

local notation "𝕄" => MT nD τ sig Ix Val Name U Lvl

/-- Core `c` owns every buffer of the bank, at the contents `σ`. -/
def Bank.held (B : Bank sig) [Fintype B.K] (c : Dev nD) (σ : B.St Val) : sProp 𝕄 :=
  bigSep Finset.univ fun j => owns (c.tc : Thread nD τ) (B.mem j) fullShare (σ j)

namespace Cmd

variable {B : Bank sig} [Fintype B.K] [DecidableEq B.K]
variable {defs : Defs nD τ sig Val Λ} {𝒱 : Variants} (c : Dev nD) {bd : Option 𝒱.V} {Γ : PendingWaitsCtx sig Ix} {E : Set Name}

omit [Preorder Lvl] in
/-- One buffer taken out of the bank. -/
theorem held_split (σ : B.St Val) (j : B.K) :
    (B.held c σ : sProp 𝕄) = iprop(owns (c.tc : Thread nD τ) (B.mem j) fullShare (σ j)
      ∗ bigSep (Finset.univ.erase j) fun j => owns (c.tc : Thread nD τ) (B.mem j) fullShare (σ j)) :=
  bigSep_univ_split j

omit [Preorder Lvl] in
/-- One buffer changed: the others are as they were. -/
theorem held_update (σ : B.St Val) (j : B.K) (X : (B.sh j).Idx → Val (B.el j)) :
    (B.held c (Function.update σ j X) : sProp 𝕄) = iprop(owns (c.tc : Thread nD τ) (B.mem j) fullShare X
      ∗ bigSep (Finset.univ.erase j) fun j => owns (c.tc : Thread nD τ) (B.mem j) fullShare (σ j)) := by
  rw [held_split c _ j, Function.update_self]
  congr 1
  refine bigSep_congr fun i hi => ?_
  rw [Function.update_of_ne (Finset.ne_of_mem_erase hi)]

/-- A core that owns a bank runs a command's program to what the command computes. -/
theorem wp_toProg {α : Type} (p : Cmd B Val α) : ∀ σ : B.St Val,
    (B.held c σ : sProp 𝕄) ⊢ wp frame (wpE' defs 𝒱 (c.tc : Thread nD τ) bd Γ) E (toProg p)
      (fun a => iprop(⌜(run p σ).2 = a⌝ ∗ B.held c (run p σ).1)) := by
  induction p with
  | ret a =>
    intro σ
    simp only [toProg, run, wp_ret]
    iintro H; imodintro; isplitr
    · ipureintro; trivial
    · iexact H
  | ld j r h k ih =>
    intro σ
    simp only [toProg, run]
    have hs := held_split (Ix := Ix) (Name := Name) (U := U) (Lvl := Lvl) (τ := τ) c σ j
    iintro H
    ihave H' := (show (B.held c σ : sProp 𝕄) ⊢ iprop((∃ f, ⌜(B.mem j).view.read Val f = σ j⌝ ∗ ((B.mem j).view.loc (c.tc : Thread nD τ) ↦[(B.mem j).view.set]{fullShare} f))
      ∗ bigSep (Finset.univ.erase j) fun j => owns (c.tc : Thread nD τ) (B.mem j) fullShare (σ j)) from hs ▸ .rfl) $$ H
    icases H' with ⟨⟨%f, %hf, Hj⟩, Hr⟩
    iapply (wp_load 𝒱 (c.tc : Thread nD τ) bd E (m := B.mem j) (r := r) (hl := h) (S := (B.mem j).view.set) (f := f)
      (View.setOn_subset_set _ _)) $$ Hj
    iintro Hj
    have hv : (B.mem j).view.readAt Val r f = fun i => σ j (r.idx i) := by rw [← hf]; rfl
    rw [hv]
    iapply (ih (fun i => σ j (r.idx i)) σ)
    iapply (show iprop((∃ f, ⌜(B.mem j).view.read Val f = σ j⌝ ∗ ((B.mem j).view.loc (c.tc : Thread nD τ) ↦[(B.mem j).view.set]{fullShare} f))
      ∗ bigSep (Finset.univ.erase j) fun j => owns (c.tc : Thread nD τ) (B.mem j) fullShare (σ j)) ⊢ (B.held c σ : sProp 𝕄) from hs ▸ .rfl)
    isplitl [Hj]
    · iexists f; isplitr
      · ipureintro; exact hf
      · iexact Hj
    · iexact Hr
  | st j r w h k ih =>
    intro σ
    simp only [toProg, run]
    have hs := held_split (Ix := Ix) (Name := Name) (U := U) (Lvl := Lvl) (τ := τ) c σ j
    have hu := held_update (Ix := Ix) (Name := Name) (U := U) (Lvl := Lvl) (τ := τ) c σ j (r.overlay (σ j) w)
    iintro H
    ihave H' := (show (B.held c σ : sProp 𝕄) ⊢ iprop((∃ f, ⌜(B.mem j).view.read Val f = σ j⌝ ∗ ((B.mem j).view.loc (c.tc : Thread nD τ) ↦[(B.mem j).view.set]{fullShare} f))
      ∗ bigSep (Finset.univ.erase j) fun j => owns (c.tc : Thread nD τ) (B.mem j) fullShare (σ j)) from hs ▸ .rfl) $$ H
    icases H' with ⟨⟨%f, %hf, Hj⟩, Hr⟩
    iapply (wp_store 𝒱 (c.tc : Thread nD τ) bd E (m := B.mem j) (r := r) (w := w) (hx := h) (S := (B.mem j).view.set) (f := f)
      (((B.mem j).access r).setOn_subset_set _ |>.trans ((B.mem j).view.set_slice_subset r))) $$ Hj
    iintro Hj
    iapply (ih (put σ j r w))
    have hw : (B.mem j).view.read Val (((B.mem j).access r).write Val f w Finset.univ) = r.overlay (σ j) w := by
      funext y
      by_cases hy : y ∈ r.set
      · obtain ⟨x, rfl⟩ := r.exists_idx_of_mem hy
        exact (View.read_slice_write_emb r f w (Finset.mem_univ x)).trans (Rect.overlay_emb r (σ j) w x).symm
      · rw [Rect.overlay_of_not_mem r _ _ hy, ← hf]
        exact View.read_slice_write_of_not_mem r f w _ (by rw [Rect.map_emb_univ]; exact hy)
    iapply (show iprop((∃ f, ⌜(B.mem j).view.read Val f = r.overlay (σ j) w⌝ ∗ ((B.mem j).view.loc (c.tc : Thread nD τ) ↦[(B.mem j).view.set]{fullShare} f))
      ∗ bigSep (Finset.univ.erase j) fun j => owns (c.tc : Thread nD τ) (B.mem j) fullShare (σ j)) ⊢ (B.held c (put σ j r w) : sProp 𝕄) from hu ▸ .rfl)
    isplitl [Hj]
    · iexists _; isplitr
      · ipureintro; exact hw
      · iexact Hj
    · iexact Hr
  | cond c' t e iht ihe =>
    intro σ
    simp only [toProg, run]
    by_cases h : c'
    · simp only [dif_pos h]; exact iht h σ
    · simp only [dif_neg h]; exact ihe h σ
  | loop L ok init body k ihb ihk =>
    intro σ
    simp only [toProg, run, wp_bind]
    let fold (n : Nat) := ((List.finRange L.trips).take n).foldl (fun s i => run (body i s.2) s.1) (σ, init)
    have hstep : ∀ i : Fin L.trips, fold (i.val + 1) = run (body i (fold i.val).2) (fold i.val).1 := by
      intro i
      simp only [fold]
      rw [List.take_add_one, List.getElem?_eq_getElem (by simp), List.foldl_append]
      simp
    have hend : fold L.trips = (List.finRange L.trips).foldl (fun s i => run (body i s.2) s.1) (σ, init) := by
      simp only [fold]; rw [List.take_of_length_le (by simp)]
    refine BIBase.Entails.trans ?_ (Scf.wp_for frame (wpE' defs 𝒱 (c.tc : Thread nD τ) bd Γ) E L.lb L.ub L.st ok init _
      (fun n a => iprop(⌜(fold n).2 = a⌝ ∗ B.held c (fold n).1)) ?_)
    · iintro H
      isplitl [H]
      · isplitr
        · ipureintro; rfl
        · iexact H
      · iintro %a ⟨%ha, H⟩
        subst ha
        rw [← hend]
        iapply (ihk (fold L.trips).2 (fold L.trips).1)
        iexact H
    · intro i a
      iintro ⟨%ha, H⟩
      subst ha
      have := ihb i (fold i.val).2 (fold i.val).1
      rw [← hstep i] at this
      iapply this
      iexact H
  | seq p k ihp ihk =>
    intro σ
    simp only [toProg, run, wp_bind]
    refine (ihp σ).trans (wp_mono _ _ _ fun a => ?_)
    iintro ⟨%ha, H⟩
    subst ha
    iapply (ihk (run p σ).2 (run p σ).1)
    iexact H

end Cmd

end Idealize.ShloMosaic

end
-- ==== Proof.Ops.lean ====
/-
  The kernel's body as a command (`Cmd`), first part: the named buffers, the pure steps of quantisation, softmax and
  output, and the repetition of a command a fixed number of times.
-/
module

public import proofs.«01_k».proof.Proof.Cmd
public import proofs.«01_k».proof.Proof.Gen.KernelIdeal

@[expose] public section

noncomputable section

namespace Idealize.ShloMosaic

namespace Cmd

variable {sig : RefSig} {Val : EltTy → Type} {B : Bank sig}

/-- Run `f` at the `r` indices from `j` on, threading an accumulator. -/
def eachFrom {α : Type} {N : Nat} (f : Fin N → α → Cmd B Val α) : (r j : Nat) → j + r = N → α → Cmd B Val α
  | 0, _, _, a => .ret a
  | r + 1, j, h, a => .seq (f ⟨j, by omega⟩ a) fun b => eachFrom f r (j + 1) (by omega) b

/-- Run `f` at every index below `N`, in order, threading an accumulator. -/
def each {α : Type} (N : Nat) (f : Fin N → α → Cmd B Val α) (a : α) : Cmd B Val α :=
  eachFrom f N 0 (Nat.zero_add N) a

/-- An invariant kept by every step holds after all of them, from any index on. -/
theorem eachFrom_inv [DecidableEq B.K] {α : Type} {N : Nat} (f : Fin N → α → Cmd B Val α)
    (Inv : Nat → B.St Val → α → Prop)
    (hs : ∀ (j : Fin N) σ a, Inv j.val σ a → Inv (j.val + 1) (run (f j a) σ).1 (run (f j a) σ).2) :
    ∀ (r j : Nat) (h : j + r = N) (σ : B.St Val) (a : α), Inv j σ a →
      Inv N (run (eachFrom f r j h a) σ).1 (run (eachFrom f r j h a) σ).2
  | 0, j, h, σ, a, hI => by
      obtain rfl : j = N := by omega
      exact hI
  | r + 1, j, h, σ, a, hI =>
      eachFrom_inv f Inv hs r (j + 1) (by omega) _ _ (hs ⟨j, by omega⟩ σ a hI)

/-- An invariant kept by every step holds after all of them. -/
theorem each_inv [DecidableEq B.K] {α : Type} {N : Nat} (f : Fin N → α → Cmd B Val α)
    (Inv : Nat → B.St Val → α → Prop)
    (hs : ∀ (j : Fin N) σ a, Inv j.val σ a → Inv (j.val + 1) (run (f j a) σ).1 (run (f j a) σ).2)
    (σ : B.St Val) (a : α) (h0 : Inv 0 σ a) : Inv N (run (each N f a) σ).1 (run (each N f a) σ).2 :=
  eachFrom_inv f Inv hs N 0 _ σ a h0

end Cmd

end Idealize.ShloMosaic

namespace Cert.KernelIdeal

open Idealize.ShloMosaic Idealize.SL.Sem
open Facts₀ Facts

/-- The kernel's buffers: the four inputs' blocks, the six results' blocks, and the seven scratch buffers. -/
inductive Bf where
  | x | k | v | vs | out | qc | qs | kc | ks | vc | ksc | vtc | ksb | qsc | aq | vsb | sbuf
  deriving DecidableEq

namespace Bf

instance : Fintype Bf where
  elems := ⟨↑[x, k, v, vs, out, qc, qs, kc, ks, vc, ksc, vtc, ksb, qsc, aq, vsb, sbuf], by decide⟩
  complete b := by cases b <;> decide

/-- Each buffer's shape. -/
def sh : Bf → Shape
  | x => S1x128x4096 | k => S1x128x512 | v => S1x128x512 | vs => S1x1x512
  | out => S1x128x4096 | qc => S1x128x4096 | qs => S1x128x32 | kc => S1x128x512 | ks => S1x128x4 | vc => S1x128x512
  | ksc => S4x8192x128 | vtc => S4x64x128x128 | ksb => S4x8192x128 | qsc => S4x4x256x128 | aq => S4x4x2x1x128
  | vsb => S4x128x128 | sbuf => S1536x256

/-- Each buffer's element type. -/
def el : Bf → EltTy
  | x => .bf16 | k => .bf16 | v => .bf16 | vs => .f32
  | out => .bf16 | qc => .fp8e4m3 | qs => .f32 | kc => .fp8e4m3 | ks => .f32 | vc => .fp8e4m3
  | ksc => .fp8e4m3 | vtc => .fp8e4m3 | ksb => .f32 | qsc => .fp8e4m3 | aq => .f32 | vsb => .f32 | sbuf => .f32

end Bf

/-- The buffers' memrefs, each a whole buffer. -/
structure Mems where
  mem : (j : Bf) → Memref sig .tc .vmem j.sh j.el
  whole : ∀ j, (mem j).IsWhole

/-- The bank of the kernel's buffers. -/
abbrev bank (M : Mems) : Bank sig := ⟨Bf, Bf.sh, Bf.el, M.mem⟩

instance (M : Mems) : DecidableEq (bank M).K := inferInstanceAs (DecidableEq Bf)
instance (M : Mems) : Fintype (bank M).K := inferInstanceAs (Fintype Bf)

variable {F : FTy → Type} [FloatOps F]

/-! ## Quantisation -/

/-- A tile's rows' bounds: each row's largest magnitude, times a constant. -/
def qbound (xf : FVec F S128x128 .f32) : FVec F S128x1 .f32 :=
  mulf (shapeCast S128x1 (multiReduction .maximumf [1] S128 (absf xf) 0xFF800000#32 reduces_S128x128_S128 (.inl rfl) rfl)
    shapeCasts_S128_S128x1) (broadcast S128x1 (Scalar.ofBits .f32 0x3B124925#32))

/-- The exponent words: 2^(j-127)'s word at lane `j`. -/
def qpow : IVec S128x256 32 :=
  shli (iota .tc S128x256 32 [1] iota_S128x256_d1_w32) (broadcast S128x256 23#32)

/-- Each row's exponent word: the largest whose power of two is at most the row's bound. -/
def qexp (xf : FVec F S128x128 .f32) : IVec S128x1 32 :=
  shapeCast S128x1 (multiReductionI .maxsi [1] S128
    (select (cmpf .ole (bitcastToFloat .f32 qpow : FVec F S128x256 .f32)
        (broadcastTo S128x256 (qbound xf) broadcasts_S128x1_S128x256)) qpow (broadcast S128x256 0#32))
    2147483648#32 reduces_S128x256_S128 rfl) shapeCasts_S128_S128x1

/-- The rows without an exponent. -/
def qzero (xf : FVec F S128x128 .f32) : IVec S128x1 1 := cmpi .eq (qexp xf) (broadcast S128x1 0#32)

/-- A tile's rows' scales. -/
def qscale (xf : FVec F S128x128 .f32) : FVec F S128x1 .f32 :=
  select (qzero xf) (broadcast S128x1 (Scalar.ofBits .f32 0x3F800000#32))
    (bitcastToFloat .f32 (addi (qexp xf) (broadcast S128x1 8388608#32)))

/-- A tile's rows' scales' inverses. -/
def qinv (xf : FVec F S128x128 .f32) : FVec F S128x1 .f32 :=
  select (qzero xf) (broadcast S128x1 (Scalar.ofBits .f32 0x3F800000#32))
    (bitcastToFloat .f32 (subi (broadcast S128x1 2122317824#32) (qexp xf)))

/-- A tile's codes. -/
def qcodes (xf : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32))
      (mulf xf (broadcastTo S128x128 (qinv xf) broadcasts_S128x1_S128x128)))) bitsLt_fp8e4m3_f32

/-- A loaded tile, widened. -/
def xtile (x : Vec F S1x128x128 .bf16) : FVec F S128x128 .f32 :=
  extf .f32 (shapeCast S128x128 (x : FVec F S1x128x128 .bf16) shapeCasts_S1x128x128_S128x128) bitsLt_bf16_f32

/-- A column, at every lane. -/
def rowBcast (sc : FVec F S128x1 .f32) : FVec F S128x128 .f32 :=
  broadcastTo S128x128 (shapeCast S128x1 sc shapeCasts_S128x1_S128x1) broadcasts_S128x1_S128x128

/-- The lane numbers of a tile. -/
def lanes : IVec S128x128 32 := iota .tc S128x128 32 [1] iota_S128x128_d1_w32

/-- A column put at lane `n`, the other lanes as before. -/
def putLane (n : BitVec 32) (sc : FVec F S128x1 .f32) (prev : FVec F S128x128 .f32) : FVec F S128x128 .f32 :=
  select (cmpi .eq lanes (broadcast S128x128 n)) (rowBcast sc) prev

/-! ## Placing the query scales -/

/-- Each lane's block of 32 lanes. -/
def laneblk : IVec S8x128 32 :=
  have x1 : IVec S8x128 32 := iota .tc S8x128 32 [1] iota_S8x128_d1_w32
  have d : IVec S8x128 32 := divsi x1 (broadcast S8x128 32#32)
  have sgn : IVec S8x128 32 := subi (extui 32 (cmpi .sgt x1 (broadcast S8x128 0#32)) natLt_1_32)
    (extui 32 (cmpi .slt x1 (broadcast S8x128 0#32)) natLt_1_32)
  have s32 : BitVec 32 := Scalar.subi (Scalar.extui (Scalar.cmpi .sgt 32#32 0#32)) (Scalar.extui (Scalar.cmpi .slt 32#32 0#32))
  select (andi (cmpi .ne sgn (broadcast S8x128 s32)) (cmpi .ne (remsi x1 (broadcast S8x128 32#32)) (broadcast S8x128 0#32)))
    (subi d (broadcast S8x128 1#32)) d

/-- Each sublane's number. -/
def srow8 : IVec S8x128 32 := iota .tc S8x128 32 [0] iota_S8x128_d0_w32

/-- Eight rows, their lanes rotated by `r` blocks. -/
def rolled (r8 : FVec F S8x128 .f32) : Nat → FVec F S8x128 .f32
  | 0 => r8
  | r + 1 => dynamicRotate 1 (BitVec.ofNat 32 (32 * (r + 1))) none r8 rotates_S8x128_d1

/-- Eight rows with block `i` of lanes brought to every block. -/
def spreadBlk (r8 : FVec F S8x128 .f32) (i : Nat) : FVec F S8x128 .f32 :=
  select (cmpi .eq laneblk (broadcast S8x128 3#32)) (rolled r8 ((7 - i) % 4))
    (select (cmpi .eq laneblk (broadcast S8x128 2#32)) (rolled r8 ((6 - i) % 4))
      (select (cmpi .eq laneblk (broadcast S8x128 1#32)) (rolled r8 ((5 - i) % 4)) (rolled r8 ((4 - i) % 4))))

/-- One row of query scales: block `b` of its lanes holds row `b + 4·half`'s block `i`, times a constant. -/
def aqRow (r8 : FVec F S8x128 .f32) (i half : Nat) : FVec F S1x128 .f32 :=
  mulf (shapeCast S1x128 (multiReduction .add [0] S128
      (select (cmpi .eq srow8 (addi laneblk (broadcast S8x128 (BitVec.ofNat 32 (4 * half))))) (spreadBlk r8 i)
        (broadcast S8x128 (Scalar.ofBits .f32 0x00000000#32))) 0x00000000#32 reduces_S8x128_S128 (.inl rfl) rfl)
    shapeCasts_S128_S1x128) (broadcast S1x128 (Scalar.ofBits .f32 0x3E0293EE#32))

theorem slices_qt (h : Fin 4) : S128x128.Slices ![8 * h.val, 0] S8x128 := by revert h; decide

/-- Eight heads' rows of the transposed scales. -/
def qtRows (qt : FVec F S128x128 .f32) (h : Fin 4) : FVec F S8x128 .f32 :=
  extractStridedSlice S8x128 ![8 * h.val, 0] qt (slices_qt h)

/-! ## Values -/

/-- A value tile over the given lanes' scales, clipped. -/
def vquant (vs : Vec F S1x1x128 .f32) (v : Vec F S1x128x128 .bf16) : FVec F S128x128 .f32 :=
  have vinv : FVec F S1x128 .f32 := divf (broadcast S1x128 (Scalar.ofBits .f32 0x3F800000#32))
    (shapeCast S1x128 (vs : FVec F S1x1x128 .f32) shapeCasts_S1x1x128_S1x128)
  minimumf (broadcast S128x128 (Scalar.ofBits .f32 0x43E00000#32))
    (maximumf (broadcast S128x128 (Scalar.ofBits .f32 0xC3E00000#32))
      (mulf (xtile v) (broadcastTo S128x128 vinv broadcasts_S1x128_S128x128)))

/-- The transposed value codes. -/
def vtcodes (vq : FVec F S128x128 .f32) : FVec F S128x128 .fp8e4m3 :=
  truncf .fp8e4m3 (transpose S128x128 [1, 0] vq transposes_S128x128_p1_0_S128x128) bitsLt_fp8e4m3_f32

/-- A row of scales, as a column at every lane. -/
def vsTile (vs : Vec F S1x1x128 .f32) : FVec F S128x128 .f32 :=
  transpose S128x128 [1, 0] (broadcastTo S128x128 (shapeCast S1x128 (shapeCast S1x128 (vs : FVec F S1x1x128 .f32)
    shapeCasts_S1x1x128_S1x128) shapeCasts_S1x128_S1x128) broadcasts_S1x128_S128x128) transposes_S128x128_p1_0_S128x128

end Cert.KernelIdeal
-- ==== Proof.Body.lean ====
/-
  The kernel's body as a command, second part: the commands themselves, from one head's quantisation to the whole body.
-/
module

public import proofs.«01_k».proof.Proof.Ops

@[expose] public section

noncomputable section

namespace Cert.KernelIdeal

open Idealize.ShloMosaic Idealize.SL.Sem
open Facts₀ Facts

variable {F : FTy → Type} [FloatOps F]

/-- Commands over the kernel's buffers. -/
abbrev Kc (F : FTy → Type) (M : Mems) (α : Type) : Type 1 := Cmd (bank M) (Elt F) α

variable (M : Mems)

/-! ## Side conditions of the repeated accesses -/

theorem inb_head (hd : Fin 32) : ∀ a, (![0, 0, hd.val * 128] : Fin 3 → Nat) a + S1x128x128.size a ≤ S1x128x4096.size a := by
  revert hd; decide
theorem packed_head (hd : Fin 32) : (Rect.unit (s := S1x128x4096) ![0, 0, hd.val * 128] S1x128x128.size (inb_head hd)).PackedRows
    (EltTy.packing .fp8e4m3) := by
  revert hd; decide
theorem inb_kvhead (h : Fin 4) : ∀ a, (![0, 0, h.val * 128] : Fin 3 → Nat) a + S1x128x128.size a ≤ S1x128x512.size a := by
  revert h; decide
theorem packed_kvhead (h : Fin 4) : (Rect.unit (s := S1x128x512) ![0, 0, h.val * 128] S1x128x128.size (inb_kvhead h)).PackedRows
    (EltTy.packing .fp8e4m3) := by
  revert h; decide
theorem inb_vs (h : Fin 4) : ∀ a, (![0, 0, h.val * 128] : Fin 3 → Nat) a + S1x1x128.size a ≤ S1x1x512.size a := by
  revert h; decide
theorem inb_qsc (hd : Fin 32) (i : Fin 4) :
    ∀ a, (![hd.val / 8, i.val, 32 * (hd.val % 8), 0] : Fin 4 → Nat) a + S1x1x32x128.size a ≤ S4x4x256x128.size a := by
  revert hd i; decide
theorem packed_qsc (hd : Fin 32) (i : Fin 4) :
    (Rect.unit (s := S4x4x256x128) ![hd.val / 8, i.val, 32 * (hd.val % 8), 0] S1x1x32x128.size (inb_qsc hd i)).PackedRows
      (EltTy.packing .fp8e4m3) := by
  revert hd i; decide
theorem slices_codes (i : Fin 4) : S128x128.Slices ![32 * i.val, 0] S32x128 := by revert i; decide
theorem inb_aq (h i : Fin 4) (half : Fin 2) :
    ∀ a, (![h.val, i.val, half.val, 0, 0] : Fin 5 → Nat) a + S1x1x1x1x128.size a ≤ S4x4x2x1x128.size a := by
  revert h i half; decide
theorem inb_vsb (h : Fin 4) : ∀ a, (![h.val, 0, 0] : Fin 3 → Nat) a + S1x128x128.size a ≤ S4x128x128.size a := by
  revert h; decide

/-! ## Loads and stores -/

/-- Load a rectangle. -/
def rd (j : Bf) (r : Rect j.sh) (h : 0 < r.shape.numel) : Kc F M (r.shape.Idx → Elt F j.el) :=
  .ld (B := bank M) j r.toLoadRect (View.loadsAt_vmem h) .ret

/-! ## Quantisation of queries, keys and values -/

/-- Quantise one head's queries: its codes to the result and to the query cache, its scales to lane `hd`. -/
def headCmd (hd : Fin 32) (qs : FVec F S128x128 .f32) : Kc F M (FVec F S128x128 .f32) :=
  .ld (B := bank M) .x (Rect.unit (s := S1x128x4096) ![0, 0, hd.val * 128] S1x128x128.size (inb_head hd)).toLoadRect
    (View.loadsAt_vmem h_S1x128x128) fun (x : Vec F S1x128x128 .bf16) =>
  .ld (B := bank M) .qc (Rect.unit (s := S1x128x4096) ![0, 0, hd.val * 128] S1x128x128.size (inb_head hd)).toLoadRect
    (View.loadsAt_vmem h_S1x128x128) fun _ =>
  .st (B := bank M) .qc (Rect.unit (s := S1x128x4096) ![0, 0, hd.val * 128] S1x128x128.size (inb_head hd))
    (shapeCast S1x128x128 (qcodes (xtile x)) shapeCasts_S128x128_S1x128x128)
    (View.stores_vmem h_S1x128x128 ((M.whole .qc).storeExact_slice rfl _ (packed_head hd)) (fun _ => rfl)) <|
  .seq (Cmd.each 4 (fun i (_ : Unit) =>
    .ld (B := bank M) .qsc (Rect.unit (s := S4x4x256x128) ![hd.val / 8, i.val, 32 * (hd.val % 8), 0] S1x1x32x128.size
        (inb_qsc hd i)).toLoadRect (View.loadsAt_vmem h_S1x1x32x128) fun _ =>
    .st (B := bank M) .qsc (Rect.unit (s := S4x4x256x128) ![hd.val / 8, i.val, 32 * (hd.val % 8), 0] S1x1x32x128.size
        (inb_qsc hd i))
      (shapeCast S1x1x32x128 (extractStridedSlice S32x128 ![32 * i.val, 0] (qcodes (xtile x)) (slices_codes i))
        shapeCasts_S32x128_S1x1x32x128)
      (View.stores_vmem h_S1x1x32x128 ((M.whole .qsc).storeExact_slice rfl _ (packed_qsc hd i)) (fun _ => rfl)) <|
    .ret ()) ()) fun _ =>
  .ret (putLane (BitVec.ofNat 32 hd.val) (qscale (xtile x)) qs)

/-- Store the queries' scales. -/
def qsCmd (qs : FVec F S128x128 .f32) : Kc F M Unit :=
  .ld (B := bank M) .qs (Rect.unit (s := S1x128x32) ![0, 0, 0] S1x128x32.size inb_S1x128x32_S1x128x32_0_0_0).toLoadRect
    (View.loadsAt_vmem h_S1x128x32) fun _ =>
  .st (B := bank M) .qs (Rect.unit (s := S1x128x32) ![0, 0, 0] S1x128x32.size inb_S1x128x32_S1x128x32_0_0_0)
    (shapeCast S1x128x32 (extractStridedSlice S128x32 ![0, 0] qs slices_S128x128_o0_0_S128x32) shapeCasts_S128x32_S1x128x32)
    (View.stores_vmem_bits_univ h_S1x128x32 rfl) <|
  .ret ()

/-- Place one KV head's queries' scales in the scale cache. -/
def aqCmd (qs : FVec F S128x128 .f32) (h : Fin 4) : Kc F M Unit :=
  Cmd.each 4 (fun i (_ : Unit) => Cmd.each 2 (fun half (_ : Unit) =>
    .ld (B := bank M) .aq (Rect.unit (s := S4x4x2x1x128) ![h.val, i.val, half.val, 0, 0] S1x1x1x1x128.size
        (inb_aq h i half)).toLoadRect (View.loadsAt_vmem h_S1x1x1x1x128) fun _ =>
    .st (B := bank M) .aq (Rect.unit (s := S4x4x2x1x128) ![h.val, i.val, half.val, 0, 0] S1x1x1x1x128.size (inb_aq h i half))
      (shapeCast S1x1x1x1x128 (aqRow (qtRows (transpose S128x128 [1, 0] qs transposes_S128x128_p1_0_S128x128) h)
        i.val half.val) shapeCasts_S1x128_S1x1x1x1x128)
      (View.stores_vmem_bits_univ h_S1x1x1x1x128 rfl) <|
    .ret ()) ()) ()

variable (i : grid0.Coords)

/-- A KV head's rows of the key caches at the point's block. -/
def kOff : Fin 4 → Fin 3 → Nat
  | 0 => k0_off1 i | 1 => k0_off3 i | 2 => k0_off5 i | 3 => k0_off7 i

/-- A KV head's tile of the value cache at the point's block. -/
def vOff : Fin 4 → Fin 4 → Nat
  | 0 => k0_off2 i | 1 => k0_off4 i | 2 => k0_off6 i | 3 => k0_off8 i

theorem kOff_inb : ∀ (h : Fin 4) a, kOff i h a + S1x128x128.size a ≤ S4x8192x128.size a
  | 0 => k0_off1_inb i | 1 => k0_off3_inb i | 2 => k0_off5_inb i | 3 => k0_off7_inb i

theorem vOff_inb : ∀ (h : Fin 4) a, vOff i h a + S1x1x128x128.size a ≤ S4x64x128x128.size a
  | 0 => k0_off2_inb i | 1 => k0_off4_inb i | 2 => k0_off6_inb i | 3 => k0_off8_inb i

theorem kOff_packed : ∀ h : Fin 4, (Rect.unit (s := S4x8192x128) (kOff i h) S1x128x128.size (kOff_inb i h)).PackedRows
    (EltTy.packing .fp8e4m3)
  | 0 => k0_off1_packedfp8e4m3 i | 1 => k0_off3_packedfp8e4m3 i | 2 => k0_off5_packedfp8e4m3 i | 3 => k0_off7_packedfp8e4m3 i

theorem vOff_packed : ∀ h : Fin 4, (Rect.unit (s := S4x64x128x128) (vOff i h) S1x1x128x128.size (vOff_inb i h)).PackedRows
    (EltTy.packing .fp8e4m3)
  | 0 => k0_off2_packedfp8e4m3 i | 1 => k0_off4_packedfp8e4m3 i | 2 => k0_off6_packedfp8e4m3 i | 3 => k0_off8_packedfp8e4m3 i

/-- Quantise one KV head's keys and values: codes to the results and to the caches, the keys' scales to lane `h`. -/
def kvCmd (h : Fin 4) (ks : FVec F S128x128 .f32) : Kc F M (FVec F S128x128 .f32) :=
  .ld (B := bank M) .k (Rect.unit (s := S1x128x512) ![0, 0, h.val * 128] S1x128x128.size (inb_kvhead h)).toLoadRect
    (View.loadsAt_vmem h_S1x128x128) fun (k : Vec F S1x128x128 .bf16) =>
  .ld (B := bank M) .kc (Rect.unit (s := S1x128x512) ![0, 0, h.val * 128] S1x128x128.size (inb_kvhead h)).toLoadRect
    (View.loadsAt_vmem h_S1x128x128) fun _ =>
  .st (B := bank M) .kc (Rect.unit (s := S1x128x512) ![0, 0, h.val * 128] S1x128x128.size (inb_kvhead h))
    (shapeCast S1x128x128 (qcodes (xtile k)) shapeCasts_S128x128_S1x128x128)
    (View.stores_vmem h_S1x128x128 ((M.whole .kc).storeExact_slice rfl _ (packed_kvhead h)) (fun _ => rfl)) <|
  .ld (B := bank M) .ksc (Rect.unit (s := S4x8192x128) (kOff i h) S1x128x128.size (kOff_inb i h)).toLoadRect
    (View.loadsAt_vmem h_S1x128x128) fun _ =>
  .st (B := bank M) .ksc (Rect.unit (s := S4x8192x128) (kOff i h) S1x128x128.size (kOff_inb i h))
    (shapeCast S1x128x128 (qcodes (xtile k)) shapeCasts_S128x128_S1x128x128)
    (View.stores_vmem h_S1x128x128 ((M.whole .ksc).storeExact_slice rfl _ (kOff_packed i h)) (fun _ => rfl)) <|
  .ld (B := bank M) .ksb (Rect.unit (s := S4x8192x128) (kOff i h) S1x128x128.size (kOff_inb i h)).toLoadRect
    (View.loadsAt_vmem h_S1x128x128) fun _ =>
  .st (B := bank M) .ksb (Rect.unit (s := S4x8192x128) (kOff i h) S1x128x128.size (kOff_inb i h))
    (shapeCast S1x128x128 (rowBcast (qscale (xtile k))) shapeCasts_S128x128_S1x128x128)
    (View.stores_vmem_bits_univ h_S1x128x128 rfl) <|
  .ld (B := bank M) .vs (Rect.unit (s := S1x1x512) ![0, 0, h.val * 128] S1x1x128.size (inb_vs h)).toLoadRect
    (View.loadsAt_vmem h_S1x1x128) fun (vs : Vec F S1x1x128 .f32) =>
  .ld (B := bank M) .v (Rect.unit (s := S1x128x512) ![0, 0, h.val * 128] S1x128x128.size (inb_kvhead h)).toLoadRect
    (View.loadsAt_vmem h_S1x128x128) fun (v : Vec F S1x128x128 .bf16) =>
  .ld (B := bank M) .vc (Rect.unit (s := S1x128x512) ![0, 0, h.val * 128] S1x128x128.size (inb_kvhead h)).toLoadRect
    (View.loadsAt_vmem h_S1x128x128) fun _ =>
  .st (B := bank M) .vc (Rect.unit (s := S1x128x512) ![0, 0, h.val * 128] S1x128x128.size (inb_kvhead h))
    (shapeCast S1x128x128 (truncf .fp8e4m3 (vquant vs v) bitsLt_fp8e4m3_f32) shapeCasts_S128x128_S1x128x128)
    (View.stores_vmem h_S1x128x128 ((M.whole .vc).storeExact_slice rfl _ (packed_kvhead h)) (fun _ => rfl)) <|
  .ld (B := bank M) .vtc (Rect.unit (s := S4x64x128x128) (vOff i h) S1x1x128x128.size (vOff_inb i h)).toLoadRect
    (View.loadsAt_vmem h_S1x1x128x128) fun _ =>
  .st (B := bank M) .vtc (Rect.unit (s := S4x64x128x128) (vOff i h) S1x1x128x128.size (vOff_inb i h))
    (shapeCast S1x1x128x128 (vtcodes (vquant vs v)) shapeCasts_S128x128_S1x1x128x128)
    (View.stores_vmem h_S1x1x128x128 ((M.whole .vtc).storeExact_slice rfl _ (vOff_packed i h)) (fun _ => rfl)) <|
  .ret (putLane (BitVec.ofNat 32 h.val) (qscale (xtile k)) ks)

/-- Store the keys' scales. -/
def ksCmd (ks : FVec F S128x128 .f32) : Kc F M Unit :=
  .ld (B := bank M) .ks (Rect.unit (s := S1x128x4) ![0, 0, 0] S1x128x4.size inb_S1x128x4_S1x128x4_0_0_0).toLoadRect
    (View.loadsAt_vmem h_S1x128x4) fun _ =>
  .st (B := bank M) .ks (Rect.unit (s := S1x128x4) ![0, 0, 0] S1x128x4.size inb_S1x128x4_S1x128x4_0_0_0)
    (shapeCast S1x128x4 (extractStridedSlice S128x4 ![0, 0] ks slices_S128x128_o0_0_S128x4) shapeCasts_S128x4_S1x128x4)
    (View.stores_vmem_bits_univ h_S1x128x4 rfl) <|
  .ret ()

/-- Spread the values' scales, once a batch. -/
def vsbCmd : Kc F M Unit :=
  Cmd.each 4 (fun h (_ : Unit) =>
    .ld (B := bank M) .vs (Rect.unit (s := S1x1x512) ![0, 0, h.val * 128] S1x1x128.size (inb_vs h)).toLoadRect
      (View.loadsAt_vmem h_S1x1x128) fun (vs : Vec F S1x1x128 .f32) =>
    .ld (B := bank M) .vsb (Rect.unit (s := S4x128x128) ![h.val, 0, 0] S1x128x128.size (inb_vsb h)).toLoadRect
      (View.loadsAt_vmem h_S1x128x128) fun _ =>
    .st (B := bank M) .vsb (Rect.unit (s := S4x128x128) ![h.val, 0, 0] S1x128x128.size (inb_vsb h))
      (shapeCast S1x128x128 (vsTile vs) shapeCasts_S128x128_S1x128x128)
      (View.stores_vmem_bits_univ h_S1x128x128 rfl) <|
    .ret ()) ()

/-- Everything before attention: quantise the block's queries, keys and values. -/
def quantCmd : Kc F M Unit :=
  .seq (Cmd.each 32 (headCmd M) (broadcast S128x128 (Scalar.ofBits .f32 0x00000000#32))) fun qs =>
  .seq (qsCmd M qs) fun _ =>
  .seq (Cmd.each 4 (fun h _ => aqCmd M qs h) ()) fun _ =>
  .seq (Cmd.each 4 (kvCmd M i) (broadcast S128x128 (Scalar.ofBits .f32 0x00000000#32))) fun ks =>
  ksCmd M ks

end Cert.KernelIdeal
-- ==== Proof.Attn.lean ====
/-
  The kernel's body as a command, third part: attention over the caches, and the whole body.
-/
module

public import proofs.«01_k».proof.Proof.Body

@[expose] public section

noncomputable section

namespace Cert.KernelIdeal

open Idealize.ShloMosaic Idealize.SL.Sem
open Facts₀ Facts

variable {F : FTy → Type} [FloatOps F]
variable (M : Mems) (i : grid0.Coords)

/-! ## Pure steps -/

/-- The large negative number a hidden key's score is. -/
def NEG : F .f32 := Scalar.ofBits .f32 0xFF61B1E6#32

/-- A lane's position in its block of 32: the lane modulo 32, as it is computed on any shape. -/
def lane32 {s : Shape} (lane : IVec s 32) (hb : s.Broadcasts s) : IVec s 32 :=
  have dv : BitVec 32 := Scalar.select (Scalar.cmpi .eq 32#32 0#32) 1#32 32#32
  have r : IVec s 32 := remsi lane (broadcast s dv)
  select (andi (xori (cmpi .slt r (broadcast s 0#32)) (broadcastTo s (broadcast s (Scalar.cmpi .slt dv 0#32)) hb))
    (cmpi .ne r (broadcast s 0#32))) (addi r (broadcast s dv)) r

def krow32 : IVec S32x256 32 := iota .tc S32x256 32 [0] iota_S32x256_d0_w32
def ppos32 : IVec S32x256 32 := lane32 (iota .tc S32x256 32 [1] iota_S32x256_d1_w32) broadcasts_S32x256_S32x256

/-- The mask of a tile's row group `n`: three of the groups have one. -/
def maskOf (tile : Fin 4) (n : Fin 8) : Option (IVec S32x256 1) :=
  if n.val = tile.val + 1 then
    some (ori (cmpi .sgt krow32 (addi ppos32 (broadcast S32x256 4#32))) (cmpi .slt krow32 (broadcast S32x256 4#32)))
  else if n.val = tile.val + 2 then
    some (cmpi .sgt krow32 (subi ppos32 (broadcast S32x256 28#32)))
  else if n.val = tile.val then some (cmpi .sle krow32 ppos32)
  else none

/-- Where the mask is not set, `z`. -/
def masked (m : Option (IVec S32x256 1)) (z : F .f32) (t : FVec F S32x256 .f32) : FVec F S32x256 .f32 :=
  match m with
  | none => t
  | some m => select m t (broadcast S32x256 z)

/-- Clip and round to f8. -/
def clip8 {s : Shape} (e : FVec F s .f32) : FVec F s .fp8e4m3 :=
  truncf .fp8e4m3 (minimumf (broadcast s (Scalar.ofBits .f32 0x43E00000#32))
    (maximumf (broadcast s (Scalar.ofBits .f32 0xC3E00000#32)) e)) bitsLt_fp8e4m3_f32

def twice32 (x : FVec F S32x128 .f32) : FVec F S32x256 .f32 :=
  concatenate S32x256 1 [⟨S32x128, x⟩, ⟨S32x128, x⟩] concatenates_S32x128_S32x128_S32x256_d1
def twice128 (x : FVec F S128x128 .f32) : FVec F S128x256 .f32 :=
  concatenate S128x256 1 [⟨S128x128, x⟩, ⟨S128x128, x⟩] concatenates_S128x128_S128x128_S128x256_d1
def twice256 (x : FVec F S256x128 .f32) : FVec F S256x256 .f32 :=
  concatenate S256x256 1 [⟨S256x128, x⟩, ⟨S256x128, x⟩] concatenates_S256x128_S256x128_S256x256_d1

/-- A row of maxima's running maximum with 32 rows'. -/
def max32 (m : FVec F S8x256 .f32) (t : FVec F S32x256 .f32) : FVec F S8x256 .f32 :=
  maximumf m (multiReduction .maximumf [0] S8x256 (shapeCast S4x8x256 t shapeCasts_S32x256_S4x8x256) 0xFF800000#32
    reduces_S4x8x256_S8x256 (.inl rfl) rfl)
def max128 (m : FVec F S8x256 .f32) (t : FVec F S128x256 .f32) : FVec F S8x256 .f32 :=
  maximumf m (multiReduction .maximumf [0] S8x256 (shapeCast S16x8x256 t shapeCasts_S128x256_S16x8x256) 0xFF800000#32
    reduces_S16x8x256_S8x256 (.inl rfl) rfl)
def max256 (m : FVec F S8x256 .f32) (t : FVec F S256x256 .f32) : FVec F S8x256 .f32 :=
  maximumf m (multiReduction .maximumf [0] S8x256 (shapeCast S32x8x256 t shapeCasts_S256x256_S32x8x256) 0xFF800000#32
    reduces_S32x8x256_S8x256 (.inl rfl) rfl)
def add32 (m : FVec F S8x256 .f32) (t : FVec F S32x256 .f32) : FVec F S8x256 .f32 :=
  addf m (multiReduction .add [0] S8x256 (shapeCast S4x8x256 t shapeCasts_S32x256_S4x8x256) 0x00000000#32
    reduces_S4x8x256_S8x256 (.inl rfl) rfl)
def add128 (m : FVec F S8x256 .f32) (t : FVec F S128x256 .f32) : FVec F S8x256 .f32 :=
  addf m (multiReduction .add [0] S8x256 (shapeCast S16x8x256 t shapeCasts_S128x256_S16x8x256) 0x00000000#32
    reduces_S16x8x256_S8x256 (.inl rfl) rfl)
def add256 (m : FVec F S8x256 .f32) (t : FVec F S256x256 .f32) : FVec F S8x256 .f32 :=
  addf m (multiReduction .add [0] S8x256 (shapeCast S32x8x256 t shapeCasts_S256x256_S32x8x256) 0x00000000#32
    reduces_S32x8x256_S8x256 (.inl rfl) rfl)

/-- The two halves' query scales, side by side. -/
def aRow (a0 a1 : Vec F S1x1x1x1x128 .f32) : FVec F S1x256 .f32 :=
  concatenate S1x256 1 [⟨S1x128, shapeCast S1x128 (a0 : FVec F S1x1x1x1x128 .f32) shapeCasts_S1x1x1x1x128_S1x128⟩,
    ⟨S1x128, shapeCast S1x128 (a1 : FVec F S1x1x1x1x128 .f32) shapeCasts_S1x1x1x1x128_S1x128⟩]
    concatenates_S1x128_S1x128_S1x256_d1

/-- The softmax's offset: the largest score, scaled, less 8. -/
def bRow (m8 : FVec F S8x256 .f32) (a : FVec F S1x256 .f32) : FVec F S1x256 .f32 :=
  subf (mulf (shapeCast S1x256 (multiReduction .maximumf [0] S256 m8 0xFF800000#32 reduces_S8x256_S256 (.inl rfl) rfl)
    shapeCasts_S256_S1x256) a) (broadcast S1x256 (Scalar.ofBits .f32 0x41000000#32))

/-- One over the sum of the weights. -/
def recRow (l8 : FVec F S8x256 .f32) : FVec F S1x256 .f32 :=
  divf (broadcast S1x256 (Scalar.ofBits .f32 0x3F800000#32)) (shapeCast S1x256
    (multiReduction .add [0] S256 l8 0x00000000#32 reduces_S8x256_S256 (.inl rfl) rfl) shapeCasts_S256_S1x256)

/-- The exponents: scores scaled, less the offset. -/
def yOf {s : Shape} (t : FVec F s .f32) (a b : FVec F S1x256 .f32) (hb : S1x256.Broadcasts s) : FVec F s .f32 :=
  subf (mulf t (broadcastTo s a hb)) (broadcastTo s b hb)

/-- The weighted values over the scales and the sum of weights, transposed, as bf16. -/
def outTile (o : FVec F S128x256 .f32) (vsb2 : FVec F S128x256 .f32) (rec : FVec F S1x256 .f32) : FVec F S256x128 .bf16 :=
  transpose S256x128 [1, 0] (truncf .bf16 (mulf (mulf o vsb2) (broadcastTo S128x256 rec broadcasts_S1x256_S128x256))
    bitsLt_bf16_f32) transposes_S128x256_p1_0_S256x128

theorem slices_ot (g : Fin 8) : S256x128.Slices ![32 * g.val, 0] S32x128 := by revert g; decide
theorem slices_s (n : Fin 8) : S256x256.Slices ![32 * n.val, 0] S32x256 := by revert n; decide

/-- A head's rows of an output tile. -/
def otRows (ot : FVec F S256x128 .bf16) (g : Fin 8) : FVec F S1x32x128 .bf16 :=
  shapeCast S1x32x128 (extractStridedSlice S32x128 ![32 * g.val, 0] ot (slices_ot g)) shapeCasts_S32x128_S1x32x128

theorem inb_sb32 (n : Fin 8) : ∀ a, (![32 * n.val, 0] : Fin 2 → Nat) a + S32x256.size a ≤ S1536x256.size a := by
  revert n; decide
theorem inb_sb256 (c : Fin 5) : ∀ a, (![256 * (c.val + 1), 0] : Fin 2 → Nat) a + S256x256.size a ≤ S1536x256.size a := by
  revert c; decide

/-! ## Steady tiles -/

section Steady

variable (h2 : k0_cond2 i = 1#1) (t1 : Fin k0_t1_loop.trips) (tile : Fin 4)

/-- The tile's queries in the cache. -/
def qOff : Fin 4 → Fin 4 → Nat
  | 0 => k0_off9 t1 | 1 => k0_off23 t1 | 2 => k0_off27 t1 | 3 => k0_off31 t1
def aOff0 : Fin 4 → Fin 5 → Nat
  | 0 => k0_off10 t1 | 1 => k0_off24 t1 | 2 => k0_off28 t1 | 3 => k0_off32 t1
def aOff1 : Fin 4 → Fin 5 → Nat
  | 0 => k0_off11 t1 | 1 => k0_off25 t1 | 2 => k0_off29 t1 | 3 => k0_off33 t1
def oOff : Fin 4 → BitVec 32 → Fin 3 → Nat
  | 0 => k0_off22 t1 | 1 => k0_off26 t1 | 2 => k0_off30 t1 | 3 => k0_off34 t1

include h2 in
theorem qOff_inb : ∀ (tile : Fin 4) a, qOff t1 tile a + S1x1x256x128.size a ≤ S4x4x256x128.size a
  | 0 => k0_off9_inb i t1 h2 | 1 => k0_off23_inb i t1 h2 | 2 => k0_off27_inb i t1 h2 | 3 => k0_off31_inb i t1 h2
include h2 in
theorem aOff0_inb : ∀ (tile : Fin 4) a, aOff0 t1 tile a + S1x1x1x1x128.size a ≤ S4x4x2x1x128.size a
  | 0 => k0_off10_inb i t1 h2 | 1 => k0_off24_inb i t1 h2 | 2 => k0_off28_inb i t1 h2 | 3 => k0_off32_inb i t1 h2
include h2 in
theorem aOff1_inb : ∀ (tile : Fin 4) a, aOff1 t1 tile a + S1x1x1x1x128.size a ≤ S4x4x2x1x128.size a
  | 0 => k0_off11_inb i t1 h2 | 1 => k0_off25_inb i t1 h2 | 2 => k0_off29_inb i t1 h2 | 3 => k0_off33_inb i t1 h2
include h2 in
theorem oOff_inb : ∀ (tile : Fin 4) (g : Fin 8) a,
    oOff t1 tile (BitVec.ofNat 32 g.val) a + S1x32x128.size a ≤ S1x128x4096.size a
  | 0 => k0_off22_inb i t1 h2 | 1 => k0_off26_inb i t1 h2 | 2 => k0_off30_inb i t1 h2 | 3 => k0_off34_inb i t1 h2
theorem oOff_packed : ∀ (tile : Fin 4) (g : Fin 8), (Rect.unit (s := S1x128x4096) (oOff t1 tile (BitVec.ofNat 32 g.val))
    S1x32x128.size (oOff_inb i h2 t1 tile g)).PackedRows (EltTy.packing .bf16)
  | 0 => k0_off22_packedbf16 i t1 h2 | 1 => k0_off26_packedbf16 i t1 h2 | 2 => k0_off30_packedbf16 i t1 h2
  | 3 => k0_off34_packedbf16 i t1 h2

/-- Row group `n`'s rows of the key caches: of the newest block, of the oldest one, or of the next oldest. -/
def gOff (n : Fin 8) : Fin 3 → Nat :=
  if n.val < 4 then
    if n.val ≤ tile.val then k0_off12 i t1 (BitVec.ofNat 32 (32 * n.val))
    else k0_off13 i t1 12#32 (BitVec.ofNat 32 (32 * n.val))
  else k0_off13 i t1 11#32 (BitVec.ofNat 32 (32 * (n.val - 4)))

include h2 in
theorem off13_inb' (r : Fin 7) (a b : BitVec 32) (h : k0_off13_at r = (a, b)) :
    ∀ x, k0_off13 i t1 a b x + S1x32x128.size x ≤ S4x8192x128.size x := by
  have := k0_off13_inb i t1 h2 r
  rw [h] at this
  exact this

theorem off13_at_oldest (n : Nat) (h0 : 0 < n) (h4 : n < 4) :
    k0_off13_at ⟨n - 1, by omega⟩ = (12#32, BitVec.ofNat 32 (32 * n)) := by
  obtain rfl | rfl | rfl : n = 1 ∨ n = 2 ∨ n = 3 := by omega
  all_goals rfl
theorem off13_at_next (n : Nat) (h0 : 4 ≤ n) (h4 : n < 8) :
    k0_off13_at ⟨n - 1, by omega⟩ = (11#32, BitVec.ofNat 32 (32 * (n - 4))) := by
  obtain rfl | rfl | rfl | rfl : n = 4 ∨ n = 5 ∨ n = 6 ∨ n = 7 := by omega
  all_goals rfl

include h2 in
theorem gOff_inb (n : Fin 8) : ∀ a, gOff i t1 tile n a + S1x32x128.size a ≤ S4x8192x128.size a := by
  unfold gOff
  split_ifs with h4 hle
  · exact k0_off12_inb i t1 h2 ⟨n.val, h4⟩
  · exact off13_inb' i h2 t1 _ _ _ (off13_at_oldest n.val (by omega) h4)
  · exact off13_inb' i h2 t1 _ _ _ (off13_at_next n.val (by omega) n.isLt)

/-- One row group's key codes and scales. -/
def groupCmd (n : Fin 8) : Kc F M (FVec F S32x128 .fp8e4m3 × FVec F S32x128 .f32) :=
  .ld (B := bank M) .ksc (Rect.unit (s := S4x8192x128) (gOff i t1 tile n) S1x32x128.size (gOff_inb i h2 t1 tile n)).toLoadRect
    (View.loadsAt_vmem h_S1x32x128) fun (k : Vec F S1x32x128 .fp8e4m3) =>
  .ld (B := bank M) .ksb (Rect.unit (s := S4x8192x128) (gOff i t1 tile n) S1x32x128.size (gOff_inb i h2 t1 tile n)).toLoadRect
    (View.loadsAt_vmem h_S1x32x128) fun (s : Vec F S1x32x128 .f32) =>
  have kk : FVec F S32x128 .fp8e4m3 := shapeCast S32x128 (k : FVec F S1x32x128 .fp8e4m3) shapeCasts_S1x32x128_S32x128
  have ss : FVec F S32x128 .f32 := shapeCast S32x128 (s : FVec F S1x32x128 .f32) shapeCasts_S1x32x128_S32x128
  .cond (n.val = tile.val + 1)
    (fun _ =>
      .ld (B := bank M) .ksc (Rect.unit (s := S4x8192x128) (k0_off14 t1) S1x32x128.size (k0_off14_inb i t1 h2)).toLoadRect
        (View.loadsAt_vmem h_S1x32x128) fun (sk : Vec F S1x32x128 .fp8e4m3) =>
      .ld (B := bank M) .ksb (Rect.unit (s := S4x8192x128) (k0_off15 t1) S1x8x128.size (k0_off15_inb i t1 h2)).toLoadRect
        (View.loadsAt_vmem h_S1x8x128) fun (s8 : Vec F S1x8x128 .f32) =>
      .ret (select (cmpi .slt (iota .tc S32x128 32 [0] iota_S32x128_d0_w32) (broadcast S32x128 4#32))
          (shapeCast S32x128 (sk : FVec F S1x32x128 .fp8e4m3) shapeCasts_S1x32x128_S32x128) kk,
        concatenate S32x128 0
          [⟨S8x128, select (cmpi .slt (iota .tc S8x128 32 [0] iota_S8x128_d0_w32) (broadcast S8x128 4#32))
              (shapeCast S8x128 (s8 : FVec F S1x8x128 .f32) shapeCasts_S1x8x128_S8x128)
              (extractStridedSlice S8x128 ![0, 0] ss slices_S32x128_o0_0_S8x128)⟩,
            ⟨S24x128, extractStridedSlice S24x128 ![8, 0] ss slices_S32x128_o8_0_S24x128⟩]
          concatenates_S8x128_S24x128_S32x128_d0))
    (fun _ => .ret (kk, ss))

/-- Eight commands' results, in order. -/
def eight {α : Type} (f : Fin 8 → Kc F M α) : Kc F M (Fin 8 → α) :=
  .seq (f 0) fun a0 => .seq (f 1) fun a1 => .seq (f 2) fun a2 => .seq (f 3) fun a3 =>
  .seq (f 4) fun a4 => .seq (f 5) fun a5 => .seq (f 6) fun a6 => .seq (f 7) fun a7 =>
  .ret ![a0, a1, a2, a3, a4, a5, a6, a7]

/-- Eight groups of keys, one under the other. -/
def cat8k (kk : Fin 8 → FVec F S32x128 .fp8e4m3) : FVec F S256x128 .fp8e4m3 :=
  concatenate S256x128 0 [⟨S32x128, kk 0⟩, ⟨S32x128, kk 1⟩, ⟨S32x128, kk 2⟩, ⟨S32x128, kk 3⟩, ⟨S32x128, kk 4⟩,
    ⟨S32x128, kk 5⟩, ⟨S32x128, kk 6⟩, ⟨S32x128, kk 7⟩]
    concatenates_S32x128_S32x128_S32x128_S32x128_S32x128_S32x128_S32x128_S32x128_S256x128_d0

/-- Eight groups of weights, one under the other. -/
def cat8p (p : Fin 8 → FVec F S32x256 .fp8e4m3) : FVec F S256x256 .fp8e4m3 :=
  concatenate S256x256 0 [⟨S32x256, p 0⟩, ⟨S32x256, p 1⟩, ⟨S32x256, p 2⟩, ⟨S32x256, p 3⟩, ⟨S32x256, p 4⟩,
    ⟨S32x256, p 5⟩, ⟨S32x256, p 6⟩, ⟨S32x256, p 7⟩]
    concatenates_S32x256_S32x256_S32x256_S32x256_S32x256_S32x256_S32x256_S32x256_S256x256_d0

/-- Two value tiles side by side. -/
def cat2v (v0 v1 : FVec F S128x128 .fp8e4m3) : FVec F S128x256 .fp8e4m3 :=
  concatenate S128x256 1 [⟨S128x128, v0⟩, ⟨S128x128, v1⟩] concatenates_S128x128_S128x128_S128x256_d1

/-- The scores of 256 keys against a tile's queries. -/
def scores (k q : FVec F S256x128 .fp8e4m3) : FVec F S256x256 .f32 :=
  matmul dot_S256x128_S256x128_S256x256_1_1_0_0_n_n none k q (constant S256x256 .f32 0x00000000#32)

/-- 256 keys' values, weighted. -/
def weigh (v : FVec F S128x256 .fp8e4m3) (p : FVec F S256x256 .fp8e4m3) : FVec F S128x256 .f32 :=
  matmul dot_S128x256_S256x256_S128x256_1_0_0_1_n_n none v p (constant S128x256 .f32 0x00000000#32)

/-- A row group's scaled, masked scores. -/
def groupScore (n : Fin 8) (s : FVec F S256x256 .f32) (ss : FVec F S32x128 .f32) : FVec F S32x256 .f32 :=
  masked (maskOf tile n) NEG (mulf (extractStridedSlice S32x256 ![32 * n.val, 0] s (slices_s n)) (twice32 ss))

/-- Store the first 256 keys' scores, group by group, and their maxima. -/
def firstScores (s : FVec F S256x256 .f32) (ss : Fin 8 → FVec F S32x128 .f32) (m8 : FVec F S8x256 .f32) :
    Kc F M (FVec F S8x256 .f32) :=
  Cmd.each 8 (fun n m8 =>
    .ld (B := bank M) .sbuf (Rect.unit (s := S1536x256) ![32 * n.val, 0] S32x256.size (inb_sb32 n)).toLoadRect
      (View.loadsAt_vmem h_S32x256) fun _ =>
    .st (B := bank M) .sbuf (Rect.unit (s := S1536x256) ![32 * n.val, 0] S32x256.size (inb_sb32 n))
      (shapeCast S32x256 (groupScore tile n s (ss n)) shapeCasts_S32x256_S32x256)
      (View.stores_vmem_bits_univ h_S32x256 rfl) <|
    .ret (max32 m8 (groupScore tile n s (ss n)))) m8

/-- A chunk of 256 keys' codes and scales. -/
def cOff (c : Fin 5) : Fin 3 → Nat := k0_off16 i t1 (BitVec.ofNat 32 (2 + 2 * c.val))

include h2 in
theorem cOff_inb (c : Fin 5) : ∀ a, cOff i t1 c a + S1x256x128.size a ≤ S4x8192x128.size a := k0_off16_inb i t1 h2 c

/-- Store the other keys' scores, chunk by chunk, and their maxima. -/
def chunkScores (q : FVec F S256x128 .fp8e4m3) (m8 : FVec F S8x256 .f32) : Kc F M (FVec F S8x256 .f32) :=
  Cmd.each 5 (fun c m8 =>
    .ld (B := bank M) .ksc (Rect.unit (s := S4x8192x128) (cOff i t1 c) S1x256x128.size (cOff_inb i h2 t1 c)).toLoadRect
      (View.loadsAt_vmem h_S1x256x128) fun (k : Vec F S1x256x128 .fp8e4m3) =>
    .ld (B := bank M) .ksb (Rect.unit (s := S4x8192x128) (cOff i t1 c) S1x256x128.size (cOff_inb i h2 t1 c)).toLoadRect
      (View.loadsAt_vmem h_S1x256x128) fun (s : Vec F S1x256x128 .f32) =>
    have t : FVec F S256x256 .f32 :=
      mulf (scores (shapeCast S256x128 (k : FVec F S1x256x128 .fp8e4m3) shapeCasts_S1x256x128_S256x128) q)
        (twice256 (shapeCast S256x128 (s : FVec F S1x256x128 .f32) shapeCasts_S1x256x128_S256x128))
    .ld (B := bank M) .sbuf (Rect.unit (s := S1536x256) ![256 * (c.val + 1), 0] S256x256.size (inb_sb256 c)).toLoadRect
      (View.loadsAt_vmem h_S256x256) fun _ =>
    .st (B := bank M) .sbuf (Rect.unit (s := S1536x256) ![256 * (c.val + 1), 0] S256x256.size (inb_sb256 c))
      (shapeCast S256x256 t shapeCasts_S256x256_S256x256) (View.stores_vmem_bits_univ h_S256x256 rfl) <|
    .ret (max256 m8 t)) m8

/-- The lane numbers of a value tile, against a bound. -/
def vlaneLt (b : Nat) : IVec S128x128 1 := cmpi .slt lanes (broadcast S128x128 (BitVec.ofNat 32 b))
def vlaneGe (b : Nat) : IVec S128x128 1 := cmpi .sge lanes (broadcast S128x128 (BitVec.ofNat 32 b))

def vtile (v : Vec F S1x1x128x128 .fp8e4m3) : FVec F S128x128 .fp8e4m3 :=
  shapeCast S128x128 (v : FVec F S1x1x128x128 .fp8e4m3) shapeCasts_S1x1x128x128_S128x128

/-- The value tiles of the first 256 keys. -/
def firstVals : Kc F M (FVec F S128x128 .fp8e4m3 × FVec F S128x128 .fp8e4m3) :=
  .ld (B := bank M) .vtc (Rect.unit (s := S4x64x128x128) (k0_off17 i t1) S1x1x128x128.size (k0_off17_inb i t1 h2)).toLoadRect
    (View.loadsAt_vmem h_S1x1x128x128) fun (v0 : Vec F S1x1x128x128 .fp8e4m3) =>
  .ld (B := bank M) .vtc (Rect.unit (s := S4x64x128x128) (k0_off18 i t1 11#32) S1x1x128x128.size (k0_off18_inb i t1 h2 0)).toLoadRect
    (View.loadsAt_vmem h_S1x1x128x128) fun (v1 : Vec F S1x1x128x128 .fp8e4m3) =>
  .ld (B := bank M) .vtc (Rect.unit (s := S4x64x128x128) (k0_off19 t1) S1x1x128x128.size (k0_off19_inb i t1 h2)).toLoadRect
    (View.loadsAt_vmem h_S1x1x128x128) fun (sk : Vec F S1x1x128x128 .fp8e4m3) =>
  .cond (tile.val < 3)
    (fun _ =>
      .ld (B := bank M) .vtc (Rect.unit (s := S4x64x128x128) (k0_off18 i t1 12#32) S1x1x128x128.size
        (k0_off18_inb i t1 h2 1)).toLoadRect
        (View.loadsAt_vmem h_S1x1x128x128) fun (vp : Vec F S1x1x128x128 .fp8e4m3) =>
      .ret (select (andi (vlaneGe (32 * (tile.val + 1))) (vlaneLt (32 * (tile.val + 1) + 4)))
          (dynamicRotate 1 (BitVec.ofNat 32 (32 * (tile.val + 1))) none (vtile sk) rotates_S128x128_d1)
          (select (vlaneLt (32 * (tile.val + 1))) (vtile v0) (vtile vp)), vtile v1))
    (fun _ => .ret (vtile v0, select (vlaneLt 4) (vtile sk) (vtile v1)))

/-- A row group's weights before rounding: of its stored scores. -/
def groupExp (n : Fin 8) (a b : FVec F S1x256 .f32) (t : Vec F S32x256 .f32) : FVec F S32x256 .f32 :=
  exp2 (masked (maskOf tile n) (Scalar.ofBits .f32 0xFF800000#32) (yOf (t : FVec F S32x256 .f32) a b broadcasts_S1x256_S32x256))

/-- The weighted sum and the weights' sum of the first 256 keys. -/
def firstSoft (a b : FVec F S1x256 .f32) (v : FVec F S128x128 .fp8e4m3 × FVec F S128x128 .fp8e4m3) :
    Kc F M (FVec F S128x256 .f32 × FVec F S8x256 .f32) :=
  .seq (eight M fun n => .ld (B := bank M) .sbuf (Rect.unit (s := S1536x256) ![32 * n.val, 0] S32x256.size
      (inb_sb32 n)).toLoadRect (View.loadsAt_vmem h_S32x256) fun (t : Vec F S32x256 .f32) =>
    .ret (groupExp tile n a b t)) fun e =>
  .ret (weigh (cat2v v.1 v.2) (cat8p fun n => clip8 (e n)),
    add32 (add32 (add32 (add32 (add32 (add32 (add32 (add32 (broadcast S8x256 (Scalar.ofBits .f32 0x00000000#32))
      (e 0)) (e 1)) (e 2)) (e 3)) (e 4)) (e 5)) (e 6)) (e 7))

/-- The weighted sum and the weights' sum, with the other keys'. -/
def chunkSoft (a b : FVec F S1x256 .f32) (ol : FVec F S128x256 .f32 × FVec F S8x256 .f32) :
    Kc F M (FVec F S128x256 .f32 × FVec F S8x256 .f32) :=
  Cmd.each 5 (fun c ol =>
    .ld (B := bank M) .sbuf (Rect.unit (s := S1536x256) ![256 * (c.val + 1), 0] S256x256.size (inb_sb256 c)).toLoadRect
      (View.loadsAt_vmem h_S256x256) fun (t : Vec F S256x256 .f32) =>
    .ld (B := bank M) .vtc (Rect.unit (s := S4x64x128x128) (k0_off20 i t1 12#32 (BitVec.ofNat 32 (2 + 2 * c.val)))
      S1x1x128x128.size (k0_off20_inb i t1 h2 1 c)).toLoadRect (View.loadsAt_vmem h_S1x1x128x128) fun (v0 : Vec F S1x1x128x128 .fp8e4m3) =>
    .ld (B := bank M) .vtc (Rect.unit (s := S4x64x128x128) (k0_off20 i t1 11#32 (BitVec.ofNat 32 (2 + 2 * c.val)))
      S1x1x128x128.size (k0_off20_inb i t1 h2 0 c)).toLoadRect (View.loadsAt_vmem h_S1x1x128x128) fun (v1 : Vec F S1x1x128x128 .fp8e4m3) =>
    have e : FVec F S256x256 .f32 := exp2 (yOf (t : FVec F S256x256 .f32) a b broadcasts_S1x256_S256x256)
    .ret (addf ol.1 (weigh (cat2v (vtile v0) (vtile v1)) (clip8 e)), add256 ol.2 e)) ol

/-- Store a tile's output, head by head. -/
def outCmd (ot : FVec F S256x128 .bf16) : Kc F M Unit :=
  Cmd.each 8 (fun g (_ : Unit) =>
    .ld (B := bank M) .out (Rect.unit (s := S1x128x4096) (oOff t1 tile (BitVec.ofNat 32 g.val)) S1x32x128.size
      (oOff_inb i h2 t1 tile g)).toLoadRect (View.loadsAt_vmem h_S1x32x128) fun _ =>
    .st (B := bank M) .out (Rect.unit (s := S1x128x4096) (oOff t1 tile (BitVec.ofNat 32 g.val)) S1x32x128.size
      (oOff_inb i h2 t1 tile g)) (otRows ot g)
      (View.stores_vmem h_S1x32x128 ((M.whole .out).storeExact_slice rfl _ (oOff_packed i h2 t1 tile g)) (fun _ => rfl)) <|
    .ret ()) ()

/-- One steady tile. -/
def tileCmd : Kc F M Unit :=
  .ld (B := bank M) .qsc (Rect.unit (s := S4x4x256x128) (qOff t1 tile) S1x1x256x128.size (qOff_inb i h2 t1 tile)).toLoadRect
    (View.loadsAt_vmem h_S1x1x256x128) fun (q : Vec F S1x1x256x128 .fp8e4m3) =>
  .ld (B := bank M) .aq (Rect.unit (s := S4x4x2x1x128) (aOff0 t1 tile) S1x1x1x1x128.size (aOff0_inb i h2 t1 tile)).toLoadRect
    (View.loadsAt_vmem h_S1x1x1x1x128) fun (a0 : Vec F S1x1x1x1x128 .f32) =>
  .ld (B := bank M) .aq (Rect.unit (s := S4x4x2x1x128) (aOff1 t1 tile) S1x1x1x1x128.size (aOff1_inb i h2 t1 tile)).toLoadRect
    (View.loadsAt_vmem h_S1x1x1x1x128) fun (a1 : Vec F S1x1x1x1x128 .f32) =>
  have qq : FVec F S256x128 .fp8e4m3 := shapeCast S256x128 (q : FVec F S1x1x256x128 .fp8e4m3) shapeCasts_S1x1x256x128_S256x128
  .seq (eight M (groupCmd M i h2 t1 tile)) fun kss =>
  .seq (firstScores M tile (scores (cat8k fun n => (kss n).1) qq) (fun n => (kss n).2) (broadcast S8x256 NEG)) fun m8 =>
  .seq (chunkScores M i h2 t1 qq m8) fun m8 =>
  .seq (firstVals M i h2 t1 tile) fun v =>
  .seq (firstSoft M tile (aRow a0 a1) (bRow m8 (aRow a0 a1)) v) fun ol =>
  .seq (chunkSoft M i h2 t1 (aRow a0 a1) (bRow m8 (aRow a0 a1)) ol) fun ol =>
  .ld (B := bank M) .vsb (Rect.unit (s := S4x128x128) (k0_off21 t1) S1x128x128.size (k0_off21_inb i t1 h2)).toLoadRect
    (View.loadsAt_vmem h_S1x128x128) fun (vs : Vec F S1x128x128 .f32) =>
  outCmd M i h2 t1 tile (outTile ol.1
    (twice128 (shapeCast S128x128 (vs : FVec F S1x128x128 .f32) shapeCasts_S1x128x128_S128x128)) (recRow ol.2))

end Steady

/-! ## Early tiles -/

section Early

variable (h3 : k0_cond3 i = 1#1) (t2 : Fin k0_t2_loop.trips)

def krow128 : IVec S128x256 32 := iota .tc S128x256 32 [0] iota_S128x256_d0_w32
def ppos128 : IVec S128x256 32 := lane32 (iota .tc S128x256 32 [1] iota_S128x256_d1_w32) broadcasts_S128x256_S128x256

/-- The tile's number: the counter modulo 4, as it is computed. -/
def tileNo (c : BitVec 32) : BitVec 32 :=
  have dv : BitVec 32 := Scalar.select (Scalar.cmpi .eq 4#32 0#32) 1#32 4#32
  have r : BitVec 32 := Scalar.remsi c dv
  Scalar.select (Scalar.andi (Scalar.xori (Scalar.cmpi .slt r 0#32) (Scalar.cmpi .slt dv 0#32)) (Scalar.cmpi .ne r 0#32))
    (Scalar.addi r dv) r

/-- The point's block of queries. -/
def blkNo : BitVec 32 := BitVec.ofNat 32 (i 1).val

/-- The queries' positions. -/
def qpos : IVec S128x256 32 :=
  addi (broadcast S128x256 (Scalar.addi (Scalar.muli (blkNo i) 128#32) (Scalar.muli (tileNo (Scf.iv 0#32 1#32 t2.val)) 32#32)))
    ppos128

/-- The keys that block `b`'s rows may look at. -/
def visible (b : BitVec 32) : IVec S128x256 1 :=
  have kp : IVec S128x256 32 := addi (broadcast S128x256 (Scalar.muli b 128#32)) krow128
  andi (cmpi .sle kp (qpos i t2)) (ori (cmpi .sgt kp (subi (qpos i t2) (broadcast S128x256 1500#32)))
    (cmpi .slt kp (broadcast S128x256 4#32)))

/-- The scores of one block's keys against a tile's queries. -/
def scores128 (k : FVec F S128x128 .fp8e4m3) (q : FVec F S256x128 .fp8e4m3) : FVec F S128x256 .f32 :=
  matmul dot_S128x128_S256x128_S128x256_1_1_0_0_n_n none k q (constant S128x256 .f32 0x00000000#32)

/-- One block's values, weighted. -/
def weigh128 (v : FVec F S128x128 .fp8e4m3) (p : FVec F S128x256 .fp8e4m3) : FVec F S128x256 .f32 :=
  matmul dot_S128x128_S128x256_S128x256_1_0_0_1_n_n none v p (constant S128x256 .f32 0x00000000#32)

/-- Store one block's scores, and their maxima. -/
def blkScore (q : FVec F S256x128 .fp8e4m3) (b : BitVec 32) (off : Fin 3 → Nat)
    (inb : ∀ a, off a + S1x128x128.size a ≤ S4x8192x128.size a) (off' : Fin 2 → Nat)
    (inb' : ∀ a, off' a + S128x256.size a ≤ S1536x256.size a) (m8 : FVec F S8x256 .f32) : Kc F M (FVec F S8x256 .f32) :=
  .ld (B := bank M) .ksc (Rect.unit (s := S4x8192x128) off S1x128x128.size inb).toLoadRect
    (View.loadsAt_vmem h_S1x128x128) fun (k : Vec F S1x128x128 .fp8e4m3) =>
  .ld (B := bank M) .ksb (Rect.unit (s := S4x8192x128) off S1x128x128.size inb).toLoadRect
    (View.loadsAt_vmem h_S1x128x128) fun (s : Vec F S1x128x128 .f32) =>
  have t : FVec F S128x256 .f32 := select (visible i t2 b)
    (mulf (scores128 (shapeCast S128x128 (k : FVec F S1x128x128 .fp8e4m3) shapeCasts_S1x128x128_S128x128) q)
      (twice128 (shapeCast S128x128 (s : FVec F S1x128x128 .f32) shapeCasts_S1x128x128_S128x128)))
    (broadcast S128x256 NEG)
  .ld (B := bank M) .sbuf (Rect.unit (s := S1536x256) off' S128x256.size inb').toLoadRect
    (View.loadsAt_vmem h_S128x256) fun _ =>
  .st (B := bank M) .sbuf (Rect.unit (s := S1536x256) off' S128x256.size inb')
    (shapeCast S128x256 t shapeCasts_S128x256_S128x256) (View.stores_vmem_bits_univ h_S128x256 rfl) <|
  .ret (max128 m8 t)

/-- The weighted sum and the weights' sum, with one block's. -/
def blkSoft (a b : FVec F S1x256 .f32) (bl : BitVec 32) (off : Fin 4 → Nat)
    (inb : ∀ a, off a + S1x1x128x128.size a ≤ S4x64x128x128.size a) (off' : Fin 2 → Nat)
    (inb' : ∀ a, off' a + S128x256.size a ≤ S1536x256.size a) (ol : FVec F S128x256 .f32 × FVec F S8x256 .f32) :
    Kc F M (FVec F S128x256 .f32 × FVec F S8x256 .f32) :=
  .ld (B := bank M) .sbuf (Rect.unit (s := S1536x256) off' S128x256.size inb').toLoadRect
    (View.loadsAt_vmem h_S128x256) fun (t : Vec F S128x256 .f32) =>
  .ld (B := bank M) .vtc (Rect.unit (s := S4x64x128x128) off S1x1x128x128.size inb).toLoadRect
    (View.loadsAt_vmem h_S1x1x128x128) fun (v : Vec F S1x1x128x128 .fp8e4m3) =>
  have e : FVec F S128x256 .f32 := exp2 (select (visible i t2 bl)
    (yOf (t : FVec F S128x256 .f32) a b broadcasts_S1x256_S128x256)
    (broadcast S128x256 (Scalar.ofBits .f32 0xFF800000#32)))
  .ret (addf ol.1 (weigh128 (vtile v) (clip8 e)), add128 ol.2 e)

/-- The first block number that the second of a pair of loops would take: one past the point's. -/
def pastNo : BitVec 32 := Scalar.addi 0#32 (Scalar.muli (Scalar.divsi (Scalar.subi (Scalar.addi (blkNo i) 1#32) 0#32) 1#32) 1#32)

/-- One early tile's attention. -/
def earlyAttn (q : FVec F S256x128 .fp8e4m3) (a : FVec F S1x256 .f32) :
    Kc F M (Σ' (_ : FVec F S128x256 .f32) (_ : FVec F S1x256 .f32), FVec F S128x256 .f32) :=
  .loop (k0_t3_loop i) (k0_t3_ok i h3) (broadcast S8x256 NEG)
    (fun t3 m8 => blkScore M i t2 q (Scf.iv 0#32 1#32 t3.val) (k0_off38 i t2 t3) (k0_off38_inb i t2 t3 h3)
      (k0_off39 i t3) (k0_off39_inb i t3 h3) m8) fun m8 =>
  .loop (k0_t4_loop i) (k0_t4_ok i h3) m8
    (fun t4 m8 => blkScore M i t2 q (Scf.iv (pastNo i) 1#32 t4.val) (k0_off40 i t2 t4) (k0_off40_inb i t2 t4 h3)
      (k0_off41 i t4) (k0_off41_inb i t4 h3) m8) fun m8 =>
  .loop (k0_t5_loop i) (k0_t5_ok i h3)
    ((broadcast S128x256 (Scalar.ofBits .f32 0x00000000#32), broadcast S8x256 (Scalar.ofBits .f32 0x00000000#32)) :
      FVec F S128x256 .f32 × FVec F S8x256 .f32)
    (fun t5 ol => blkSoft M i t2 a (bRow m8 a) (Scf.iv 0#32 1#32 t5.val) (k0_off43 i t2 t5) (k0_off43_inb i t2 t5 h3)
      (k0_off42 i t5) (k0_off42_inb i t5 h3) ol) fun ol =>
  .loop (k0_t6_loop i) (k0_t6_ok i h3) ol
    (fun t6 ol => blkSoft M i t2 a (bRow m8 a) (Scf.iv (pastNo i) 1#32 t6.val) (k0_off45 i t2 t6) (k0_off45_inb i t2 t6 h3)
      (k0_off44 i t6) (k0_off44_inb i t6 h3) ol) fun ol =>
  .ld (B := bank M) .vsb (Rect.unit (s := S4x128x128) (k0_off46 t2) S1x128x128.size (k0_off46_inb i t2 h3)).toLoadRect
    (View.loadsAt_vmem h_S1x128x128) fun (vs : Vec F S1x128x128 .f32) =>
  .ret ⟨ol.1, recRow ol.2, twice128 (shapeCast S128x128 (vs : FVec F S1x128x128 .f32) shapeCasts_S1x128x128_S128x128)⟩

/-- One early tile. -/
def earlyCmd : Kc F M PUnit :=
  .ld (B := bank M) .qsc (Rect.unit (s := S4x4x256x128) (k0_off35 t2) S1x1x256x128.size (k0_off35_inb i t2 h3)).toLoadRect
    (View.loadsAt_vmem h_S1x1x256x128) fun (q : Vec F S1x1x256x128 .fp8e4m3) =>
  .ld (B := bank M) .aq (Rect.unit (s := S4x4x2x1x128) (k0_off36 t2) S1x1x1x1x128.size (k0_off36_inb i t2 h3)).toLoadRect
    (View.loadsAt_vmem h_S1x1x1x1x128) fun (a0 : Vec F S1x1x1x1x128 .f32) =>
  .ld (B := bank M) .aq (Rect.unit (s := S4x4x2x1x128) (k0_off37 t2) S1x1x1x1x128.size (k0_off37_inb i t2 h3)).toLoadRect
    (View.loadsAt_vmem h_S1x1x1x1x128) fun (a1 : Vec F S1x1x1x1x128 .f32) =>
  .seq (earlyAttn M i h3 t2 (shapeCast S256x128 (q : FVec F S1x1x256x128 .fp8e4m3) shapeCasts_S1x1x256x128_S256x128)
    (aRow a0 a1)) fun r =>
  .seq (Cmd.each 8 (fun g (_ : Unit) =>
    .ld (B := bank M) .out (Rect.unit (s := S1x128x4096) (k0_off47 t2 (BitVec.ofNat 32 g.val)) S1x32x128.size
      (k0_off47_inb i t2 h3 g)).toLoadRect (View.loadsAt_vmem h_S1x32x128) fun _ =>
    .st (B := bank M) .out (Rect.unit (s := S1x128x4096) (k0_off47 t2 (BitVec.ofNat 32 g.val)) S1x32x128.size
      (k0_off47_inb i t2 h3 g)) (otRows (outTile r.1 r.2.2 r.2.1) g)
      (View.stores_vmem h_S1x32x128 ((M.whole .out).storeExact_slice rfl _ (k0_off47_packedbf16 i t2 h3 g)) (fun _ => rfl)) <|
    .ret ()) ()) fun _ => .ret ⟨⟩

end Early

/-! ## The body -/

/-- Attention over an early block. -/
def earlyPart : Kc F M PUnit :=
  .cond (k0_cond3 i = 1#1)
    (fun h3 => .loop k0_t2_loop (k0_t2_ok i h3) (⟨⟩ : PUnit) (fun t2 _ => earlyCmd M i h3 t2) fun _ => .ret ⟨⟩)
    (fun _ => .ret ⟨⟩)

/-- Attention, over a steady block or an early one. -/
def attnPart : Kc F M PUnit :=
  .cond (k0_cond2 i = 1#1)
    (fun h2 => .loop k0_t1_loop (k0_t1_ok i h2) (⟨⟩ : PUnit)
      (fun t1 _ => .seq (Cmd.each 4 (fun tile (_ : Unit) => tileCmd M i h2 t1 tile) ()) fun _ => .ret ⟨⟩)
      fun _ => earlyPart M i)
    (fun _ => earlyPart M i)

/-- The whole body. -/
def bodyCmd : Kc F M PUnit :=
  .seq (quantCmd M i) fun _ =>
  .cond (Scalar.cmpi .ne (Scalar.extui (Scalar.cmpi .eq (BitVec.ofNat 32 (i 1).val) 0#32) : BitVec 32) 0#32 = 1#1)
    (fun _ => .seq (vsbCmd M) fun _ => attnPart M i)
    (fun _ => attnPart M i)

end Cert.KernelIdeal
-- ==== Proof.Eq.lean ====
/-
  The kernel's body is the program the whole body's command denotes.
-/
module

public import proofs.«01_k».proof.Proof.Attn
public import Idealize.ShloMosaic.Lib.Pipeline.Regions

@[expose] public section

set_option maxRecDepth 100000

noncomputable section

namespace Cert.KernelIdeal

open Idealize.ShloMosaic Idealize.SL.Sem

variable {F : FTy → Type} [FloatOps F]

/-- The kernel function at a bank's memrefs denotes what its command does. -/
theorem cc0_attn_eq (M : Mems) (i : grid0.Coords) :
    cc0_attn (F := F) i (M.mem .x) (M.whole .x) (M.mem .k) (M.whole .k) (M.mem .v) (M.whole .v) (M.mem .vs) (M.whole .vs)
      (M.mem .out) (M.whole .out) (M.mem .qc) (M.whole .qc) (M.mem .qs) (M.whole .qs) (M.mem .kc) (M.whole .kc)
      (M.mem .ks) (M.whole .ks) (M.mem .vc) (M.whole .vc) (M.mem .ksc) (M.whole .ksc) (M.mem .vtc) (M.whole .vtc)
      (M.mem .ksb) (M.whole .ksb) (M.mem .qsc) (M.whole .qsc) (M.mem .aq) (M.whole .aq) (M.mem .vsb) (M.whole .vsb)
      (M.mem .sbuf) (M.whole .sbuf) = Cmd.toProg (bodyCmd M i) := by
  chain_rfl

end Cert.KernelIdeal
-- ==== Proof.Step.lean ====
module

public import proofs.«01_k».proof.Proof.Eq
public import proofs.«01_k».proof.Proof.Gen.KernelIdeal.Frame

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Facts₀ Facts

variable {F : FTy → Type} [FloatOps F]

local notation "𝕄" => MT nD τ sig Unit (Elt F) ℕ (UR sig nD τ) ℕ

/-- The contents of the kernel's buffers. -/
abbrev St (F : FTy → Type) [FloatOps F] : Type := (j : Bf) → j.sh.Idx → Elt F j.el

/-- The contents of the windows' buffers. -/
abbrev Win (F : FTy → Type) [FloatOps F] : Type :=
  (w : Fin 10) → (win0 w).block.Idx → Elt F (win0 w).elt

/-- Contents with the windows' buffers replaced. -/
def withWin (Y : Win F) (σ : St F) : St F
  | .x => Y 0 | .k => Y 1 | .v => Y 2 | .vs => Y 3
  | .out => Y 4 | .qc => Y 5 | .qs => Y 6 | .kc => Y 7 | .ks => Y 8 | .vc => Y 9
  | .ksc => σ .ksc | .vtc => σ .vtc | .ksb => σ .ksb | .qsc => σ .qsc | .aq => σ .aq | .vsb => σ .vsb
  | .sbuf => σ .sbuf

/-- The windows' part of the contents. -/
def winOf (σ : St F) : Win F
  | 0 => σ .x | 1 => σ .k | 2 => σ .v | 3 => σ .vs
  | 4 => σ .out | 5 => σ .qc | 6 => σ .qs | 7 => σ .kc | 8 => σ .ks | 9 => σ .vc
  | ⟨_ + 10, h⟩ => absurd h (Nat.not_lt.2 (Nat.le_add_left _ _))

/-- The buffers the body runs on at a grid point. -/
def memsAt (t : Fin cfg0.N) : Mems where
  mem
    | .x => win0_0.stage (cfg0.slots t 0) | .k => win0_1.stage (cfg0.slots t 1)
    | .v => win0_2.stage (cfg0.slots t 2) | .vs => win0_3.stage (cfg0.slots t 3)
    | .out => win0_4.stage (cfg0.slots t 4) | .qc => win0_5.stage (cfg0.slots t 5)
    | .qs => win0_6.stage (cfg0.slots t 6) | .kc => win0_7.stage (cfg0.slots t 7)
    | .ks => win0_8.stage (cfg0.slots t 8) | .vc => win0_9.stage (cfg0.slots t 9)
    | .ksc => Memref.whole cc0_scratch0 | .vtc => Memref.whole cc0_scratch1
    | .ksb => Memref.whole cc0_scratch2 | .qsc => Memref.whole cc0_scratch3
    | .aq => Memref.whole cc0_scratch4 | .vsb => Memref.whole cc0_scratch5
    | .sbuf => Memref.whole cc0_scratch6
  whole
    | .x => hstage0_0 ((cfg0.slots t 0).cast nbuf0_0) | .k => hstage0_1 ((cfg0.slots t 1).cast nbuf0_1)
    | .v => hstage0_2 ((cfg0.slots t 2).cast nbuf0_2) | .vs => hstage0_3 ((cfg0.slots t 3).cast nbuf0_3)
    | .out => hstage0_4 ((cfg0.slots t 4).cast nbuf0_4) | .qc => hstage0_5 ((cfg0.slots t 5).cast nbuf0_5)
    | .qs => hstage0_6 ((cfg0.slots t 6).cast nbuf0_6) | .kc => hstage0_7 ((cfg0.slots t 7).cast nbuf0_7)
    | .ks => hstage0_8 ((cfg0.slots t 8).cast nbuf0_8) | .vc => hstage0_9 ((cfg0.slots t 9).cast nbuf0_9)
    | .ksc => Memref.isWhole_whole _ | .vtc => Memref.isWhole_whole _ | .ksb => Memref.isWhole_whole _
    | .qsc => Memref.isWhole_whole _ | .aq => Memref.isWhole_whole _ | .vsb => Memref.isWhole_whole _
    | .sbuf => Memref.isWhole_whole _

/-- The body as the pipeline calls it at a point is the command's program. -/
theorem body_eq (t : Fin cfg0.N) :
    (defs₀ (F := F) .tc cfg0.body (cfg0.bodyArgs t (cfg0.slots t))) = Cmd.toProg (bodyCmd (memsAt t) (grid0.coords t)) :=
  cc0_attn_eq (memsAt t) (grid0.coords t)

/-- The scratch buffers, each whole at its contents. -/
def scratchHeld (c : Dev nD) (σ : St F) : sProp 𝕄 :=
  iprop((((c : Thread nD τ).loc cc0_scratch0) ↦{fullShare} σ .ksc)
    ∗ (((c : Thread nD τ).loc cc0_scratch1) ↦{fullShare} σ .vtc)
    ∗ (((c : Thread nD τ).loc cc0_scratch2) ↦{fullShare} σ .ksb)
    ∗ (((c : Thread nD τ).loc cc0_scratch3) ↦{fullShare} σ .qsc)
    ∗ (((c : Thread nD τ).loc cc0_scratch4) ↦{fullShare} σ .aq)
    ∗ (((c : Thread nD τ).loc cc0_scratch5) ↦{fullShare} σ .vsb)
    ∗ (((c : Thread nD τ).loc cc0_scratch6) ↦{fullShare} σ .sbuf))

/-- The windows' buffers, each whole at its contents. -/
def winHeld (c : Dev nD) (t : Fin cfg0.N) (Y : Win F) : sProp 𝕄 :=
  bigSep Finset.univ fun w : Fin 10 => owns (c : Thread nD τ) ((cfg0.win w).stage (cfg0.slots t w)) fullShare (Y w)

/-- The bank held is the windows' buffers and the scratch buffers. -/
theorem held_eq (c : Dev nD) (t : Fin cfg0.N) (σ : St F) :
    ((bank (memsAt t)).held c σ : sProp 𝕄) ⊣⊢ iprop(winHeld c t (winOf σ) ∗ scratchHeld c σ) := by
  have h : ((bank (memsAt t)).held c σ : sProp 𝕄) = _ :=
    bigSep_univ_eq_bigSepL (I := Bf)
      [Bf.x, .k, .v, .vs, .out, .qc, .qs, .kc, .ks, .vc, .ksc, .vtc, .ksb, .qsc, .aq, .vsb, .sbuf]
      (by decide) (by decide) (fun j => owns (c : Thread nD τ) ((memsAt t).mem j) fullShare (σ j))
  rw [h]
  unfold winHeld scratchHeld
  rw [Gen.bigSep_W0]
  rw [← owns_whole (Ix := Unit) (Name := ℕ) (U := UR sig nD τ) (Lvl := ℕ) (c : Thread nD τ) cc0_scratch0 fullShare (σ .ksc),
    ← owns_whole (Ix := Unit) (Name := ℕ) (U := UR sig nD τ) (Lvl := ℕ) (c : Thread nD τ) cc0_scratch1 fullShare (σ .vtc),
    ← owns_whole (Ix := Unit) (Name := ℕ) (U := UR sig nD τ) (Lvl := ℕ) (c : Thread nD τ) cc0_scratch2 fullShare (σ .ksb),
    ← owns_whole (Ix := Unit) (Name := ℕ) (U := UR sig nD τ) (Lvl := ℕ) (c : Thread nD τ) cc0_scratch3 fullShare (σ .qsc),
    ← owns_whole (Ix := Unit) (Name := ℕ) (U := UR sig nD τ) (Lvl := ℕ) (c : Thread nD τ) cc0_scratch4 fullShare (σ .aq),
    ← owns_whole (Ix := Unit) (Name := ℕ) (U := UR sig nD τ) (Lvl := ℕ) (c : Thread nD τ) cc0_scratch5 fullShare (σ .vsb),
    ← owns_whole (Ix := Unit) (Name := ℕ) (U := UR sig nD τ) (Lvl := ℕ) (c : Thread nD τ) cc0_scratch6 fullShare (σ .sbuf)]
  show iprop(owns (c : Thread nD τ) ((memsAt t).mem .x) fullShare (σ .x) ∗ owns (c : Thread nD τ) ((memsAt t).mem .k) fullShare (σ .k)
    ∗ owns (c : Thread nD τ) ((memsAt t).mem .v) fullShare (σ .v) ∗ owns (c : Thread nD τ) ((memsAt t).mem .vs) fullShare (σ .vs)
    ∗ owns (c : Thread nD τ) ((memsAt t).mem .out) fullShare (σ .out) ∗ owns (c : Thread nD τ) ((memsAt t).mem .qc) fullShare (σ .qc)
    ∗ owns (c : Thread nD τ) ((memsAt t).mem .qs) fullShare (σ .qs) ∗ owns (c : Thread nD τ) ((memsAt t).mem .kc) fullShare (σ .kc)
    ∗ owns (c : Thread nD τ) ((memsAt t).mem .ks) fullShare (σ .ks) ∗ owns (c : Thread nD τ) ((memsAt t).mem .vc) fullShare (σ .vc)
    ∗ owns (c : Thread nD τ) ((memsAt t).mem .ksc) fullShare (σ .ksc) ∗ owns (c : Thread nD τ) ((memsAt t).mem .vtc) fullShare (σ .vtc)
    ∗ owns (c : Thread nD τ) ((memsAt t).mem .ksb) fullShare (σ .ksb) ∗ owns (c : Thread nD τ) ((memsAt t).mem .qsc) fullShare (σ .qsc)
    ∗ owns (c : Thread nD τ) ((memsAt t).mem .aq) fullShare (σ .aq) ∗ owns (c : Thread nD τ) ((memsAt t).mem .vsb) fullShare (σ .vsb)
    ∗ owns (c : Thread nD τ) ((memsAt t).mem .sbuf) fullShare (σ .sbuf)) ⊣⊢
    iprop((owns (c : Thread nD τ) ((memsAt t).mem .x) fullShare (σ .x) ∗ owns (c : Thread nD τ) ((memsAt t).mem .k) fullShare (σ .k)
    ∗ owns (c : Thread nD τ) ((memsAt t).mem .v) fullShare (σ .v) ∗ owns (c : Thread nD τ) ((memsAt t).mem .vs) fullShare (σ .vs)
    ∗ owns (c : Thread nD τ) ((memsAt t).mem .out) fullShare (σ .out) ∗ owns (c : Thread nD τ) ((memsAt t).mem .qc) fullShare (σ .qc)
    ∗ owns (c : Thread nD τ) ((memsAt t).mem .qs) fullShare (σ .qs) ∗ owns (c : Thread nD τ) ((memsAt t).mem .kc) fullShare (σ .kc)
    ∗ owns (c : Thread nD τ) ((memsAt t).mem .ks) fullShare (σ .ks) ∗ owns (c : Thread nD τ) ((memsAt t).mem .vc) fullShare (σ .vc))
    ∗ owns (c : Thread nD τ) ((memsAt t).mem .ksc) fullShare (σ .ksc) ∗ owns (c : Thread nD τ) ((memsAt t).mem .vtc) fullShare (σ .vtc)
    ∗ owns (c : Thread nD τ) ((memsAt t).mem .ksb) fullShare (σ .ksb) ∗ owns (c : Thread nD τ) ((memsAt t).mem .qsc) fullShare (σ .qsc)
    ∗ owns (c : Thread nD τ) ((memsAt t).mem .aq) fullShare (σ .aq) ∗ owns (c : Thread nD τ) ((memsAt t).mem .vsb) fullShare (σ .vsb)
    ∗ owns (c : Thread nD τ) ((memsAt t).mem .sbuf) fullShare (σ .sbuf))
  constructor
  · iintro ⟨H0, H1, H2, H3, H4, H5, H6, H7, H8, H9, S⟩
    isplitr [S]
    · iframe
    · iexact S
  · iintro ⟨⟨H0, H1, H2, H3, H4, H5, H6, H7, H8, H9⟩, S⟩
    iframe

end Cert.KernelIdeal

end
-- ==== Proof.Oblig.lean ====
module

public import proofs.«01_k».proof.Proof.Step

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Facts₀ Facts

variable {F : FTy → Type} [FloatOps F]

local notation "𝕄" => MT nD τ sig Unit (Elt F) ℕ (UR sig nD τ) ℕ

/-- What the scratch buffers hold before a point: contents the predicate allows. -/
def scratchInv (S : ℕ → St F → Prop) (c : Dev nD) (t : Fin (cfg0.N + 1)) : sProp 𝕄 :=
  iprop((∃ σ : St F, ⌜S t.val σ⌝ ∗ scratchHeld c σ) ∗ ∃ r, prngReg c r)

/-- The contents after the body ran at a point. -/
def after (t : Fin cfg0.N) (σ : St F) : St F := (Cmd.run (bodyCmd (memsAt t) (grid0.coords t)) σ).1

/-- What follows from every allowed content follows from some allowed content. -/
theorem exists_pure_elim {α : Type} {φ : α → Prop} {P : α → sProp 𝕄} {Q : sProp 𝕄} (h : ∀ a, φ a → P a ⊢ Q) :
    iprop(∃ a, ⌜φ a⌝ ∗ P a) ⊢ Q := by
  iintro ⟨%a, %ha, H⟩
  iapply (h a ha)
  iexact H

/-- A core that owns a bank, and more besides, runs a command's program to what the command computes, keeping
    the rest. -/
theorem wp_run (B : Bank sig) [DecidableEq B.K] [Fintype B.K] (c : Dev nD) {α : Type}
    (p : Cmd B (Elt F) α) (σ : B.St (Elt F)) (R : sProp 𝕄) (Q : α → sProp 𝕄)
    (h : ∀ a, iprop(B.held c (Cmd.run p σ).1 ∗ R) ⊢ Q a) :
    iprop(B.held c σ ∗ R) ⊢
      wp frame (wpE defs₀ Variants.none (c : Thread nD τ) none) Set.univ (Cmd.toProg p) Q := by
  refine (sep_mono_left (Cmd.wp_toProg (defs := defs₀) (𝒱 := Variants.none) (bd := none) (Γ := .empty)
    (E := Set.univ) c p σ)).trans ((wp_frame_r _ _ _).trans (wp_mono _ _ _ fun a => ?_))
  refine BIBase.Entails.trans ?_ (h a)
  iintro ⟨⟨-, H⟩, R⟩
  isplitl [H]
  · iexact H
  · iexact R

/-- The windows' buffers as the body leaves them. -/
theorem winHeld_after (c : Dev nD) (t : Fin cfg0.N) (X : Win F)
    (P : (w : Fin 10) → ((win0 w).block.Idx → Elt F (win0 w).elt) → Prop) (h : ∀ w, P w (X w)) :
    winHeld c t X ⊢ bigSep Finset.univ fun w : Fin 10 => iprop(∃ X, ⌜P w X⌝
      ∗ owns (c : Thread nD τ) ((cfg0.win w).stage (cfg0.slots t w)) fullShare X) := by
  have one : ∀ w : Fin 10, (owns (c : Thread nD τ) ((cfg0.win w).stage (cfg0.slots t w)) fullShare (X w) : sProp 𝕄) ⊢
      iprop(∃ X, ⌜P w X⌝ ∗ owns (c : Thread nD τ) ((cfg0.win w).stage (cfg0.slots t w)) fullShare X) := by
    intro w
    iintro H
    iexists (X w)
    isplitr [H]
    · ipureintro; exact h w
    · iexact H
  exact bigSep_mono fun w _ => one w

/-- One point of the obligation, from given contents. -/
theorem obligation_at (c : Dev nD) (t : Fin cfg0.N) (S : ℕ → St F → Prop) (σ : St F) (O : sProp 𝕄)
    (P : (w : Fin 10) → ((win0 w).block.Idx → Elt F (win0 w).elt) → Prop)
    (h1 : S (t.val + 1) (after t σ)) (h2 : ∀ w, P w (winOf (after t σ) w)) :
    iprop((bank (memsAt t)).held c σ ∗ ((∃ r, prngReg c r) ∗ O)) ⊢
      wp frame (wpE defs₀ Variants.none (c : Thread nD τ) none) Set.univ
        (Cmd.toProg (bodyCmd (memsAt t) (grid0.coords t))) fun _ =>
          iprop(scratchInv S c t.succ ∗ O
            ∗ bigSep Finset.univ fun w : Fin 10 => iprop(∃ X, ⌜P w X⌝
              ∗ owns (c : Thread nD τ) ((cfg0.win w).stage (cfg0.slots t w)) fullShare X)) := by
  refine wp_run (bank (memsAt t)) c (bodyCmd (memsAt t) (grid0.coords t)) σ _ _ fun a => ?_
  refine (sep_mono_left ((held_eq c t (after t σ)).1.trans (sep_mono_left (winHeld_after c t _ P h2)))).trans ?_
  unfold scratchInv
  iintro ⟨⟨Hw, Hs⟩, Hp, Ho⟩
  isplitl [Hs Hp]
  · isplitl [Hs]
    · iexists (after t σ)
      isplitr [Hs]
      · ipureintro; exact h1
      · iexact Hs
    · iexact Hp
  · isplitl [Ho]
    · iexact Ho
    · iexact Hw

/-- The scratch part of the contents is not the windows'. -/
theorem held_withWin (c : Dev nD) (t : Fin cfg0.N) (Y : Win F) (σ : St F) :
    iprop(winHeld c t Y ∗ scratchHeld c σ) ⊢ ((bank (memsAt t)).held c (withWin Y σ) : sProp 𝕄) := by
  refine BIBase.Entails.trans ?_ (held_eq c t (withWin Y σ)).2
  have : winOf (withWin Y σ) = Y := by
    funext w
    match w with
    | 0 => rfl | 1 => rfl | 2 => rfl | 3 => rfl | 4 => rfl | 5 => rfl | 6 => rfl | 7 => rfl | 8 => rfl | 9 => rfl
    | ⟨_ + 10, h⟩ => exact absurd h (Nat.not_lt.2 (Nat.le_add_left _ _))
  rw [this]
  exact .rfl

/-- One point of the obligation, from any contents the predicate allows. -/
theorem obligation_all (c : Dev nD) (t : Fin cfg0.N) (S : ℕ → St F → Prop) (Y : Win F) (O : sProp 𝕄)
    (P : (w : Fin 10) → ((win0 w).block.Idx → Elt F (win0 w).elt) → Prop)
    (h : ∀ σ, S t.val σ → S (t.val + 1) (after t (withWin Y σ)) ∧ ∀ w, P w (winOf (after t (withWin Y σ)) w)) :
    iprop(scratchInv S c t.castSucc ∗ O
      ∗ bigSep Finset.univ fun w : Fin 10 => owns (c : Thread nD τ) ((cfg0.win w).stage (cfg0.slots t w)) fullShare (Y w)) ⊢
      wp frame (wpE defs₀ Variants.none (c : Thread nD τ) none) Set.univ
        (Cmd.toProg (bodyCmd (memsAt t) (grid0.coords t))) fun _ =>
          iprop(scratchInv S c t.succ ∗ O
            ∗ bigSep Finset.univ fun w : Fin 10 => iprop(∃ X, ⌜P w X⌝
              ∗ owns (c : Thread nD τ) ((cfg0.win w).stage (cfg0.slots t w)) fullShare X)) := by
  refine BIBase.Entails.trans (Q := iprop(∃ σ : St F, ⌜S t.val σ⌝
    ∗ ((bank (memsAt t)).held c (withWin Y σ) ∗ ((∃ r, prngReg c r) ∗ O)))) ?_
    (exists_pure_elim (fun σ hσ => obligation_at c t S (withWin Y σ) O P (h σ hσ).1 (h σ hσ).2))
  unfold scratchInv
  iintro ⟨⟨⟨%σ, %hσ, Hs⟩, Hp⟩, Ho, Hw⟩
  iexists σ
  isplitr
  · ipureintro; exact hσ
  · isplitl [Hs Hw]
    · iapply (held_withWin c t Y σ)
      unfold winHeld
      isplitl [Hw]
      · iexact Hw
      · iexact Hs
    · isplitl [Hp]
      · iexact Hp
      · iexact Ho

/-- The body meets its obligation when the command's contents step the scratch predicate and the windows'
    relation. -/
theorem obligation (c : Dev nD) (S : ℕ → St F → Prop) (hS : ∀ t Y σ, S t σ → S t (withWin Y σ))
    (rd : RDat τ (Elt F) Unit ℕ (UR sig nD τ) ℕ cfg0 c)
    (hΦ : ∀ t, rd.Φ t = scratchInv S c t) (howes : ∀ t : Fin cfg0.N, rd.owesAt () t.castSucc = rd.owesAt () t.succ)
    (hstep : ∀ (t : Fin cfg0.N) (Y : Win F) (σ : St F), (∀ w, rd.Finds w t (Y w)) → S t.val (withWin Y σ) →
      S (t.val + 1) (after t (withWin Y σ)) ∧ ∀ w, rd.after w t (Y w) (winOf (after t (withWin Y σ)) w)) :
    rd.BodyObligation defs₀ Variants.none () Set.univ := by
  intro t Y hY
  rw [hΦ, hΦ, howes]
  have := obligation_all c t S Y (rd.owesAt () t.succ) (fun w => rd.after w t (Y w))
      (fun σ hσ => hstep t Y σ hY (hS _ _ _ hσ))
  rw [← body_eq] at this
  exact this

end Cert.KernelIdeal

end
-- ==== Proof.Launch.lean ====
module

public import proofs.«01_k».proof.Proof.Oblig

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Facts₀ Facts

variable {F : FTy → Type} [FloatOps F]

local notation "𝕄" => MT nD τ sig Unit (Elt F) ℕ (UR sig nD τ) ℕ

/-- The blocks named: the arrays' own for the inputs, given ones for the outputs. -/
def named (m : (ℓ : Loc nD τ sig) → Buf (Elt F) ℓ) (out : Dev nD → Fin cfg0.N → Win F) (c : Dev nD) (t : Fin cfg0.N) : Win F
  | 0 => Gen.iblk m c 0 t | 1 => Gen.iblk m c 1 t | 2 => Gen.iblk m c 2 t | 3 => Gen.iblk m c 3 t
  | 4 => out c t 4 | 5 => out c t 5 | 6 => out c t 6 | 7 => out c t 7 | 8 => out c t 8 | 9 => out c t 9
  | ⟨_ + 10, h⟩ => absurd h (Nat.not_lt.2 (Nat.le_add_left _ _))

/-- The proof data: inputs keep the arrays' blocks, outputs end at given blocks, the scratch buffers follow the predicate. -/
def datOf (m : (ℓ : Loc nD τ sig) → Buf (Elt F) ℓ) (S : Dev nD → ℕ → St F → Prop)
    (out : Dev nD → Fin cfg0.N → Win F) (c : Dev nD) : Dat τ (Elt F) Unit ℕ (UR sig nD τ) ℕ cfg0 c where
  A w := Gen.V m c (Pipeline.arrRef spec0 w)
  after w t := named m out c t w
  Φ := scratchInv (S c) c
  q _ := fullShare
  owed _ := 0

/-- One point's step, of the relational data. -/
theorem step_of (m : (ℓ : Loc nD τ sig) → Buf (Elt F) ℓ) (S : Dev nD → ℕ → St F → Prop)
    (out : Dev nD → Fin cfg0.N → Win F) (fgt : Fin 10 → Bool)
    (hf0 : fgt 0 = false) (hf1 : fgt 1 = false) (hf2 : fgt 2 = false) (hf3 : fgt 3 = false) (c : Dev nD)
    (t : Fin cfg0.N)
    (hstep : ∀ (σ : St F), σ .x = Gen.iblk m c 0 t → σ .k = Gen.iblk m c 1 t →
      σ .v = Gen.iblk m c 2 t → σ .vs = Gen.iblk m c 3 t → S c t.val σ →
      S c (t.val + 1) (after t σ) ∧
      (after t σ .x = σ .x ∧ after t σ .k = σ .k ∧ after t σ .v = σ .v ∧ after t σ .vs = σ .vs) ∧
      ∀ w, fgt w = false → 4 ≤ w.val → winOf (after t σ) w = out c t w)
    (Y : Win F) (σ : St F) (hY : ∀ w, ((datOf m S out c).toRForget fgt).Finds w t (Y w)) (hσ : S c t.val (withWin Y σ)) :
    S c (t.val + 1) (after t (withWin Y σ))
      ∧ ∀ w, ((datOf m S out c).toRForget fgt).after w t (Y w) (winOf (after t (withWin Y σ)) w) := by
  have e0 : Y 0 = Gen.iblk m c 0 t := by
    obtain ⟨d, hd⟩ := (datOf m S out c).toRForget_finds hf0 t _ (hY 0)
    exact hd.trans (Gen.before0_0_of m (datOf m S out c) rfl (fun _ => rfl) t d)
  have e1 : Y 1 = Gen.iblk m c 1 t := by
    obtain ⟨d, hd⟩ := (datOf m S out c).toRForget_finds hf1 t _ (hY 1)
    exact hd.trans (Gen.before0_1_of m (datOf m S out c) rfl (fun _ => rfl) t d)
  have e2 : Y 2 = Gen.iblk m c 2 t := by
    obtain ⟨d, hd⟩ := (datOf m S out c).toRForget_finds hf2 t _ (hY 2)
    exact hd.trans (Gen.before0_2_of m (datOf m S out c) rfl (fun _ => rfl) t d)
  have e3 : Y 3 = Gen.iblk m c 3 t := by
    obtain ⟨d, hd⟩ := (datOf m S out c).toRForget_finds hf3 t _ (hY 3)
    exact hd.trans (Gen.before0_3_of m (datOf m S out c) rfl (fun _ => rfl) t d)
  obtain ⟨h1, ⟨k0, k1, k2, k3⟩, h2⟩ := hstep (withWin Y σ) e0 e1 e2 e3 hσ
  refine ⟨h1, fun w => ?_⟩
  by_cases hw : fgt w = true
  · exact (datOf m S out c).toRForget_after_of_eq_true hw t _ _
  · have hw' : fgt w = false := by simpa using hw
    rw [(datOf m S out c).toRForget_after_of_eq_false hw']
    match w, h2 w hw' with
    | 0, _ => exact k0.trans e0
    | 1, _ => exact k1.trans e1
    | 2, _ => exact k2.trans e2
    | 3, _ => exact k3.trans e3
    | 4, h =>
      have e : winOf (after t (withWin Y σ)) 4 = (datOf m S out c).after 4 t := h (by decide)
      rw [e]
      exact (datOf m S out c).leaves_after_of_flush 4 t (Gen.flush0_4 t)
    | 5, h => exact h (by decide)
    | 6, h => exact h (by decide)
    | 7, h => exact h (by decide)
    | 8, h => exact h (by decide)
    | 9, h => exact h (by decide)
    | ⟨_ + 10, h⟩, _ => exact absurd h (Nat.not_lt.2 (Nat.le_add_left _ _))

/-- Contents with given scratch buffers. -/
def stOf (f0 : Bf.ksc.sh.Idx → Elt F Bf.ksc.el) (f1 : Bf.vtc.sh.Idx → Elt F Bf.vtc.el) (f2 : Bf.ksb.sh.Idx → Elt F Bf.ksb.el)
    (f3 : Bf.qsc.sh.Idx → Elt F Bf.qsc.el) (f4 : Bf.aq.sh.Idx → Elt F Bf.aq.el) (f5 : Bf.vsb.sh.Idx → Elt F Bf.vsb.el)
    (f6 : Bf.sbuf.sh.Idx → Elt F Bf.sbuf.el) : St F := fun j => match j with
  | .ksc => f0
  | .vtc => f1
  | .ksb => f2
  | .qsc => f3
  | .aq => f4
  | .vsb => f5
  | .sbuf => f6
  | j => fun _ => Classical.arbitrary (Elt F j.el)

/-- The scratch buffers at any contents are at contents a predicate true of all allows. -/
theorem scratchInv_in (c : Dev nD) (S : ℕ → St F → Prop) (h0 : ∀ σ, S 0 σ) :
    (Pipeline.ΦA spec0 c : sProp 𝕄) ⊢ scratchInv S c 0 := by
  unfold Pipeline.ΦA scratchInv
  rw [Gen.scopedRest0_eq]
  iintro ⟨⟨⟨%f0, H0⟩, ⟨%f1, H1⟩, ⟨%f2, H2⟩, ⟨%f3, H3⟩, ⟨%f4, H4⟩, ⟨%f5, H5⟩, ⟨%f6, H6⟩⟩, Hp⟩
  isplitr [Hp]
  · iexists (stOf f0 f1 f2 f3 f4 f5 f6 : St F)
    isplitr
    · ipureintro; exact h0 _
    · unfold scratchHeld
      isplitl [H0]
      · iexact H0
      isplitl [H1]
      · iexact H1
      isplitl [H2]
      · iexact H2
      isplitl [H3]
      · iexact H3
      isplitl [H4]
      · iexact H4
      isplitl [H5]
      · iexact H5
      · iexact H6
  · iexact Hp

/-- The scratch buffers at allowed contents are at some contents. -/
theorem scratchInv_out (c : Dev nD) (S : ℕ → St F → Prop) (t : Fin (cfg0.N + 1)) :
    scratchInv S c t ⊢ (Pipeline.ΦA spec0 c : sProp 𝕄) := by
  unfold Pipeline.ΦA scratchInv scratchHeld
  rw [Gen.scopedRest0_eq]
  iintro ⟨⟨%σ, -, H0, H1, H2, H3, H4, H5, H6⟩, Hp⟩
  isplitr [Hp]
  · isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    · iexists _; iexact H6
  · iexact Hp

/-- What the kernel leaves, from what one run of the body does: the arguments are as launched, every named
    output is what the pipeline writes back of its blocks, and no semaphore is left raised. -/
theorem run_of (m : (ℓ : Loc nD τ sig) → Buf (Elt F) ℓ) (ρ : Dev nD → PrngReg) (S : Dev nD → ℕ → St F → Prop)
    (hS : ∀ c t Y σ, S c t σ → S c t (withWin Y σ)) (h0 : ∀ c σ, S c 0 σ)
    (out : Dev nD → Fin cfg0.N → Win F) (fgt : Fin 10 → Bool)
    (hf0 : fgt 0 = false) (hf1 : fgt 1 = false) (hf2 : fgt 2 = false) (hf3 : fgt 3 = false)
    (hstep : ∀ c (t : Fin cfg0.N) (σ : St F), σ .x = Gen.iblk m c 0 t → σ .k = Gen.iblk m c 1 t →
      σ .v = Gen.iblk m c 2 t → σ .vs = Gen.iblk m c 3 t → S c t.val σ →
      S c (t.val + 1) (after t σ) ∧
      (after t σ .x = σ .x ∧ after t σ .k = σ .k ∧ after t σ .v = σ .v ∧ after t σ .vs = σ .vs) ∧
      ∀ w, fgt w = false → 4 ≤ w.val → winOf (after t σ) w = out c t w) :
    θ_run defs (onTc (τ := τ) (main (F := F))) ⟨m, fun _ => 0, ρ⟩ (fun r =>
      (∀ (c : Dev nD) w, fgt w = false →
        r.2.mem ((win0 w).arr.view.loc (c.tc : Thread nD τ)) = (datOf m S out c).arrAt w cfg0.N)
        ∧ r.2.sem = fun _ => 0) := by
  refine Pipeline.RDat.θ_run_frame_track cfgs 0 Gen.launch0 defs₀ Variants.none
    (fun c => (datOf m S out c).toRForget fgt) m ρ (main (F := F))
    (fun c => obligation c (S c) (hS c) _ (fun _ => rfl) (fun _ => rfl)
      fun t Y σ hY hσ => step_of m S out fgt hf0 hf1 hf2 hf3 c t (hstep c t) Y σ hY hσ)
    (fun c w => ?_) (fun _ _ => rfl) (Gen.V m) (Gen.hmain m Variants.none) (fun _ _ => rfl)
    (fun c => scratchInv_in c (S c) (h0 c)) (fun c => scratchInv_out c (S c) _) _ (fun r hr => ⟨fun c w hw => ?_, hr.2⟩)
  · match w with
    | 0 => rfl | 1 => rfl | 2 => rfl | 3 => rfl | 4 => rfl | 5 => rfl | 6 => rfl | 7 => rfl | 8 => rfl | 9 => rfl
    | ⟨_ + 10, h⟩ => exact absurd h (Nat.not_lt.2 (Nat.le_add_left _ _))
  · exact ((datOf m S out c).toRForget_arrAt_iff hw _ _).1 ((hr.1 c).1 w)

end Cert.KernelIdeal

end
-- ==== Proof.Only.lean ====
module

public import proofs.«01_k».proof.Proof.Attn

@[expose] public section

noncomputable section

namespace Idealize.ShloMosaic.Cmd

open Idealize.ShloMosaic Idealize.SL.Sem

variable {sig : RefSig} {Val : EltTy → Type} {B : Bank sig}

/-- Every store of the command is to a buffer of which `P` holds. -/
def Only (P : B.K → Prop) {α : Type} : Cmd B Val α → Prop
  | .ret _ => True
  | .ld _ _ _ k => ∀ v, Only P (k v)
  | .st j _ _ _ k => P j ∧ Only P k
  | @cond _ _ _ _ _ _ t e => (∀ h, Only P (t h)) ∧ ∀ h, Only P (e h)
  | .loop _ _ _ body k => (∀ i a, Only P (body i a)) ∧ ∀ a, Only P (k a)
  | .seq p k => Only P p ∧ ∀ a, Only P (k a)

/-- A buffer a command does not store to keeps its contents. -/
theorem run_only [DecidableEq B.K] (P : B.K → Prop) {α : Type} (p : Cmd B Val α) :
    Only P p → ∀ (σ : B.St Val) (j : B.K), ¬ P j → (run p σ).1 j = σ j := by
  induction p with
  | ret a => intro _ σ j _; rfl
  | ld j r h k ih => intro hp σ i hi; exact ih _ (hp _) σ i hi
  | st j r w h k ih =>
    intro hp σ i hi
    refine (ih hp.2 _ i hi).trans ?_
    have : i ≠ j := fun e => hi (e ▸ hp.1)
    exact Function.update_of_ne this _ _
  | cond c t e iht ihe =>
    intro hp σ i hi
    simp only [run]
    split
    · exact iht _ (hp.1 _) σ i hi
    · exact ihe _ (hp.2 _) σ i hi
  | loop L ok init body k ihb ihk =>
    intro hp σ i hi
    simp only [run]
    refine (ihk _ (hp.2 _) _ i hi).trans ?_
    have : ∀ (l : List (Fin L.trips)) (s : B.St Val × _),
        (l.foldl (fun s i => run (body i s.2) s.1) s).1 i = s.1 i := by
      intro l
      induction l with
      | nil => intro s; rfl
      | cons a l ih => intro s; exact (ih _).trans (ihb a _ (hp.1 _ _) _ i hi)
    exact this _ _
  | seq p k ihp ihk =>
    intro hp σ i hi
    exact (ihk _ (hp.2 _) _ i hi).trans (ihp hp.1 σ i hi)

theorem eachFrom_only (P : B.K → Prop) {α : Type} {N : Nat} (f : Fin N → α → Cmd B Val α)
    (h : ∀ i a, Only P (f i a)) : ∀ (r j : Nat) (e : j + r = N) (a : α), Only P (eachFrom f r j e a)
  | 0, _, _, _ => trivial
  | r + 1, j, e, _ => ⟨h _ _, fun _ => eachFrom_only P f h r (j + 1) (by omega) _⟩

/-- Steps that store only to such buffers do so together. -/
theorem each_only (P : B.K → Prop) {α : Type} {N : Nat} (f : Fin N → α → Cmd B Val α)
    (h : ∀ i a, Only P (f i a)) (a : α) : Only P (each N f a) := eachFrom_only P f h N 0 _ a

end Idealize.ShloMosaic.Cmd

namespace Cert.KernelIdeal

open Idealize.ShloMosaic Idealize.SL.Sem
open Facts₀ Facts

variable {F : FTy → Type} [FloatOps F]
variable (M : Mems) (i : grid0.Coords) (P : Bf → Prop)

theorem head_only (h1 : P .qc) (h2 : P .qsc) (hd : Fin 32) (qs : FVec F S128x128 .f32) :
    (headCmd M hd qs).Only (B := bank M) P :=
  fun _ _ => ⟨h1, Cmd.each_only _ _ (by exact fun _ _ _ => ⟨h2, trivial⟩) _, fun _ => trivial⟩

theorem qs_only (h1 : P .qs) (qs : FVec F S128x128 .f32) : (qsCmd M qs).Only (B := bank M) P :=
  fun _ => ⟨h1, trivial⟩

theorem aq_only (h1 : P .aq) (qs : FVec F S128x128 .f32) (h : Fin 4) : (aqCmd M qs h).Only (B := bank M) P :=
  Cmd.each_only _ _ (by exact fun _ _ => Cmd.each_only _ _ (by exact fun _ _ _ => ⟨h1, trivial⟩) _) _

theorem kv_only (h1 : P .kc) (h2 : P .ksc) (h3 : P .ksb) (h4 : P .vc) (h5 : P .vtc) (h : Fin 4) (ks : FVec F S128x128 .f32) :
    (kvCmd M i h ks).Only (B := bank M) P :=
  fun _ _ => ⟨h1, fun _ => ⟨h2, fun _ => ⟨h3, fun _ _ _ => ⟨h4, fun _ => ⟨h5, trivial⟩⟩⟩⟩⟩

theorem ks_only (h1 : P .ks) (ks : FVec F S128x128 .f32) : (ksCmd M ks).Only (B := bank M) P :=
  fun _ => ⟨h1, trivial⟩

theorem vsb_only (h1 : P .vsb) : (vsbCmd M : Kc F M Unit).Only (B := bank M) P :=
  Cmd.each_only _ _ (by exact fun _ _ _ _ => ⟨h1, trivial⟩) _

/-- Quantising stores to the codes, the scales and their caches only. -/
theorem quant_only (h1 : P .qc) (h2 : P .qsc) (h3 : P .qs) (h4 : P .aq) (h5 : P .kc) (h6 : P .ksc) (h7 : P .ksb)
    (h8 : P .vc) (h9 : P .vtc) (h10 : P .ks) : (quantCmd M i : Kc F M Unit).Only (B := bank M) P :=
  ⟨Cmd.each_only _ _ (by exact head_only M P h1 h2) _, fun _ => ⟨qs_only M P h3 _, fun _ =>
    ⟨Cmd.each_only _ _ (by exact fun h _ => aq_only M P h4 _ h) _, fun _ =>
      ⟨Cmd.each_only _ _ (by exact kv_only M i P h5 h6 h7 h8 h9) _, fun _ => ks_only M P h10 _⟩⟩⟩⟩

theorem group_only (h2) (t1 : Fin k0_t1_loop.trips) (tile : Fin 4) (n : Fin 8) :
    (groupCmd (F := F) M i h2 t1 tile n).Only (B := bank M) P :=
  fun _ _ => ⟨fun _ _ _ => trivial, fun _ => trivial⟩

theorem eight_only {α : Type} (f : Fin 8 → Kc F M α) (h : ∀ n, (f n).Only (B := bank M) P) :
    (eight M f).Only (B := bank M) P :=
  ⟨h 0, fun _ => ⟨h 1, fun _ => ⟨h 2, fun _ => ⟨h 3, fun _ => ⟨h 4, fun _ => ⟨h 5, fun _ => ⟨h 6, fun _ => ⟨h 7,
    fun _ => trivial⟩⟩⟩⟩⟩⟩⟩⟩

theorem tile_only (h1 : P .sbuf) (h4 : P .out) (h2) (t1 : Fin k0_t1_loop.trips) (tile : Fin 4) :
    (tileCmd (F := F) M i h2 t1 tile).Only (B := bank M) P :=
  fun _ _ _ => ⟨eight_only M P _ (group_only M i P h2 t1 tile), fun _ =>
    ⟨Cmd.each_only _ _ (by exact fun _ _ _ => ⟨h1, trivial⟩) _, fun _ =>
    ⟨Cmd.each_only _ _ (by exact fun _ _ _ _ _ => ⟨h1, trivial⟩) _, fun _ =>
    ⟨fun _ _ _ => ⟨fun _ _ => trivial, fun _ => trivial⟩, fun _ =>
    ⟨⟨eight_only M P _ (fun _ _ => trivial), fun _ => trivial⟩, fun _ =>
    ⟨Cmd.each_only _ _ (by exact fun _ _ _ _ _ => trivial) _, fun _ _ =>
      Cmd.each_only _ _ (by exact fun _ _ _ => ⟨h4, trivial⟩) _⟩⟩⟩⟩⟩⟩

theorem early_only (h1 : P .sbuf) (h4 : P .out) (h3) (t2 : Fin k0_t2_loop.trips) :
    (earlyCmd (F := F) M i h3 t2).Only (B := bank M) P :=
  fun _ _ _ => ⟨⟨fun _ _ _ _ _ => ⟨h1, trivial⟩, fun _ => ⟨fun _ _ _ _ _ => ⟨h1, trivial⟩, fun _ =>
    ⟨fun _ _ _ _ => trivial, fun _ => ⟨fun _ _ _ _ => trivial, fun _ _ => trivial⟩⟩⟩⟩, fun _ =>
    ⟨Cmd.each_only _ _ (by exact fun _ _ _ => ⟨h4, trivial⟩) _, fun _ => trivial⟩⟩

theorem earlyPart_only (h1 : P .sbuf) (h4 : P .out) : (earlyPart M i : Kc F M PUnit).Only (B := bank M) P :=
  ⟨fun h3 => ⟨fun t2 _ => early_only M i P h1 h4 h3 t2, fun _ => trivial⟩, fun _ => trivial⟩

/-- Attention stores to the score buffer and the output only. -/
theorem attn_only (h1 : P .sbuf) (h4 : P .out) : (attnPart M i : Kc F M PUnit).Only (B := bank M) P :=
  ⟨fun h2 => ⟨fun t1 _ => ⟨Cmd.each_only _ _ (by exact fun tile _ => tile_only M i P h1 h4 h2 t1 tile) _, fun _ => trivial⟩,
    fun _ => earlyPart_only M i P h1 h4⟩, fun _ => earlyPart_only M i P h1 h4⟩

/-- The inputs' blocks: what the body stores to none of. -/
def Bf.written : Bf → Prop
  | .x | .k | .v | .vs => False
  | _ => True

/-- The body stores to none of the inputs' blocks. -/
theorem body_only : (bodyCmd M i : Kc F M PUnit).Only (B := bank M) Bf.written :=
  ⟨quant_only M i _ trivial trivial trivial trivial trivial trivial trivial trivial trivial trivial, fun _ =>
    ⟨fun _ => ⟨vsb_only M _ trivial, fun _ => attn_only M i _ trivial trivial⟩, fun _ => attn_only M i _ trivial trivial⟩⟩

/-- The body leaves the inputs' blocks as they are. -/
theorem body_keeps (σ : (bank M).St (Elt F)) (j : Bf) (hj : ¬ j.written) : (Cmd.run (bodyCmd M i) σ).1 j = σ j :=
  Cmd.run_only (B := bank M) Bf.written _ (body_only M i) σ j hj

end Cert.KernelIdeal

end
-- ==== Proof.Frame.lean ====
module

public import proofs.«01_k».proof.Proof.Launch
public import proofs.«01_k».proof.Proof.Only

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Facts₀ Facts

variable {F : FTy → Type} [FloatOps F]

local notation "𝕄" => MT nD τ sig Unit (Elt F) ℕ (UR sig nD τ) ℕ

/-- Every run of the kernel ends, leaves its arguments as launched and every semaphore at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := run_of m ρ (fun _ _ _ => True) (fun _ _ _ _ _ => trivial) (fun _ _ => trivial)
    (fun _ _ => winOf fun j _ => Classical.arbitrary (Elt F j.el)) (fun w => 4 ≤ w.val) rfl rfl rfl rfl
    (fun c t σ _ _ _ _ _ => ⟨trivial,
      ⟨body_keeps _ _ σ .x id, body_keeps _ _ σ .k id, body_keeps _ _ σ .v id, body_keeps _ _ σ .vs id⟩,
      fun w hf hw => absurd hw (by simpa using hf)⟩)
  refine (θ_run defs _ _).mono (fun r hr => ⟨fun c => ⟨?_, ?_, ?_, ?_⟩, hr.2⟩) h
  · exact (hr.1 c 0 rfl).trans ((datOf m _ _ c).arrAt_in 0 rfl _)
  · exact (hr.1 c 1 rfl).trans ((datOf m _ _ c).arrAt_in 1 rfl _)
  · exact (hr.1 c 2 rfl).trans ((datOf m _ _ c).arrAt_in 2 rfl _)
  · exact (hr.1 c 3 rfl).trans ((datOf m _ _ c).arrAt_in 3 rfl _)

end Cert.KernelIdeal

end
-- ==== Proof.Same.lean ====
/-
  The printed kernel and the idealized kernel are one program: no rewrite was applied. So what is proved of the
  one at any float values holds of the other.
-/
module

public import proofs.«01_k».proof.Proof.Frame
public import proofs.«01_k».proof.Proof.Gen.Kernel

@[expose] public section

set_option maxRecDepth 16384

noncomputable section

namespace Cert.Proof

open Idealize.ShloMosaic Idealize.SL.Sem

variable {F : FTy → Type} [FloatOps F]

/-- That every run of the printed kernel ends, leaves its arguments as launched and every semaphore at zero. -/
def KernelQuiescent (m : (ℓ : Loc Kernel.nD Kernel.τ Kernel.sig) → Buf (Elt F) ℓ) (g : Dev Kernel.nD → PrngReg) : Prop :=
  θ_run (Kernel.defs (F := F)) (onTc (τ := Kernel.τ) (Kernel.main (F := F))) ⟨m, fun _ => 0, g⟩ (fun r =>
    (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2)
      ∧ r.2.mem ((c.tc : Thread Kernel.nD Kernel.τ).loc Kernel.main_arg3) = m ((c.tc : Thread Kernel.nD Kernel.τ).loc Kernel.main_arg3))
    ∧ r.2.sem = fun _ => 0)

/-- The same of the idealized kernel. -/
def IdealQuiescent (m : (ℓ : Loc KernelIdeal.nD KernelIdeal.τ KernelIdeal.sig) → Buf (Elt F) ℓ) (g : Dev KernelIdeal.nD → PrngReg) : Prop :=
  θ_run (KernelIdeal.defs (F := F)) (onTc (τ := KernelIdeal.τ) (KernelIdeal.main (F := F))) ⟨m, fun _ => 0, g⟩ (fun r =>
    (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3))
    ∧ r.2.sem = fun _ => 0)

/-- The two statements are one. -/
theorem same : @KernelQuiescent F _ = @IdealQuiescent F _ := by
  chain_rfl

/-- Every run of the printed kernel ends, leaves its arguments as launched and every semaphore at zero. -/
theorem kernel_quiescent (m : (ℓ : Loc Kernel.nD Kernel.τ Kernel.sig) → Buf (Elt F) ℓ) (g : Dev Kernel.nD → PrngReg) :
    KernelQuiescent m g := by
  rw [same]
  exact KernelIdeal.quiescent (F := F) m g

end Cert.Proof

end
-- ==== Proof.Consts.lean ====
/-
  What the constants of the kernel and of the reference denote.
-/
module

public import Idealize.ShloMosaic.Lib.Pointwise

@[expose] public section

noncomputable section

namespace Cert.Num

open Idealize.ShloMosaic

/-- What a word denotes, its fields given. -/
theorem word_f32 (w : BitVec 32) (neg : Bool) (ex fr : Nat) (h1 : (w.extractLsb' 31 1 == 1#1) = neg)
    (h2 : (w.extractLsb' 23 8).toNat = ex) (h3 : (w.extractLsb' 0 23).toNat = fr) :
    Ideal.ofBits .f32 w = if ex = 255 then (if fr = 0 then (if neg then ⊥ else ⊤) else ⊥)
      else if ex = 0 then (((if neg then (-1 : ℝ) else 1) * fr * (2 : ℝ) ^ (-149 : ℤ) : ℝ) : EReal)
      else (((if neg then (-1 : ℝ) else 1) * (2 ^ 23 + fr : Nat) * (2 : ℝ) ^ ((ex : ℤ) - 150) : ℝ) : EReal) := by
  change Ideal.ieee 8 23 w = _
  unfold Ideal.ieee
  simp only [h1, h2, h3]
  have e : (ex : ℤ) - (2 ^ (8 - 1) - 1) - (23 : ℕ) = (ex : ℤ) - 150 := by norm_num; ring
  have e' : (1 : ℤ) - (2 ^ (8 - 1) - 1) - (23 : ℕ) = -149 := by norm_num
  rw [e, e']
  norm_num

theorem c448 : Ideal.ofBits .f32 0x43E00000#32 = ((448 : ℝ) : EReal) := by
  rw [word_f32 0x43E00000#32 false 135 6291456 (by decide) (by decide) (by decide)]
  norm_num
theorem cm448 : Ideal.ofBits .f32 0xC3E00000#32 = ((-448 : ℝ) : EReal) := by
  rw [word_f32 0xC3E00000#32 true 135 6291456 (by decide) (by decide) (by decide)]
  norm_num
theorem c256 : Ideal.ofBits .f32 0x43800000#32 = ((256 : ℝ) : EReal) := by
  rw [word_f32 0x43800000#32 false 135 0 (by decide) (by decide) (by decide)]
  norm_num
theorem c8 : Ideal.ofBits .f32 0x41000000#32 = ((8 : ℝ) : EReal) := by
  rw [word_f32 0x41000000#32 false 130 0 (by decide) (by decide) (by decide)]
  norm_num
theorem c256i : Ideal.ofBits .f32 0x3B800000#32 = ((1 / 256 : ℝ) : EReal) := by
  rw [word_f32 0x3B800000#32 false 119 0 (by decide) (by decide) (by decide)]
  norm_num
theorem c2 : Ideal.ofBits .f32 0x40000000#32 = ((2 : ℝ) : EReal) := by
  rw [word_f32 0x40000000#32 false 128 0 (by decide) (by decide) (by decide)]
  norm_num
theorem cm126 : Ideal.ofBits .f32 0xC2FC0000#32 = ((-126 : ℝ) : EReal) := by
  rw [word_f32 0xC2FC0000#32 true 133 8126464 (by decide) (by decide) (by decide)]
  norm_num
theorem cbot : Ideal.ofBits .f32 0xFF800000#32 = ⊥ := by
  rw [word_f32 0xFF800000#32 true 255 0 (by decide) (by decide) (by decide)]
  norm_num
/-- The hidden keys' score is a number. -/
theorem cneg : ∃ r : ℝ, Ideal.ofBits .f32 0xFF61B1E6#32 = (r : EReal) := by
  refine ⟨-(14791142 : ℝ) * 2 ^ (104 : ℤ), ?_⟩
  rw [word_f32 0xFF61B1E6#32 true 254 6402534 (by decide) (by decide) (by decide)]
  norm_num
/-- The scores' constant is a positive number. -/
theorem cscore : ∃ r : ℝ, 0 < r ∧ Ideal.ofBits .f32 0x3E0293EE#32 = (r : EReal) := by
  refine ⟨(8557550 : ℝ) * 2 ^ (-26 : ℤ), by positivity, ?_⟩
  rw [word_f32 0x3E0293EE#32 false 124 168942 (by decide) (by decide) (by decide)]
  norm_num
/-- The bounds' constant is a positive number below 1/256. -/
theorem cbound : ∃ r : ℝ, 0 < r ∧ r < 1 / 256 ∧ Ideal.ofBits .f32 0x3B124925#32 = (r : EReal) := by
  refine ⟨(9586981 : ℝ) * 2 ^ (-32 : ℤ), by positivity, by norm_num, ?_⟩
  rw [word_f32 0x3B124925#32 false 118 1198373 (by decide) (by decide) (by decide)]
  norm_num
/-- The largest bf16 number is a number below 2^128. -/
theorem cfinite : ∃ r : ℝ, r < 2 ^ 128 ∧ Ideal.ofBits .f32 0x7F7F0000#32 = (r : EReal) := by
  refine ⟨(16711680 : ℝ) * 2 ^ (104 : ℤ), by norm_num, ?_⟩
  rw [word_f32 0x7F7F0000#32 false 254 8323072 (by decide) (by decide) (by decide)]
  norm_num

end Cert.Num
-- ==== Proof.Num.lean ====
/-
  Numbers: the power-of-two words, the scale of a row of values, and what the constants of the kernel denote.
-/
module

public import proofs.«01_k».proof.Proof.Consts

@[expose] public section

noncomputable section

namespace Cert.Num

open Idealize.ShloMosaic

theorem shl_word (j : Fin 256) : IntOp.shli .vector (BitVec.ofNat 32 j.val) 23#32 = BitVec.ofNat 32 (j.val * 2 ^ 23) := by
  revert j; decide

/-- The word with exponent field `j` and nothing else denotes 2^(j-127). -/
theorem pow_word (j : Nat) (h1 : 1 ≤ j) (h2 : j < 255) :
    Ideal.ofBits .f32 (BitVec.ofNat 32 (j * 2 ^ 23)) = (((2 : ℝ) ^ ((j : ℤ) - 127) : ℝ) : EReal) := by
  have hn : (BitVec.ofNat 32 (j * 2 ^ 23)).toNat = j * 2 ^ 23 := by
    rw [BitVec.toNat_ofNat]; omega
  have e1 : ((BitVec.ofNat 32 (j * 2 ^ 23)).extractLsb' 23 8).toNat = j := by
    rw [BitVec.extractLsb'_toNat, hn, Nat.shiftRight_eq_div_pow]; omega
  have e2 : ((BitVec.ofNat 32 (j * 2 ^ 23)).extractLsb' 0 23).toNat = 0 := by
    rw [BitVec.extractLsb'_toNat, hn, Nat.shiftRight_eq_div_pow]; omega
  have e3 : ((BitVec.ofNat 32 (j * 2 ^ 23)).extractLsb' 31 1 == 1#1) = false := by
    rw [beq_eq_false_iff_ne]
    intro h
    have := congrArg BitVec.toNat h
    rw [BitVec.extractLsb'_toNat, hn, Nat.shiftRight_eq_div_pow] at this
    simp at this
    omega
  show Ideal.ieee 8 23 _ = _
  unfold Ideal.ieee
  simp only [e1, e2, e3]
  rw [if_neg (by omega), if_neg (by omega)]
  congr 1
  norm_num
  rw [show ((j : ℤ) - 127) = 23 + ((j : ℤ) - 127 - 23) by ring, zpow_add₀ (by norm_num)]
  norm_num

theorem pow_word_zero : Ideal.ofBits .f32 (BitVec.ofNat 32 (0 * 2 ^ 23)) = 0 := by
  exact Ideal.ofBits_zero .f32

theorem pow_word_top : Ideal.ofBits .f32 (BitVec.ofNat 32 (255 * 2 ^ 23)) = ⊤ := by
  have h : BitVec.ofNat 32 (255 * 2 ^ 23) = 0x7F800000#32 := by decide
  rw [h]
  change Ideal.ieee 8 23 (0x7F800000#32) = ⊤
  unfold Ideal.ieee
  simp

/-- A fold by signed maximum is at least each element and the start, and is one of them. -/
theorem fold_maxsi {ι : Type} [DecidableEq ι] (s : Finset ι) (b : BitVec 32) (f : ι → BitVec 32) :
    (∀ i ∈ s, (f i).toInt ≤ (s.fold IntOp.maxsi b f).toInt) ∧ b.toInt ≤ (s.fold IntOp.maxsi b f).toInt ∧
      (s.fold IntOp.maxsi b f = b ∨ ∃ i ∈ s, s.fold IntOp.maxsi b f = f i) := by
  induction s using Finset.induction_on with
  | empty => simp
  | insert a s ha ih =>
    rw [Finset.fold_insert ha]
    obtain ⟨h1, h2, h3⟩ := ih
    generalize s.fold IntOp.maxsi b f = m at h1 h2 h3
    have key : (IntOp.maxsi (f a) m = f a ∧ m.toInt ≤ (f a).toInt) ∨ (IntOp.maxsi (f a) m = m ∧ (f a).toInt ≤ m.toInt) := by
      unfold IntOp.maxsi
      split <;> rename_i h <;> simp [BitVec.sle, BitVec.slt] at h <;> first | (left; constructor; rfl; omega) | (right; constructor; rfl; omega)
    rcases key with ⟨e, h⟩ | ⟨e, h⟩
    · rw [e]
      refine ⟨fun i hi => ?_, by omega, .inr ⟨a, by simp, rfl⟩⟩
      rcases Finset.mem_insert.1 hi with rfl | hi
      · exact le_refl _
      · exact (h1 i hi).trans h
    · rw [e]
      refine ⟨fun i hi => ?_, by omega, ?_⟩
      · rcases Finset.mem_insert.1 hi with rfl | hi
        · exact h
        · exact h1 i hi
      · rcases h3 with h3 | ⟨i, hi, h3⟩
        · exact .inl h3
        · exact .inr ⟨i, Finset.mem_insert_of_mem hi, h3⟩

/-- The largest exponent word whose power of two is at most `y`. -/
def expWord (y : EReal) : BitVec 32 :=
  Finset.univ.fold IntOp.maxsi 2147483648#32 fun x : Fin 256 =>
    if Ideal.ofBits .f32 (IntOp.shli .vector (BitVec.ofNat 32 x.val) 23#32) ≤ y then
      IntOp.shli .vector (BitVec.ofNat 32 x.val) 23#32 else 0#32

theorem toInt_word (j : Fin 256) : (BitVec.ofNat 32 (j.val * 2 ^ 23)).toInt = j.val * 2 ^ 23 := by
  revert j; decide

/-- If 2^(J-127) is the largest power of two at most `y`, the word is `J`'s. -/
theorem expWord_eq (y : EReal) (J : Nat) (hJ : J < 255) (h0 : 1 ≤ J → (((2 : ℝ) ^ ((J : ℤ) - 127) : ℝ) : EReal) ≤ y) (h0' : 0 ≤ y)
    (h1 : y < (((2 : ℝ) ^ ((J : ℤ) + 1 - 127) : ℝ) : EReal)) : expWord y = BitVec.ofNat 32 (J * 2 ^ 23) := by
  have hw : expWord y = Finset.univ.fold IntOp.maxsi 2147483648#32 fun x : Fin 256 =>
      if Ideal.ofBits .f32 (BitVec.ofNat 32 (x.val * 2 ^ 23)) ≤ y then BitVec.ofNat 32 (x.val * 2 ^ 23) else 0#32 := by
    unfold expWord
    simp only [shl_word]
  obtain ⟨a1, a2, a3⟩ := fold_maxsi (Finset.univ : Finset (Fin 256)) 2147483648#32 fun x : Fin 256 =>
      if Ideal.ofBits .f32 (BitVec.ofNat 32 (x.val * 2 ^ 23)) ≤ y then BitVec.ofNat 32 (x.val * 2 ^ 23) else 0#32
  rw [← hw] at a1 a2 a3
  have hJy : Ideal.ofBits .f32 (BitVec.ofNat 32 (J * 2 ^ 23)) ≤ y := by
    rcases Nat.eq_zero_or_pos J with rfl | hp
    · rw [pow_word_zero]; exact h0'
    · rw [pow_word J hp hJ]; exact h0 hp
  have b1 := a1 ⟨J, by omega⟩ (Finset.mem_univ _)
  simp only [if_pos hJy] at b1
  have tJ := toInt_word ⟨J, by omega⟩
  simp only at tJ
  rw [tJ] at b1
  have hno : ∀ x : Fin 256, J < x.val → ¬ Ideal.ofBits .f32 (BitVec.ofNat 32 (x.val * 2 ^ 23)) ≤ y := by
    intro x hx hle
    rcases Nat.lt_or_ge x.val 255 with hlt | hge
    · rw [pow_word x.val (by omega) hlt] at hle
      refine absurd (lt_of_le_of_lt hle h1) (not_lt.2 ?_)
      exact EReal.coe_le_coe_iff.2 (zpow_le_zpow_right₀ (by norm_num : (1 : ℝ) ≤ 2) (by omega))
    · obtain e : x.val = 255 := by omega
      rw [e, pow_word_top] at hle
      exact absurd (lt_of_le_of_lt hle h1) (not_lt.2 le_top)
  rcases a3 with a3 | ⟨x, -, a3⟩
  · rw [a3] at b1
    exfalso
    have : (2147483648#32).toInt = -2147483648 := by decide
    omega
  · by_cases hx : J < x.val
    · rw [if_neg (hno x hx)] at a3
      have h0 : (0#32).toInt = 0 := by decide
      rw [a3, h0] at b1
      obtain rfl : J = 0 := by omega
      rw [a3]; rfl
    · have tx := toInt_word x
      split_ifs at a3 with hh
      · rw [a3, tx] at b1
        obtain e : x.val = J := by omega
        rw [a3, e]
      · have h0 : (0#32).toInt = 0 := by decide
        rw [a3, h0] at b1
        obtain rfl : J = 0 := by omega
        rw [a3]; rfl

/-- The largest magnitude of a row of 128 values. -/
def rowMax (f : Fin 128 → EReal) : EReal := Finset.univ.fold max ⊥ fun d => max (f d) (-(f d))

/-- A row's bound: its largest magnitude times 1/448, rounded. -/
def bnd (f : Fin 128 → EReal) : EReal := rowMax f * Ideal.ofBits .f32 0x3B124925#32

/-- Twice the largest power of two at most `y`, among those from 2^-126 to 2^126; 0 if there is none. -/
def topPow (y : EReal) : EReal :=
  Finset.univ.fold max ⊥ fun i : Fin 253 =>
    if (((2 : ℝ) ^ ((i.val : ℤ) - 126) : ℝ) : EReal) ≤ y then (((2 : ℝ) ^ ((i.val : ℤ) - 125) : ℝ) : EReal) else 0

/-- A row's scale. -/
def scale (f : Fin 128 → EReal) : EReal := if topPow (bnd f) = 0 then 1 else topPow (bnd f)

/-- Clipping to the codes' range. -/
def clip (x : EReal) : EReal := min ((448 : ℝ) : EReal) (max ((-448 : ℝ) : EReal) x)

/-- A row's codes. -/
def code (f : Fin 128 → EReal) (d : Fin 128) : EReal := clip (Ideal.div (f d) (scale f))

theorem fold_max_iff {ι : Type} [DecidableEq ι] (s : Finset ι) (f : ι → EReal) (c : EReal) :
    s.fold max ⊥ f ≤ c ↔ ∀ i ∈ s, f i ≤ c := by
  rw [Finset.fold_max_le]; simp

theorem fold_max_mem {ι : Type} [DecidableEq ι] (s : Finset ι) (f : ι → EReal) :
    s.fold max ⊥ f = ⊥ ∨ ∃ i ∈ s, s.fold max ⊥ f = f i := by
  induction s using Finset.induction_on with
  | empty => simp
  | insert a s ha ih =>
    rw [Finset.fold_insert ha]
    rcases max_choice (f a) (s.fold max ⊥ f) with h | h
    · rw [h]; exact .inr ⟨a, by simp, rfl⟩
    · rw [h]
      rcases ih with ih | ⟨i, hi, ih⟩
      · exact .inl ih
      · exact .inr ⟨i, Finset.mem_insert_of_mem hi, ih⟩

/-- Twice the largest power of two at most `y`, where it is 2^(J-127). -/
theorem topPow_eq (y : EReal) (J : Nat) (h1 : 1 ≤ J) (h2 : J ≤ 253) (ha : (((2 : ℝ) ^ ((J : ℤ) - 127) : ℝ) : EReal) ≤ y)
    (hb : y < (((2 : ℝ) ^ ((J : ℤ) - 126) : ℝ) : EReal)) : topPow y = (((2 : ℝ) ^ ((J : ℤ) - 126) : ℝ) : EReal) := by
  apply le_antisymm
  · refine (fold_max_iff _ _ _).2 fun i _ => ?_
    split_ifs with h
    · refine EReal.coe_le_coe_iff.2 (zpow_le_zpow_right₀ (by norm_num) ?_)
      by_contra hc
      refine absurd (lt_of_le_of_lt h hb) (not_lt.2 (EReal.coe_le_coe_iff.2 (zpow_le_zpow_right₀ (by norm_num) (by omega))))
    · exact EReal.coe_nonneg.2 (by positivity)
  · have := (fold_max_iff (Finset.univ : Finset (Fin 253)) (fun i : Fin 253 =>
      if (((2 : ℝ) ^ ((i.val : ℤ) - 126) : ℝ) : EReal) ≤ y then (((2 : ℝ) ^ ((i.val : ℤ) - 125) : ℝ) : EReal) else 0) _).1 le_rfl
        ⟨J - 1, by omega⟩ (Finset.mem_univ _)
    have e : ((J - 1 : ℕ) : ℤ) - 126 = (J : ℤ) - 127 := by omega
    have e' : ((J - 1 : ℕ) : ℤ) - 125 = (J : ℤ) - 126 := by omega
    simp only [e, e'] at this
    rw [if_pos ha] at this
    exact this

/-- Below the smallest of the powers there is none. -/
theorem topPow_small (y : EReal) (hb : y < (((2 : ℝ) ^ (-126 : ℤ) : ℝ) : EReal)) : topPow y = 0 := by
  have hf : ∀ i : Fin 253, ¬ (((2 : ℝ) ^ ((i.val : ℤ) - 126) : ℝ) : EReal) ≤ y := fun i h =>
    absurd (lt_of_le_of_lt h hb) (not_lt.2 (EReal.coe_le_coe_iff.2 (zpow_le_zpow_right₀ (by norm_num) (by omega))))
  unfold topPow
  simp only [hf, if_false]
  apply le_antisymm
  · exact (fold_max_iff _ _ _).2 fun i _ => le_rfl
  · exact (fold_max_iff (Finset.univ : Finset (Fin 253)) (fun _ => (0 : EReal)) _).1 le_rfl 0 (Finset.mem_univ _)

/-- The scale as the exponent word gives it, and its inverse. -/
def wordScale (y : EReal) : EReal :=
  if expWord y = 0#32 then 1 else Ideal.ofBits .f32 (expWord y + 8388608#32)
def wordInv (y : EReal) : EReal :=
  if expWord y = 0#32 then 1 else Ideal.ofBits .f32 (2122317824#32 - expWord y)

theorem word_ne_zero (J : Nat) (h1 : 1 ≤ J) (h2 : J < 255) : BitVec.ofNat 32 (J * 2 ^ 23) ≠ 0#32 := by
  intro h
  have := congrArg BitVec.toNat h
  rw [BitVec.toNat_ofNat] at this
  simp at this
  omega

theorem word_up (J : Nat) : BitVec.ofNat 32 (J * 2 ^ 23) + 8388608#32 = BitVec.ofNat 32 ((J + 1) * 2 ^ 23) := by
  rw [← BitVec.ofNat_add]
  exact congrArg (BitVec.ofNat 32) (by ring)

theorem word_down (J : Nat) (h : J ≤ 253) :
    2122317824#32 - BitVec.ofNat 32 (J * 2 ^ 23) = BitVec.ofNat 32 ((253 - J) * 2 ^ 23) := by
  have e : 2122317824#32 = BitVec.ofNat 32 ((253 - J) * 2 ^ 23) + BitVec.ofNat 32 (J * 2 ^ 23) := by
    rw [← BitVec.ofNat_add]
    exact congrArg (BitVec.ofNat 32) (by rw [← Nat.add_mul, Nat.sub_add_cancel h]; norm_num)
  rw [e, BitVec.add_sub_cancel]

theorem word_nil : BitVec.ofNat 32 (0 * 2 ^ 23) = 0#32 := by simp

/-- For a bound below 2^126: the scale is a positive number, both ways of computing it agree, and so do their inverses. -/
theorem scale_facts (y : EReal) (h0 : 0 ≤ y) (hy : y < (((2 : ℝ) ^ (126 : ℤ) : ℝ) : EReal)) :
    ∃ s : ℝ, 0 < s ∧ (if topPow y = 0 then 1 else topPow y) = (s : EReal) ∧ wordScale y = (s : EReal)
      ∧ wordInv y = ((1 / s : ℝ) : EReal) := by
  by_cases hs : y < (((2 : ℝ) ^ (-126 : ℤ) : ℝ) : EReal)
  · refine ⟨1, one_pos, ?_, ?_, ?_⟩
    · rw [topPow_small y hs, if_pos rfl]; rfl
    · rw [wordScale, expWord_eq y 0 (by norm_num) (fun h => absurd h (by norm_num)) h0 (by simpa using hs), if_pos word_nil]; rfl
    · rw [wordInv, expWord_eq y 0 (by norm_num) (fun h => absurd h (by norm_num)) h0 (by simpa using hs), if_pos word_nil]
      norm_num
  · have hs' := not_lt.1 hs
    obtain ⟨r, rfl⟩ : ∃ r : ℝ, y = (r : EReal) := by
      refine ⟨y.toReal, (EReal.coe_toReal (ne_of_lt (lt_of_lt_of_le hy le_top)) ?_).symm⟩
      exact ne_of_gt (lt_of_lt_of_le (EReal.bot_lt_coe _) hs')
    rw [EReal.coe_le_coe_iff] at hs'
    rw [EReal.coe_lt_coe_iff] at hy
    have rpos : 0 < r := lt_of_lt_of_le (by positivity) hs'
    obtain ⟨n, hn1, hn2⟩ := exists_mem_Ico_zpow (y := (2 : ℝ)) rpos (by norm_num)
    have n1 : -126 ≤ n := by
      by_contra hc
      exact absurd (lt_of_lt_of_le hn2 (zpow_le_zpow_right₀ (by norm_num) (by omega))) (not_lt.2 hs')
    have n2 : n < 126 := by
      by_contra hc
      exact absurd (lt_of_lt_of_le hy (zpow_le_zpow_right₀ (by norm_num) (by omega))) (not_lt.2 hn1)
    obtain ⟨J, hJ⟩ : ∃ J : ℕ, (J : ℤ) = n + 127 := ⟨(n + 127).toNat, by omega⟩
    have e1 : (J : ℤ) - 127 = n := by omega
    have e2 : (J : ℤ) - 126 = n + 1 := by omega
    have e3 : (J : ℤ) + 1 - 127 = n + 1 := by omega
    have hw : expWord (r : EReal) = BitVec.ofNat 32 (J * 2 ^ 23) :=
      expWord_eq _ J (by omega) (fun _ => by rw [e1]; exact EReal.coe_le_coe_iff.2 hn1) h0
        (by rw [e3]; exact EReal.coe_lt_coe_iff.2 hn2)
    have ht : topPow (r : EReal) = (((2 : ℝ) ^ (n + 1) : ℝ) : EReal) := by
      rw [topPow_eq _ J (by omega) (by omega) (by rw [e1]; exact EReal.coe_le_coe_iff.2 hn1)
        (by rw [e2]; exact EReal.coe_lt_coe_iff.2 hn2), e2]
    have hne := word_ne_zero J (by omega) (by omega)
    refine ⟨(2 : ℝ) ^ (n + 1), by positivity, ?_, ?_, ?_⟩
    · rw [ht, if_neg]
      intro h
      have : (2 : ℝ) ^ (n + 1) = 0 := by exact_mod_cast h
      exact absurd this (by positivity)
    · rw [wordScale, hw, if_neg hne]
      rw [word_up, pow_word (J + 1) (by omega) (by omega)]
      have e4 : ((J + 1 : ℕ) : ℤ) - 127 = n + 1 := by omega
      rw [e4]
    · rw [wordInv, hw, if_neg hne]
      rw [word_down J (by omega), pow_word (253 - J) (by omega) (by omega)]
      have e4 : ((253 - J : ℕ) : ℤ) - 127 = -(n + 1) := by omega
      rw [e4, one_div, ← zpow_neg]

end Cert.Num
-- ==== Proof.Words.lean ====
/-
  Comparisons of small numbers as 32-bit words.
-/
module

public import proofs.«01_k».proof.Proof.Num

@[expose] public section

noncomputable section

namespace Cert.Num

open Idealize.ShloMosaic

theorem cmpi_sle (x y : BitVec 32) : IntOp.cmpi .sle x y = if x.toInt ≤ y.toInt then 1#1 else 0#1 := by
  unfold IntOp.cmpi
  simp only [BitVec.sle]
  split_ifs with h <;> simp [h]
theorem cmpi_slt (x y : BitVec 32) : IntOp.cmpi .slt x y = if x.toInt < y.toInt then 1#1 else 0#1 := by
  unfold IntOp.cmpi
  simp only [BitVec.slt]
  split_ifs with h <;> simp [h]
theorem cmpi_sge (x y : BitVec 32) : IntOp.cmpi .sge x y = if y.toInt ≤ x.toInt then 1#1 else 0#1 := by
  unfold IntOp.cmpi
  simp only [BitVec.sle]
  split_ifs with h <;> simp [h]
theorem cmpi_sgt (x y : BitVec 32) : IntOp.cmpi .sgt x y = if y.toInt < x.toInt then 1#1 else 0#1 := by
  unfold IntOp.cmpi
  simp only [BitVec.slt]
  split_ifs with h <;> simp [h]
theorem cmpi_eq (x y : BitVec 32) : IntOp.cmpi .eq x y = if x = y then 1#1 else 0#1 := by
  change BitVec.ofBool (x == y) = _
  by_cases h : x = y
  · subst h; simp
  · rw [if_neg h, beq_eq_false_iff_ne.2 h]; rfl

theorem bit_or (p q : Prop) [Decidable p] [Decidable q] :
    IntOp.ori (if p then 1#1 else 0#1) (if q then 1#1 else 0#1) = if p ∨ q then 1#1 else 0#1 := by
  by_cases hp : p <;> by_cases hq : q <;> simp [hp, hq] <;> rfl
theorem bit_and (p q : Prop) [Decidable p] [Decidable q] :
    IntOp.andi (if p then 1#1 else 0#1) (if q then 1#1 else 0#1) = if p ∧ q then 1#1 else 0#1 := by
  by_cases hp : p <;> by_cases hq : q <;> simp [hp, hq] <;> rfl

theorem select_bit {α : Type} (p : Prop) [Decidable p] (a b : α) :
    Scalar.select (if p then 1#1 else 0#1) a b = if p then a else b := by
  split_ifs <;> rfl

theorem toInt_nat (n : Nat) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- A word within half the range of a number is that number, read signed. -/
theorem toInt_int (z : ℤ) (h1 : -2 ^ 31 ≤ z) (h2 : z < 2 ^ 31) : (BitVec.ofInt 32 z).toInt = z := by
  rw [BitVec.toInt_ofInt]
  exact Int.bmod_eq_of_le (by norm_num; omega) (by norm_num; omega)

theorem toInt_sub (x y : BitVec 32) (h1 : -2 ^ 31 ≤ x.toInt - y.toInt) (h2 : x.toInt - y.toInt < 2 ^ 31) :
    (IntOp.subi x y).toInt = x.toInt - y.toInt := by
  change (x - y).toInt = _
  rw [BitVec.toInt_sub]
  exact Int.bmod_eq_of_le (by norm_num; omega) (by norm_num; omega)

theorem toInt_add (x y : BitVec 32) (h1 : -2 ^ 31 ≤ x.toInt + y.toInt) (h2 : x.toInt + y.toInt < 2 ^ 31) :
    (IntOp.addi x y).toInt = x.toInt + y.toInt := by
  change (x + y).toInt = _
  rw [BitVec.toInt_add]
  exact Int.bmod_eq_of_le (by norm_num; omega) (by norm_num; omega)

theorem ofNat_inj (a b : Nat) (ha : a < 2 ^ 32) (hb : b < 2 ^ 32) : BitVec.ofNat 32 a = BitVec.ofNat 32 b ↔ a = b := by
  refine ⟨fun h => ?_, fun h => h ▸ rfl⟩
  have := congrArg BitVec.toNat h
  rw [BitVec.toNat_ofNat, BitVec.toNat_ofNat, Nat.mod_eq_of_lt ha, Nat.mod_eq_of_lt hb] at this
  exact this

end Cert.Num
-- ==== Proof.QOps.lean ====
/-
  The quantiser's steps read at an index: a row's scale and codes are the reference's.
-/
module

public import proofs.«01_k».proof.Proof.Words
public import proofs.«01_k».proof.Proof.Ops

@[expose] public section

set_option maxRecDepth 16384

noncomputable section

namespace Cert.Num

open Idealize.ShloMosaic

/-- A row of finite values. -/
def Finite (f : Fin 128 → EReal) : Prop := ∀ d, max (f d) (-(f d)) ≤ Ideal.ofBits .f32 0x7F7F0000#32

theorem abs_nonneg' (x : EReal) : 0 ≤ max x (-x) := by
  rcases le_total 0 x with h | h
  · exact le_max_of_le_left h
  · exact le_max_of_le_right (EReal.neg_nonneg.2 h)

/-- A finite row's bound is at least zero and below 2^126. -/
theorem bnd_facts (f : Fin 128 → EReal) (hf : Finite f) :
    0 ≤ bnd f ∧ bnd f < (((2 : ℝ) ^ (126 : ℤ) : ℝ) : EReal) := by
  obtain ⟨c, hc, ec⟩ := cfinite
  obtain ⟨k, hk0, hk, ek⟩ := cbound
  have h1 : rowMax f ≤ (c : EReal) := (fold_max_iff _ _ _).2 fun d _ => ec ▸ hf d
  have h0 : 0 ≤ rowMax f := (abs_nonneg' (f 0)).trans
    ((fold_max_iff (Finset.univ : Finset (Fin 128)) (fun d => max (f d) (-(f d))) _).1 le_rfl 0 (Finset.mem_univ _))
  obtain ⟨m, hm⟩ : ∃ m : ℝ, rowMax f = (m : EReal) :=
    ⟨(rowMax f).toReal, (EReal.coe_toReal (ne_of_lt (lt_of_le_of_lt h1 (EReal.coe_lt_top c)))
      (ne_of_gt (lt_of_lt_of_le (EReal.bot_lt_coe 0) h0))).symm⟩
  rw [hm] at h0 h1
  have m0 : 0 ≤ m := EReal.coe_nonneg.1 h0
  have m1 : m ≤ c := EReal.coe_le_coe_iff.1 h1
  unfold bnd
  rw [hm, ek, ← EReal.coe_mul]
  refine ⟨EReal.coe_nonneg.2 (by positivity), EReal.coe_lt_coe_iff.2 ?_⟩
  have : m * k ≤ 2 ^ 128 * (1 / 256) := mul_le_mul (by linarith) hk.le hk0.le (by norm_num)
  exact lt_of_le_of_lt this (by norm_num)

/-- A finite row's scale is a positive number, given by its exponent word, and so is its inverse. -/
theorem scale_word (f : Fin 128 → EReal) (hf : Finite f) :
    ∃ s : ℝ, 0 < s ∧ scale f = (s : EReal) ∧ wordScale (bnd f) = (s : EReal) ∧ wordInv (bnd f) = ((1 / s : ℝ) : EReal) :=
  scale_facts (bnd f) (bnd_facts f hf).1 (bnd_facts f hf).2

end Cert.Num

namespace Cert.KernelIdeal

open Idealize.ShloMosaic
open Facts₀ Facts Cert.Num

section Rows

variable (xf : FVec Ideal S128x128 .f32) (r d : Fin 128)

theorem qbound_read : qbound xf (ix2 r 0) = bnd fun d => xf (ix2 r d) := by
  have e : Ideal.ofBits FTy.f32 4286578688#32 = ⊥ := cbot
  pointwise [qbound]
  rw [e]
  rfl

theorem qexp_read : qexp xf (ix2 r 0) = expWord (bnd fun d => xf (ix2 r d)) := by
  rw [← qbound_read]
  pointwise [qexp, qpow]
  rfl

theorem qscale_read (h : Finite fun d => xf (ix2 r d)) : qscale xf (ix2 r 0) = scale fun d => xf (ix2 r d) := by
  obtain ⟨s, -, h1, h2, -⟩ := scale_word _ h
  rw [h1, ← h2]
  pointwise [qscale, qzero]
  rw [qexp_read, cmpi_eq, select_bit]
  rfl

theorem qcodes_read (h : Finite fun d => xf (ix2 r d)) : qcodes xf (ix2 r d) = code (fun d => xf (ix2 r d)) d := by
  obtain ⟨s, hs, h1, -, h2⟩ := scale_word _ h
  have e : qinv xf (ix2 r 0) = ((1 / s : ℝ) : EReal) := by
    rw [← h2]
    pointwise [qinv, qzero]
    rw [qexp_read, cmpi_eq, select_bit]
    rfl
  pointwise [qcodes]
  have ea : Ideal.ofBits FTy.f32 1138753536#32 = ((448 : ℝ) : EReal) := c448
  have eb : Ideal.ofBits FTy.f32 3286237184#32 = ((-448 : ℝ) : EReal) := cm448
  rw [e, ea, eb]
  unfold code clip
  rw [h1]
  unfold Ideal.div
  rw [if_neg (by exact_mod_cast hs.ne'), one_div, EReal.coe_inv]

end Rows

theorem xtile_read (x : Vec Ideal S1x128x128 .bf16) (r d : Fin 128) : xtile x (ix2 r d) = x (ix3 0 r d) := by
  pointwise [xtile]

theorem putLane_read (n : BitVec 32) (sc : FVec Ideal S128x1 .f32) (prev : FVec Ideal S128x128 .f32) (r d : Fin 128) :
    putLane n sc prev (ix2 r d) = if BitVec.ofNat 32 d.val = n then sc (ix2 r 0) else prev (ix2 r d) := by
  rw [← select_bit, ← cmpi_eq]
  pointwise [putLane, lanes, rowBcast]

theorem laneblk_read (x : Fin 8) (d : Fin 128) : laneblk (ix2 x d) = BitVec.ofNat 32 (d.val / 32) := by
  pointwise [laneblk]
  revert d
  decide

theorem srow8_read (x : Fin 8) (d : Fin 128) : srow8 (ix2 x d) = BitVec.ofNat 32 x.val := by
  pointwise [srow8]

theorem rolled_read (r8 : FVec Ideal S8x128 .f32) (n : Nat) (hn : n < 4) (x : Fin 8) (d : Fin 128) :
    rolled r8 n (ix2 x d) = r8 (ix2 x ⟨(d.val + 32 * (4 - n)) % 128, by omega⟩) := by
  match n, hn with
  | 0, _ => pointwise [rolled]; exact congrArg (fun y => r8 (ix2 x y)) (Fin.ext (by change d.val = _ % _; omega))
  | 1, _ => pointwise [rolled]; exact congrArg (fun y => r8 (ix2 x y)) (Fin.ext (by change _ % _ = _ % _; omega))
  | 2, _ => pointwise [rolled]; exact congrArg (fun y => r8 (ix2 x y)) (Fin.ext (by change _ % _ = _ % _; omega))
  | 3, _ => pointwise [rolled]; exact congrArg (fun y => r8 (ix2 x y)) (Fin.ext (by change _ % _ = _ % _; omega))

theorem spreadBlk_read (r8 : FVec Ideal S8x128 .f32) (i : Fin 4) (x : Fin 8) (d : Fin 128) :
    spreadBlk r8 i.val (ix2 x d) = r8 (ix2 x ⟨32 * i.val + d.val % 32, by omega⟩) := by
  pointwise [spreadBlk]
  have e3 : (3#32) = BitVec.ofNat 32 3 := rfl
  have e2 : (2#32) = BitVec.ofNat 32 2 := rfl
  have e1 : (1#32) = BitVec.ofNat 32 1 := rfl
  rw [laneblk_read, cmpi_eq, cmpi_eq, cmpi_eq, select_bit, select_bit, select_bit,
    rolled_read _ _ (by omega), rolled_read _ _ (by omega), rolled_read _ _ (by omega), rolled_read _ _ (by omega)]
  simp only [ofNat_inj (d.val / 32) 3 (by omega) (by omega), ofNat_inj (d.val / 32) 2 (by omega) (by omega),
    ofNat_inj (d.val / 32) 1 (by omega) (by omega), e1, e2, e3]
  split_ifs <;> exact congrArg (fun y => r8 (ix2 x y)) (Fin.ext (by change _ % _ = _ + _; omega))

/-- One row of placed scales: at lane `l`, the scale of head `l / 32 + 4·half` at query `32·i + l % 32`, times a constant. -/
theorem aqRow_read (r8 : FVec Ideal S8x128 .f32) (i : Fin 4) (half : Fin 2) (d : Fin 128) :
    aqRow r8 i.val half.val (ix2 0 d) =
      r8 (ix2 ⟨d.val / 32 + 4 * half.val, by omega⟩ ⟨32 * i.val + d.val % 32, by omega⟩) * Ideal.ofBits .f32 0x3E0293EE#32 := by
  have e : Ideal.ofBits FTy.f32 1040356334#32 = Ideal.ofBits .f32 0x3E0293EE#32 := rfl
  pointwise [aqRow]
  rw [e]
  congr 1
  rw [Finset.sum_eq_single (⟨d.val / 32 + 4 * half.val, by omega⟩ : Fin 8)]
  · rw [cmpi_eq, select_bit, srow8_read, laneblk_read, spreadBlk_read, if_pos]
    change _ = BitVec.ofNat 32 _ + BitVec.ofNat 32 _
    rw [← BitVec.ofNat_add]
  · intro x _ hx
    rw [cmpi_eq, select_bit, srow8_read, laneblk_read, if_neg]
    change ¬ (_ = BitVec.ofNat 32 _ + BitVec.ofNat 32 _)
    rw [← BitVec.ofNat_add, ofNat_inj _ _ (by omega) (by omega)]
    exact fun h => hx (Fin.ext h)
  · exact fun h => absurd (Finset.mem_univ _) h

theorem qtRows_read (qs : FVec Ideal S128x128 .f32) (h : Fin 4) (x : Fin 8) (r : Fin 128) :
    qtRows (transpose S128x128 [1, 0] qs transposes_S128x128_p1_0_S128x128) h (ix2 x r) = qs (ix2 r ⟨8 * h.val + x.val, by omega⟩) := by
  pointwise [qtRows]

/-- A clipped value over its lane's scale. -/
theorem vquant_read (vs : Vec Ideal S1x1x128 .f32) (v : Vec Ideal S1x128x128 .bf16) (r d : Fin 128) :
    vquant vs v (ix2 r d) = clip (v (ix3 0 r d) * Ideal.div 1 (vs (ix3 0 0 d))) := by
  have ea : Ideal.ofBits FTy.f32 1138753536#32 = ((448 : ℝ) : EReal) := c448
  have eb : Ideal.ofBits FTy.f32 3286237184#32 = ((-448 : ℝ) : EReal) := cm448
  pointwise [vquant, xtile]
  rw [ea, eb]
  rfl

theorem vtcodes_read (vq : FVec Ideal S128x128 .f32) (r d : Fin 128) : vtcodes vq (ix2 d r) = vq (ix2 r d) := by
  pointwise [vtcodes]

theorem vsTile_read (vs : Vec Ideal S1x1x128 .f32) (r d : Fin 128) : vsTile vs (ix2 d r) = vs (ix3 0 0 d) := by
  pointwise [vsTile]

end Cert.KernelIdeal
-- ==== Proof.Rects.lean ====
/-
  Reading a buffer after a store to a rectangle of it.
-/
module

public import proofs.«01_k».proof.Proof.Ops
public import proofs.«01_k».proof.Proof.Num

@[expose] public section

noncomputable section

namespace Cert.Proof

open Idealize.ShloMosaic

/-- Inside the rectangle: what was stored. -/
theorem overlay_in {s : Shape} {α : Type} (off size : Fin s.rank → Nat) (inb) (X : s.Idx → α)
    (G : (Rect.unit (s := s) off size inb).shape.Idx → α) (y : s.Idx) (i : (Rect.unit (s := s) off size inb).shape.Idx)
    (h : ∀ a, (y a).val = off a + (i a).val) : (Rect.unit (s := s) off size inb).overlay X G y = G i := by
  have : y = (Rect.unit (s := s) off size inb).emb i := by
    funext a
    apply Fin.ext
    rw [h a]
    change _ = off a + 1 * (i a).val
    rw [Nat.one_mul]
  rw [this, Rect.overlay_emb]

/-- Outside the rectangle: what was there. -/
theorem overlay_out {s : Shape} {α : Type} (off size : Fin s.rank → Nat) (inb) (X : s.Idx → α)
    (G : (Rect.unit (s := s) off size inb).shape.Idx → α) (y : s.Idx) (a : Fin s.rank)
    (h : (y a).val < off a ∨ off a + size a ≤ (y a).val) : (Rect.unit (s := s) off size inb).overlay X G y = X y := by
  refine Rect.overlay_of_not_mem _ _ _ fun hm => ?_
  have := (Rect.mem_set_unit.1 hm) a
  omega

/-- A rectangle's element, by its coordinates. -/
theorem idx_unit {s : Shape} (off size : Fin s.rank → Nat) (inb) (i : (Rect.unit (s := s) off size inb).shape.Idx) (y : s.Idx)
    (h : ∀ a, (y a).val = off a + (i a).val) : (Rect.unit (s := s) off size inb).toLoadRect.idx i = y := by
  funext a
  apply Fin.ext
  rw [h a]
  change off a + 1 * (i a).val = _
  rw [Nat.one_mul]

end Cert.Proof
-- ==== Proof.Quant.lean ====
/-
  What quantising leaves in the buffers.
-/
module

public import proofs.«01_k».proof.Proof.QOps
public import proofs.«01_k».proof.Proof.Rects
public import proofs.«01_k».proof.Proof.Only
public import proofs.«01_k».proof.Proof.Step

@[expose] public section

set_option maxRecDepth 16384

noncomputable section

namespace Cert.Proof

open Idealize.ShloMosaic

section Run

variable {sig : RefSig} {Val : EltTy → Type} {B : Bank sig} [DecidableEq B.K] {α β : Type}

theorem run_ret (a : α) (σ : B.St Val) : Cmd.run (B := B) (.ret a) σ = (σ, a) := rfl
theorem run_ld (j : B.K) (r : LoadRect (B.sh j)) (h) (k : _ → Cmd B Val α) (σ : B.St Val) :
    Cmd.run (.ld j r h k) σ = Cmd.run (k fun i => σ j (r.idx i)) σ := rfl
theorem run_st (j : B.K) (r : Rect (B.sh j)) (w) (h) (k : Cmd B Val α) (σ : B.St Val) :
    Cmd.run (.st j r w h k) σ = Cmd.run k (Cmd.put σ j r w) := rfl
theorem run_seq (p : Cmd B Val β) (k : β → Cmd B Val α) (σ : B.St Val) :
    Cmd.run (.seq p k) σ = Cmd.run (k (Cmd.run p σ).2) (Cmd.run p σ).1 := rfl

theorem put_self (σ : B.St Val) (j : B.K) (r : Rect (B.sh j)) (w : r.shape.Idx → Val (B.el j)) :
    Cmd.put σ j r w j = r.overlay (σ j) w := Function.update_self _ _ _
theorem put_ne (σ : B.St Val) (j : B.K) (r : Rect (B.sh j)) (w : r.shape.Idx → Val (B.el j)) (k : B.K) (h : k ≠ j) :
    Cmd.put σ j r w k = σ k := Function.update_of_ne h _ _

end Run

end Cert.Proof

namespace Cert.KernelIdeal

open Idealize.ShloMosaic
open Facts₀ Facts Cert.Num Cert.Proof

/-- A query head's row of the block. -/
def xrow (x : S1x128x4096.Idx → EReal) (r : Fin 128) (l : Fin 32) : Fin 128 → EReal :=
  fun d => x (ix3 0 r ⟨l.val * 128 + d.val, by omega⟩)

/-- A KV head's row of the block. -/
def yrow (x : S1x128x512.Idx → EReal) (r : Fin 128) (h : Fin 4) : Fin 128 → EReal :=
  fun d => x (ix3 0 r ⟨h.val * 128 + d.val, by omega⟩)

variable (M : Mems)

/-- Contents, of extended reals. -/
abbrev Si := St Ideal

/-- A head's tile, as loaded. -/
def headTile (σ : Si) (l : Fin 32) : Vec Ideal S1x128x128 .bf16 := fun i =>
  σ .x ((Rect.unit (s := S1x128x4096) ![0, 0, l.val * 128] S1x128x128.size (inb_head l)).toLoadRect.idx i)

theorem headTile_read (σ : Si) (l : Fin 32) (r d : Fin 128) :
    xtile (headTile σ l) (ix2 r d) = xrow (σ .x) r l d := by
  rw [xtile_read]
  unfold headTile xrow
  refine congrArg (σ .x) (idx_unit _ _ _ _ _ fun a => ?_)
  match a with
  | ⟨0, _⟩ => rfl
  | ⟨1, _⟩ => exact (Nat.zero_add _).symm
  | ⟨2, _⟩ => rfl

/-- One head's repetition: the query cache's rows. -/
def headStore (l : Fin 32) (x : Vec Ideal S1x128x128 .bf16) (i : Fin 4) (_ : Unit) : Kc Ideal M Unit :=
    .ld (B := bank M) .qsc (Rect.unit (s := S4x4x256x128) ![l.val / 8, i.val, 32 * (l.val % 8), 0] S1x1x32x128.size
        (inb_qsc l i)).toLoadRect (View.loadsAt_vmem h_S1x1x32x128) fun _ =>
    .st (B := bank M) .qsc (Rect.unit (s := S4x4x256x128) ![l.val / 8, i.val, 32 * (l.val % 8), 0] S1x1x32x128.size
        (inb_qsc l i))
      (shapeCast S1x1x32x128 (extractStridedSlice S32x128 ![32 * i.val, 0] (qcodes (xtile x)) (slices_codes i))
        shapeCasts_S32x128_S1x1x32x128)
      (View.stores_vmem h_S1x1x32x128 ((M.whole .qsc).storeExact_slice rfl _ (packed_qsc l i)) (fun _ => rfl)) <|
    .ret ()

/-- The query cache once heads below `n` are in. -/
def QscUpTo (x : S1x128x4096.Idx → EReal) (n : Nat) (w : S4x4x256x128.Idx → EReal) : Prop :=
  ∀ (h i : Fin 4) (k : Fin 256) (d : Fin 128), 8 * h.val + k.val / 32 < n →
    w (ix4 h i k d) = code (xrow x ⟨32 * i.val + k.val % 32, by omega⟩ ⟨8 * h.val + k.val / 32, by omega⟩) d

/-- The query codes of tile `t` stored for rows `32·i` on. -/
def qcodeRows (t : Vec Ideal S1x128x128 .bf16) (i : Fin 4) : S1x1x32x128.Idx → EReal :=
  (shapeCast S1x1x32x128 (extractStridedSlice S32x128 ![32 * i.val, 0] (qcodes (xtile t)) (slices_codes i))
        shapeCasts_S32x128_S1x1x32x128 : FVec Ideal S1x1x32x128 .fp8e4m3)

theorem qcodeRows_read (t : Vec Ideal S1x128x128 .bf16) (i : Fin 4) (k : Fin 32) (d : Fin 128) :
    qcodeRows t i (ix4 0 0 k d) = qcodes (xtile t) (ix2 ⟨32 * i.val + k.val, by omega⟩ d) := by
  unfold qcodeRows
  pointwise

/-- The contents after a store. -/
def upd (σ : Si) (j : Bf) (r : Rect j.sh) (w : r.shape.Idx → Elt Ideal j.el) : Si :=
  Cmd.put (B := bank M) (Val := Elt Ideal) σ j r w

theorem upd_self (σ : Si) (j : Bf) (r : Rect j.sh) (w : r.shape.Idx → Elt Ideal j.el) :
    upd M σ j r w j = r.overlay (σ j) w := put_self (B := bank M) σ j r w

theorem upd_ne (σ : Si) (j : Bf) (r : Rect j.sh) (w : r.shape.Idx → Elt Ideal j.el) (k : Bf) (h : k ≠ j) :
    upd M σ j r w k = σ k := put_ne (B := bank M) σ j r w k h

/-- The contents and the result of a command. -/
def runS {α : Type} (p : Kc Ideal M α) (σ : Si) : Si := (Cmd.run p σ).1
def runV {α : Type} (p : Kc Ideal M α) (σ : Si) : α := (Cmd.run p σ).2

theorem runS_only {α : Type} (P : Bf → Prop) (p : Kc Ideal M α) (h : p.Only (B := bank M) P) (σ : Si) (k : Bf) (hk : ¬ P k) :
    runS M p σ k = σ k := Cmd.run_only (B := bank M) P p h σ k hk

/-- Repetition keeps an invariant. -/
theorem each_keeps {α : Type} {N : Nat} (f : Fin N → α → Kc Ideal M α) (Inv : Nat → Si → α → Prop)
    (hs : ∀ (j : Fin N) σ a, Inv j.val σ a → Inv (j.val + 1) (runS M (f j a) σ) (runV M (f j a) σ))
    (σ : Si) (a : α) (h0 : Inv 0 σ a) : Inv N (runS M (Cmd.each N f a) σ) (runV M (Cmd.each N f a) σ) :=
  Cmd.each_inv (B := bank M) f Inv hs σ a h0

def qscRect (l : Fin 32) (i : Fin 4) : Rect S4x4x256x128 :=
  Rect.unit (s := S4x4x256x128) ![l.val / 8, i.val, 32 * (l.val % 8), 0] S1x1x32x128.size (inb_qsc l i)

theorem headStore_put (l : Fin 32) (t : Vec Ideal S1x128x128 .bf16) (i : Fin 4) (u : Unit) (σ : Si) :
    runS M (headStore M l t i u) σ = upd M σ .qsc (qscRect l i) (qcodeRows t i) := rfl

theorem headStore_run (l : Fin 32) (t : Vec Ideal S1x128x128 .bf16) (i : Fin 4) (u : Unit) (σ : Si) :
    (runS M (headStore M l t i u) σ .qsc : S4x4x256x128.Idx → EReal) =
      (qscRect l i).overlay (σ .qsc : S4x4x256x128.Idx → EReal) (qcodeRows t i) :=
  (congrFun (headStore_put M l t i u σ) .qsc).trans (upd_self M σ .qsc (qscRect l i) (qcodeRows t i))

theorem headStore_inv (l : Fin 32) (X : S1x128x4096.Idx → EReal) (t : Vec Ideal S1x128x128 .bf16)
    (ht : ∀ r d, xtile t (ix2 r d) = xrow X r l d) (σ : Si) (hx : ∀ r, Finite (xrow X r l)) (hq : QscUpTo X l.val (σ .qsc)) :
    QscUpTo X (l.val + 1) (runS M (Cmd.each 4 (headStore M l t) ()) σ .qsc) := by
  have := each_keeps M (headStore M l t)
    (fun j σ' _ => QscUpTo X l.val (σ' .qsc) ∧ ∀ (i : Fin 4) (k : Fin 256) (d : Fin 128), i.val < j → k.val / 32 = l.val % 8 →
      (σ' .qsc : S4x4x256x128.Idx → EReal) (ix4 ⟨l.val / 8, by omega⟩ i k d) = code (xrow X ⟨32 * i.val + k.val % 32, by omega⟩ l) d)
    (fun j σ' _ hI => ?_) σ () ⟨hq, fun i k d hi => absurd hi (Nat.not_lt_zero _)⟩
  · intro h i k d hk
    by_cases hl : 8 * h.val + k.val / 32 < l.val
    · exact this.1 h i k d hl
    · have e : 8 * h.val + k.val / 32 = l.val := by omega
      have e1 : h = ⟨l.val / 8, by omega⟩ := Fin.ext (by change h.val = l.val / 8; omega)
      have e2 : (⟨8 * h.val + k.val / 32, by omega⟩ : Fin 32) = l := Fin.ext e
      rw [e2, e1]
      exact this.2 i k d i.isLt (by omega)
  · rw [headStore_run]
    constructor
    · intro h i k d hk
      refine Eq.trans ?_ (hI.1 h i k d hk)
      by_cases hh : h.val = l.val / 8
      · exact overlay_out _ _ _ _ _ _ 2 (.inl (by change k.val < 32 * (l.val % 8); omega))
      · exact overlay_out _ _ _ _ _ _ 0 (by change h.val < l.val / 8 ∨ l.val / 8 + 1 ≤ h.val; omega)
    · intro i k d hi hk
      by_cases hij : i = j
      · subst hij
        refine (overlay_in _ _ _ _ _ _ (ix4 0 0 ⟨k.val % 32, by omega⟩ d) fun a => ?_).trans ?_
        · match a with
          | ⟨0, _⟩ => rfl
          | ⟨1, _⟩ => rfl
          | ⟨2, _⟩ => change k.val = 32 * (l.val % 8) + k.val % 32; omega
          | ⟨3, _⟩ => exact (Nat.zero_add _).symm
        · rw [qcodeRows_read]
          have e : (fun d => xtile t (ix2 ⟨32 * i.val + k.val % 32, by omega⟩ d)) = xrow X ⟨32 * i.val + k.val % 32, by omega⟩ l :=
            funext fun d => ht _ d
          rw [qcodes_read _ _ _ (by rw [e]; exact hx _), e]
      · have : i.val ≠ j.val := fun h => hij (Fin.ext h)
        refine Eq.trans ?_ (hI.2 i k d (by omega) hk)
        exact overlay_out _ _ _ _ _ _ 1 (by change i.val < j.val ∨ j.val + 1 ≤ i.val; omega)

/-- The codes of a tile, as stored. -/
def tileCodes (t : Vec Ideal S1x128x128 .bf16) : S1x128x128.Idx → EReal :=
  (shapeCast S1x128x128 (qcodes (xtile t)) shapeCasts_S128x128_S1x128x128 : FVec Ideal S1x128x128 .fp8e4m3)

theorem tileCodes_read (t : Vec Ideal S1x128x128 .bf16) (r d : Fin 128) : tileCodes t (ix3 0 r d) = qcodes (xtile t) (ix2 r d) := by
  unfold tileCodes
  pointwise

def headRect (l : Fin 32) : Rect S1x128x4096 :=
  Rect.unit (s := S1x128x4096) ![0, 0, l.val * 128] S1x128x128.size (inb_head l)

theorem headCmd_run (l : Fin 32) (qs : FVec Ideal S128x128 .f32) (σ : Si) :
    runS M (headCmd M l qs) σ = runS M (Cmd.each 4 (headStore M l (headTile σ l)) ())
      (upd M σ .qc (headRect l) (tileCodes (headTile σ l))) := rfl

theorem headCmd_val (l : Fin 32) (qs : FVec Ideal S128x128 .f32) (σ : Si) :
    runV M (headCmd M l qs) σ = putLane (BitVec.ofNat 32 l.val) (qscale (xtile (headTile σ l))) qs := rfl

/-- The heads' quantisation. -/
def headsCmd : Kc Ideal M (FVec Ideal S128x128 .f32) :=
  Cmd.each 32 (headCmd M) (broadcast S128x128 (Scalar.ofBits .f32 0x00000000#32))

/-- Lanes below `n` hold the scales of the rows. -/
def QsUpTo (X : S1x128x4096.Idx → EReal) (n : Nat) (qs : FVec Ideal S128x128 .f32) : Prop :=
  ∀ (r : Fin 128) (l : Fin 32), l.val < n → qs (ix2 r ⟨l.val, by omega⟩) = scale (xrow X r l)

/-- After the heads: the query cache, and the scales by lane. -/
theorem heads_run (σ : Si) (hx : ∀ r l, Finite (xrow (σ .x) r l)) :
    QscUpTo (σ .x) 32 (runS M (headsCmd M) σ .qsc) ∧ QsUpTo (σ .x) 32 (runV M (headsCmd M) σ) := by
  have := each_keeps M (headCmd (F := Ideal) M)
    (fun j σ' qs => σ' .x = σ .x ∧ QscUpTo (σ .x) j (σ' .qsc) ∧ QsUpTo (σ .x) j qs)
    (fun j σ' qs hI => ?_) σ (broadcast S128x128 (Scalar.ofBits .f32 0x00000000#32))
    ⟨rfl, fun _ _ _ _ h => absurd h (Nat.not_lt_zero _), fun _ _ h => absurd h (Nat.not_lt_zero _)⟩
  · exact this.2
  · obtain ⟨hx', hq, hs⟩ := hI
    refine ⟨?_, ?_, ?_⟩
    · exact (runS_only M (fun k => k = .qc ∨ k = .qsc) _ (head_only M _ (.inl rfl) (.inr rfl) j qs) σ' .x
        (by rintro (h | h) <;> cases h)).trans hx'
    · rw [headCmd_run]
      refine headStore_inv M j (σ .x) (headTile σ' j) (fun r d => by rw [headTile_read, hx']) _ (fun r => hx r j) ?_
      have e := upd_ne M σ' .qc (headRect j) (tileCodes (headTile σ' j)) .qsc (by decide)
      exact e ▸ hq
    · intro r l hl
      rw [headCmd_val, putLane_read]
      have e : (fun d => xtile (headTile σ' j) (ix2 r d)) = xrow (σ .x) r j :=
        funext fun d => (headTile_read σ' j _ d).trans (by rw [hx'])
      by_cases h : l = j
      · subst h
        rw [if_pos rfl, qscale_read _ _ (by rw [e]; exact hx r l), e]
      · have h' : l.val ≠ j.val := fun e => h (Fin.ext e)
        rw [if_neg fun h => h' ((ofNat_inj _ _ (by omega) (by omega)).1 h)]
        exact hs r l (by omega)

end Cert.KernelIdeal
-- ==== Proof.Cache.lean ====
/-
  What quantising a block leaves: the scales as results, and the caches up to the block.
-/
module

public import proofs.«01_k».proof.Proof.Quant

@[expose] public section

set_option maxRecDepth 16384

noncomputable section

namespace Cert.KernelIdeal

open Idealize.ShloMosaic
open Facts₀ Facts Cert.Num Cert.Proof

variable (M : Mems)

/-! ## The queries' scales -/

/-- The queries' scales as stored. -/
def qsW (qs : FVec Ideal S128x128 .f32) : S1x128x32.Idx → EReal :=
  (shapeCast S1x128x32 (extractStridedSlice S128x32 ![0, 0] qs slices_S128x128_o0_0_S128x32) shapeCasts_S128x32_S1x128x32 :
    FVec Ideal S1x128x32 .f32)

theorem qsW_read (qs : FVec Ideal S128x128 .f32) (r : Fin 128) (l : Fin 32) :
    qsW qs (ix3 0 r l) = qs (ix2 r ⟨l.val, by omega⟩) := by
  unfold qsW
  pointwise

def qsRect : Rect S1x128x32 := Rect.unit (s := S1x128x32) ![0, 0, 0] S1x128x32.size inb_S1x128x32_S1x128x32_0_0_0

theorem qsCmd_put (qs : FVec Ideal S128x128 .f32) (σ : Si) : runS M (qsCmd M qs) σ = upd M σ .qs qsRect (qsW qs) := rfl

theorem qsCmd_run (qs : FVec Ideal S128x128 .f32) (σ : Si) (r : Fin 128) (l : Fin 32) :
    (runS M (qsCmd M qs) σ .qs : S1x128x32.Idx → EReal) (ix3 0 r l) = qs (ix2 r ⟨l.val, by omega⟩) := by
  have e : (runS M (qsCmd M qs) σ .qs : S1x128x32.Idx → EReal) = qsRect.overlay (σ .qs : S1x128x32.Idx → EReal) (qsW qs) :=
    (congrFun (qsCmd_put M qs σ) .qs).trans (upd_self M σ .qs qsRect (qsW qs))
  rw [e]
  refine (overlay_in _ _ _ _ _ _ (ix3 0 r l) fun a => ?_).trans ?_
  · match a with
    | ⟨0, _⟩ => rfl
    | ⟨1, _⟩ => exact (Nat.zero_add _).symm
    | ⟨2, _⟩ => exact (Nat.zero_add _).symm
  · exact qsW_read qs r l

/-- The keys' scales as stored. -/
def ksW (ks : FVec Ideal S128x128 .f32) : S1x128x4.Idx → EReal :=
  (shapeCast S1x128x4 (extractStridedSlice S128x4 ![0, 0] ks slices_S128x128_o0_0_S128x4) shapeCasts_S128x4_S1x128x4 :
    FVec Ideal S1x128x4 .f32)

theorem ksW_read (ks : FVec Ideal S128x128 .f32) (r : Fin 128) (l : Fin 4) :
    ksW ks (ix3 0 r l) = ks (ix2 r ⟨l.val, by omega⟩) := by
  unfold ksW
  pointwise

def ksRect : Rect S1x128x4 := Rect.unit (s := S1x128x4) ![0, 0, 0] S1x128x4.size inb_S1x128x4_S1x128x4_0_0_0

theorem ksCmd_put (ks : FVec Ideal S128x128 .f32) (σ : Si) : runS M (ksCmd M ks) σ = upd M σ .ks ksRect (ksW ks) := rfl

theorem ksCmd_run (ks : FVec Ideal S128x128 .f32) (σ : Si) (r : Fin 128) (l : Fin 4) :
    (runS M (ksCmd M ks) σ .ks : S1x128x4.Idx → EReal) (ix3 0 r l) = ks (ix2 r ⟨l.val, by omega⟩) := by
  have e : (runS M (ksCmd M ks) σ .ks : S1x128x4.Idx → EReal) = ksRect.overlay (σ .ks : S1x128x4.Idx → EReal) (ksW ks) :=
    (congrFun (ksCmd_put M ks σ) .ks).trans (upd_self M σ .ks ksRect (ksW ks))
  rw [e]
  refine (overlay_in _ _ _ _ _ _ (ix3 0 r l) fun a => ?_).trans ?_
  · match a with
    | ⟨0, _⟩ => rfl
    | ⟨1, _⟩ => exact (Nat.zero_add _).symm
    | ⟨2, _⟩ => exact (Nat.zero_add _).symm
  · exact ksW_read ks r l

/-! ## The queries' scales by lane -/

/-- One row of the scale cache as stored. -/
def aqW (qs : FVec Ideal S128x128 .f32) (h i : Fin 4) (half : Fin 2) : S1x1x1x1x128.Idx → EReal :=
  (shapeCast S1x1x1x1x128 (aqRow (qtRows (transpose S128x128 [1, 0] qs transposes_S128x128_p1_0_S128x128) h)
        i.val half.val) shapeCasts_S1x128_S1x1x1x1x128 : FVec Ideal S1x1x1x1x128 .f32)

theorem aqW_read (qs : FVec Ideal S128x128 .f32) (h i : Fin 4) (half : Fin 2) (l : Fin 128) :
    aqW qs h i half (ix5 0 0 0 0 l) =
      qs (ix2 ⟨32 * i.val + l.val % 32, by omega⟩ ⟨8 * h.val + (l.val / 32 + 4 * half.val), by omega⟩) *
        Ideal.ofBits .f32 0x3E0293EE#32 := by
  have e : aqW qs h i half (ix5 0 0 0 0 l) =
      aqRow (qtRows (transpose S128x128 [1, 0] qs transposes_S128x128_p1_0_S128x128) h) i.val half.val (ix2 0 l) := by
    unfold aqW
    pointwise
  rw [e, aqRow_read, qtRows_read]

def aqRect (h i : Fin 4) (half : Fin 2) : Rect S4x4x2x1x128 :=
  Rect.unit (s := S4x4x2x1x128) ![h.val, i.val, half.val, 0, 0] S1x1x1x1x128.size (inb_aq h i half)

/-- One row's store. -/
def aqStore (qs : FVec Ideal S128x128 .f32) (h i : Fin 4) (half : Fin 2) (_ : Unit) : Kc Ideal M Unit :=
    .ld (B := bank M) .aq (Rect.unit (s := S4x4x2x1x128) ![h.val, i.val, half.val, 0, 0] S1x1x1x1x128.size
        (inb_aq h i half)).toLoadRect (View.loadsAt_vmem h_S1x1x1x1x128) fun _ =>
    .st (B := bank M) .aq (Rect.unit (s := S4x4x2x1x128) ![h.val, i.val, half.val, 0, 0] S1x1x1x1x128.size (inb_aq h i half))
      (shapeCast S1x1x1x1x128 (aqRow (qtRows (transpose S128x128 [1, 0] qs transposes_S128x128_p1_0_S128x128) h)
        i.val half.val) shapeCasts_S1x128_S1x1x1x1x128)
      (View.stores_vmem_bits_univ h_S1x1x1x1x128 rfl) <|
    .ret ()

theorem aqStore_put (qs : FVec Ideal S128x128 .f32) (h i : Fin 4) (half : Fin 2) (u : Unit) (σ : Si) :
    runS M (aqStore M qs h i half u) σ = upd M σ .aq (aqRect h i half) (aqW qs h i half) := rfl

theorem aqStore_run (qs : FVec Ideal S128x128 .f32) (h i : Fin 4) (half : Fin 2) (u : Unit) (σ : Si) :
    (runS M (aqStore M qs h i half u) σ .aq : S4x4x2x1x128.Idx → EReal) =
      (aqRect h i half).overlay (σ .aq : S4x4x2x1x128.Idx → EReal) (aqW qs h i half) :=
  (congrFun (aqStore_put M qs h i half u σ) .aq).trans (upd_self M σ .aq (aqRect h i half) (aqW qs h i half))

theorem aqCmd_eq (qs : FVec Ideal S128x128 .f32) (h : Fin 4) :
    aqCmd M qs h = Cmd.each 4 (fun i (_ : Unit) => Cmd.each 2 (aqStore M qs h i) ()) () := rfl

/-- The scale cache's rows before the `n`th, in the order they are stored. -/
def AqUpTo (X : S1x128x4096.Idx → EReal) (n : Nat) (w : S4x4x2x1x128.Idx → EReal) : Prop :=
  ∀ (h i : Fin 4) (half : Fin 2) (l : Fin 128), 8 * h.val + 2 * i.val + half.val < n →
    w (ix5 h i half 0 l) = scale (xrow X ⟨32 * i.val + l.val % 32, by omega⟩
      ⟨8 * h.val + (l.val / 32 + 4 * half.val), by omega⟩) * Ideal.ofBits .f32 0x3E0293EE#32

theorem aqStore_inv (X : S1x128x4096.Idx → EReal) (qs : FVec Ideal S128x128 .f32) (hqs : QsUpTo X 32 qs)
    (h i : Fin 4) (half : Fin 2) (u : Unit) (σ : Si) (n : Nat) (hn : n = 8 * h.val + 2 * i.val + half.val)
    (hI : AqUpTo X n (σ .aq)) : AqUpTo X (n + 1) (runS M (aqStore M qs h i half u) σ .aq) := by
  rw [aqStore_run]
  intro h' i' half' l hlt
  by_cases he : 8 * h'.val + 2 * i'.val + half'.val < n
  · refine Eq.trans ?_ (hI h' i' half' l he)
    by_cases c1 : h'.val = h.val
    · by_cases c2 : i'.val = i.val
      · exact overlay_out _ _ _ _ _ _ 2 (by change half'.val < half.val ∨ half.val + 1 ≤ half'.val; omega)
      · exact overlay_out _ _ _ _ _ _ 1 (by change i'.val < i.val ∨ i.val + 1 ≤ i'.val; omega)
    · exact overlay_out _ _ _ _ _ _ 0 (by change h'.val < h.val ∨ h.val + 1 ≤ h'.val; omega)
  · have e1 : h' = h := Fin.ext (by omega)
    have e2 : i' = i := Fin.ext (by omega)
    have e3 : half' = half := Fin.ext (by omega)
    subst e1 e2 e3
    refine (overlay_in _ _ _ _ _ _ (ix5 0 0 0 0 l) fun a => ?_).trans ?_
    · match a with
      | ⟨0, _⟩ => rfl
      | ⟨1, _⟩ => rfl
      | ⟨2, _⟩ => rfl
      | ⟨3, _⟩ => rfl
      | ⟨4, _⟩ => exact (Nat.zero_add _).symm
    · rw [aqW_read]
      exact congrArg (· * _) (hqs _ ⟨8 * h'.val + (l.val / 32 + 4 * half'.val), by omega⟩ (by change 8 * h'.val + (l.val / 32 + 4 * half'.val) < 32; omega))

/-- The repetition that places the queries' scales. -/
def aqsCmd (qs : FVec Ideal S128x128 .f32) : Kc Ideal M Unit := Cmd.each 4 (fun h _ => aqCmd M qs h) ()

theorem aqs_run (X : S1x128x4096.Idx → EReal) (qs : FVec Ideal S128x128 .f32) (hqs : QsUpTo X 32 qs) (σ : Si) :
    AqUpTo X 32 (runS M (aqsCmd M qs) σ .aq) := by
  refine each_keeps M (fun (h : Fin 4) (_ : Unit) => aqCmd (F := Ideal) M qs h) (fun j σ' _ => AqUpTo X (8 * j) (σ' .aq))
    (fun h σ1 _ h1 => ?_) σ () (fun _ _ _ _ hlt => absurd hlt (Nat.not_lt_zero _))
  rw [aqCmd_eq]
  refine (each_keeps M (fun (i : Fin 4) (_ : Unit) => Cmd.each 2 (aqStore M qs h i) ())
    (fun j σ' _ => AqUpTo X (8 * h.val + 2 * j) (σ' .aq)) (fun i σ2 _ h2 => ?_) σ1 () h1)
  refine (each_keeps M (aqStore M qs h i)
    (fun j σ' _ => AqUpTo X (8 * h.val + 2 * i.val + j) (σ' .aq)) (fun half σ3 _ h3 => ?_) σ2 () h2)
  exact aqStore_inv M X qs hqs h i half _ σ3 _ rfl h3

/-! ## The keys and values -/

theorem kOff_eq (i : grid0.Coords) (h : Fin 4) : kOff i h = ![h.val, 128 * (i 1).val, 0] := by
  match h with
  | 0 => exact Gen.k0_off1_eq i
  | 1 => exact Gen.k0_off3_eq i
  | 2 => exact Gen.k0_off5_eq i
  | 3 => exact Gen.k0_off7_eq i

theorem vOff_eq (i : grid0.Coords) (h : Fin 4) : vOff i h = ![h.val, (i 1).val, 0, 0] := by
  match h with
  | 0 => exact Gen.k0_off2_eq i
  | 1 => exact Gen.k0_off4_eq i
  | 2 => exact Gen.k0_off6_eq i
  | 3 => exact Gen.k0_off8_eq i

theorem coord1_lt (i : grid0.Coords) : (i 1).val < 64 := (i 1).isLt

/-- A cache's rows: those of the blocks before `n`, and of block `n` those of the heads before `j`. -/
def Rows (n j : Nat) (f : Fin 4 → Fin 8192 → Fin 128 → EReal) (w : S4x8192x128.Idx → EReal) : Prop :=
  ∀ (h : Fin 4) (p : Fin 8192) (d : Fin 128), p.val < 128 * n ∨ (p.val < 128 * (n + 1) ∧ h.val < j) →
    w (ix3 h p d) = f h p d

/-- The values' cache likewise. -/
def Tiles (n j : Nat) (f : Fin 4 → Fin 64 → Fin 128 → Fin 128 → EReal) (w : S4x64x128x128.Idx → EReal) : Prop :=
  ∀ (h : Fin 4) (p : Fin 64) (d r : Fin 128), p.val < n ∨ (p.val < n + 1 ∧ h.val < j) →
    w (ix4 h p d r) = f h p d r

theorem Rows.next {n : Nat} {f : Fin 4 → Fin 8192 → Fin 128 → EReal} {w : S4x8192x128.Idx → EReal} (h : Rows n 4 f w) :
    Rows (n + 1) 0 f w := fun a p d hp => h a p d (.inr ⟨by omega, a.isLt⟩)

theorem Tiles.next {n : Nat} {f : Fin 4 → Fin 64 → Fin 128 → Fin 128 → EReal} {w : S4x64x128x128.Idx → EReal}
    (h : Tiles n 4 f w) : Tiles (n + 1) 0 f w := fun a p d r hp => h a p d r (.inr ⟨by omega, a.isLt⟩)

def kRect (i : grid0.Coords) (h : Fin 4) : Rect S4x8192x128 :=
  Rect.unit (s := S4x8192x128) (kOff i h) S1x128x128.size (kOff_inb i h)
def vRect (i : grid0.Coords) (h : Fin 4) : Rect S4x64x128x128 :=
  Rect.unit (s := S4x64x128x128) (vOff i h) S1x1x128x128.size (vOff_inb i h)
def hRect (h : Fin 4) : Rect S1x128x512 :=
  Rect.unit (s := S1x128x512) ![0, 0, h.val * 128] S1x128x128.size (inb_kvhead h)

theorem Rows.step (i : grid0.Coords) (h : Fin 4) (f : Fin 4 → Fin 8192 → Fin 128 → EReal) (w : S4x8192x128.Idx → EReal)
    (u : S1x128x128.Idx → EReal)
    (hu : ∀ r d : Fin 128, u (ix3 0 r d) = f h ⟨128 * (i 1).val + r.val, by have := coord1_lt i; omega⟩ d)
    (hw : Rows (i 1).val h.val f w) : Rows (i 1).val (h.val + 1) f ((kRect i h).overlay w u) := by
  have o0 : kOff i h 0 = h.val := congrFun (kOff_eq i h) 0
  have o1 : kOff i h 1 = 128 * (i 1).val := congrFun (kOff_eq i h) 1
  have o2 : kOff i h 2 = 0 := congrFun (kOff_eq i h) 2
  intro h' p d hp
  by_cases hin : p.val < 128 * (i 1).val ∨ h'.val ≠ h.val
  · refine Eq.trans ?_ (hw h' p d ?_)
    · by_cases c : h'.val = h.val
      · exact overlay_out _ _ _ _ _ _ 1 (by change p.val < kOff i h 1 ∨ kOff i h 1 + 128 ≤ p.val; omega)
      · exact overlay_out _ _ _ _ _ _ 0 (by change h'.val < kOff i h 0 ∨ kOff i h 0 + 1 ≤ h'.val; omega)
    · omega
  · have e1 : h' = h := Fin.ext (by omega)
    subst e1
    have hr : p.val - 128 * (i 1).val < 128 := by omega
    refine (overlay_in _ _ _ _ _ _ (ix3 0 ⟨p.val - 128 * (i 1).val, hr⟩ d) fun a => ?_).trans ?_
    · match a with
      | ⟨0, _⟩ => change h'.val = kOff i h' 0 + 0; omega
      | ⟨1, _⟩ => change p.val = kOff i h' 1 + (p.val - 128 * (i 1).val); omega
      | ⟨2, _⟩ => change d.val = kOff i h' 2 + d.val; omega
    · rw [hu]
      exact congrArg (f h' · d) (Fin.ext (by change 128 * (i 1).val + (p.val - 128 * (i 1).val) = p.val; omega))

theorem Tiles.step (i : grid0.Coords) (h : Fin 4) (f : Fin 4 → Fin 64 → Fin 128 → Fin 128 → EReal)
    (w : S4x64x128x128.Idx → EReal) (u : S1x1x128x128.Idx → EReal)
    (hu : ∀ d r : Fin 128, u (ix4 0 0 d r) = f h ⟨(i 1).val, coord1_lt i⟩ d r)
    (hw : Tiles (i 1).val h.val f w) : Tiles (i 1).val (h.val + 1) f ((vRect i h).overlay w u) := by
  have o0 : vOff i h 0 = h.val := congrFun (vOff_eq i h) 0
  have o1 : vOff i h 1 = (i 1).val := congrFun (vOff_eq i h) 1
  have o2 : vOff i h 2 = 0 := congrFun (vOff_eq i h) 2
  have o3 : vOff i h 3 = 0 := congrFun (vOff_eq i h) 3
  intro h' p d r hp
  by_cases hin : p.val < (i 1).val ∨ h'.val ≠ h.val
  · refine Eq.trans ?_ (hw h' p d r ?_)
    · by_cases c : h'.val = h.val
      · exact overlay_out _ _ _ _ _ _ 1 (by change p.val < vOff i h 1 ∨ vOff i h 1 + 1 ≤ p.val; omega)
      · exact overlay_out _ _ _ _ _ _ 0 (by change h'.val < vOff i h 0 ∨ vOff i h 0 + 1 ≤ h'.val; omega)
    · omega
  · have e1 : h' = h := Fin.ext (by omega)
    have e2 : p = ⟨(i 1).val, coord1_lt i⟩ := Fin.ext (by change p.val = (i 1).val; omega)
    subst e1
    refine (overlay_in _ _ _ _ _ _ (ix4 0 0 d r) fun a => ?_).trans ?_
    · match a with
      | ⟨0, _⟩ => change h'.val = vOff i h' 0 + 0; omega
      | ⟨1, _⟩ => change p.val = vOff i h' 1 + 0; omega
      | ⟨2, _⟩ => change d.val = vOff i h' 2 + d.val; omega
      | ⟨3, _⟩ => change r.val = vOff i h' 3 + r.val; omega
    · rw [hu, e2]

/-- A KV head's tiles, as loaded. -/
def kTile (σ : Si) (h : Fin 4) : Vec Ideal S1x128x128 .bf16 := fun i => σ .k ((hRect h).toLoadRect.idx i)
def vTile (σ : Si) (h : Fin 4) : Vec Ideal S1x128x128 .bf16 := fun i => σ .v ((hRect h).toLoadRect.idx i)
def vsRow (σ : Si) (h : Fin 4) : Vec Ideal S1x1x128 .f32 := fun i =>
  σ .vs ((Rect.unit (s := S1x1x512) ![0, 0, h.val * 128] S1x1x128.size (inb_vs h)).toLoadRect.idx i)

theorem kTile_read (σ : Si) (h : Fin 4) (r d : Fin 128) : xtile (kTile σ h) (ix2 r d) = yrow (σ .k) r h d := by
  rw [xtile_read]
  unfold kTile yrow
  refine congrArg (σ .k) (idx_unit _ _ _ _ _ fun a => ?_)
  match a with
  | ⟨0, _⟩ => rfl
  | ⟨1, _⟩ => exact (Nat.zero_add _).symm
  | ⟨2, _⟩ => rfl

theorem vTile_read (σ : Si) (h : Fin 4) (r d : Fin 128) : vTile σ h (ix3 0 r d) = yrow (σ .v) r h d := by
  unfold vTile yrow
  refine congrArg (σ .v) (idx_unit _ _ _ _ _ fun a => ?_)
  match a with
  | ⟨0, _⟩ => rfl
  | ⟨1, _⟩ => exact (Nat.zero_add _).symm
  | ⟨2, _⟩ => rfl

/-- A KV head's scales of the values. -/
def vsOf (vs : S1x1x512.Idx → EReal) (h : Fin 4) (d : Fin 128) : EReal := vs (ix3 0 0 ⟨h.val * 128 + d.val, by omega⟩)

theorem vsRow_read (σ : Si) (h : Fin 4) (d : Fin 128) : vsRow σ h (ix3 0 0 d) = vsOf (σ .vs) h d := by
  unfold vsRow vsOf
  refine congrArg (σ .vs) (idx_unit _ _ _ _ _ fun a => ?_)
  match a with
  | ⟨0, _⟩ => rfl
  | ⟨1, _⟩ => rfl
  | ⟨2, _⟩ => rfl

/-- The keys' scales spread over rows, as stored. -/
def ksbW (t : Vec Ideal S1x128x128 .bf16) : S1x128x128.Idx → EReal :=
  (shapeCast S1x128x128 (rowBcast (qscale (xtile t))) shapeCasts_S128x128_S1x128x128 : FVec Ideal S1x128x128 .f32)

theorem ksbW_read (t : Vec Ideal S1x128x128 .bf16) (r d : Fin 128) : ksbW t (ix3 0 r d) = qscale (xtile t) (ix2 r 0) := by
  unfold ksbW rowBcast
  pointwise

def vcW (vs : Vec Ideal S1x1x128 .f32) (v : Vec Ideal S1x128x128 .bf16) : S1x128x128.Idx → EReal :=
  (shapeCast S1x128x128 (truncf .fp8e4m3 (vquant vs v) bitsLt_fp8e4m3_f32) shapeCasts_S128x128_S1x128x128 :
    FVec Ideal S1x128x128 .fp8e4m3)

/-- The values' codes turned, as stored. -/
def vtcW (vs : Vec Ideal S1x1x128 .f32) (v : Vec Ideal S1x128x128 .bf16) : S1x1x128x128.Idx → EReal :=
  (shapeCast S1x1x128x128 (vtcodes (vquant vs v)) shapeCasts_S128x128_S1x1x128x128 : FVec Ideal S1x1x128x128 .fp8e4m3)

theorem vtcW_read (vs : Vec Ideal S1x1x128 .f32) (v : Vec Ideal S1x128x128 .bf16) (d r : Fin 128) :
    vtcW vs v (ix4 0 0 d r) = clip (v (ix3 0 r d) * Ideal.div 1 (vs (ix3 0 0 d))) := by
  have e : vtcW vs v (ix4 0 0 d r) = vtcodes (vquant vs v) (ix2 d r) := by
    unfold vtcW
    pointwise
  rw [e, vtcodes_read, vquant_read]

/-- After the keys' part. -/
def kv3 (i : grid0.Coords) (h : Fin 4) (σ : Si) : Si :=
  upd M (upd M (upd M σ .kc (hRect h) (tileCodes (kTile σ h))) .ksc (kRect i h) (tileCodes (kTile σ h)))
    .ksb (kRect i h) (ksbW (kTile σ h))

theorem kvCmd_run (i : grid0.Coords) (h : Fin 4) (ks : FVec Ideal S128x128 .f32) (σ : Si) :
    runS M (kvCmd M i h ks) σ =
      upd M (upd M (kv3 M i h σ) .vc (hRect h) (vcW (vsRow (kv3 M i h σ) h) (vTile (kv3 M i h σ) h)))
        .vtc (vRect i h) (vtcW (vsRow (kv3 M i h σ) h) (vTile (kv3 M i h σ) h)) := rfl

theorem kvCmd_val (i : grid0.Coords) (h : Fin 4) (ks : FVec Ideal S128x128 .f32) (σ : Si) :
    runV M (kvCmd M i h ks) σ = putLane (BitVec.ofNat 32 h.val) (qscale (xtile (kTile σ h))) ks := rfl

theorem kv3_v (i : grid0.Coords) (h : Fin 4) (σ : Si) : kv3 M i h σ .v = σ .v := rfl
theorem kv3_vs (i : grid0.Coords) (h : Fin 4) (σ : Si) : kv3 M i h σ .vs = σ .vs := rfl
theorem kv3_vtc (i : grid0.Coords) (h : Fin 4) (σ : Si) : kv3 M i h σ .vtc = σ .vtc := rfl

theorem kv_ksc (i : grid0.Coords) (h : Fin 4) (ks : FVec Ideal S128x128 .f32) (σ : Si) :
    (runS M (kvCmd M i h ks) σ .ksc : S4x8192x128.Idx → EReal) =
      (kRect i h).overlay (σ .ksc : S4x8192x128.Idx → EReal) (tileCodes (kTile σ h)) := by
  refine (congrFun (kvCmd_run M i h ks σ) .ksc).trans ?_
  refine (upd_ne M _ _ _ _ _ (by decide)).trans ?_
  refine (upd_ne M _ _ _ _ _ (by decide)).trans ?_
  refine (upd_ne M _ _ _ _ _ (by decide)).trans ?_
  exact upd_self M _ .ksc (kRect i h) (tileCodes (kTile σ h))

theorem kv_ksb (i : grid0.Coords) (h : Fin 4) (ks : FVec Ideal S128x128 .f32) (σ : Si) :
    (runS M (kvCmd M i h ks) σ .ksb : S4x8192x128.Idx → EReal) =
      (kRect i h).overlay (σ .ksb : S4x8192x128.Idx → EReal) (ksbW (kTile σ h)) := by
  refine (congrFun (kvCmd_run M i h ks σ) .ksb).trans ?_
  refine (upd_ne M _ _ _ _ _ (by decide)).trans ?_
  refine (upd_ne M _ _ _ _ _ (by decide)).trans ?_
  exact upd_self M _ .ksb (kRect i h) (ksbW (kTile σ h))

theorem kv_vtc (i : grid0.Coords) (h : Fin 4) (ks : FVec Ideal S128x128 .f32) (σ : Si) :
    (runS M (kvCmd M i h ks) σ .vtc : S4x64x128x128.Idx → EReal) =
      (vRect i h).overlay (σ .vtc : S4x64x128x128.Idx → EReal)
        (vtcW (vsRow (kv3 M i h σ) h) (vTile (kv3 M i h σ) h)) := by
  refine (congrFun (kvCmd_run M i h ks σ) .vtc).trans ?_
  exact upd_self M _ .vtc (vRect i h) _

/-- Lanes below `n` hold the scales of the keys' rows. -/
def KsUpTo (X : S1x128x512.Idx → EReal) (n : Nat) (ks : FVec Ideal S128x128 .f32) : Prop :=
  ∀ (r : Fin 128) (l : Fin 4), l.val < n → ks (ix2 r ⟨l.val, by omega⟩) = scale (yrow X r l)

/-- What the caches hold of the keys and the values. -/
def kcode (kf : Fin 4 → Fin 8192 → Fin 128 → EReal) : Fin 4 → Fin 8192 → Fin 128 → EReal := fun h p d => code (kf h p) d
def kscale (kf : Fin 4 → Fin 8192 → Fin 128 → EReal) : Fin 4 → Fin 8192 → Fin 128 → EReal := fun h p _ => scale (kf h p)
def vcode (vf : Fin 4 → Fin 8192 → Fin 128 → EReal) (vs : Fin 4 → Fin 128 → EReal) :
    Fin 4 → Fin 64 → Fin 128 → Fin 128 → EReal := fun h p d r =>
  clip (vf h ⟨128 * p.val + r.val, by omega⟩ d * Ideal.div 1 (vs h d))

/-- The caches hold the blocks before the `n`th. -/
structure Caches (kf vf : Fin 4 → Fin 8192 → Fin 128 → EReal) (vs : Fin 4 → Fin 128 → EReal) (n j : Nat) (σ : Si) : Prop where
  ksc : Rows n j (kcode kf) (σ .ksc)
  ksb : Rows n j (kscale kf) (σ .ksb)
  vtc : Tiles n j (vcode vf vs) (σ .vtc)

/-- The point's blocks are those of the whole arrays. -/
structure Blocks (kf vf : Fin 4 → Fin 8192 → Fin 128 → EReal) (vs : Fin 4 → Fin 128 → EReal) (i : grid0.Coords) (σ : Si) :
    Prop where
  k : ∀ r h, yrow (σ .k) r h = kf h ⟨128 * (i 1).val + r.val, by have := coord1_lt i; omega⟩
  v : ∀ r h, yrow (σ .v) r h = vf h ⟨128 * (i 1).val + r.val, by have := coord1_lt i; omega⟩
  vs : ∀ h d, vsOf (σ .vs) h d = vs h d

def kvsCmd (i : grid0.Coords) : Kc Ideal M (FVec Ideal S128x128 .f32) :=
  Cmd.each 4 (kvCmd M i) (broadcast S128x128 (Scalar.ofBits .f32 0x00000000#32))

theorem kvs_run (i : grid0.Coords) (kf vf : Fin 4 → Fin 8192 → Fin 128 → EReal) (vs : Fin 4 → Fin 128 → EReal) (σ : Si)
    (hb : Blocks kf vf vs i σ) (hk : ∀ r h, Finite (yrow (σ .k) r h)) (hc : Caches kf vf vs (i 1).val 0 σ) :
    Caches kf vf vs (i 1).val 4 (runS M (kvsCmd M i) σ) ∧ KsUpTo (σ .k) 4 (runV M (kvsCmd M i) σ) := by
  have := each_keeps M (kvCmd (F := Ideal) M i)
    (fun j σ' ks => (σ' .k = σ .k ∧ σ' .v = σ .v ∧ σ' .vs = σ .vs) ∧ Caches kf vf vs (i 1).val j σ' ∧ KsUpTo (σ .k) j ks)
    (fun j σ' ks hI => ?_) σ (broadcast S128x128 (Scalar.ofBits .f32 0x00000000#32))
    ⟨⟨rfl, rfl, rfl⟩, hc, fun _ _ h => absurd h (Nat.not_lt_zero _)⟩
  · exact this.2
  · obtain ⟨⟨ek, ev, evs⟩, hc, hs⟩ := hI
    have keep : ∀ k, ¬ (k = .kc ∨ k = .ksc ∨ k = .ksb ∨ k = .vc ∨ k = .vtc) → runS M (kvCmd M i j ks) σ' k = σ' k := fun k hk =>
      runS_only M (fun k => k = .kc ∨ k = .ksc ∨ k = .ksb ∨ k = .vc ∨ k = .vtc) _
        (kv_only M i _ (.inl rfl) (.inr (.inl rfl)) (.inr (.inr (.inl rfl))) (.inr (.inr (.inr (.inl rfl))))
          (.inr (.inr (.inr (.inr rfl)))) j ks) σ' k hk
    have e : ∀ r, (fun d => xtile (kTile σ' j) (ix2 r d)) = yrow (σ .k) r j :=
      fun r => funext fun d => (kTile_read σ' j _ d).trans (by rw [ek])
    refine ⟨⟨(keep .k (by decide)).trans ek, (keep .v (by decide)).trans ev, (keep .vs (by decide)).trans evs⟩, ⟨?_, ?_, ?_⟩, ?_⟩
    · rw [kv_ksc]
      refine Rows.step i j _ _ _ (fun r d => ?_) hc.ksc
      rw [tileCodes_read, qcodes_read _ _ _ (by rw [e]; exact hk _ _), e, hb.k]
      rfl
    · rw [kv_ksb]
      refine Rows.step i j _ _ _ (fun r d => ?_) hc.ksb
      rw [ksbW_read, qscale_read _ _ (by rw [e]; exact hk _ _), e, hb.k]
      rfl
    · rw [kv_vtc]
      refine Tiles.step i j _ _ _ (fun d r => ?_) hc.vtc
      rw [vtcW_read, vTile_read, vsRow_read, kv3_v, kv3_vs, ev, evs, hb.v, hb.vs]
      rfl
    · intro r l hl
      rw [kvCmd_val, putLane_read]
      by_cases h : l = j
      · subst h
        rw [if_pos rfl, qscale_read _ _ (by rw [e]; exact hk r l), e]
      · have h' : l.val ≠ j.val := fun e => h (Fin.ext e)
        rw [if_neg fun h => h' ((ofNat_inj _ _ (by omega) (by omega)).1 h)]
        exact hs r l (by omega)

/-! ## The whole -/

def q1 (σ : Si) : Si := runS M (headsCmd M) σ
def q2 (σ : Si) : Si := runS M (qsCmd M (runV M (headsCmd M) σ)) (q1 M σ)
def q3 (σ : Si) : Si := runS M (aqsCmd M (runV M (headsCmd M) σ)) (q2 M σ)
def q4 (i : grid0.Coords) (σ : Si) : Si := runS M (kvsCmd M i) (q3 M σ)

theorem quantCmd_run (i : grid0.Coords) (σ : Si) :
    runS M (quantCmd M i) σ = runS M (ksCmd M (runV M (kvsCmd M i) (q3 M σ))) (q4 M i σ) := rfl

theorem q1_keep (σ : Si) (k : Bf) (hk : k ≠ .qc ∧ k ≠ .qsc) : q1 M σ k = σ k :=
  runS_only M (fun k => k = .qc ∨ k = .qsc) _ (Cmd.each_only _ _ (by exact head_only M _ (.inl rfl) (.inr rfl)) _) σ k
    (by rintro (h | h); exacts [hk.1 h, hk.2 h])
theorem q2_keep (σ : Si) (k : Bf) (hk : k ≠ .qs) : q2 M σ k = q1 M σ k :=
  runS_only M (fun k => k = .qs) _ (qs_only M (fun k => k = .qs) rfl _) _ k hk
theorem q3_keep (σ : Si) (k : Bf) (hk : k ≠ .aq) : q3 M σ k = q2 M σ k :=
  runS_only M (fun k => k = .aq) _ (Cmd.each_only _ _ (by exact fun h _ => aq_only M (fun k => k = .aq) rfl _ h) _) _ k hk
theorem q4_keep (i : grid0.Coords) (σ : Si) (k : Bf) (hk : ¬ (k = .kc ∨ k = .ksc ∨ k = .ksb ∨ k = .vc ∨ k = .vtc)) :
    q4 M i σ k = q3 M σ k :=
  runS_only M (fun k => k = .kc ∨ k = .ksc ∨ k = .ksb ∨ k = .vc ∨ k = .vtc) _ (Cmd.each_only _ _
    (by exact kv_only M i _ (.inl rfl) (.inr (.inl rfl)) (.inr (.inr (.inl rfl))) (.inr (.inr (.inr (.inl rfl))))
          (.inr (.inr (.inr (.inr rfl))))) _) _ k hk
theorem q5_keep (i : grid0.Coords) (σ : Si) (k : Bf) (hk : k ≠ .ks) : runS M (quantCmd M i) σ k = q4 M i σ k := by
  rw [quantCmd_run]
  exact runS_only M (fun k => k = .ks) _ (ks_only M (fun k => k = .ks) rfl _) _ k hk

theorem q3_in (σ : Si) (k : Bf) (hk : k ≠ .qc ∧ k ≠ .qsc ∧ k ≠ .qs ∧ k ≠ .aq) : q3 M σ k = σ k :=
  (q3_keep M σ k hk.2.2.2).trans ((q2_keep M σ k hk.2.2.1).trans (q1_keep M σ k ⟨hk.1, hk.2.1⟩))

/-- What quantising a block leaves. -/
structure Quantised (kf vf : Fin 4 → Fin 8192 → Fin 128 → EReal) (vs : Fin 4 → Fin 128 → EReal) (i : grid0.Coords)
    (X : S1x128x4096.Idx → EReal) (K : S1x128x512.Idx → EReal) (σ : Si) : Prop where
  qs : ∀ (r : Fin 128) (l : Fin 32), (σ .qs : S1x128x32.Idx → EReal) (ix3 0 r l) = scale (xrow X r l)
  ks : ∀ (r : Fin 128) (l : Fin 4), (σ .ks : S1x128x4.Idx → EReal) (ix3 0 r l) = scale (yrow K r l)
  qsc : QscUpTo X 32 (σ .qsc)
  aq : AqUpTo X 32 (σ .aq)
  caches : Caches kf vf vs ((i 1).val + 1) 0 σ

theorem quant_run (i : grid0.Coords) (kf vf : Fin 4 → Fin 8192 → Fin 128 → EReal) (vs : Fin 4 → Fin 128 → EReal) (σ : Si)
    (hb : Blocks kf vf vs i σ) (hx : ∀ r l, Finite (xrow (σ .x) r l)) (hk : ∀ r h, Finite (yrow (σ .k) r h))
    (hc : Caches kf vf vs (i 1).val 0 σ) : Quantised kf vf vs i (σ .x) (σ .k) (runS M (quantCmd M i) σ) := by
  obtain ⟨h1, h2⟩ := heads_run M σ hx
  have ek : q3 M σ .k = σ .k := q3_in M σ .k (by decide)
  have hb3 : Blocks kf vf vs i (q3 M σ) :=
    ⟨fun r h => by rw [ek]; exact hb.k r h,
      fun r h => by rw [show q3 M σ .v = σ .v from q3_in M σ .v (by decide)]; exact hb.v r h,
      fun h d => by rw [show q3 M σ .vs = σ .vs from q3_in M σ .vs (by decide)]; exact hb.vs h d⟩
  have hc3 : Caches kf vf vs (i 1).val 0 (q3 M σ) :=
    ⟨by rw [show q3 M σ .ksc = σ .ksc from q3_in M σ .ksc (by decide)]; exact hc.ksc,
      by rw [show q3 M σ .ksb = σ .ksb from q3_in M σ .ksb (by decide)]; exact hc.ksb,
      by rw [show q3 M σ .vtc = σ .vtc from q3_in M σ .vtc (by decide)]; exact hc.vtc⟩
  obtain ⟨h4, h5⟩ := kvs_run M i kf vf vs (q3 M σ) hb3 (fun r h => by rw [ek]; exact hk r h) hc3
  rw [ek] at h5
  refine ⟨fun r l => ?_, fun r l => ?_, ?_, ?_, ⟨?_, ?_, ?_⟩⟩
  · rw [q5_keep M i σ .qs (by decide), q4_keep M i σ .qs (by decide), q3_keep M σ .qs (by decide)]
    exact (qsCmd_run M _ _ r l).trans (h2 r l l.isLt)
  · rw [quantCmd_run]
    exact (ksCmd_run M _ _ r l).trans (h5 r l l.isLt)
  · rw [q5_keep M i σ .qsc (by decide), q4_keep M i σ .qsc (by decide), q3_keep M σ .qsc (by decide),
      q2_keep M σ .qsc (by decide)]
    exact h1
  · rw [q5_keep M i σ .aq (by decide), q4_keep M i σ .aq (by decide)]
    exact aqs_run M (σ .x) _ h2 _
  · rw [q5_keep M i σ .ksc (by decide)]
    exact h4.ksc.next
  · rw [q5_keep M i σ .ksb (by decide)]
    exact h4.ksb.next
  · rw [q5_keep M i σ .vtc (by decide)]
    exact h4.vtc.next

end Cert.KernelIdeal
-- ==== Proof.Point.lean ====
/-
  One run of the body: the scales it returns, and what the scratch buffers hold after it.
-/
module

public import proofs.«01_k».proof.Proof.Cache

@[expose] public section

set_option maxRecDepth 16384

noncomputable section

namespace Cert.KernelIdeal

open Idealize.ShloMosaic
open Facts₀ Facts Cert.Num Cert.Proof

variable (M : Mems)

/-! ## The values' scales, spread -/

def vsbW (vs : Vec Ideal S1x1x128 .f32) : S1x128x128.Idx → EReal :=
  (shapeCast S1x128x128 (vsTile vs) shapeCasts_S128x128_S1x128x128 : FVec Ideal S1x128x128 .f32)

theorem vsbW_read (vs : Vec Ideal S1x1x128 .f32) (d r : Fin 128) : vsbW vs (ix3 0 d r) = vs (ix3 0 0 d) := by
  have e : vsbW vs (ix3 0 d r) = vsTile vs (ix2 d r) := by
    unfold vsbW
    pointwise
  rw [e, vsTile_read]

def vsbRect (h : Fin 4) : Rect S4x128x128 := Rect.unit (s := S4x128x128) ![h.val, 0, 0] S1x128x128.size (inb_vsb h)

/-- One head's store. -/
def vsbStore (h : Fin 4) (_ : Unit) : Kc Ideal M Unit :=
    .ld (B := bank M) .vs (Rect.unit (s := S1x1x512) ![0, 0, h.val * 128] S1x1x128.size (inb_vs h)).toLoadRect
      (View.loadsAt_vmem h_S1x1x128) fun (vs : Vec Ideal S1x1x128 .f32) =>
    .ld (B := bank M) .vsb (Rect.unit (s := S4x128x128) ![h.val, 0, 0] S1x128x128.size (inb_vsb h)).toLoadRect
      (View.loadsAt_vmem h_S1x128x128) fun _ =>
    .st (B := bank M) .vsb (Rect.unit (s := S4x128x128) ![h.val, 0, 0] S1x128x128.size (inb_vsb h))
      (shapeCast S1x128x128 (vsTile vs) shapeCasts_S128x128_S1x128x128)
      (View.stores_vmem_bits_univ h_S1x128x128 rfl) <|
    .ret ()

theorem vsbStore_put (h : Fin 4) (u : Unit) (σ : Si) :
    runS M (vsbStore M h u) σ = upd M σ .vsb (vsbRect h) (vsbW (vsRow σ h)) := rfl

theorem vsbStore_run (h : Fin 4) (u : Unit) (σ : Si) :
    (runS M (vsbStore M h u) σ .vsb : S4x128x128.Idx → EReal) =
      (vsbRect h).overlay (σ .vsb : S4x128x128.Idx → EReal) (vsbW (vsRow σ h)) :=
  (congrFun (vsbStore_put M h u σ) .vsb).trans (upd_self M σ .vsb (vsbRect h) (vsbW (vsRow σ h)))

/-- The spread scales are in. -/
def Spread (vs : Fin 4 → Fin 128 → EReal) (n : Nat) (w : S4x128x128.Idx → EReal) : Prop :=
  ∀ (h : Fin 4) (d r : Fin 128), h.val < n → w (ix3 h d r) = vs h d

theorem vsb_run (vs : Fin 4 → Fin 128 → EReal) (σ : Si) (hv : ∀ h d, vsOf (σ .vs) h d = vs h d) :
    Spread vs 4 (runS M (vsbCmd M) σ .vsb) := by
  have := each_keeps M (vsbStore M) (fun j σ' _ => σ' .vs = σ .vs ∧ Spread vs j (σ' .vsb)) (fun j σ' _ hI => ?_) σ ()
    ⟨rfl, fun _ _ _ h => absurd h (Nat.not_lt_zero _)⟩
  · exact this.2
  · constructor
    · rw [vsbStore_put]
      exact (upd_ne M σ' .vsb _ _ .vs (by decide)).trans hI.1
    · rw [vsbStore_run]
      intro h d r hl
      by_cases hh : h = j
      · subst hh
        refine (overlay_in _ _ _ _ _ _ (ix3 0 d r) fun a => ?_).trans ?_
        · match a with
          | ⟨0, _⟩ => rfl
          | ⟨1, _⟩ => exact (Nat.zero_add _).symm
          | ⟨2, _⟩ => exact (Nat.zero_add _).symm
        · rw [vsbW_read, vsRow_read, hI.1, hv]
      · have : h.val ≠ j.val := fun e => hh (Fin.ext e)
        refine Eq.trans ?_ (hI.2 h d r (by omega))
        exact overlay_out _ _ _ _ _ _ 0 (by change h.val < j.val ∨ j.val + 1 ≤ h.val; omega)

/-! ## Before attention -/

theorem first_cond : ∀ T : Fin 64,
    (Scalar.cmpi .ne (Scalar.extui (Scalar.cmpi .eq (BitVec.ofNat 32 T.val) 0#32) : BitVec 32) 0#32 = 1#1) ↔ T.val = 0 := by
  decide +kernel

/-- The contents as attention finds them. -/
def pre (i : grid0.Coords) (σ : Si) : Si :=
  if (i 1).val = 0 then runS M (vsbCmd M) (runS M (quantCmd M i) σ) else runS M (quantCmd M i) σ

theorem body_run (i : grid0.Coords) (σ : Si) : runS M (bodyCmd M i) σ = runS M (attnPart M i) (pre M i σ) := by
  have hc := first_cond ⟨(i 1).val, coord1_lt i⟩
  unfold pre
  by_cases h : (i 1).val = 0
  · rw [if_pos h]
    unfold runS bodyCmd
    exact congrArg Prod.fst (dif_pos (hc.2 h))
  · rw [if_neg h]
    unfold runS bodyCmd
    exact congrArg Prod.fst (dif_neg (fun e => h (hc.1 e)))

/-- What attention finds. -/
structure Ready (kf vf : Fin 4 → Fin 8192 → Fin 128 → EReal) (vs : Fin 4 → Fin 128 → EReal) (i : grid0.Coords)
    (X : S1x128x4096.Idx → EReal) (K : S1x128x512.Idx → EReal) (σ : Si) : Prop extends Quantised kf vf vs i X K σ where
  vsb : Spread vs 4 (σ .vsb)

theorem pre_ready (i : grid0.Coords) (kf vf : Fin 4 → Fin 8192 → Fin 128 → EReal) (vs : Fin 4 → Fin 128 → EReal) (σ : Si)
    (hb : Blocks kf vf vs i σ) (hx : ∀ r l, Finite (xrow (σ .x) r l)) (hk : ∀ r h, Finite (yrow (σ .k) r h))
    (hc : Caches kf vf vs (i 1).val 0 σ) (hv : (i 1).val ≠ 0 → Spread vs 4 (σ .vsb)) :
    Ready kf vf vs i (σ .x) (σ .k) (pre M i σ) := by
  have hq := quant_run M i kf vf vs σ hb hx hk hc
  have keep : ∀ k, ¬ (k = .ks) → k ≠ .kc ∧ k ≠ .ksc ∧ k ≠ .ksb ∧ k ≠ .vc ∧ k ≠ .vtc → k ≠ .qc ∧ k ≠ .qsc ∧ k ≠ .qs ∧ k ≠ .aq →
      runS M (quantCmd M i) σ k = σ k := fun k h1 h2 h3 =>
    (q5_keep M i σ k h1).trans ((q4_keep M i σ k (by
      rintro (h | h | h | h | h)
      exacts [h2.1 h, h2.2.1 h, h2.2.2.1 h, h2.2.2.2.1 h, h2.2.2.2.2 h])).trans (q3_in M σ k h3))
  unfold pre
  by_cases h : (i 1).val = 0
  · rw [if_pos h]
    have keep' : ∀ k, k ≠ .vsb → runS M (vsbCmd M) (runS M (quantCmd M i) σ) k = runS M (quantCmd M i) σ k := fun k hk =>
      runS_only M (fun k => k = .vsb) _ (vsb_only M (fun k => k = .vsb) rfl) _ k hk
    refine ⟨⟨?_, ?_, ?_, ?_, ⟨?_, ?_, ?_⟩⟩, vsb_run M vs _ fun h d => ?_⟩
    · rw [keep' .qs (by decide)]; exact hq.qs
    · rw [keep' .ks (by decide)]; exact hq.ks
    · rw [keep' .qsc (by decide)]; exact hq.qsc
    · rw [keep' .aq (by decide)]; exact hq.aq
    · rw [keep' .ksc (by decide)]; exact hq.caches.ksc
    · rw [keep' .ksb (by decide)]; exact hq.caches.ksb
    · rw [keep' .vtc (by decide)]; exact hq.caches.vtc
    · rw [keep .vs (by decide) (by decide) (by decide)]; exact hb.vs h d
  · rw [if_neg h]
    refine ⟨hq, ?_⟩
    rw [keep .vsb (by decide) (by decide) (by decide)]
    exact hv h

theorem attn_keep (i : grid0.Coords) (σ : Si) (k : Bf) (hk : ¬ (k = .sbuf ∨ k = .out)) : runS M (attnPart M i) σ k = σ k :=
  runS_only M (fun k => k = .sbuf ∨ k = .out) _ (attn_only M i _ (.inl rfl) (.inr rfl)) σ k hk

/-- After the body: the scales, the caches, the spread scales. -/
theorem body_ready (i : grid0.Coords) (kf vf : Fin 4 → Fin 8192 → Fin 128 → EReal) (vs : Fin 4 → Fin 128 → EReal) (σ : Si)
    (hb : Blocks kf vf vs i σ) (hx : ∀ r l, Finite (xrow (σ .x) r l)) (hk : ∀ r h, Finite (yrow (σ .k) r h))
    (hc : Caches kf vf vs (i 1).val 0 σ) (hv : (i 1).val ≠ 0 → Spread vs 4 (σ .vsb)) :
    Ready kf vf vs i (σ .x) (σ .k) (runS M (bodyCmd M i) σ) := by
  have h := pre_ready M i kf vf vs σ hb hx hk hc hv
  rw [body_run]
  refine ⟨⟨?_, ?_, ?_, ?_, ⟨?_, ?_, ?_⟩⟩, ?_⟩
  · rw [attn_keep M i _ .qs (by decide)]; exact h.qs
  · rw [attn_keep M i _ .ks (by decide)]; exact h.ks
  · rw [attn_keep M i _ .qsc (by decide)]; exact h.qsc
  · rw [attn_keep M i _ .aq (by decide)]; exact h.aq
  · rw [attn_keep M i _ .ksc (by decide)]; exact h.caches.ksc
  · rw [attn_keep M i _ .ksb (by decide)]; exact h.caches.ksb
  · rw [attn_keep M i _ .vtc (by decide)]; exact h.caches.vtc
  · rw [attn_keep M i _ .vsb (by decide)]; exact h.vsb

end Cert.KernelIdeal
-- ==== Proof.Ref.lean ====
/-
  The reference read at an index: its scales, its codes, and which keys a query sees.
-/
module

public import proofs.«01_k».proof.Proof.Gen.ReferenceIdeal.Read
public import proofs.«01_k».proof.Proof.Words

@[expose] public section

set_option maxRecDepth 16384

noncomputable section

namespace Cert.ReferenceIdeal

open Idealize.ShloMosaic
open Read Gen Facts Cert.Num

variable (x0 : (⟨S4x8192x4096, .bf16⟩ : BufTy).Contents (Elt Ideal)) (x1 : (⟨S4x8192x512, .bf16⟩ : BufTy).Contents (Elt Ideal))
  (x2 : (⟨S4x8192x512, .bf16⟩ : BufTy).Contents (Elt Ideal)) (x3 : (⟨S4x1x512, .f32⟩ : BufTy).Contents (Elt Ideal))

/-- A query head's row. -/
def qrow (b : Fin 4) (r : Fin 8192) (h : Fin 4) (g : Fin 8) : Fin 128 → EReal :=
  fun d => x0 (ix3 b r ⟨h.val * 1024 + g.val * 128 + d.val, by omega⟩)

/-- A key head's (or a value head's) row. -/
def krow (b : Fin 4) (r : Fin 8192) (h : Fin 4) : Fin 128 → EReal :=
  fun d => x1 (ix3 b r ⟨h.val * 128 + d.val, by omega⟩)

theorem pow_read (a : Fin 253) : Ideal.pow (Ideal.ofBits .f32 0x40000000#32)
    (Ideal.ofBits .f32 0xC2FC0000#32 + FloatOps.sitofp (F := Ideal) .f32 (BitVec.ofNat 32 a.val))
      = (((2 : ℝ) ^ ((a.val : ℤ) - 126) : ℝ) : EReal) := by
  rw [c2, cm126]
  have : FloatOps.sitofp (F := Ideal) .f32 (BitVec.ofNat 32 a.val) = ((a.val : ℝ) : EReal) := by
    change (((BitVec.ofNat 32 a.val).toInt : ℝ) : EReal) = _
    have : (BitVec.ofNat 32 a.val).toInt = (a.val : ℤ) := by
      rw [BitVec.toInt_eq_toNat_of_lt] <;> rw [BitVec.toNat_ofNat] <;> omega
    rw [this]; rfl
  rw [this, ← EReal.coe_add]
  change ((Real.rpow 2 _ : ℝ) : EReal) = _
  congr 1
  change (2 : ℝ) ^ (_ : ℝ) = _
  rw [← Real.rpow_intCast]
  congr 1
  push_cast
  ring

theorem v1_read (b : Fin 4) (r : Fin 8192) (h : Fin 4) (g : Fin 8) (d : Fin 128) :
    val_main_v1 (F := Ideal) x0 (ix5 b r h g d) = qrow x0 b r h g d := by
  unfold qrow
  pointwise [val_main_v1, val_main_v0]

theorem v3_read (b : Fin 4) (r : Fin 8192) (h : Fin 4) (g : Fin 8) :
    val_main_v3 (F := Ideal) x0 (ix4 b r h g) = rowMax (qrow x0 b r h g) := by
  have e : val_main_cst (F := Ideal) (Shape.Idx.first h_S_) = ⊥ := by rw [val_main_cst_apply]; exact cbot
  have e2 : ∀ d, val_main_v2 (F := Ideal) x0 (ix5 b r h g d) = max (qrow x0 b r h g d) (-(qrow x0 b r h g d)) := by
    intro d
    rw [val_main_v2_apply, v1_read]; rfl
  pointwise [val_main_v3]
  rw [e]
  simp only [e2]
  rfl

theorem v11_read (a : Fin 253) : val_main_v11 (F := Ideal) (ix1 a) = (((2 : ℝ) ^ ((a.val : ℤ) - 126) : ℝ) : EReal) := by
  rw [← pow_read a]
  pointwise [val_main_v11, val_main_v10, val_main_v9, val_main_v8, val_main_v7, val_main_cst_1, val_main_cst_2]

theorem v17_read (a : Fin 253) : val_main_v17 (F := Ideal) (ix1 a) = (((2 : ℝ) ^ ((a.val : ℤ) - 125) : ℝ) : EReal) := by
  have e : val_main_v16 (F := Ideal) (ix1 a) = ((2 : ℝ) : EReal) := by
    rw [← c2]
    pointwise [val_main_v16, val_main_cst_3]
  rw [val_main_v17_apply, v11_read, e]
  change (_ * _ : EReal) = _
  rw [← EReal.coe_mul]
  congr 1
  rw [← zpow_add_one₀ (by norm_num)]
  congr 1
  ring

theorem v18_read (b : Fin 4) (r : Fin 8192) (h : Fin 4) (g : Fin 8) (a : Fin 253) :
    val_main_v18 (F := Ideal) x0 (ix5 b r h g a) =
      if (((2 : ℝ) ^ ((a.val : ℤ) - 126) : ℝ) : EReal) ≤ bnd (qrow x0 b r h g) then (((2 : ℝ) ^ ((a.val : ℤ) - 125) : ℝ) : EReal) else 0 := by
  have e14 : val_main_v14 (F := Ideal) x0 (ix5 b r h g a) = bnd (qrow x0 b r h g) := by
    have e1 : val_main_v14 (F := Ideal) x0 (ix5 b r h g a) = val_main_v6 (F := Ideal) x0 (ix5 b r h g 0) := by
      pointwise [val_main_v14]
    have e2 : val_main_v4 (F := Ideal) x0 (ix5 b r h g 0) = val_main_v3 (F := Ideal) x0 (ix4 b r h g) := by
      pointwise [val_main_v4]
    have e3 : val_main_v5 (F := Ideal) (ix5 b r h g 0) = Ideal.ofBits .f32 0x3B124925#32 := by
      rw [val_main_v5_apply, val_main_cst_0_apply]; rfl
    rw [e1, val_main_v6_apply, e2, e3, v3_read]; rfl
  have e13 : val_main_v13 (F := Ideal) (ix5 b r h g a) = val_main_v11 (F := Ideal) (ix1 a) := by
    pointwise [val_main_v13, val_main_v12]
  have ec1 : val_main_call0_v1 (F := Ideal) (ix5 b r h g a) = val_main_v17 (F := Ideal) (ix1 a) := by
    pointwise [val_main_call0_v1, val_main_call0_v0]
  have ec2 : val_main_call0_v2 (F := Ideal) (ix5 b r h g a) = 0 := by
    rw [val_main_call0_v2_apply, val_main_call0_v0_apply, val_main_cst_4_apply]
    exact Ideal.ofBits_zero_f32
  rw [val_main_v18_apply, val_main_v15_apply, e14, e13, ec1, ec2, v11_read, v17_read]
  pointwise

theorem v23_read (b : Fin 4) (r : Fin 8192) (h : Fin 4) (g : Fin 8) :
    val_main_v23 x0 (ix5 b r h g 0) = scale (qrow x0 b r h g) := by
  have e19 : val_main_v19 (F := Ideal) x0 (ix4 b r h g) = topPow (bnd (qrow x0 b r h g)) := by
    have e0 : val_main_cst_5 (F := Ideal) (Shape.Idx.first h_S_) = ⊥ := by rw [val_main_cst_5_apply]; exact cbot
    pointwise [val_main_v19]
    rw [e0]
    simp only [v18_read]
    rfl
  have e : val_main_v20 x0 (ix5 b r h g 0) = val_main_v19 x0 (ix4 b r h g) := by
    pointwise [val_main_v20]
  have e1 : val_main_call1_v1 (F := Ideal) (ix5 b r h g 0) = 1 := by
    rw [val_main_call1_v1_apply, val_main_call1_v0_apply, val_main_cst_7_apply]
    pointwise
  have e2 : val_main_v21 (F := Ideal) (ix5 b r h g 0) = 0 := by
    rw [val_main_v21_apply, val_main_cst_6_apply]
    pointwise
  rw [val_main_v23_apply, val_main_v22_apply, e, e1, e2, e19]
  unfold scale
  pointwise

theorem v26_read (b : Fin 4) (r : Fin 8192) (h : Fin 4) (g : Fin 8) (d : Fin 128) :
    val_main_v26 x0 (ix5 b r h g d) = code (qrow x0 b r h g) d := by
  have e24 : val_main_v24 x0 (ix5 b r h g d) = scale (qrow x0 b r h g) := by
    rw [← v23_read]; pointwise [val_main_v24]
  have ea : val_main_call2_v4 (F := Ideal) (ix5 b r h g d) = ((448 : ℝ) : EReal) := by
    rw [val_main_call2_v4_apply, val_main_call2_v3_apply, val_main_cst_9_apply]; exact c448
  have eb : val_main_call2_v1 (F := Ideal) (ix5 b r h g d) = ((-448 : ℝ) : EReal) := by
    rw [val_main_call2_v1_apply, val_main_call2_v0_apply, val_main_cst_8_apply]; exact cm448
  rw [val_main_v26_apply, val_main_call2_v2_apply, val_main_v25_apply, ea, eb, e24, v1_read]
  rfl

theorem v28_read (b : Fin 4) (r : Fin 8192) (h : Fin 4) (d : Fin 128) :
    val_main_v28 (F := Ideal) x1 (ix4 b r h d) = krow x1 b r h d := by
  unfold krow
  pointwise [val_main_v28, val_main_v27]

theorem v30_read (b : Fin 4) (r : Fin 8192) (h : Fin 4) :
    val_main_v30 (F := Ideal) x1 (ix3 b r h) = rowMax (krow x1 b r h) := by
  have e : val_main_cst_10 (F := Ideal) (Shape.Idx.first h_S_) = ⊥ := by rw [val_main_cst_10_apply]; exact cbot
  have e2 : ∀ d, val_main_v29 (F := Ideal) x1 (ix4 b r h d) = max (krow x1 b r h d) (-(krow x1 b r h d)) := by
    intro d
    rw [val_main_v29_apply, v28_read]; rfl
  pointwise [val_main_v30]
  rw [e]
  simp only [e2]
  rfl

theorem v38_read (a : Fin 253) : val_main_v38 (F := Ideal) (ix1 a) = (((2 : ℝ) ^ ((a.val : ℤ) - 126) : ℝ) : EReal) := by
  rw [← pow_read a]
  pointwise [val_main_v38, val_main_v37, val_main_v36, val_main_v35, val_main_v34, val_main_cst_12, val_main_cst_13]

theorem v44_read (a : Fin 253) : val_main_v44 (F := Ideal) (ix1 a) = (((2 : ℝ) ^ ((a.val : ℤ) - 125) : ℝ) : EReal) := by
  have e : val_main_v43 (F := Ideal) (ix1 a) = ((2 : ℝ) : EReal) := by
    rw [← c2]
    pointwise [val_main_v43, val_main_cst_14]
  rw [val_main_v44_apply, v38_read, e]
  change (_ * _ : EReal) = _
  rw [← EReal.coe_mul]
  congr 1
  rw [← zpow_add_one₀ (by norm_num)]
  congr 1
  ring

theorem v45_read (b : Fin 4) (r : Fin 8192) (h : Fin 4) (a : Fin 253) :
    val_main_v45 (F := Ideal) x1 (ix4 b r h a) =
      if (((2 : ℝ) ^ ((a.val : ℤ) - 126) : ℝ) : EReal) ≤ bnd (krow x1 b r h) then (((2 : ℝ) ^ ((a.val : ℤ) - 125) : ℝ) : EReal) else 0 := by
  have e14 : val_main_v41 (F := Ideal) x1 (ix4 b r h a) = bnd (krow x1 b r h) := by
    have e1 : val_main_v41 (F := Ideal) x1 (ix4 b r h a) = val_main_v33 (F := Ideal) x1 (ix4 b r h 0) := by
      pointwise [val_main_v41]
    have e2 : val_main_v31 (F := Ideal) x1 (ix4 b r h 0) = val_main_v30 (F := Ideal) x1 (ix3 b r h) := by
      pointwise [val_main_v31]
    have e3 : val_main_v32 (F := Ideal) (ix4 b r h 0) = Ideal.ofBits .f32 0x3B124925#32 := by
      rw [val_main_v32_apply, val_main_cst_11_apply]; rfl
    rw [e1, val_main_v33_apply, e2, e3, v30_read]; rfl
  have e13 : val_main_v40 (F := Ideal) (ix4 b r h a) = val_main_v38 (F := Ideal) (ix1 a) := by
    pointwise [val_main_v40, val_main_v39]
  have ec1 : val_main_call3_v1 (F := Ideal) (ix4 b r h a) = val_main_v44 (F := Ideal) (ix1 a) := by
    pointwise [val_main_call3_v1, val_main_call3_v0]
  have ec2 : val_main_call3_v2 (F := Ideal) (ix4 b r h a) = 0 := by
    rw [val_main_call3_v2_apply, val_main_call3_v0_apply, val_main_cst_15_apply]
    exact Ideal.ofBits_zero_f32
  rw [val_main_v45_apply, val_main_v42_apply, e14, e13, ec1, ec2, v38_read, v44_read]
  pointwise

theorem v50_read (b : Fin 4) (r : Fin 8192) (h : Fin 4) :
    val_main_v50 x1 (ix4 b r h 0) = scale (krow x1 b r h) := by
  have e19 : val_main_v46 (F := Ideal) x1 (ix3 b r h) = topPow (bnd (krow x1 b r h)) := by
    have e0 : val_main_cst_16 (F := Ideal) (Shape.Idx.first h_S_) = ⊥ := by rw [val_main_cst_16_apply]; exact cbot
    pointwise [val_main_v46]
    rw [e0]
    simp only [v45_read]
    rfl
  have e : val_main_v47 x1 (ix4 b r h 0) = val_main_v46 x1 (ix3 b r h) := by
    pointwise [val_main_v47]
  have e1 : val_main_call4_v1 (F := Ideal) (ix4 b r h 0) = 1 := by
    rw [val_main_call4_v1_apply, val_main_call4_v0_apply, val_main_cst_18_apply]
    pointwise
  have e2 : val_main_v48 (F := Ideal) (ix4 b r h 0) = 0 := by
    rw [val_main_v48_apply, val_main_cst_17_apply]
    pointwise
  rw [val_main_v50_apply, val_main_v49_apply, e, e1, e2, e19]
  unfold scale
  pointwise

theorem v53_read (b : Fin 4) (r : Fin 8192) (h : Fin 4) (d : Fin 128) :
    val_main_v53 x1 (ix4 b r h d) = code (krow x1 b r h) d := by
  have e24 : val_main_v51 x1 (ix4 b r h d) = scale (krow x1 b r h) := by
    rw [← v50_read]; pointwise [val_main_v51]
  have ea : val_main_call5_v4 (F := Ideal) (ix4 b r h d) = ((448 : ℝ) : EReal) := by
    rw [val_main_call5_v4_apply, val_main_call5_v3_apply, val_main_cst_20_apply]; exact c448
  have eb : val_main_call5_v1 (F := Ideal) (ix4 b r h d) = ((-448 : ℝ) : EReal) := by
    rw [val_main_call5_v1_apply, val_main_call5_v0_apply, val_main_cst_19_apply]; exact cm448
  rw [val_main_v53_apply, val_main_call5_v2_apply, val_main_v52_apply, ea, eb, e24, v28_read]
  rfl

/-- The values' codes: each value over its lane's scale, clipped. -/
theorem v59_read (b : Fin 4) (t : Fin 8192) (h : Fin 4) (d : Fin 128) :
    val_main_v59 (F := Ideal) x2 x3 (ix4 b t h d) =
      clip (Ideal.div (krow x2 b t h d) (x3 (ix3 b 0 ⟨h.val * 128 + d.val, by omega⟩))) := by
  have e57 : val_main_v57 (F := Ideal) x3 (ix4 b t h d) = x3 (ix3 b 0 ⟨h.val * 128 + d.val, by omega⟩) := by
    have e1 : val_main_v57 (F := Ideal) x3 (ix4 b t h d) = val_main_v54 (F := Ideal) x3 (ix4 b 0 h d) := by
      pointwise [val_main_v57]
    rw [e1]
    pointwise [val_main_v54]
  have e56 : val_main_v56 (F := Ideal) x2 (ix4 b t h d) = krow x2 b t h d := by
    unfold krow
    pointwise [val_main_v56, val_main_v55]
  have ea : val_main_call6_v4 (F := Ideal) (ix4 b t h d) = ((448 : ℝ) : EReal) := by
    rw [val_main_call6_v4_apply, val_main_call6_v3_apply, val_main_cst_22_apply]; exact c448
  have eb : val_main_call6_v1 (F := Ideal) (ix4 b t h d) = ((-448 : ℝ) : EReal) := by
    rw [val_main_call6_v1_apply, val_main_call6_v0_apply, val_main_cst_21_apply]; exact cm448
  rw [val_main_v59_apply, val_main_call6_v2_apply, val_main_v58_apply, ea, eb, e57, e56]
  rfl

/-- A query sees a key: not after it, and within the window or among the first four. -/
def Vis (q t : Fin 8192) : Prop := t.val ≤ q.val ∧ (q.val < t.val + 1500 ∨ t.val < 4)

instance (q t : Fin 8192) : Decidable (Vis q t) := inferInstanceAs (Decidable (_ ∧ _))

theorem v75_read (q t : Fin 8192) : val_main_v75 (F := Ideal) (ix2 q t) = if Vis q t then 1#1 else 0#1 := by
  pointwise [val_main_v75, val_main_v74, val_main_v65, val_main_v64, val_main_v63, val_main_v62, val_main_v61, val_main_v60, val_main_v70, val_main_v69, val_main_v68, val_main_v67, val_main_v66, val_main_v73, val_main_v72, val_main_v71, val_main_c, val_main_c_23]
  have h1 : (IntOp.subi (BitVec.ofNat 32 q.val) 1500#32).toInt = (q.val : ℤ) - 1500 := by
    have e1 : (BitVec.ofNat 32 q.val).toInt = (q.val : ℤ) := toInt_nat _ (by omega)
    have e2 : (1500#32).toInt = 1500 := rfl
    rw [toInt_sub _ _ (by omega) (by omega), e1, e2]
  have h2 : (4#32).toInt = 4 := rfl
  rw [cmpi_sle, cmpi_sgt, cmpi_slt, h1, h2, toInt_nat _ (by omega), toInt_nat _ (by omega), bit_or, bit_and]
  congr 1
  unfold Vis
  apply propext
  omega

/-- A key's score. -/
def score (b h : Fin 4) (g : Fin 8) (q t : Fin 8192) : EReal :=
  (∑ d, code (krow x1 b t h) d * code (qrow x0 b q h g) d) * scale (qrow x0 b q h g) * scale (krow x1 b t h)
    * Ideal.ofBits .f32 0x3E0293EE#32

theorem v86_read (b h : Fin 4) (g : Fin 8) (q t : Fin 8192) :
    val_main_v86 (F := Ideal) x0 x1 (ix5 b h g q t) = score x0 x1 b h g q t := by
  have e77 : val_main_v77 (F := Ideal) x0 x1 (ix5 b h g q t) = ∑ d, code (krow x1 b t h) d * code (qrow x0 b q h g) d := by
    have e1 : val_main_v77 (F := Ideal) x0 x1 (ix5 b h g q t) = val_main_v76 (F := Ideal) x0 x1 (ix5 b h t q g) := by
      pointwise [val_main_v77]
    rw [e1]
    have : ∀ d, val_main_v53 x1 (ix4 b t h d) * val_main_v26 x0 (ix5 b q h g d) = code (krow x1 b t h) d * code (qrow x0 b q h g) d :=
      fun d => by rw [v53_read, v26_read]
    rw [← Finset.sum_congr rfl fun d _ => this d]
    pointwise [val_main_v76]
  have e79 : val_main_v79 (F := Ideal) x0 (ix5 b h g q t) = scale (qrow x0 b q h g) := by
    rw [← v23_read]
    have e1 : val_main_v79 (F := Ideal) x0 (ix5 b h g q t) = val_main_v78 (F := Ideal) x0 (ix5 b h g q 0) := by
      pointwise [val_main_v79]
    rw [e1]
    pointwise [val_main_v78]
  have e83 : val_main_v83 (F := Ideal) x1 (ix5 b h g q t) = scale (krow x1 b t h) := by
    rw [← v50_read]
    have e1 : val_main_v83 (F := Ideal) x1 (ix5 b h g q t) = val_main_v81 (F := Ideal) x1 (ix4 b h 0 t) := by
      pointwise [val_main_v83, val_main_v82]
    rw [e1]
    pointwise [val_main_v81]
  rw [val_main_v86_apply, val_main_v84_apply, val_main_v80_apply, e77, e79, e83, val_main_v85_apply, val_main_cst_24_apply]
  rfl

/-- The scales of the queries, as returned. -/
theorem v112_read (b : Fin 4) (r : Fin 8192) (l : Fin 32) :
    val_main_v112 (F := Ideal) x0 (ix3 b r l) = scale (qrow x0 b r ⟨l.val / 8, by omega⟩ ⟨l.val % 8, by omega⟩) := by
  rw [← v23_read]
  pointwise [val_main_v112]

/-- The scales of the keys, as returned. -/
theorem v113_read (b : Fin 4) (r : Fin 8192) (l : Fin 4) :
    val_main_v113 (F := Ideal) x1 (ix3 b r l) = scale (krow x1 b r l) := by
  rw [← v50_read]
  pointwise [val_main_v113]

/-- A key's score where the query sees it, -∞ elsewhere. -/
def shown (b h : Fin 4) (g : Fin 8) (q t : Fin 8192) : EReal :=
  if Vis q t then score x0 x1 b h g q t else ⊥

/-- The unscaled weight of a key. -/
def weight (b h : Fin 4) (g : Fin 8) (q t : Fin 8192) : EReal :=
  if Vis q t then Ideal.pow ((2 : ℝ) : EReal) (shown x0 x1 b h g q t - Finset.univ.fold max ⊥ (shown x0 x1 b h g q)) else 0

theorem v87_read (b h : Fin 4) (g : Fin 8) (q t : Fin 8192) :
    val_main_v87 (F := Ideal) x0 x1 (ix5 b h g q t) = shown x0 x1 b h g q t := by
  have e1 : val_main_call7_v1 (F := Ideal) (ix5 b h g q t) = if Vis q t then 1#1 else 0#1 := by
    rw [← v75_read]
    pointwise [val_main_call7_v1]
  have e2 : val_main_call7_v2 (F := Ideal) (ix5 b h g q t) = ⊥ := by
    rw [val_main_call7_v2_apply, val_main_call7_v0_apply, val_main_cst_25_apply]; exact cbot
  rw [val_main_v87_apply, e1, e2, v86_read, select_bit]
  rfl

theorem v94_read (b h : Fin 4) (g : Fin 8) (q t : Fin 8192) :
    val_main_v94 (F := Ideal) x0 x1 (ix5 b h g q t) = weight x0 x1 b h g q t := by
  have e1 : val_main_call8_v1 (F := Ideal) (ix5 b h g q t) = if Vis q t then 1#1 else 0#1 := by
    rw [← v75_read]
    pointwise [val_main_call8_v1]
  have e2 : val_main_call8_v2 (F := Ideal) (ix5 b h g q t) = 0 := by
    rw [val_main_call8_v2_apply, val_main_call8_v0_apply, val_main_cst_28_apply]; exact Ideal.ofBits_zero_f32
  have e88 : val_main_v88 (F := Ideal) x0 x1 (ix4 b h g q) = Finset.univ.fold max ⊥ (shown x0 x1 b h g q) := by
    have e0 : val_main_cst_26 (F := Ideal) (Shape.Idx.first h_S_) = ⊥ := by rw [val_main_cst_26_apply]; exact cbot
    pointwise [val_main_v88]
    rw [e0]
    simp only [v87_read]
  have e90 : val_main_v90 (F := Ideal) x0 x1 (ix5 b h g q t) = val_main_v88 (F := Ideal) x0 x1 (ix4 b h g q) := by
    have e : val_main_v90 (F := Ideal) x0 x1 (ix5 b h g q t) = val_main_v89 (F := Ideal) x0 x1 (ix5 b h g q 0) := by
      pointwise [val_main_v90]
    rw [e]
    pointwise [val_main_v89]
  have e92 : val_main_v92 (F := Ideal) (ix5 b h g q t) = ((2 : ℝ) : EReal) := by
    rw [val_main_v92_apply, val_main_cst_27_apply]; exact c2
  rw [val_main_v94_apply, e1, e2, val_main_v93_apply, e92, val_main_v91_apply, v87_read, e90, e88, select_bit]
  rfl

theorem v95_read (b h : Fin 4) (g : Fin 8) (q : Fin 8192) :
    val_main_v95 (F := Ideal) x0 x1 (ix4 b h g q) = ∑ t, weight x0 x1 b h g q t := by
  have e0 : val_main_cst_29 (F := Ideal) (Shape.Idx.first h_S_) = 0 := by
    rw [val_main_cst_29_apply]; exact Ideal.ofBits_zero_f32
  rw [← Finset.sum_congr rfl fun t _ => v94_read x0 x1 b h g q t]
  pointwise [val_main_v95]
  rw [e0, zero_add]

theorem v98_read (b h : Fin 4) (g : Fin 8) (q t : Fin 8192) :
    val_main_v98 (F := Ideal) x0 x1 (ix5 b h g q t) = clip (weight x0 x1 b h g q t * ((256 : ℝ) : EReal)) := by
  have ea : val_main_call9_v4 (F := Ideal) (ix5 b h g q t) = ((448 : ℝ) : EReal) := by
    rw [val_main_call9_v4_apply, val_main_call9_v3_apply, val_main_cst_32_apply]; exact c448
  have eb : val_main_call9_v1 (F := Ideal) (ix5 b h g q t) = ((-448 : ℝ) : EReal) := by
    rw [val_main_call9_v1_apply, val_main_call9_v0_apply, val_main_cst_31_apply]; exact cm448
  have ec : val_main_v96 (F := Ideal) (ix5 b h g q t) = ((256 : ℝ) : EReal) := by
    rw [val_main_v96_apply, val_main_cst_30_apply]; exact c256
  rw [val_main_v98_apply, val_main_call9_v2_apply, val_main_v97_apply, ea, eb, ec, v94_read]
  rfl

/-- The values' scale at a lane. -/
def vscale (b h : Fin 4) (d : Fin 128) : EReal := x3 (ix3 b 0 ⟨h.val * 128 + d.val, by omega⟩)

/-- The attention's result. -/
def attn (b : Fin 4) (q : Fin 8192) (h : Fin 4) (g : Fin 8) (d : Fin 128) : EReal :=
  Ideal.div ((∑ t, clip (Ideal.div (krow x2 b t h d) (vscale x3 b h d)) * clip (weight x0 x1 b h g q t * ((256 : ℝ) : EReal)))
    * vscale x3 b h d * ((1 / 256 : ℝ) : EReal)) (∑ t, weight x0 x1 b h g q t)

theorem v109_read (b : Fin 4) (q : Fin 8192) (h : Fin 4) (g : Fin 8) (d : Fin 128) :
    val_main_v109 (F := Ideal) x0 x1 x2 x3 (ix5 b q h g d) = attn x0 x1 x2 x3 b q h g d := by
  have e108 : val_main_v108 (F := Ideal) x0 x1 (ix5 b q h g d) = val_main_v95 (F := Ideal) x0 x1 (ix4 b h g q) := by
    have e : val_main_v108 (F := Ideal) x0 x1 (ix5 b q h g d) = val_main_v106 (F := Ideal) x0 x1 (ix4 b q h g) := by
      pointwise [val_main_v108, val_main_v107]
    rw [e]
    pointwise [val_main_v106]
  have e104 : val_main_v104 (F := Ideal) (ix5 b q h g d) = ((1 / 256 : ℝ) : EReal) := by
    rw [val_main_v104_apply, val_main_cst_33_apply]; exact c256i
  have e102 : val_main_v102 (F := Ideal) x3 (ix5 b q h g d) = vscale x3 b h d := by
    have e : val_main_v102 (F := Ideal) x3 (ix5 b q h g d) = val_main_v54 (F := Ideal) x3 (ix4 b 0 h d) := by
      pointwise [val_main_v102, val_main_v101]
    rw [e]
    unfold vscale
    pointwise [val_main_v54]
  have e100 : val_main_v100 (F := Ideal) x0 x1 x2 x3 (ix5 b q h g d) =
      ∑ t, clip (Ideal.div (krow x2 b t h d) (vscale x3 b h d)) * clip (weight x0 x1 b h g q t * ((256 : ℝ) : EReal)) := by
    have e : val_main_v100 (F := Ideal) x0 x1 x2 x3 (ix5 b q h g d) = val_main_v99 (F := Ideal) x0 x1 x2 x3 (ix5 b h d g q) := by
      pointwise [val_main_v100]
    have : ∀ t, val_main_v59 x2 x3 (ix4 b t h d) * val_main_v98 x0 x1 (ix5 b h g q t) =
        clip (Ideal.div (krow x2 b t h d) (vscale x3 b h d)) * clip (weight x0 x1 b h g q t * ((256 : ℝ) : EReal)) :=
      fun t => by rw [v59_read, v98_read]; rfl
    rw [e, ← Finset.sum_congr rfl fun t _ => this t]
    pointwise [val_main_v99]
  rw [val_main_v109_apply, val_main_v105_apply, val_main_v103_apply, e100, e102, e104, e108, v95_read]
  rfl

/-- The attention's result, as returned. -/
theorem v111_read (b : Fin 4) (q : Fin 8192) (l : Fin 4096) :
    val_main_v111 (F := Ideal) x0 x1 x2 x3 (ix3 b q l) =
      attn x0 x1 x2 x3 b q ⟨l.val / 1024, by omega⟩ ⟨l.val / 128 % 8, by omega⟩ ⟨l.val % 128, by omega⟩ := by
  rw [← v109_read]
  pointwise [val_main_v111, val_main_v110]

end Cert.ReferenceIdeal
-- ==== Proof.Val.lean ====
/-
  What the kernel leaves in its results, array by array.
-/
module

public import proofs.«01_k».proof.Proof.Point
public import proofs.«01_k».proof.Proof.Launch
public import proofs.«01_k».proof.Proof.Ref
public import Idealize.ShloMosaic.Lib.Pipeline.ValueKit

@[expose] public section

set_option maxRecDepth 16384

noncomputable section

namespace Cert.KernelIdeal

open Idealize.ShloMosaic Idealize.ShloMosaic.TcCoe
open Idealize.ShloMosaic.Pipeline (Dat RDat Cfg Window)
open Facts₀ Facts Cert.Num Cert.Proof
open Cert.ReferenceIdeal (qrow krow vscale)

/-! ## The grid -/

theorem coords0 (t : Fin cfg0.N) : (grid0.coords t 0).val = t.val / 64 :=
  (by decide +kernel : ∀ t : Fin grid0.N, (grid0.coords t 0).val = t.val / 64) t
theorem coords1 (t : Fin cfg0.N) : (grid0.coords t 1).val = t.val % 64 :=
  (by decide +kernel : ∀ t : Fin grid0.N, (grid0.coords t 1).val = t.val % 64) t
theorem points (t : Fin cfg0.N) : t.val < 256 := t.isLt

theorem index0 (t : Fin cfg0.N) : win0_0.index t = ![t.val / 64, t.val % 64, 0] :=
  (by decide +kernel : ∀ t : Fin grid0.N, win0_0.index t = ![t.val / 64, t.val % 64, 0]) t
theorem index1 (t : Fin cfg0.N) : win0_1.index t = ![t.val / 64, t.val % 64, 0] :=
  (by decide +kernel : ∀ t : Fin grid0.N, win0_1.index t = ![t.val / 64, t.val % 64, 0]) t
theorem index2 (t : Fin cfg0.N) : win0_2.index t = ![t.val / 64, t.val % 64, 0] :=
  (by decide +kernel : ∀ t : Fin grid0.N, win0_2.index t = ![t.val / 64, t.val % 64, 0]) t
theorem index3 (t : Fin cfg0.N) : win0_3.index t = ![t.val / 64, 0, 0] :=
  (by decide +kernel : ∀ t : Fin grid0.N, win0_3.index t = ![t.val / 64, 0, 0]) t
theorem index4 (t : Fin cfg0.N) : win0_4.index t = ![t.val / 64, t.val % 64, 0] :=
  (by decide +kernel : ∀ t : Fin grid0.N, win0_4.index t = ![t.val / 64, t.val % 64, 0]) t
theorem index6 (t : Fin cfg0.N) : win0_6.index t = ![t.val / 64, t.val % 64, 0] :=
  (by decide +kernel : ∀ t : Fin grid0.N, win0_6.index t = ![t.val / 64, t.val % 64, 0]) t
theorem index8 (t : Fin cfg0.N) : win0_8.index t = ![t.val / 64, t.val % 64, 0] :=
  (by decide +kernel : ∀ t : Fin grid0.N, win0_8.index t = ![t.val / 64, t.val % 64, 0]) t

variable (m : (ℓ : Loc nD τ sig) → Buf (Elt Ideal) ℓ) (c : Dev nD)

/-- The arguments. -/
def ax : S4x8192x4096.Idx → EReal := m ((c.tc : Thread nD τ).loc main_arg0)
def ak : S4x8192x512.Idx → EReal := m ((c.tc : Thread nD τ).loc main_arg1)
def av : S4x8192x512.Idx → EReal := m ((c.tc : Thread nD τ).loc main_arg2)
def avs : S4x1x512.Idx → EReal := m ((c.tc : Thread nD τ).loc main_arg3)

theorem blk_x (t : Fin cfg0.N) (r : Fin 128) (l : Fin 4096) :
    (Gen.iblk m c 0 t : S1x128x4096.Idx → EReal) (ix3 0 r l) =
      ax m c (ix3 ⟨t.val / 64, by have := points t; omega⟩ ⟨128 * (t.val % 64) + r.val, by omega⟩ l) := by
  blk_simp [Gen.iblk, index0]
  refine congrArg (ax m c) ?_
  blk_ext [index0]

theorem blk_k (t : Fin cfg0.N) (r : Fin 128) (l : Fin 512) :
    (Gen.iblk m c 1 t : S1x128x512.Idx → EReal) (ix3 0 r l) =
      ak m c (ix3 ⟨t.val / 64, by have := points t; omega⟩ ⟨128 * (t.val % 64) + r.val, by omega⟩ l) := by
  blk_simp [Gen.iblk, index1]
  refine congrArg (ak m c) ?_
  blk_ext [index1]

theorem blk_v (t : Fin cfg0.N) (r : Fin 128) (l : Fin 512) :
    (Gen.iblk m c 2 t : S1x128x512.Idx → EReal) (ix3 0 r l) =
      av m c (ix3 ⟨t.val / 64, by have := points t; omega⟩ ⟨128 * (t.val % 64) + r.val, by omega⟩ l) := by
  blk_simp [Gen.iblk, index2]
  refine congrArg (av m c) ?_
  blk_ext [index2]

theorem blk_vs (t : Fin cfg0.N) (l : Fin 512) :
    (Gen.iblk m c 3 t : S1x1x512.Idx → EReal) (ix3 0 0 l) =
      avs m c (ix3 ⟨t.val / 64, by have := points t; omega⟩ 0 l) := by
  blk_simp [Gen.iblk, index3]
  refine congrArg (avs m c) ?_
  blk_ext [index3]

/-! ## The scratch buffers between points -/

/-- The batch of a point. -/
def bat (n : Nat) : Fin 4 := ⟨n / 64 % 4, by omega⟩

theorem bat_val (t : Fin cfg0.N) : (bat t.val).val = t.val / 64 := by
  have := points t
  change t.val / 64 % 4 = _
  omega

/-- A batch's keys, values and scales. -/
def kfOf (b : Fin 4) : Fin 4 → Fin 8192 → Fin 128 → EReal := fun h p => krow (ak m c) b p h
def vfOf (b : Fin 4) : Fin 4 → Fin 8192 → Fin 128 → EReal := fun h p => krow (av m c) b p h
def vsfOf (b : Fin 4) : Fin 4 → Fin 128 → EReal := fun h d => vscale (avs m c) b h d

/-- What the scratch buffers hold before a point: the caches of the batch's blocks so far. -/
def Scratch (n : Nat) (σ : Si) : Prop :=
  Caches (kfOf m c (bat n)) (vfOf m c (bat n)) (vsfOf m c (bat n)) (n % 64) 0 σ ∧
    (n % 64 ≠ 0 → Spread (vsfOf m c (bat n)) 4 (σ .vsb))

theorem caches_zero (kf vf : Fin 4 → Fin 8192 → Fin 128 → EReal) (vs : Fin 4 → Fin 128 → EReal) (σ : Si) :
    Caches kf vf vs 0 0 σ :=
  ⟨fun _ _ _ h => by omega, fun _ _ _ h => by omega, fun _ _ _ _ h => by omega⟩

theorem scratch_start (n : Nat) (h : n % 64 = 0) (σ : Si) : Scratch m c n σ := by
  unfold Scratch
  rw [h]
  exact ⟨caches_zero _ _ _ σ, fun e => absurd rfl e⟩

theorem scratch_win (n : Nat) (Y : Win Ideal) (σ : Si) (h : Scratch m c n σ) : Scratch m c n (withWin Y σ) :=
  ⟨⟨h.1.ksc, h.1.ksb, h.1.vtc⟩, h.2⟩

/-- Every row of the queries and the keys is finite. -/
structure AllFinite : Prop where
  x : ∀ b r h g, Finite (qrow (ax m c) b r h g)
  k : ∀ b r h, Finite (krow (ak m c) b r h)

/-- The position of a row of a point's block. -/
def posOf (t : Fin cfg0.N) (r : Fin 128) : Fin 8192 := ⟨128 * (t.val % 64) + r.val, by omega⟩

section Step

variable (t : Fin cfg0.N) (σ : Si) (hx : σ .x = Gen.iblk m c 0 t) (hk : σ .k = Gen.iblk m c 1 t)
  (hv : σ .v = Gen.iblk m c 2 t) (hvs : σ .vs = Gen.iblk m c 3 t)

include hx in
theorem xrow_eq (r : Fin 128) (l : Fin 32) :
    xrow (σ .x) r l = qrow (ax m c) (bat t.val) (posOf t r) ⟨l.val / 8, by omega⟩ ⟨l.val % 8, by omega⟩ := by
  funext d
  unfold xrow
  rw [hx]
  refine (blk_x m c t r _).trans (congrArg (ax m c) ?_)
  funext a
  apply Fin.ext
  match a with
  | ⟨0, _⟩ => exact (bat_val t).symm
  | ⟨1, _⟩ => rfl
  | ⟨2, _⟩ => change l.val * 128 + d.val = l.val / 8 * 1024 + l.val % 8 * 128 + d.val; omega

include hk in
theorem yrow_k (r : Fin 128) (h : Fin 4) : yrow (σ .k) r h = krow (ak m c) (bat t.val) (posOf t r) h := by
  funext d
  unfold yrow
  rw [hk]
  refine (blk_k m c t r _).trans (congrArg (ak m c) ?_)
  funext a
  apply Fin.ext
  match a with
  | ⟨0, _⟩ => exact (bat_val t).symm
  | ⟨1, _⟩ => rfl
  | ⟨2, _⟩ => rfl

include hv in
theorem yrow_v (r : Fin 128) (h : Fin 4) : yrow (σ .v) r h = krow (av m c) (bat t.val) (posOf t r) h := by
  funext d
  unfold yrow
  rw [hv]
  refine (blk_v m c t r _).trans (congrArg (av m c) ?_)
  funext a
  apply Fin.ext
  match a with
  | ⟨0, _⟩ => exact (bat_val t).symm
  | ⟨1, _⟩ => rfl
  | ⟨2, _⟩ => rfl

include hvs in
theorem vsOf_eq (h : Fin 4) (d : Fin 128) : vsOf (σ .vs) h d = vscale (avs m c) (bat t.val) h d := by
  unfold vsOf
  rw [hvs]
  refine (blk_vs m c t _).trans (congrArg (avs m c) ?_)
  funext a
  apply Fin.ext
  match a with
  | ⟨0, _⟩ => exact (bat_val t).symm
  | ⟨1, _⟩ => rfl
  | ⟨2, _⟩ => rfl

theorem pos_eq (r : Fin 128) (h) : (⟨128 * (grid0.coords t 1).val + r.val, h⟩ : Fin 8192) = posOf t r :=
  Fin.ext (by change 128 * (grid0.coords t 1).val + r.val = 128 * (t.val % 64) + r.val; rw [coords1])

include hk hv hvs in
theorem blocks_at : Blocks (kfOf m c (bat t.val)) (vfOf m c (bat t.val)) (vsfOf m c (bat t.val)) (grid0.coords t) σ :=
  ⟨fun r h => by rw [pos_eq]; exact yrow_k m c t σ hk r h, fun r h => by rw [pos_eq]; exact yrow_v m c t σ hv r h,
    fun h d => vsOf_eq m c t σ hvs h d⟩

/-- What attention finds at a point. -/
abbrev ReadyAt (t : Fin cfg0.N) (σ : Si) (σ' : Si) : Prop :=
  Ready (kfOf m c (bat t.val)) (vfOf m c (bat t.val)) (vsfOf m c (bat t.val)) (grid0.coords t) (σ .x) (σ .k) σ'

include hx hk hv hvs in
theorem pre_at (hfin : AllFinite m c) (hS : Scratch m c t.val σ) :
    ReadyAt m c t σ (pre (memsAt t) (grid0.coords t) σ) :=
  pre_ready (memsAt t) (grid0.coords t) _ _ _ σ (blocks_at m c t σ hk hv hvs)
    (fun r l => by rw [xrow_eq m c t σ hx]; exact hfin.x _ _ _ _) (fun r h => by rw [yrow_k m c t σ hk]; exact hfin.k _ _ _)
    (by rw [coords1]; exact hS.1) (by rw [coords1]; exact hS.2)

include hx hk hv hvs in
theorem after_at (hfin : AllFinite m c) (hS : Scratch m c t.val σ) : ReadyAt m c t σ (after t σ) :=
  body_ready (memsAt t) (grid0.coords t) _ _ _ σ (blocks_at m c t σ hk hv hvs)
    (fun r l => by rw [xrow_eq m c t σ hx]; exact hfin.x _ _ _ _) (fun r h => by rw [yrow_k m c t σ hk]; exact hfin.k _ _ _)
    (by rw [coords1]; exact hS.1) (by rw [coords1]; exact hS.2)

theorem scratch_next (h : ReadyAt m c t σ (after t σ)) : Scratch m c (t.val + 1) (after t σ) := by
  by_cases e : (t.val + 1) % 64 = 0
  · exact scratch_start m c _ e _
  · have e1 : bat (t.val + 1) = bat t.val := Fin.ext (by change (t.val + 1) / 64 % 4 = t.val / 64 % 4; omega)
    have e2 : (t.val + 1) % 64 = (grid0.coords t 1).val + 1 := by rw [coords1]; omega
    unfold Scratch
    rw [e1, e2]
    exact ⟨h.caches, fun _ => h.vsb⟩

end Step

/-! ## The results -/

/-- The results' blocks at a point, of whole results. -/
def outOf (G4 : S4x8192x4096.Idx → EReal) (G6 : S4x8192x32.Idx → EReal) (G8 : S4x8192x4.Idx → EReal)
    (t : Fin cfg0.N) : Win Ideal
  | 4 => fun y : S1x128x4096.Idx => G4 (ix3 (bat t.val) (posOf t (y 1)) (y 2))
  | 6 => fun y : S1x128x32.Idx => G6 (ix3 (bat t.val) (posOf t (y 1)) (y 2))
  | 8 => fun y : S1x128x4.Idx => G8 (ix3 (bat t.val) (posOf t (y 1)) (y 2))
  | w => winOf (fun j _ => Classical.arbitrary (Elt Ideal j.el)) w

/-- An index of a block, by its last two coordinates. -/
theorem idx_block {p q : Nat} (y : (⟨3, ![1, p, q]⟩ : Shape).Idx) : y = ix3 (0 : Fin 1) (y 1) (y 2) := by
  funext a
  match a with
  | ⟨0, _⟩ => exact Subsingleton.elim (α := Fin 1) _ _
  | ⟨1, _⟩ => rfl
  | ⟨2, _⟩ => rfl

/-- The queries' and the keys' scales, whole. -/
def qsRes : S4x8192x32.Idx → EReal := fun i =>
  scale (qrow (ax m c) (i 0) (i 1) ⟨(i 2).val / 8, by have : (i 2).val < 32 := (i 2).isLt; omega⟩ ⟨(i 2).val % 8, by omega⟩)
def ksRes : S4x8192x4.Idx → EReal := fun i => scale (krow (ak m c) (i 0) (i 1) (i 2))

/-- The windows whose contents are named: the inputs, the scales, and the attention's result if asked. -/
def fgtOf (out : Bool) : Fin 10 → Bool := fun w =>
  !(w = 0 || w = 1 || w = 2 || w = 3 || w = 6 || w = 8 || (out && w = 4))

/-- What the launch leaves: the scales, and the attention's result when every block's is known. -/
theorem results (m : (ℓ : Loc nD τ sig) → Buf (Elt Ideal) ℓ) (ρ : Dev nD → PrngReg) (hfin : ∀ c, AllFinite m c)
    (G : Dev nD → S4x8192x4096.Idx → EReal) (out : Bool)
    (hout : out = true → ∀ (c : Dev nD) (t : Fin cfg0.N) (σ σ' : Si), σ .x = Gen.iblk m c 0 t → σ .k = Gen.iblk m c 1 t →
      ReadyAt m c t σ σ' → ∀ (r : Fin 128) (l : Fin 4096),
      (runS (memsAt t) (attnPart (memsAt t) (grid0.coords t)) σ' .out : S1x128x4096.Idx → EReal) (ix3 0 r l) =
        G c (ix3 (bat t.val) (posOf t r) l)) :
    θ_run defs (onTc (τ := τ) (main (F := Ideal))) ⟨m, fun _ => 0, ρ⟩ (fun r => ∀ c : Dev nD,
      (out = true → r.2.mem ((c.tc : Thread nD τ).loc main_v0_0) = G c)
      ∧ r.2.mem ((c.tc : Thread nD τ).loc main_v0_2) = qsRes m c
      ∧ r.2.mem ((c.tc : Thread nD τ).loc main_v0_4) = ksRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_of m ρ (fun c n σ => Scratch m c n σ) (fun c n Y σ hσ => scratch_win m c n Y σ hσ)
    (fun c σ => scratch_start m c 0 rfl σ) (fun c t => outOf (G c) (qsRes m c) (ksRes m c) t) (fgtOf out)
    (by cases out <;> rfl) (by cases out <;> rfl) (by cases out <;> rfl) (by cases out <;> rfl)
    (fun c t σ hx hk hv hvs hS => ?_)
  · refine (θ_run defs _ _).mono (fun r hr c => ⟨fun e => ?_, ?_, ?_, ?_, ?_, ?_, ?_⟩) h
    · refine (hr.1 c 4 (by rw [e]; rfl)).trans ?_
      refine (datOf m _ _ c).arrAt_eq_of_covers 4 (G c) (by decide +kernel) fun t hf y => ?_
      blk_simp
      refine congrArg (G c) ?_
      funext a
      apply Fin.ext
      have e0 := bat_val t
      match a with
      | ⟨0, _⟩ => blk_simp [index4]; exact e0
      | ⟨1, _⟩ =>
        blk_simp [index4]
        change 128 * (t.val % 64) + (y 1).val = t.val % 64 * 128 + (y 1).val
        omega
      | ⟨2, _⟩ => blk_simp [index4]; rfl
    · refine (hr.1 c 6 (by cases out <;> rfl)).trans ?_
      refine (datOf m _ _ c).arrAt_eq_of_covers 6 (qsRes m c) (by decide +kernel) fun t hf y => ?_
      blk_simp
      refine congrArg (qsRes m c) ?_
      funext a
      apply Fin.ext
      have e0 := bat_val t
      match a with
      | ⟨0, _⟩ => blk_simp [index6]; exact e0
      | ⟨1, _⟩ =>
        blk_simp [index6]
        change 128 * (t.val % 64) + (y 1).val = t.val % 64 * 128 + (y 1).val
        omega
      | ⟨2, _⟩ => blk_simp [index6]; rfl
    · refine (hr.1 c 8 (by cases out <;> rfl)).trans ?_
      refine (datOf m _ _ c).arrAt_eq_of_covers 8 (ksRes m c) (by decide +kernel) fun t hf y => ?_
      blk_simp
      refine congrArg (ksRes m c) ?_
      funext a
      apply Fin.ext
      have e0 := bat_val t
      match a with
      | ⟨0, _⟩ => blk_simp [index8]; exact e0
      | ⟨1, _⟩ =>
        blk_simp [index8]
        change 128 * (t.val % 64) + (y 1).val = t.val % 64 * 128 + (y 1).val
        omega
      | ⟨2, _⟩ => blk_simp [index8]; rfl
    · exact (hr.1 c 0 (by cases out <;> rfl)).trans ((datOf m _ _ c).arrAt_in 0 rfl _)
    · exact (hr.1 c 1 (by cases out <;> rfl)).trans ((datOf m _ _ c).arrAt_in 1 rfl _)
    · exact (hr.1 c 2 (by cases out <;> rfl)).trans ((datOf m _ _ c).arrAt_in 2 rfl _)
    · exact (hr.1 c 3 (by cases out <;> rfl)).trans ((datOf m _ _ c).arrAt_in 3 rfl _)
  · have hr := after_at m c t σ hx hk hv hvs (hfin c) hS
    refine ⟨scratch_next m c t σ hr, ⟨body_keeps _ _ σ .x id, body_keeps _ _ σ .k id, body_keeps _ _ σ .v id,
      body_keeps _ _ σ .vs id⟩, fun w hf hw => ?_⟩
    match w with
    | 0 => exact absurd hw (by decide)
    | 1 => exact absurd hw (by decide)
    | 2 => exact absurd hw (by decide)
    | 3 => exact absurd hw (by decide)
    | 5 => exact absurd hf (by cases out <;> decide)
    | 7 => exact absurd hf (by cases out <;> decide)
    | 9 => exact absurd hf (by cases out <;> decide)
    | 4 =>
      have e : out = true := by cases out <;> [exact absurd hf (by decide); rfl]
      have ho := hout e c t σ _ hx hk (pre_at m c t σ hx hk hv hvs (hfin c) hS)
      rw [← body_run] at ho
      funext y
      change (after t σ .out : S1x128x4096.Idx → EReal) y = _
      rw [idx_block (p := 128) (q := 4096) y]
      exact ho _ _
    | 6 =>
      funext y
      change (after t σ .qs : S1x128x32.Idx → EReal) y = _
      rw [idx_block (p := 128) (q := 32) y]
      exact (hr.qs _ _).trans (congrArg scale (xrow_eq m c t σ hx (y 1) (y 2)))
    | 8 =>
      funext y
      change (after t σ .ks : S1x128x4.Idx → EReal) y = _
      rw [idx_block (p := 128) (q := 4) y]
      exact (hr.ks _ _).trans (congrArg scale (yrow_k m c t σ hk (y 1) (y 2)))
    | ⟨_ + 10, h⟩ => exact absurd h (Nat.not_lt.2 (Nat.le_add_left _ _))

end Cert.KernelIdeal
-- ==== Proof.Fin.lean ====
/-
  The precondition, read: every element of the queries and the keys is finite.
-/
module

public import proofs.«01_k».proof.Pre_finite
public import proofs.«01_k».proof.Proof.Val
public import Idealize.ShloMosaic.Lib.ReduceAll

@[expose] public section

set_option maxRecDepth 16384

noncomputable section

namespace Cert.Pre_finite

open Idealize.ShloMosaic

/-- The side conditions of the precondition's operations. -/
theorem facts : Facts where
  bitsLt_bf16_f32 := by decide
  bcast_S_S4x8192x4096 := by decide
  reducesTo_S4x8192x4096_S_d0_1_2 := by decide
  h_S_ := by decide
  bcast_S_S4x8192x512 := by decide
  reducesTo_S4x8192x512_S_d0_1_2 := by decide

variable [Facts]

instance : Subsingleton S_.Idx := ⟨fun a b => funext fun k => absurd k.isLt (Nat.not_lt_zero _)⟩

theorem and_one : ∀ a b : BitVec 1, IntOp.andi a b = 1#1 → a = 1#1 ∧ b = 1#1 := by decide
theorem ofBool_one : ∀ b : Bool, BitVec.ofBool b = 1#1 → b = true := by decide

/-- Where the precondition holds, no element of the first two arguments is larger than the largest finite value. -/
theorem of_fn (x : FVec Ideal S4x8192x4096 .bf16) (k v : FVec Ideal S4x8192x512 .bf16) (vs : FVec Ideal S4x1x512 .f32)
    (j : S_.Idx) (h : fn x k v vs j = 1#1) :
    (∀ i, max (x i) (-(x i)) ≤ Ideal.ofBits .f32 0x7F7F0000#32) ∧ ∀ i, max (k i) (-(k i)) ≤ Ideal.ofBits .f32 0x7F7F0000#32 := by
  have h2 := and_one _ _ h
  constructor
  · intro i
    exact of_decide_eq_true (ofBool_one _ (Host.reduce_andi_all _ _ _ _ j h2.1 i))
  · intro i
    exact of_decide_eq_true (ofBool_one _ (Host.reduce_andi_all _ _ _ _ j h2.2 i))

end Cert.Pre_finite

namespace Cert.KernelIdeal

open Idealize.ShloMosaic

variable [Cert.Pre_finite.Facts]

theorem allFinite (m : (ℓ : Loc nD τ sig) → Buf (Elt Ideal) ℓ) (c : Dev nD)
    (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) : AllFinite m c := by
  have := Cert.Pre_finite.of_fn _ _ _ _ (fun k => absurd k.isLt (Nat.not_lt_zero _)) (congrFun h _)
  exact ⟨fun b r h g d => this.1 _, fun b r h d => this.2 _⟩

end Cert.KernelIdeal
-- ==== Proof.Tile.lean ====
module

public import proofs.«01_k».proof.Proof.Attn
public import proofs.«01_k».proof.Proof.Num
public import proofs.«01_k».proof.Proof.Words
public import proofs.«01_k».proof.Proof.Consts

@[expose] public section

set_option maxRecDepth 16384

noncomputable section

namespace Cert.KernelIdeal

open Idealize.ShloMosaic
open Facts₀ Facts Cert.Num

/-- A column's largest entry. -/
def top (m : S8x256.Idx → EReal) (e : Fin 256) : EReal := Finset.univ.fold max ⊥ fun s : Fin 8 => m (ix2 s e)

/-- A column's sum. -/
def tot (l : S8x256.Idx → EReal) (e : Fin 256) : EReal := ∑ s : Fin 8, l (ix2 s e)

theorem le_top_of (m : S8x256.Idx → EReal) (e : Fin 256) (s : Fin 8) : m (ix2 s e) ≤ top m e :=
  (fold_max_iff Finset.univ (fun s : Fin 8 => m (ix2 s e)) _).1 le_rfl s (Finset.mem_univ s)

theorem fold_lt {ι : Type} [DecidableEq ι] (s : Finset ι) (f : ι → EReal) (c : EReal) (hc : ⊥ < c) (h : ∀ i ∈ s, f i < c) :
    s.fold max ⊥ f < c := by
  rw [Finset.fold_max_lt]; exact ⟨hc, h⟩

variable (m : FVec Ideal S8x256 .f32)

theorem max32_read (t : FVec Ideal S32x256 .f32) (s : Fin 8) (e : Fin 256) : max32 m t (ix2 s e) =
    max (m (ix2 s e)) (Finset.univ.fold max ⊥ fun x : Fin 4 => t (ix2 ⟨x.val * 8 + s.val, by omega⟩ e)) := by
  rw [← cbot]
  pointwise [max32]

theorem max128_read (t : FVec Ideal S128x256 .f32) (s : Fin 8) (e : Fin 256) : max128 m t (ix2 s e) =
    max (m (ix2 s e)) (Finset.univ.fold max ⊥ fun x : Fin 16 => t (ix2 ⟨x.val * 8 + s.val, by omega⟩ e)) := by
  rw [← cbot]
  pointwise [max128]

theorem max256_read (t : FVec Ideal S256x256 .f32) (s : Fin 8) (e : Fin 256) : max256 m t (ix2 s e) =
    max (m (ix2 s e)) (Finset.univ.fold max ⊥ fun x : Fin 32 => t (ix2 ⟨x.val * 8 + s.val, by omega⟩ e)) := by
  rw [← cbot]
  pointwise [max256]

theorem add32_read (t : FVec Ideal S32x256 .f32) (s : Fin 8) (e : Fin 256) : add32 m t (ix2 s e) =
    m (ix2 s e) + ∑ x : Fin 4, t (ix2 ⟨x.val * 8 + s.val, by omega⟩ e) := by
  pointwise [add32]

theorem add128_read (t : FVec Ideal S128x256 .f32) (s : Fin 8) (e : Fin 256) : add128 m t (ix2 s e) =
    m (ix2 s e) + ∑ x : Fin 16, t (ix2 ⟨x.val * 8 + s.val, by omega⟩ e) := by
  pointwise [add128]

theorem add256_read (t : FVec Ideal S256x256 .f32) (s : Fin 8) (e : Fin 256) : add256 m t (ix2 s e) =
    m (ix2 s e) + ∑ x : Fin 32, t (ix2 ⟨x.val * 8 + s.val, by omega⟩ e) := by
  pointwise [add256]

/-- Rows taken eight at a time. -/
theorem top_rows (m' : S8x256.Idx → EReal) (e : Fin 256) (k : Nat) (t : Nat → EReal)
    (h : ∀ s : Fin 8, m' (ix2 s e) = max (m (ix2 s e)) (Finset.univ.fold max ⊥ fun x : Fin k => t (x.val * 8 + s.val))) :
    top m e ≤ top m' e ∧ (∀ r, r < k * 8 → t r ≤ top m' e) ∧
      (top m e < ⊤ → (∀ r, r < k * 8 → t r < ⊤) → top m' e < ⊤) := by
  refine ⟨(fold_max_iff _ _ _).2 fun s _ => ?_, fun r hr => ?_, fun h1 h2 => fold_lt _ _ _ bot_lt_top fun s _ => ?_⟩
  · exact ((le_max_left _ _).trans (h s).ge).trans (le_top_of m' e s)
  · refine le_trans ?_ (le_top_of m' e ⟨r % 8, by omega⟩)
    rw [h]
    refine le_trans ?_ (le_max_right _ _)
    have := (fold_max_iff Finset.univ (fun x : Fin k => t (x.val * 8 + r % 8)) _).1 le_rfl ⟨r / 8, by omega⟩ (Finset.mem_univ _)
    have e : r / 8 * 8 + r % 8 = r := by omega
    rwa [e] at this
  · rw [h]
    exact max_lt (lt_of_le_of_lt (le_top_of m e s) h1) (fold_lt _ _ _ bot_lt_top fun x _ => h2 _ (by omega))

theorem tot_rows (m' : S8x256.Idx → EReal) (e : Fin 256) (k : Nat) (t : Nat → EReal)
    (h : ∀ s : Fin 8, m' (ix2 s e) = m (ix2 s e) + ∑ x : Fin k, t (x.val * 8 + s.val)) :
    tot m' e = tot m e + ∑ r ∈ Finset.range (k * 8), t r := by
  unfold tot
  rw [Finset.sum_congr rfl fun s _ => h s, Finset.sum_add_distrib, Finset.sum_comm]
  congr 1
  clear h
  induction k with
  | zero => simp
  | succ k ih =>
    rw [Fin.sum_univ_castSucc, Nat.succ_mul, Finset.sum_range_add, ← ih, Finset.sum_range]
    rfl

variable (tile : Fin 4)

theorem bRow_read (a : FVec Ideal S1x256 .f32) (e : Fin 256) :
    bRow m a (ix2 0 e) = top m e * a (ix2 0 e) - Ideal.ofBits .f32 0x41000000#32 := by
  unfold top
  rw [← cbot]
  pointwise [bRow]

theorem c1 : Ideal.ofBits .f32 0x3F800000#32 = 1 := by
  rw [word_f32 0x3F800000#32 false 127 0 (by decide) (by decide) (by decide)]
  norm_num

theorem recRow_read (e : Fin 256) : recRow m (ix2 0 e) = Ideal.div 1 (tot m e) := by
  unfold tot
  rw [← c1]
  pointwise [recRow]

theorem aRow_read (a0 a1 : Vec Ideal S1x1x1x1x128 .f32) (e : Fin 256) : aRow a0 a1 (ix2 0 e) =
    if h : e.val < 128 then a0 (ix5 0 0 0 0 ⟨e.val, h⟩) else a1 (ix5 0 0 0 0 ⟨e.val - 128, by omega⟩) := by
  pointwise [aRow]

theorem outTile_read (o vsb2 : FVec Ideal S128x256 .f32) (rec : FVec Ideal S1x256 .f32) (e : Fin 256) (d : Fin 128) :
    outTile o vsb2 rec (ix2 e d) = o (ix2 d e) * vsb2 (ix2 d e) * rec (ix2 0 e) := by
  pointwise [outTile]

theorem otRows_read (ot : FVec Ideal S256x128 .bf16) (g : Fin 8) (p : Fin 32) (d : Fin 128) :
    otRows ot g (ix3 0 p d) = ot (ix2 ⟨32 * g.val + p.val, by omega⟩ d) := by
  pointwise [otRows]

theorem twice128_read (x : FVec Ideal S128x128 .f32) (d : Fin 128) (e : Fin 256) :
    twice128 x (ix2 d e) = if h : e.val < 128 then x (ix2 d ⟨e.val, h⟩) else x (ix2 d ⟨e.val - 128, by omega⟩) := by
  pointwise [twice128]

theorem twice32_read (x : FVec Ideal S32x128 .f32) (d : Fin 32) (e : Fin 256) :
    twice32 x (ix2 d e) = if h : e.val < 128 then x (ix2 d ⟨e.val, h⟩) else x (ix2 d ⟨e.val - 128, by omega⟩) := by
  pointwise [twice32]

theorem twice256_read (x : FVec Ideal S256x128 .f32) (d : Fin 256) (e : Fin 256) :
    twice256 x (ix2 d e) = if h : e.val < 128 then x (ix2 d ⟨e.val, h⟩) else x (ix2 d ⟨e.val - 128, by omega⟩) := by
  pointwise [twice256]

theorem scores_read (k q : FVec Ideal S256x128 .fp8e4m3) (r e : Fin 256) :
    scores k q (ix2 r e) = ∑ x : Fin 128, k (ix2 r x) * q (ix2 e x) := by
  pointwise [scores]

theorem weigh_read (v : FVec Ideal S128x256 .fp8e4m3) (p : FVec Ideal S256x256 .fp8e4m3) (d : Fin 128) (e : Fin 256) :
    weigh v p (ix2 d e) = ∑ x : Fin 256, v (ix2 d x) * p (ix2 x e) := by
  pointwise [weigh]

theorem scores128_read (k : FVec Ideal S128x128 .fp8e4m3) (q : FVec Ideal S256x128 .fp8e4m3) (r : Fin 128) (e : Fin 256) :
    scores128 k q (ix2 r e) = ∑ x : Fin 128, k (ix2 r x) * q (ix2 e x) := by
  pointwise [scores128]

theorem weigh128_read (v : FVec Ideal S128x128 .fp8e4m3) (p : FVec Ideal S128x256 .fp8e4m3) (d : Fin 128) (e : Fin 256) :
    weigh128 v p (ix2 d e) = ∑ x : Fin 128, v (ix2 d x) * p (ix2 x e) := by
  pointwise [weigh128]

theorem cat2v_read (v0 v1 : FVec Ideal S128x128 .fp8e4m3) (d : Fin 128) (r : Fin 256) : cat2v v0 v1 (ix2 d r) =
    if h : r.val < 128 then v0 (ix2 d ⟨r.val, h⟩) else v1 (ix2 d ⟨r.val - 128, by omega⟩) := by
  pointwise [cat2v]

theorem vtile_read (v : Vec Ideal S1x1x128x128 .fp8e4m3) (d r : Fin 128) : vtile v (ix2 d r) = v (ix4 0 0 d r) := by
  pointwise [vtile]

theorem cat8k_read (kk : Fin 8 → FVec Ideal S32x128 .fp8e4m3) (r : Fin 256) (d : Fin 128) :
    cat8k kk (ix2 r d) = kk ⟨r.val / 32, by omega⟩ (ix2 ⟨r.val % 32, by omega⟩ d) := by
  pointwise [cat8k]
  split_ifs <;> (congr 2 <;> first | (apply Fin.ext; simp only; omega) | (congr 1; apply Fin.ext; simp only; omega))

theorem cat8p_read (kk : Fin 8 → FVec Ideal S32x256 .fp8e4m3) (r : Fin 256) (d : Fin 256) :
    cat8p kk (ix2 r d) = kk ⟨r.val / 32, by omega⟩ (ix2 ⟨r.val % 32, by omega⟩ d) := by
  pointwise [cat8p]
  split_ifs <;> (congr 2 <;> first | (apply Fin.ext; simp only; omega) | (congr 1; apply Fin.ext; simp only; omega))

end Cert.KernelIdeal

end
-- ==== Proof.Masks.lean ====
module

public import proofs.«01_k».proof.Proof.Tile

@[expose] public section

set_option maxRecDepth 16384

noncomputable section

namespace Cert.KernelIdeal

open Idealize.ShloMosaic
open Facts₀ Facts Cert.Num

/-- The position of column `e` in its block of 32. -/
theorem ppos32_read (r : Fin 32) (e : Fin 256) : ppos32 (ix2 r e) = BitVec.ofNat 32 (e.val % 32) := by
  pointwise [ppos32, lane32]
  revert e
  decide

theorem ppos128_read (r : Fin 128) (e : Fin 256) : ppos128 (ix2 r e) = BitVec.ofNat 32 (e.val % 32) := by
  pointwise [ppos128, lane32]
  revert e
  decide

theorem krow32_read (r : Fin 32) (e : Fin 256) : krow32 (ix2 r e) = BitVec.ofNat 32 r.val := by
  pointwise [krow32]

theorem krow128_read (r : Fin 128) (e : Fin 256) : krow128 (ix2 r e) = BitVec.ofNat 32 r.val := by
  pointwise [krow128]

/-- The rows of group `n` that the query at `p` sees, in a tile. -/
def Shown (tile n r p : Nat) : Prop :=
  (n = tile + 1 → p + 4 < r ∨ r < 4) ∧ (n = tile + 2 → p < r + 28) ∧ (n = tile → r ≤ p)

instance (tile n r p : Nat) : Decidable (Shown tile n r p) := inferInstanceAs (Decidable (_ ∧ _))

theorem masked_read (tile : Fin 4) (n : Fin 8) (z : EReal) (t : FVec Ideal S32x256 .f32) (r : Fin 32) (e : Fin 256) :
    masked (F := Ideal) (maskOf tile n) z t (ix2 r e) = if Shown tile.val n.val r.val (e.val % 32) then t (ix2 r e) else z := by
  have hr := toInt_nat r.val (by omega)
  have he := toInt_nat (e.val % 32) (by omega)
  have h4 : (4#32).toInt = 4 := by decide
  have h28 : (28#32).toInt = 28 := by decide
  have ha : (IntOp.addi (BitVec.ofNat 32 (e.val % 32)) 4#32).toInt = (e.val % 32 : Nat) + 4 := by
    rw [toInt_add _ _ (by rw [he, h4]; omega) (by rw [he, h4]; omega), he, h4]
  have hs : (IntOp.subi (BitVec.ofNat 32 (e.val % 32)) 28#32).toInt = (e.val % 32 : Nat) - 28 := by
    rw [toInt_sub _ _ (by rw [he, h28]; omega) (by rw [he, h28]; omega), he, h28]
  unfold maskOf
  by_cases h1 : n.val = tile.val + 1
  · rw [if_pos h1]
    pointwise [masked]
    rw [krow32_read, ppos32_read, cmpi_sgt, cmpi_slt, bit_or, select_bit, hr, ha, h4]
    refine if_congr ?_ rfl rfl
    unfold Shown
    omega
  by_cases h2 : n.val = tile.val + 2
  · rw [if_neg h1, if_pos h2]
    pointwise [masked]
    rw [krow32_read, ppos32_read, cmpi_sgt, select_bit, hr, hs]
    refine if_congr ?_ rfl rfl
    unfold Shown
    omega
  by_cases h3 : n.val = tile.val
  · rw [if_neg h1, if_neg h2, if_pos h3]
    pointwise [masked]
    rw [krow32_read, ppos32_read, cmpi_sle, select_bit, hr, he]
    refine if_congr ?_ rfl rfl
    unfold Shown
    omega
  · rw [if_neg h1, if_neg h2, if_neg h3, if_pos ⟨fun h => absurd h h1, fun h => absurd h h2, fun h => absurd h h3⟩]
    rfl

theorem iv_eq (n : Nat) : Scf.iv 0#32 1#32 n = BitVec.ofNat 32 n := by
  unfold Scf.iv
  simp

theorem t2_trips : k0_t2_loop.trips = 16 := by decide

theorem tileNo_eq (n : Fin 16) : tileNo (BitVec.ofNat 32 n.val) = BitVec.ofNat 32 (n.val % 4) := by
  revert n; decide

/-- What the query at row `q` sees: the sinks and the window. -/
def Seen (q t : Nat) : Prop := t ≤ q ∧ (q < t + 1500 ∨ t < 4)

instance (q t : Nat) : Decidable (Seen q t) := inferInstanceAs (Decidable (_ ∧ _))

theorem qpos_read (i : grid0.Coords) (t2 : Fin k0_t2_loop.trips) (r : Fin 128) (e : Fin 256) :
    qpos i t2 (ix2 r e) = BitVec.ofNat 32 (128 * (i 1).val + 32 * (t2.val % 4) + e.val % 32) := by
  have h2 : t2.val < 16 := t2_trips ▸ t2.isLt
  have h : tileNo (Scf.iv 0#32 1#32 t2.val) = BitVec.ofNat 32 (t2.val % 4) := by
    rw [iv_eq]; exact tileNo_eq ⟨t2.val, h2⟩
  pointwise [qpos]
  rw [ppos128_read, h]
  change BitVec.ofNat 32 (i 1).val * BitVec.ofNat 32 128 + BitVec.ofNat 32 (t2.val % 4) * BitVec.ofNat 32 32
    + BitVec.ofNat 32 (e.val % 32) = _
  rw [← BitVec.ofNat_mul, ← BitVec.ofNat_mul, ← BitVec.ofNat_add, ← BitVec.ofNat_add]
  exact congrArg (BitVec.ofNat 32) (by omega)

theorem visible_read (i : grid0.Coords) (t2 : Fin k0_t2_loop.trips) (b : Nat) (hb : b < 64) (r : Fin 128) (e : Fin 256) :
    visible i t2 (BitVec.ofNat 32 b) (ix2 r e) =
      if Seen (128 * (i 1).val + 32 * (t2.val % 4) + e.val % 32) (128 * b + r.val) then 1#1 else 0#1 := by
  have hi : (i 1).val < 64 := (i 1).isLt
  have hk : IntOp.addi (Scalar.muli (BitVec.ofNat 32 b) 128#32) (BitVec.ofNat 32 r.val) = BitVec.ofNat 32 (128 * b + r.val) := by
    change BitVec.ofNat 32 b * BitVec.ofNat 32 128 + BitVec.ofNat 32 r.val = _
    rw [← BitVec.ofNat_mul, ← BitVec.ofNat_add]
    exact congrArg (BitVec.ofNat 32) (by omega)
  pointwise [visible]
  rw [qpos_read, krow128_read]
  have h4 : (4#32).toInt = 4 := by decide
  have h15 : (1500#32).toInt = 1500 := by decide
  have hq := toInt_nat (128 * (i 1).val + 32 * (t2.val % 4) + e.val % 32) (by omega)
  have hs : (IntOp.subi (BitVec.ofNat 32 (128 * (i 1).val + 32 * (t2.val % 4) + e.val % 32)) 1500#32).toInt =
      ((128 * (i 1).val + 32 * (t2.val % 4) + e.val % 32 : Nat) : ℤ) - 1500 := by
    rw [toInt_sub _ _ (by rw [hq, h15]; omega) (by rw [hq, h15]; omega), hq, h15]
  rw [hk, cmpi_sle, cmpi_sgt, cmpi_slt, bit_or, bit_and, hq, hs, h4, toInt_nat _ (by omega)]
  refine if_congr ?_ rfl rfl
  unfold Seen
  omega

/-- Lanes below a bound. -/
theorem vlaneLt_read (b : Nat) (hb : b < 2 ^ 31) (d l : Fin 128) : vlaneLt b (ix2 d l) = if l.val < b then 1#1 else 0#1 := by
  pointwise [vlaneLt, lanes]
  rw [cmpi_slt, toInt_nat l.val (by omega), toInt_nat b hb]
  exact if_congr (by omega) rfl rfl

theorem vlaneGe_read (b : Nat) (hb : b < 2 ^ 31) (d l : Fin 128) : vlaneGe b (ix2 d l) = if b ≤ l.val then 1#1 else 0#1 := by
  pointwise [vlaneGe, lanes]
  rw [cmpi_sge, toInt_nat l.val (by omega), toInt_nat b hb]
  exact if_congr (by omega) rfl rfl

/-- The first value tile, its sinks put after the newest rows. -/
def valsA (tile : Fin 4) (sk v0 vp : Vec Ideal S1x1x128x128 .fp8e4m3) : FVec Ideal S128x128 .fp8e4m3 :=
  select (andi (vlaneGe (32 * (tile.val + 1))) (vlaneLt (32 * (tile.val + 1) + 4)))
    (dynamicRotate 1 (BitVec.ofNat 32 (32 * (tile.val + 1))) none (vtile sk) rotates_S128x128_d1)
    (select (vlaneLt (32 * (tile.val + 1))) (vtile v0) (vtile vp))

theorem valsA_read (tile : Fin 4) (h : tile.val < 3) (sk v0 vp : Vec Ideal S1x1x128x128 .fp8e4m3) (d l : Fin 128) :
    valsA tile sk v0 vp (ix2 d l) =
      if 32 * (tile.val + 1) ≤ l.val ∧ l.val < 32 * (tile.val + 1) + 4 then
        sk (ix4 0 0 d ⟨l.val % 32, by omega⟩)
      else if l.val < 32 * (tile.val + 1) then v0 (ix4 0 0 d l) else vp (ix4 0 0 d l) := by
  have hrot : 32 * (tile.val + 1) ≤ l.val ∧ l.val < 32 * (tile.val + 1) + 4 →
      dynamicRotate 1 (BitVec.ofNat 32 (32 * (tile.val + 1))) none (vtile sk) rotates_S128x128_d1 (ix2 d l) =
        sk (ix4 0 0 d ⟨l.val % 32, by omega⟩) := fun hl => by
    obtain ⟨t, ht⟩ := tile
    match t, ht with
    | 0, _ =>
      pointwise []
      rw [vtile_read]
      exact congrArg (fun y => sk (ix4 0 0 d y)) (Fin.ext (by change _ % _ = _ % _; simp only at hl; omega))
    | 1, _ =>
      pointwise []
      rw [vtile_read]
      exact congrArg (fun y => sk (ix4 0 0 d y)) (Fin.ext (by change _ % _ = _ % _; simp only at hl; omega))
    | 2, _ =>
      pointwise []
      rw [vtile_read]
      exact congrArg (fun y => sk (ix4 0 0 d y)) (Fin.ext (by change _ % _ = _ % _; simp only at hl; omega))
    | 3, _ => simp at h
  have e : valsA tile sk v0 vp (ix2 d l) = Scalar.select (IntOp.andi (vlaneGe (32 * (tile.val + 1)) (ix2 d l))
      (vlaneLt (32 * (tile.val + 1) + 4) (ix2 d l)))
      (dynamicRotate 1 (BitVec.ofNat 32 (32 * (tile.val + 1))) none (vtile sk) rotates_S128x128_d1 (ix2 d l))
      (Scalar.select (vlaneLt (32 * (tile.val + 1)) (ix2 d l)) (vtile v0 (ix2 d l)) (vtile vp (ix2 d l))) := rfl
  rw [e, vlaneGe_read _ (by omega), vlaneLt_read _ (by omega), vlaneLt_read _ (by omega), bit_and, select_bit, select_bit,
    vtile_read, vtile_read]
  by_cases hl : 32 * (tile.val + 1) ≤ l.val ∧ l.val < 32 * (tile.val + 1) + 4
  · rw [if_pos hl, if_pos hl, hrot hl]
  · rw [if_neg hl, if_neg hl]

/-- The second value tile of the last tile, the sinks first. -/
def valsB (sk v1 : Vec Ideal S1x1x128x128 .fp8e4m3) : FVec Ideal S128x128 .fp8e4m3 :=
  select (vlaneLt 4) (vtile sk) (vtile v1)

theorem valsB_read (sk v1 : Vec Ideal S1x1x128x128 .fp8e4m3) (d l : Fin 128) :
    valsB sk v1 (ix2 d l) = if l.val < 4 then sk (ix4 0 0 d l) else v1 (ix4 0 0 d l) := by
  have e : valsB sk v1 (ix2 d l) = Scalar.select (vlaneLt 4 (ix2 d l)) (vtile sk (ix2 d l)) (vtile v1 (ix2 d l)) := rfl
  rw [e, vlaneLt_read _ (by omega), select_bit, vtile_read, vtile_read]

end Cert.KernelIdeal

end
-- ==== Proof.Offs.lean ====
module

public import proofs.«01_k».proof.Proof.Masks

@[expose] public section

set_option maxRecDepth 16384

noncomputable section

namespace Cert.KernelIdeal

open Idealize.ShloMosaic
open Facts₀ Facts Cert.Num

/-! Where a steady block's and an early block's accesses are. -/

theorem cond2_iff : ∀ i : grid0.Coords, k0_cond2 i = 1#1 ↔ 12 ≤ (i 1).val := by decide +kernel
theorem cond3_iff : ∀ i : grid0.Coords, k0_cond3 i = 1#1 ↔ (i 1).val < 12 := by decide +kernel
theorem t1_trips : k0_t1_loop.trips = 4 := by decide
theorem t3_trips : ∀ i : grid0.Coords, (k0_t3_loop i).trips = (i 1).val + 1 := by decide +kernel
theorem t4_trips : ∀ i : grid0.Coords, (k0_t4_loop i).trips = 0 := by decide +kernel
theorem t5_trips : ∀ i : grid0.Coords, (k0_t5_loop i).trips = (i 1).val + 1 := by decide +kernel
theorem t6_trips : ∀ i : grid0.Coords, (k0_t6_loop i).trips = 0 := by decide +kernel

theorem off13_oldest : ∀ i : grid0.Coords, k0_cond2 i = 1#1 → ∀ (t1 : Fin k0_t1_loop.trips) (n : Fin 4),
    k0_off13 i t1 12#32 (BitVec.ofNat 32 (32 * n.val)) = ![t1.val, 128 * ((i 1).val - 12) + 32 * n.val, 0] := by decide +kernel
theorem off13_next : ∀ i : grid0.Coords, k0_cond2 i = 1#1 → ∀ (t1 : Fin k0_t1_loop.trips) (n : Fin 4),
    k0_off13 i t1 11#32 (BitVec.ofNat 32 (32 * n.val)) = ![t1.val, 128 * ((i 1).val - 11) + 32 * n.val, 0] := by decide +kernel
theorem off16_eq : ∀ i : grid0.Coords, k0_cond2 i = 1#1 → ∀ (t1 : Fin k0_t1_loop.trips) (c : Fin 5),
    k0_off16 i t1 (BitVec.ofNat 32 (2 + 2 * c.val)) = ![t1.val, 128 * ((i 1).val - 10 + 2 * c.val), 0] := by decide +kernel
theorem off18_oldest : ∀ i : grid0.Coords, k0_cond2 i = 1#1 → ∀ (t1 : Fin k0_t1_loop.trips),
    k0_off18 i t1 12#32 = ![t1.val, (i 1).val - 12, 0, 0] := by decide +kernel
theorem off18_next : ∀ i : grid0.Coords, k0_cond2 i = 1#1 → ∀ (t1 : Fin k0_t1_loop.trips),
    k0_off18 i t1 11#32 = ![t1.val, (i 1).val - 11, 0, 0] := by decide +kernel
theorem off20_even : ∀ i : grid0.Coords, k0_cond2 i = 1#1 → ∀ (t1 : Fin k0_t1_loop.trips) (c : Fin 5),
    k0_off20 i t1 12#32 (BitVec.ofNat 32 (2 + 2 * c.val)) = ![t1.val, (i 1).val - 10 + 2 * c.val, 0, 0] := by decide +kernel
theorem off20_odd : ∀ i : grid0.Coords, k0_cond2 i = 1#1 → ∀ (t1 : Fin k0_t1_loop.trips) (c : Fin 5),
    k0_off20 i t1 11#32 (BitVec.ofNat 32 (2 + 2 * c.val)) = ![t1.val, (i 1).val - 9 + 2 * c.val, 0, 0] := by decide +kernel

theorem off35_eq : ∀ t2 : Fin k0_t2_loop.trips, k0_off35 t2 = ![t2.val / 4, t2.val % 4, 0, 0] := by decide +kernel
theorem off36_eq : ∀ t2 : Fin k0_t2_loop.trips, k0_off36 t2 = ![t2.val / 4, t2.val % 4, 0, 0, 0] := by decide +kernel
theorem off37_eq : ∀ t2 : Fin k0_t2_loop.trips, k0_off37 t2 = ![t2.val / 4, t2.val % 4, 1, 0, 0] := by decide +kernel
theorem off38_eq : ∀ i : grid0.Coords, k0_cond3 i = 1#1 → ∀ (t2 : Fin k0_t2_loop.trips) (t3 : Fin (k0_t3_loop i).trips),
    k0_off38 i t2 t3 = ![t2.val / 4, 128 * t3.val, 0] := by decide +kernel
theorem off43_eq : ∀ i : grid0.Coords, k0_cond3 i = 1#1 → ∀ (t2 : Fin k0_t2_loop.trips) (t5 : Fin (k0_t5_loop i).trips),
    k0_off43 i t2 t5 = ![t2.val / 4, t5.val, 0, 0] := by decide +kernel
theorem off46_eq : ∀ t2 : Fin k0_t2_loop.trips, k0_off46 t2 = ![t2.val / 4, 0, 0] := by decide +kernel
theorem off47_eq : ∀ (t2 : Fin k0_t2_loop.trips) (g : Fin 8), k0_off47 t2 (BitVec.ofNat 32 g.val) =
    ![0, 32 * (t2.val % 4), 1024 * (t2.val / 4) + 128 * g.val] := by decide +kernel

/-- Row group `n`'s first row in the key caches. -/
theorem gOff_eq (i : grid0.Coords) (h2 : k0_cond2 i = 1#1) (t1 : Fin k0_t1_loop.trips) (tile : Fin 4) (n : Fin 8) :
    gOff i t1 tile n = ![t1.val, (if n.val ≤ tile.val then 128 * (i 1).val else 128 * ((i 1).val - 12)) + 32 * n.val, 0] := by
  have hT := (cond2_iff i).1 h2
  unfold gOff
  by_cases h4 : n.val < 4
  · rw [if_pos h4]
    by_cases hn : n.val ≤ tile.val
    · rw [if_pos hn, if_pos hn]
      exact Gen.k0_off12_eq i t1 ⟨n.val, h4⟩
    · rw [if_neg hn, if_neg hn]
      exact off13_oldest i h2 t1 ⟨n.val, h4⟩
  · rw [if_neg h4, if_neg (by omega)]
    refine (off13_next i h2 t1 ⟨n.val - 4, by omega⟩).trans ?_
    have : 128 * ((i 1).val - 11) + 32 * (n.val - 4) = 128 * ((i 1).val - 12) + 32 * n.val := by omega
    rw [← this]

theorem qOff_eq (t1 : Fin k0_t1_loop.trips) (tile : Fin 4) : qOff t1 tile = ![t1.val, tile.val, 0, 0] :=
  match tile with
  | 0 => Gen.k0_off9_eq t1 | 1 => Gen.k0_off23_eq t1 | 2 => Gen.k0_off27_eq t1 | 3 => Gen.k0_off31_eq t1
theorem aOff0_eq (t1 : Fin k0_t1_loop.trips) (tile : Fin 4) : aOff0 t1 tile = ![t1.val, tile.val, 0, 0, 0] :=
  match tile with
  | 0 => Gen.k0_off10_eq t1 | 1 => Gen.k0_off24_eq t1 | 2 => Gen.k0_off28_eq t1 | 3 => Gen.k0_off32_eq t1
theorem aOff1_eq (t1 : Fin k0_t1_loop.trips) (tile : Fin 4) : aOff1 t1 tile = ![t1.val, tile.val, 1, 0, 0] :=
  match tile with
  | 0 => Gen.k0_off11_eq t1 | 1 => Gen.k0_off25_eq t1 | 2 => Gen.k0_off29_eq t1 | 3 => Gen.k0_off33_eq t1
theorem oOff_eq (t1 : Fin k0_t1_loop.trips) (tile : Fin 4) (g : Fin 8) :
    oOff t1 tile (BitVec.ofNat 32 g.val) = ![0, 32 * tile.val, 1024 * t1.val + 128 * g.val] :=
  match tile with
  | 0 => Gen.k0_off22_eq t1 g | 1 => Gen.k0_off26_eq t1 g | 2 => Gen.k0_off30_eq t1 g | 3 => Gen.k0_off34_eq t1 g

end Cert.KernelIdeal

end
-- ==== Proof.Soft.lean ====
module

public import proofs.«01_k».proof.Proof.Ref
public import proofs.«01_k».proof.Proof.QOps

@[expose] public section

noncomputable section

namespace Cert.Num

open Idealize.ShloMosaic

/-- A clipped number is a real one. -/
theorem clip_real (x : EReal) : ∃ r : ℝ, clip x = (r : EReal) := by
  have h1 : clip x ≤ ((448 : ℝ) : EReal) := min_le_left _ _
  have h2 : ((-448 : ℝ) : EReal) ≤ clip x := le_min (EReal.coe_le_coe_iff.2 (by norm_num)) (le_max_left _ _)
  induction h : clip x using EReal.rec with
  | bot => rw [h] at h2; exact absurd (le_bot_iff.1 h2) (EReal.coe_ne_bot _)
  | coe r => exact ⟨r, rfl⟩
  | top => rw [h] at h1; exact absurd (top_le_iff.1 h1) (EReal.coe_ne_top _)

/-- Clipping leaves a number between 0 and 448 as it is. -/
theorem clip_id (r : ℝ) (h0 : 0 ≤ r) (h1 : r ≤ 448) : clip (r : EReal) = (r : EReal) := by
  unfold clip
  rw [max_eq_right (EReal.coe_le_coe_iff.2 (by linarith)), min_eq_right (EReal.coe_le_coe_iff.2 h1)]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A key's codes times a query's, times the key's scale. -/
def raw (q k : Fin 128 → EReal) : EReal := (∑ d, code k d * code q d) * scale k

theorem raw_real (q k : Fin 128 → EReal) (hk : Finite k) : ∃ r : ℝ, raw q k = (r : EReal) := by
  obtain ⟨s, -, hs, -⟩ := scale_word k hk
  choose ck hck using fun d => clip_real (Ideal.div (k d) (scale k))
  choose cq hcq using fun d => clip_real (Ideal.div (q d) (scale q))
  refine ⟨(∑ d, ck d * cq d) * s, ?_⟩
  unfold raw
  rw [hs, EReal.coe_mul, ← coe_sum]
  congr 1
  refine Finset.sum_congr rfl fun d _ => ?_
  rw [EReal.coe_mul]
  exact congrArg₂ (· * ·) (hck d) (hcq d)

/-- Weighted sums over the shown rows are weighted sums over the keys. -/
theorem sum_keys {K : Type} [Fintype K] [DecidableEq K] (n : Nat) (vis : Nat → Prop) [DecidablePred vis] (key : Nat → K)
    (V : K → Prop) [DecidablePred V]
    (inj : ∀ r r', r < n → r' < n → vis r → vis r' → key r = key r' → r = r')
    (sound : ∀ r, r < n → vis r → V (key r)) (complete : ∀ t, V t → ∃ r, r < n ∧ vis r ∧ key r = t) (f : K → ℝ) :
    ∑ r ∈ Finset.range n, (if vis r then f (key r) else 0) = ∑ t, if V t then f t else 0 := by
  rw [← Finset.sum_filter, ← Finset.sum_filter]
  refine Finset.sum_bij (fun r _ => key r) (fun r hr => ?_) (fun r hr r' hr' e => ?_) (fun t ht => ?_) (fun r _ => rfl)
  · have := Finset.mem_filter.1 hr
    exact Finset.mem_filter.2 ⟨Finset.mem_univ _, sound r (Finset.mem_range.1 this.1) this.2⟩
  · have h := Finset.mem_filter.1 hr
    have h' := Finset.mem_filter.1 hr'
    exact inj r r' (Finset.mem_range.1 h.1) (Finset.mem_range.1 h'.1) h.2 h'.2 e
  · obtain ⟨r, h1, h2, h3⟩ := complete t (Finset.mem_filter.1 ht).2
    exact ⟨r, Finset.mem_filter.2 ⟨Finset.mem_range.2 h1, h2⟩, h3⟩

/-- Multiplying the weights by a positive number does not change the weighted mean. -/
theorem mean_scaled (N L κ : ℝ) (hκ : 0 < κ) (hL : 0 < L) (vs : EReal) :
    (((κ * N : ℝ) : EReal) * vs) * Ideal.div 1 ((κ * (256 * L) : ℝ) : EReal) =
      Ideal.div ((N : EReal) * vs * ((1 / 256 : ℝ) : EReal)) (L : EReal) := by
  have h1 : ((κ * (256 * L) : ℝ) : EReal) ≠ 0 := by
    have : κ * (256 * L) ≠ 0 := by positivity
    exact_mod_cast this
  have h2 : (L : EReal) ≠ 0 := by
    have : L ≠ 0 := hL.ne'
    exact_mod_cast this
  unfold Ideal.div
  rw [if_neg h1, if_neg h2, one_mul, ← EReal.coe_inv, ← EReal.coe_inv]
  have e1 : ((κ * N : ℝ) : EReal) * vs * (((κ * (256 * L))⁻¹ : ℝ) : EReal) =
      vs * (((κ * N) * (κ * (256 * L))⁻¹ : ℝ) : EReal) := by
    rw [EReal.coe_mul (κ * N)]; ac_rfl
  have e2 : (N : EReal) * vs * ((1 / 256 : ℝ) : EReal) * ((L⁻¹ : ℝ) : EReal) = vs * ((N * (1 / 256) * L⁻¹ : ℝ) : EReal) := by
    rw [EReal.coe_mul, EReal.coe_mul]; ac_rfl
  rw [e1, e2]
  congr 2
  field_simp

end Cert.Num

namespace Cert.ReferenceIdeal

open Idealize.ShloMosaic Cert.Num

variable (x0 : (⟨3, ![4, 8192, 4096]⟩ : Shape).Idx → EReal) (x1 x2 : (⟨3, ![4, 8192, 512]⟩ : Shape).Idx → EReal)
  (x3 : (⟨3, ![4, 1, 512]⟩ : Shape).Idx → EReal)

theorem vis_self (q : Fin 8192) : Vis q q := ⟨le_rfl, .inl (by omega)⟩

/-- Attention over stored rows: with the weights taken from any bound of the scores, it is the reference's. -/
theorem soft (b h : Fin 4) (g : Fin 8) (q : Fin 8192) (d : Fin 128) (hq : Finite (qrow x0 b q h g))
    (hk : ∀ t, Finite (krow x1 b t h)) (n : Nat) (vis : Nat → Prop) [DecidablePred vis] (key : Nat → Fin 8192)
    (inj : ∀ r r', r < n → r' < n → vis r → vis r' → key r = key r' → r = r')
    (sound : ∀ r, r < n → vis r → Vis q (key r)) (complete : ∀ t, Vis q t → ∃ r, r < n ∧ vis r ∧ key r = t)
    (A M : EReal) (hA : A = scale (qrow x0 b q h g) * Ideal.ofBits .f32 0x3E0293EE#32)
    (hM0 : ⊥ < M) (hM1 : M < ⊤) (hM : ∀ r, r < n → vis r → raw (qrow x0 b q h g) (krow x1 b (key r) h) ≤ M) :
    (∑ r ∈ Finset.range n, clip (krow x2 b (key r) h d * Ideal.div 1 (vscale x3 b h d)) *
        clip (Ideal.exp2 (if vis r then raw (qrow x0 b q h g) (krow x1 b (key r) h) * A -
          (M * A - Ideal.ofBits .f32 0x41000000#32) else ⊥))) * vscale x3 b h d *
      Ideal.div 1 (∑ r ∈ Finset.range n, Ideal.exp2 (if vis r then raw (qrow x0 b q h g) (krow x1 b (key r) h) * A -
          (M * A - Ideal.ofBits .f32 0x41000000#32) else ⊥)) = attn x0 x1 x2 x3 b q h g d := by
  obtain ⟨s, hs, es, -⟩ := scale_word _ hq
  obtain ⟨c, hc, ec⟩ := cscore
  set α : ℝ := s * c with hα
  have hα0 : 0 < α := mul_pos hs hc
  have eA : A = (α : EReal) := by rw [hA, es, ec, hα, EReal.coe_mul]
  choose ρ hρ using fun t => raw_real (qrow x0 b q h g) (krow x1 b t h) (hk t)
  lift M to ℝ using ⟨hM1.ne, hM0.ne'⟩ with m
  have hs : ∀ t, score x0 x1 b h g q t = ((ρ t * α : ℝ) : EReal) := fun t => by
    rw [EReal.coe_mul, ← hρ t, ← eA, hA]
    unfold score raw
    ac_rfl
  -- the largest shown score
  obtain ⟨μ, hμ, hμle⟩ : ∃ μ : ℝ, Finset.univ.fold max ⊥ (shown x0 x1 b h g q) = (μ : EReal) ∧
      ∀ t, Vis q t → ρ t * α ≤ μ := by
    have hle := (fold_max_iff Finset.univ (shown x0 x1 b h g q) _).1 le_rfl
    have hsh : ∀ t, Vis q t → shown x0 x1 b h g q t = ((ρ t * α : ℝ) : EReal) := fun t ht => by
      unfold shown; rw [if_pos ht, hs]
    rcases fold_max_mem Finset.univ (shown x0 x1 b h g q) with e | ⟨t, -, e⟩
    · have := hle q (Finset.mem_univ _)
      rw [e, hsh q (vis_self q)] at this
      exact absurd (le_bot_iff.1 this) (EReal.coe_ne_bot _)
    · by_cases ht : Vis q t
      · refine ⟨ρ t * α, e.trans (hsh t ht), fun u hu => ?_⟩
        have := hle u (Finset.mem_univ _)
        rw [e, hsh t ht, hsh u hu] at this
        exact EReal.coe_le_coe_iff.1 this
      · have := hle q (Finset.mem_univ _)
        rw [e, hsh q (vis_self q)] at this
        unfold shown at this
        rw [if_neg ht] at this
        exact absurd (le_bot_iff.1 this) (EReal.coe_ne_bot _)
  set w : Fin 8192 → ℝ := fun t => Real.rpow 2 (ρ t * α - μ) with hw
  have hw0 : ∀ t, 0 < w t := fun t => Real.rpow_pos_of_pos (by norm_num) _
  have hw1 : ∀ t, Vis q t → w t ≤ 1 := fun t ht =>
    Real.rpow_le_one_of_one_le_of_nonpos (by norm_num) (by have := hμle t ht; linarith)
  have hweight : ∀ t, weight x0 x1 b h g q t = (((if Vis q t then w t else 0) : ℝ) : EReal) := fun t => by
    unfold weight
    rw [hμ]
    unfold shown
    by_cases ht : Vis q t
    · rw [if_pos ht, if_pos ht, if_pos ht, hs, ← EReal.coe_sub]
      rfl
    · rw [if_neg ht, if_neg ht]; rfl
  set κ : ℝ := Real.rpow 2 (μ - m * α) with hκ
  have hκ0 : 0 < κ := Real.rpow_pos_of_pos (by norm_num) _
  have hpow : ∀ t, Real.rpow 2 (ρ t * α - (m * α - 8)) = κ * (w t * 256) := fun t => by
    have e8 : (256 : ℝ) = Real.rpow 2 8 := by
      show (256 : ℝ) = (2 : ℝ) ^ (8 : ℝ)
      rw [show (8 : ℝ) = ((8 : ℕ) : ℝ) by norm_num, Real.rpow_natCast]; norm_num
    rw [hκ, hw, e8]
    change (2 : ℝ) ^ (ρ t * α - (m * α - 8)) = (2 : ℝ) ^ (μ - m * α) * ((2 : ℝ) ^ (ρ t * α - μ) * (2 : ℝ) ^ (8 : ℝ))
    rw [← Real.rpow_add (by norm_num), ← Real.rpow_add (by norm_num)]
    exact congrArg (fun z : ℝ => (2 : ℝ) ^ z) (by ring)
  have hE : ∀ r, r < n → Ideal.exp2 (if vis r then raw (qrow x0 b q h g) (krow x1 b (key r) h) * A -
      ((m : EReal) * A - Ideal.ofBits .f32 0x41000000#32) else ⊥) =
        (((if vis r then κ * (w (key r) * 256) else 0) : ℝ) : EReal) := fun r _ => by
    by_cases hr : vis r
    · rw [if_pos hr, if_pos hr, hρ, eA, c8, ← EReal.coe_mul, ← EReal.coe_mul, ← EReal.coe_sub, ← EReal.coe_sub,
        Ideal.exp2_coe, hpow]
    · rw [if_neg hr, if_neg hr]; rfl
  have hE1 : ∀ r, r < n → clip (((if vis r then κ * (w (key r) * 256) else 0) : ℝ) : EReal) =
      (((if vis r then κ * (w (key r) * 256) else 0) : ℝ) : EReal) := fun r hr => by
    by_cases hv : vis r
    · rw [if_pos hv]
      have h1 : ρ (key r) * α ≤ m * α := by
        have := hM r hr hv
        rw [hρ] at this
        exact mul_le_mul_of_nonneg_right (EReal.coe_le_coe_iff.1 this) hα0.le
      refine clip_id _ (by have := hw0 (key r); positivity) ?_
      rw [← hpow]
      have : Real.rpow 2 (ρ (key r) * α - (m * α - 8)) ≤ Real.rpow 2 8 :=
        Real.rpow_le_rpow_of_exponent_le (by norm_num) (by linarith)
      refine this.trans ?_
      show (2 : ℝ) ^ (8 : ℝ) ≤ _
      rw [show (8 : ℝ) = ((8 : ℕ) : ℝ) by norm_num, Real.rpow_natCast]; norm_num
    · rw [if_neg hv]; exact clip_id 0 le_rfl (by norm_num)
  choose vc hvc using fun t => clip_real (krow x2 b t h d * Ideal.div 1 (vscale x3 b h d))
  set L : ℝ := ∑ t, if Vis q t then w t else 0 with hL
  have hL0 : 0 < L := by
    refine lt_of_lt_of_le (hw0 q) ?_
    have := Finset.single_le_sum (s := Finset.univ) (f := fun t => if Vis q t then w t else 0)
      (fun t _ => by by_cases ht : Vis q t <;> simp [ht, (hw0 t).le]) (Finset.mem_univ q)
    simpa [vis_self q] using this
  have e3 : (∑ t, weight x0 x1 b h g q t) = (L : EReal) := by
    rw [hL, ← coe_sum]; exact Finset.sum_congr rfl fun t _ => hweight t
  by_cases hv : vscale x3 b h d = 0
  · unfold attn
    have hL' : (L : EReal) ≠ 0 := fun h => hL0.ne' (EReal.coe_eq_zero.1 h)
    rw [e3, hv, mul_zero, mul_zero, zero_mul, zero_mul]
    unfold Ideal.div
    rw [if_neg hL', zero_mul]
  have hvr : ∀ t, clip (Ideal.div (krow x2 b t h d) (vscale x3 b h d)) = (vc t : EReal) := fun t => by
    rw [← hvc]; unfold Ideal.div; rw [if_neg hv, if_neg hv, one_mul]
  set N : ℝ := ∑ t, if Vis q t then vc t * (w t * 256) else 0 with hN
  have e1 : (∑ r ∈ Finset.range n, clip (krow x2 b (key r) h d * Ideal.div 1 (vscale x3 b h d)) *
        clip (Ideal.exp2 (if vis r then raw (qrow x0 b q h g) (krow x1 b (key r) h) * A -
          ((m : EReal) * A - Ideal.ofBits .f32 0x41000000#32) else ⊥))) = ((κ * N : ℝ) : EReal) := by
    rw [hN, ← sum_keys n vis key (Vis q) inj sound complete (fun t => vc t * (w t * 256)), Finset.mul_sum, ← coe_sum]
    refine Finset.sum_congr rfl fun r hr => ?_
    have hr := Finset.mem_range.1 hr
    rw [hE r hr, hE1 r hr, hvc, ← EReal.coe_mul]
    refine congrArg Real.toEReal ?_
    split_ifs
    · ring
    · ring
  have e2 : (∑ r ∈ Finset.range n, Ideal.exp2 (if vis r then raw (qrow x0 b q h g) (krow x1 b (key r) h) * A -
          ((m : EReal) * A - Ideal.ofBits .f32 0x41000000#32) else ⊥)) = ((κ * (256 * L) : ℝ) : EReal) := by
    rw [hL, ← sum_keys n vis key (Vis q) inj sound complete w, Finset.mul_sum, Finset.mul_sum, ← coe_sum]
    refine Finset.sum_congr rfl fun r hr => ?_
    rw [hE r (Finset.mem_range.1 hr)]
    refine congrArg Real.toEReal ?_
    split_ifs
    · ring
    · ring
  rw [e1, e2, mean_scaled N L κ hκ0 hL0]
  have e4 : (∑ t, clip (Ideal.div (krow x2 b t h d) (vscale x3 b h d)) * clip (weight x0 x1 b h g q t * ((256 : ℝ) : EReal)))
      = (N : EReal) := by
    rw [hN, ← coe_sum]
    refine Finset.sum_congr rfl fun t _ => ?_
    rw [hvr, hweight, ← EReal.coe_mul, clip_id, ← EReal.coe_mul]
    · refine congrArg Real.toEReal ?_
      split_ifs
      · ring
      · ring
    · split_ifs with ht
      · exact mul_nonneg (hw0 t).le (by norm_num)
      · norm_num
    · split_ifs with ht
      · exact (mul_le_mul_of_nonneg_right (hw1 t ht) (by norm_num : (0 : ℝ) ≤ 256)).trans (by norm_num)
      · norm_num
  unfold attn
  rw [e3, e4]

end Cert.ReferenceIdeal

end
-- ==== Proof.Scored.lean ====
module

public import proofs.«01_k».proof.Proof.Offs
public import proofs.«01_k».proof.Proof.Point
public import proofs.«01_k».proof.Proof.Soft

@[expose] public section

set_option maxRecDepth 16384

noncomputable section

namespace Cert.KernelIdeal

open Idealize.ShloMosaic
open Facts₀ Facts Cert.Num Cert.Proof

/-! ## Loads -/

theorem ld2 {n0 n1 : Nat} (w : (⟨2, ![n0, n1]⟩ : Shape).Idx → EReal) (off size : Fin 2 → Nat) (inb) (a b : Nat)
    (h : off = ![a, b]) (j : (Rect.unit (s := ⟨2, ![n0, n1]⟩) off size inb).shape.Idx) (y0 : Fin n0) (y1 : Fin n1)
    (e0 : y0.val = a + (j 0).val) (e1 : y1.val = b + (j 1).val) :
    w ((Rect.unit (s := ⟨2, ![n0, n1]⟩) off size inb).toLoadRect.idx j) = w (ix2 y0 y1) := by
  subst h
  refine congrArg w (idx_unit _ _ _ _ _ fun x => ?_)
  match x with
  | ⟨0, _⟩ => exact e0
  | ⟨1, _⟩ => exact e1

theorem ld3 {n0 n1 n2 : Nat} (w : (⟨3, ![n0, n1, n2]⟩ : Shape).Idx → EReal) (off size : Fin 3 → Nat) (inb) (a b c : Nat)
    (h : off = ![a, b, c]) (j : (Rect.unit (s := ⟨3, ![n0, n1, n2]⟩) off size inb).shape.Idx) (y0 : Fin n0) (y1 : Fin n1)
    (y2 : Fin n2) (e0 : y0.val = a + (j 0).val) (e1 : y1.val = b + (j 1).val) (e2 : y2.val = c + (j 2).val) :
    w ((Rect.unit (s := ⟨3, ![n0, n1, n2]⟩) off size inb).toLoadRect.idx j) = w (ix3 y0 y1 y2) := by
  subst h
  refine congrArg w (idx_unit _ _ _ _ _ fun x => ?_)
  match x with
  | ⟨0, _⟩ => exact e0
  | ⟨1, _⟩ => exact e1
  | ⟨2, _⟩ => exact e2

theorem ld4 {n0 n1 n2 n3 : Nat} (w : (⟨4, ![n0, n1, n2, n3]⟩ : Shape).Idx → EReal) (off size : Fin 4 → Nat) (inb)
    (a b c d : Nat) (h : off = ![a, b, c, d]) (j : (Rect.unit (s := ⟨4, ![n0, n1, n2, n3]⟩) off size inb).shape.Idx)
    (y0 : Fin n0) (y1 : Fin n1) (y2 : Fin n2) (y3 : Fin n3) (e0 : y0.val = a + (j 0).val) (e1 : y1.val = b + (j 1).val)
    (e2 : y2.val = c + (j 2).val) (e3 : y3.val = d + (j 3).val) :
    w ((Rect.unit (s := ⟨4, ![n0, n1, n2, n3]⟩) off size inb).toLoadRect.idx j) = w (ix4 y0 y1 y2 y3) := by
  subst h
  refine congrArg w (idx_unit _ _ _ _ _ fun x => ?_)
  match x with
  | ⟨0, _⟩ => exact e0
  | ⟨1, _⟩ => exact e1
  | ⟨2, _⟩ => exact e2
  | ⟨3, _⟩ => exact e3

theorem ld5 {n0 n1 n2 n3 n4 : Nat} (w : (⟨5, ![n0, n1, n2, n3, n4]⟩ : Shape).Idx → EReal) (off size : Fin 5 → Nat) (inb)
    (a b c d f : Nat) (h : off = ![a, b, c, d, f])
    (j : (Rect.unit (s := ⟨5, ![n0, n1, n2, n3, n4]⟩) off size inb).shape.Idx)
    (y0 : Fin n0) (y1 : Fin n1) (y2 : Fin n2) (y3 : Fin n3) (y4 : Fin n4) (e0 : y0.val = a + (j 0).val)
    (e1 : y1.val = b + (j 1).val) (e2 : y2.val = c + (j 2).val) (e3 : y3.val = d + (j 3).val) (e4 : y4.val = f + (j 4).val) :
    w ((Rect.unit (s := ⟨5, ![n0, n1, n2, n3, n4]⟩) off size inb).toLoadRect.idx j) = w (ix5 y0 y1 y2 y3 y4) := by
  subst h
  refine congrArg w (idx_unit _ _ _ _ _ fun x => ?_)
  match x with
  | ⟨0, _⟩ => exact e0
  | ⟨1, _⟩ => exact e1
  | ⟨2, _⟩ => exact e2
  | ⟨3, _⟩ => exact e3
  | ⟨4, _⟩ => exact e4

/-! ## The rows of the score buffer -/

/-- A row's score: of the key it holds where it is shown, a large negative number elsewhere. -/
def rowScore (vis : Nat → Fin 256 → Prop) [∀ r e, Decidable (vis r e)] (key : Nat → Fin 8192)
    (kh : Fin 8192 → Fin 128 → EReal) (Q : Fin 256 → Fin 128 → EReal) (r : Nat) (e : Fin 256) : EReal :=
  if vis r e then raw (Q e) (kh (key r)) else Ideal.ofBits .f32 0xFF61B1E6#32

/-- The first `n` rows are stored, and the running maxima bound them. -/
structure Scored (S : Nat → Fin 256 → EReal) (n : Nat) (w : S1536x256.Idx → EReal) (m : S8x256.Idx → EReal) : Prop where
  buf : ∀ (r : Nat) (hr : r < 1536) (e : Fin 256), r < n → w (ix2 ⟨r, hr⟩ e) = S r e
  le : ∀ r e, r < n → S r e ≤ top m e
  lo : ∀ e, ⊥ < top m e
  hi : ∀ e, top m e < ⊤

theorem Scored.zero (S : Nat → Fin 256 → EReal) (w : S1536x256.Idx → EReal) :
    Scored S 0 w (broadcast S8x256 (NEG (F := Ideal))) := by
  obtain ⟨r, hr⟩ := cneg
  have h : ∀ s e, (broadcast S8x256 (NEG (F := Ideal)) : S8x256.Idx → EReal) (ix2 s e) = (r : EReal) := fun _ _ => hr
  refine ⟨fun _ _ _ h => absurd h (Nat.not_lt_zero _), fun _ _ h => absurd h (Nat.not_lt_zero _), fun e => ?_, fun e => ?_⟩
  · exact lt_of_lt_of_le (by rw [h]; exact EReal.bot_lt_coe r) (le_top_of _ e 0)
  · exact fold_lt _ _ _ bot_lt_top fun s _ => by rw [h]; exact EReal.coe_lt_top r

theorem Scored.next {S : Nat → Fin 256 → EReal} (hS : ∀ r e, S r e < ⊤) {n : Nat} (k : Nat) {w w' : S1536x256.Idx → EReal}
    {m m' : FVec Ideal S8x256 .f32} (h : Scored S n w m)
    (hin : ∀ (r : Nat) (hr : n + r < 1536) (e : Fin 256), r < k * 8 → w' (ix2 ⟨n + r, hr⟩ e) = S (n + r) e)
    (hout : ∀ (r : Nat) (hr : r < 1536) (e : Fin 256), r < n → w' (ix2 ⟨r, hr⟩ e) = w (ix2 ⟨r, hr⟩ e))
    (hm : ∀ (s : Fin 8) (e : Fin 256), m' (ix2 s e) =
      max (m (ix2 s e)) (Finset.univ.fold max ⊥ fun x : Fin k => S (n + (x.val * 8 + s.val)) e)) :
    Scored S (n + k * 8) w' m' := by
  have ht := fun e => top_rows m m' e k (fun r => S (n + r) e) (fun s => hm s e)
  refine ⟨fun r hr e hn => ?_, fun r e hn => ?_, fun e => lt_of_lt_of_le (h.lo e) (ht e).1,
    fun e => (ht e).2.2 (h.hi e) fun _ _ => hS _ _⟩
  · by_cases hlt : r < n
    · rw [hout r hr e hlt, h.buf r hr e hlt]
    · have := hin (r - n) (by omega) e (by omega)
      have e1 : n + (r - n) = r := by omega
      simpa only [e1] using this
  · by_cases hlt : r < n
    · exact (h.le r e hlt).trans (ht e).1
    · have := (ht e).2.1 (r - n) (by omega)
      have e1 : n + (r - n) = r := by omega
      simpa only [e1] using this

/-- The weighted sums and the weights' sums, over the first `n` rows. -/
structure Summed (V : Nat → Fin 128 → EReal) (E : Nat → Fin 256 → EReal) (n : Nat) (o : S128x256.Idx → EReal)
    (l : S8x256.Idx → EReal) : Prop where
  o : ∀ d e, o (ix2 d e) = ∑ r ∈ Finset.range n, V r d * clip (E r e)
  l : ∀ e, tot l e = ∑ r ∈ Finset.range n, E r e

theorem Summed.next {V : Nat → Fin 128 → EReal} {E : Nat → Fin 256 → EReal} {n : Nat} (k : Nat)
    {o o' : S128x256.Idx → EReal} {l l' : FVec Ideal S8x256 .f32} (h : Summed V E n o l)
    (ho : ∀ d e, o' (ix2 d e) = o (ix2 d e) + ∑ x : Fin (k * 8), V (n + x.val) d * clip (E (n + x.val) e))
    (hl : ∀ (s : Fin 8) (e : Fin 256), l' (ix2 s e) = l (ix2 s e) + ∑ x : Fin k, E (n + (x.val * 8 + s.val)) e) :
    Summed V E (n + k * 8) o' l' := by
  refine ⟨fun d e => ?_, fun e => ?_⟩
  · rw [ho, h.o, Finset.sum_range_add, ← Finset.sum_range fun x => V (n + x) d * clip (E (n + x) e)]
  · rw [tot_rows l l' e k (fun r => E (n + r) e) (fun s => hl s e), h.l, Finset.sum_range_add]

/-- A row's weight before the sums. -/
def rowExp (vis : Nat → Fin 256 → Prop) [∀ r e, Decidable (vis r e)] (S : Nat → Fin 256 → EReal) (A B : Fin 256 → EReal)
    (r : Nat) (e : Fin 256) : EReal := Ideal.exp2 (if vis r e then S r e * A e - B e else ⊥)

theorem clip8_read {s : Shape} (x : FVec Ideal s .f32) (j : s.Idx) : (clip8 x j : EReal) = clip (x j) := by
  change min (Ideal.ofBits .f32 0x43E00000#32) (max (Ideal.ofBits .f32 0xC3E00000#32) (x j)) = _
  rw [c448, cm448]
  rfl

end Cert.KernelIdeal

end
-- ==== Proof.Steady.lean ====
module

public import proofs.«01_k».proof.Proof.Scored

@[expose] public section

set_option maxRecDepth 16384

noncomputable section

namespace Cert.KernelIdeal

open Idealize.ShloMosaic
open Facts₀ Facts Cert.Num Cert.Proof

/-! ## The rows of a steady tile -/

/-- The key at row `r` of tile `j` in block `T`: the newest block up to the tile's own 32 rows, then the oldest blocks' keys,
with the sinks in the first four rows of the group after the tile's own. -/
def keyS (T j r : Nat) : Nat :=
  if r < 256 then
    if r / 32 = j + 1 ∧ r % 32 < 4 then r % 32 else if r / 32 ≤ j then 128 * T + r else 128 * (T - 12) + r
  else 128 * (T - 10) + (r - 256)

/-- The same, as a row of the whole array. -/
def keyF (T j r : Nat) : Fin 8192 := ⟨keyS T j r % 8192, by omega⟩

/-- The rows that the query of column `e` is shown. -/
def visS (j r : Nat) (e : Fin 256) : Prop := r < 256 → Shown j (r / 32) (r % 32) (e.val % 32)

instance (j r : Nat) (e : Fin 256) : Decidable (visS j r e) := inferInstanceAs (Decidable (_ → _))

theorem keyF_val (T j r : Nat) (hT : 12 ≤ T) (hT' : T < 64) (hj : j < 4) (hr : r < 1536) : (keyF T j r).val = keyS T j r := by
  refine Nat.mod_eq_of_lt ?_
  unfold keyS
  split_ifs <;> omega

/-- Every key the query sees is shown in one row, and nothing else is. -/
theorem keyS_sound (T j r : Nat) (e : Fin 256) (hT : 12 ≤ T) (hj : j < 4) (hr : r < 1536) (hv : visS j r e) :
    Seen (128 * T + 32 * j + e.val % 32) (keyS T j r) := by
  unfold visS Shown at hv
  unfold keyS Seen
  split_ifs with h1 h2 h3 <;> omega

theorem keyS_inj (T j r r' : Nat) (e : Fin 256) (hT : 12 ≤ T) (hj : j < 4) (hr : r < 1536) (hr' : r' < 1536)
    (hv : visS j r e) (hv' : visS j r' e) (h : keyS T j r = keyS T j r') : r = r' := by
  unfold visS Shown at hv hv'
  unfold keyS at h
  split_ifs at h <;> omega

theorem keyS_complete (T j t : Nat) (e : Fin 256) (hT : 12 ≤ T) (hj : j < 4)
    (h : Seen (128 * T + 32 * j + e.val % 32) t) : ∃ r, r < 1536 ∧ visS j r e ∧ keyS T j r = t := by
  unfold Seen at h
  unfold visS Shown keyS
  by_cases h4 : t < 4
  · refine ⟨32 * (j + 1) + t, by omega, fun _ => by omega, ?_⟩
    rw [if_pos (by omega), if_pos (by omega)]; omega
  by_cases hn : 128 * T ≤ t
  · refine ⟨t - 128 * T, by omega, fun _ => by omega, ?_⟩
    rw [if_pos (by omega), if_neg (by omega), if_pos (by omega)]; omega
  by_cases ho : t < 128 * (T - 10)
  · refine ⟨t - 128 * (T - 12), by omega, fun _ => by omega, ?_⟩
    rw [if_pos (by omega), if_neg (by omega), if_neg (by omega)]; omega
  · refine ⟨t - 128 * (T - 10) + 256, by omega, fun _ => by omega, ?_⟩
    rw [if_neg (by omega)]; omega

/-! ## A row group's keys -/

section Groups

variable (M : Mems) (i : grid0.Coords) (h2 : k0_cond2 i = 1#1) (t1 : Fin k0_t1_loop.trips) (tile : Fin 4)

/-- The sinks' codes over a group's. -/
def sinkK (sk k : Vec Ideal S1x32x128 .fp8e4m3) : FVec Ideal S32x128 .fp8e4m3 :=
  select (cmpi .slt (iota .tc S32x128 32 [0] iota_S32x128_d0_w32) (broadcast S32x128 4#32))
    (shapeCast S32x128 (sk : FVec Ideal S1x32x128 .fp8e4m3) shapeCasts_S1x32x128_S32x128)
    (shapeCast S32x128 (k : FVec Ideal S1x32x128 .fp8e4m3) shapeCasts_S1x32x128_S32x128)

/-- The sinks' scales over a group's. -/
def sinkS (s8 : Vec Ideal S1x8x128 .f32) (s : Vec Ideal S1x32x128 .f32) : FVec Ideal S32x128 .f32 :=
  concatenate S32x128 0
    [⟨S8x128, select (cmpi .slt (iota .tc S8x128 32 [0] iota_S8x128_d0_w32) (broadcast S8x128 4#32))
        (shapeCast S8x128 (s8 : FVec Ideal S1x8x128 .f32) shapeCasts_S1x8x128_S8x128)
        (extractStridedSlice S8x128 ![0, 0] (shapeCast S32x128 (s : FVec Ideal S1x32x128 .f32) shapeCasts_S1x32x128_S32x128)
          slices_S32x128_o0_0_S8x128)⟩,
      ⟨S24x128, extractStridedSlice S24x128 ![8, 0] (shapeCast S32x128 (s : FVec Ideal S1x32x128 .f32) shapeCasts_S1x32x128_S32x128)
        slices_S32x128_o8_0_S24x128⟩]
    concatenates_S8x128_S24x128_S32x128_d0

def plainK (k : Vec Ideal S1x32x128 .fp8e4m3) : FVec Ideal S32x128 .fp8e4m3 :=
  shapeCast S32x128 (k : FVec Ideal S1x32x128 .fp8e4m3) shapeCasts_S1x32x128_S32x128
def plainS (s : Vec Ideal S1x32x128 .f32) : FVec Ideal S32x128 .f32 :=
  shapeCast S32x128 (s : FVec Ideal S1x32x128 .f32) shapeCasts_S1x32x128_S32x128

theorem plainK_read (k : Vec Ideal S1x32x128 .fp8e4m3) (p : Fin 32) (d : Fin 128) : plainK k (ix2 p d) = k (ix3 0 p d) := by
  pointwise [plainK]
theorem plainS_read (k : Vec Ideal S1x32x128 .f32) (p : Fin 32) (d : Fin 128) : plainS k (ix2 p d) = k (ix3 0 p d) := by
  pointwise [plainS]

theorem sinkK_read (sk k : Vec Ideal S1x32x128 .fp8e4m3) (p : Fin 32) (d : Fin 128) :
    sinkK sk k (ix2 p d) = if p.val < 4 then sk (ix3 0 p d) else k (ix3 0 p d) := by
  rw [← select_bit]
  have h4 : (4#32).toInt = 4 := by decide
  have e : IntOp.cmpi .slt (BitVec.ofNat 32 p.val) 4#32 = if p.val < 4 then 1#1 else 0#1 := by
    rw [cmpi_slt, toInt_nat _ (by omega), h4]
    exact if_congr (by omega) rfl rfl
  rw [← e]
  pointwise [sinkK]

theorem sinkS_read (s8 : Vec Ideal S1x8x128 .f32) (s : Vec Ideal S1x32x128 .f32) (p : Fin 32) (d : Fin 128) :
    sinkS s8 s (ix2 p d) = if h : p.val < 4 then s8 (ix3 0 ⟨p.val, by omega⟩ d) else s (ix3 0 p d) := by
  have h4 : (4#32).toInt = 4 := by decide
  pointwise [sinkS]
  by_cases h8 : p.val < 8
  · rw [dif_pos h8, cmpi_slt, toInt_nat _ (by omega), h4, select_bit]
    by_cases hp : p.val < 4
    · rw [dif_pos hp, if_pos (by omega)]
    · rw [dif_neg hp, if_neg (by omega)]
  · rw [dif_neg h8, dif_neg (by omega)]
    exact congrArg (fun y => s (ix3 0 y d)) (Fin.ext (by change 8 + (p.val - 8) = p.val; omega))

/-- What a row group's command reads. -/
def gK (n : Fin 8) (σ : Si) : Vec Ideal S1x32x128 .fp8e4m3 := fun j =>
  σ .ksc ((Rect.unit (s := S4x8192x128) (gOff i t1 tile n) S1x32x128.size (gOff_inb i h2 t1 tile n)).toLoadRect.idx j)
def gS (n : Fin 8) (σ : Si) : Vec Ideal S1x32x128 .f32 := fun j =>
  σ .ksb ((Rect.unit (s := S4x8192x128) (gOff i t1 tile n) S1x32x128.size (gOff_inb i h2 t1 tile n)).toLoadRect.idx j)
def gSk (σ : Si) : Vec Ideal S1x32x128 .fp8e4m3 := fun j =>
  σ .ksc ((Rect.unit (s := S4x8192x128) (k0_off14 t1) S1x32x128.size (k0_off14_inb i t1 h2)).toLoadRect.idx j)
def gS8 (σ : Si) : Vec Ideal S1x8x128 .f32 := fun j =>
  σ .ksb ((Rect.unit (s := S4x8192x128) (k0_off15 t1) S1x8x128.size (k0_off15_inb i t1 h2)).toLoadRect.idx j)

/-- A row group's keys' codes and scales. -/
def groupVal (n : Fin 8) (σ : Si) : FVec Ideal S32x128 .fp8e4m3 × FVec Ideal S32x128 .f32 :=
  if n.val = tile.val + 1 then (sinkK (gSk i h2 t1 σ) (gK i h2 t1 tile n σ), sinkS (gS8 i h2 t1 σ) (gS i h2 t1 tile n σ))
  else (plainK (gK i h2 t1 tile n σ), plainS (gS i h2 t1 tile n σ))

theorem group_run (n : Fin 8) (σ : Si) :
    Cmd.run (B := bank M) (Val := Elt Ideal) (groupCmd M i h2 t1 tile n) σ = (σ, groupVal i h2 t1 tile n σ) := by
  unfold groupVal
  by_cases h : n.val = tile.val + 1
  · rw [if_pos h]
    exact (dif_pos h : (dite (n.val = tile.val + 1) _ _ : Si × _) = _)
  · rw [if_neg h]
    exact (dif_neg h : (dite (n.val = tile.val + 1) _ _ : Si × _) = _)

theorem eight_run {α : Type} (f : Fin 8 → Kc Ideal M α) (g : Fin 8 → α) (σ : Si)
    (h : ∀ n, Cmd.run (B := bank M) (Val := Elt Ideal) (f n) σ = (σ, g n)) :
    Cmd.run (B := bank M) (Val := Elt Ideal) (eight M f) σ = (σ, g) := by
  have e : Cmd.run (B := bank M) (Val := Elt Ideal) (eight M f) σ = (σ, ![g 0, g 1, g 2, g 3, g 4, g 5, g 6, g 7]) := by
    simp only [eight, Cmd.run, h]
  rw [e]
  refine congrArg (Prod.mk σ) ?_
  funext n
  fin_cases n <;> rfl

variable (kh : Fin 8192 → Fin 128 → EReal) (h : Fin 4) (hh : h.val = t1.val)

/-- The key caches hold head `h`'s keys up to the point's block. -/
structure Keys (T : Nat) (σ : Si) : Prop where
  code : ∀ (p : Fin 8192) (d : Fin 128), p.val < 128 * (T + 1) → (σ .ksc : S4x8192x128.Idx → EReal) (ix3 h p d) = code (kh p) d
  scale : ∀ (p : Fin 8192) (d : Fin 128), p.val < 128 * (T + 1) → (σ .ksb : S4x8192x128.Idx → EReal) (ix3 h p d) = scale (kh p)

include hh

theorem group_read (n : Fin 8) (σ : Si) (hk : Keys kh h (i 1).val σ) (p : Fin 32) (d : Fin 128) :
    (groupVal i h2 t1 tile n σ).1 (ix2 p d) = code (kh (keyF (i 1).val tile.val (32 * n.val + p.val))) d ∧
    (groupVal i h2 t1 tile n σ).2 (ix2 p d) = scale (kh (keyF (i 1).val tile.val (32 * n.val + p.val))) := by
  have hT := (cond2_iff i).1 h2
  have hT' : (i 1).val < 64 := (i 1).isLt
  have hF := keyF_val (i 1).val tile.val (32 * n.val + p.val) hT hT' tile.isLt (by omega)
  have hb : keyS (i 1).val tile.val (32 * n.val + p.val) < 128 * ((i 1).val + 1) := by
    unfold keyS; split_ifs <;> omega
  have hn : (32 * n.val + p.val) / 32 = n.val := by omega
  have hp : (32 * n.val + p.val) % 32 = p.val := by omega
  have hS : keyS (i 1).val tile.val (32 * n.val + p.val) = if n.val = tile.val + 1 ∧ p.val < 4 then p.val else
      (if n.val ≤ tile.val then 128 * (i 1).val else 128 * ((i 1).val - 12)) + 32 * n.val + p.val := by
    unfold keyS
    rw [if_pos (by omega), hn, hp]
    split_ifs <;> omega
  have eK : ¬ (n.val = tile.val + 1 ∧ p.val < 4) → gK i h2 t1 tile n σ (ix3 0 p d) =
      code (kh (keyF (i 1).val tile.val (32 * n.val + p.val))) d := fun hne => by
    rw [if_neg hne] at hS
    refine Eq.trans ?_ (hk.code _ _ (by rw [hF]; exact hb))
    exact ld3 (σ .ksc) _ _ _ _ _ _ (gOff_eq i h2 t1 tile n) (ix3 0 p d) h _ d hh (by rw [hF, hS]; rfl) (Nat.zero_add _).symm
  have eS : ¬ (n.val = tile.val + 1 ∧ p.val < 4) → gS i h2 t1 tile n σ (ix3 0 p d) =
      scale (kh (keyF (i 1).val tile.val (32 * n.val + p.val))) := fun hne => by
    rw [if_neg hne] at hS
    refine Eq.trans ?_ (hk.scale _ d (by rw [hF]; exact hb))
    exact ld3 (σ .ksb) _ _ _ _ _ _ (gOff_eq i h2 t1 tile n) (ix3 0 p d) h _ d hh (by rw [hF, hS]; rfl) (Nat.zero_add _).symm
  have eK' : n.val = tile.val + 1 ∧ p.val < 4 → gSk i h2 t1 σ (ix3 0 p d) =
      code (kh (keyF (i 1).val tile.val (32 * n.val + p.val))) d := fun hne => by
    rw [if_pos hne] at hS
    refine Eq.trans ?_ (hk.code _ _ (by rw [hF]; exact hb))
    exact ld3 (σ .ksc) _ _ _ _ _ _ (Gen.k0_off14_eq t1) (ix3 0 p d) h _ d hh (by rw [hF, hS]; exact (Nat.zero_add _).symm)
      (Nat.zero_add _).symm
  have eS' : ∀ (hp : p.val < 8), n.val = tile.val + 1 ∧ p.val < 4 → gS8 i h2 t1 σ (ix3 0 ⟨p.val, hp⟩ d) =
      scale (kh (keyF (i 1).val tile.val (32 * n.val + p.val))) := fun hp hne => by
    rw [if_pos hne] at hS
    refine Eq.trans ?_ (hk.scale _ d (by rw [hF]; exact hb))
    exact ld3 (σ .ksb) _ _ _ _ _ _ (Gen.k0_off15_eq t1) (ix3 0 ⟨p.val, hp⟩ d) h _ d hh
      (by rw [hF, hS]; exact (Nat.zero_add _).symm) (Nat.zero_add _).symm
  unfold groupVal
  by_cases h1 : n.val = tile.val + 1
  · rw [if_pos h1]; dsimp only; rw [sinkK_read, sinkS_read]
    by_cases h4 : p.val < 4
    · rw [if_pos h4, dif_pos h4]
      exact ⟨eK' ⟨h1, h4⟩, eS' (by omega) ⟨h1, h4⟩⟩
    · rw [if_neg h4, dif_neg h4]
      exact ⟨eK fun hx => h4 hx.2, eS fun hx => h4 hx.2⟩
  · rw [if_neg h1]; dsimp only; rw [plainK_read, plainS_read]
    exact ⟨eK fun hx => h1 hx.1, eS fun hx => h1 hx.1⟩

end Groups

end Cert.KernelIdeal

end
-- ==== Proof.Marks.lean ====
module

public import proofs.«01_k».proof.Proof.Steady

@[expose] public section

set_option maxRecDepth 16384

noncomputable section

namespace Cert.KernelIdeal

open Idealize.ShloMosaic
open Facts₀ Facts Cert.Num Cert.Proof

/-! ## A steady tile's scores -/

variable (M : Mems)

theorem twice32_same (x : FVec Ideal S32x128 .f32) (p : Fin 32) (e : Fin 256) (c : EReal) (h : ∀ d, x (ix2 p d) = c) :
    twice32 x (ix2 p e) = c := by
  rw [twice32_read]; split_ifs <;> exact h _
theorem twice256_same (x : FVec Ideal S256x128 .f32) (p : Fin 256) (e : Fin 256) (c : EReal) (h : ∀ d, x (ix2 p d) = c) :
    twice256 x (ix2 p e) = c := by
  rw [twice256_read]; split_ifs <;> exact h _
theorem twice128_same (x : FVec Ideal S128x128 .f32) (p : Fin 128) (e : Fin 256) (c : EReal) (h : ∀ d, x (ix2 p d) = c) :
    twice128 x (ix2 p e) = c := by
  rw [twice128_read]; split_ifs <;> exact h _

section First

variable (tile : Fin 4) (s : FVec Ideal S256x256 .f32) (ss : Fin 8 → FVec Ideal S32x128 .f32)

def rect32 (n : Fin 8) : Rect S1536x256 := Rect.unit (s := S1536x256) ![32 * n.val, 0] S32x256.size (inb_sb32 n)
def put32 (n : Fin 8) : Vec Ideal S32x256 .f32 := shapeCast S32x256 (groupScore tile n s (ss n)) shapeCasts_S32x256_S32x256

theorem groupScore_read (n : Fin 8) (p : Fin 32) (e : Fin 256) : groupScore tile n s (ss n) (ix2 p e) =
    if Shown tile.val n.val p.val (e.val % 32) then s (ix2 ⟨32 * n.val + p.val, by omega⟩ e) * twice32 (ss n) (ix2 p e)
    else Ideal.ofBits .f32 0xFF61B1E6#32 := by
  have e1 : mulf (extractStridedSlice S32x256 ![32 * n.val, 0] s (slices_s n)) (twice32 (ss n)) (ix2 p e) =
      s (ix2 ⟨32 * n.val + p.val, by omega⟩ e) * twice32 (ss n) (ix2 p e) := by pointwise []
  rw [← e1]
  exact masked_read tile n _ _ p e

theorem put32_read (n : Fin 8) (p : Fin 32) (e : Fin 256) : put32 tile s ss n (ix2 p e) = groupScore tile n s (ss n) (ix2 p e) := by
  pointwise [put32]

/-- Store one row group's scores. -/
def firstScore (n : Fin 8) (m8 : FVec Ideal S8x256 .f32) : Kc Ideal M (FVec Ideal S8x256 .f32) :=
  .ld (B := bank M) .sbuf (Rect.unit (s := S1536x256) ![32 * n.val, 0] S32x256.size (inb_sb32 n)).toLoadRect
    (View.loadsAt_vmem h_S32x256) fun _ =>
  .st (B := bank M) .sbuf (Rect.unit (s := S1536x256) ![32 * n.val, 0] S32x256.size (inb_sb32 n))
    (shapeCast S32x256 (groupScore tile n s (ss n)) shapeCasts_S32x256_S32x256)
    (View.stores_vmem_bits_univ h_S32x256 rfl) <|
  .ret (max32 m8 (groupScore tile n s (ss n)))

theorem firstScore_put (n : Fin 8) (m8 : FVec Ideal S8x256 .f32) (σ : Si) :
    runS M (firstScore M tile s ss n m8) σ = upd M σ .sbuf (rect32 n) (put32 tile s ss n) := rfl
theorem firstScore_run (n : Fin 8) (m8 : FVec Ideal S8x256 .f32) (σ : Si) :
    (runS M (firstScore M tile s ss n m8) σ .sbuf : S1536x256.Idx → EReal) =
      (rect32 n).overlay (σ .sbuf : S1536x256.Idx → EReal) (put32 tile s ss n) :=
  (congrFun (firstScore_put M tile s ss n m8 σ) .sbuf).trans (upd_self M σ .sbuf (rect32 n) (put32 tile s ss n))

theorem firstScore_keeps (n : Fin 8) (m8 : FVec Ideal S8x256 .f32) (σ : Si) (k : Bf) (hk : k ≠ .sbuf) :
    runS M (firstScore M tile s ss n m8) σ k = σ k :=
  (congrFun (firstScore_put M tile s ss n m8 σ) k).trans (upd_ne M σ .sbuf (rect32 n) (put32 tile s ss n) k hk)

/-- The first 256 rows are stored, and only they. -/
theorem firstScores_run (S : Nat → Fin 256 → EReal) (hS : ∀ r e, S r e < ⊤) (σ : Si)
    (h : ∀ (n : Fin 8) (p : Fin 32) (e : Fin 256), groupScore tile n s (ss n) (ix2 p e) = S (32 * n.val + p.val) e) :
    (∀ k, k ≠ .sbuf → runS M (firstScores M tile s ss (broadcast S8x256 NEG)) σ k = σ k) ∧
    Scored S 256 (runS M (firstScores M tile s ss (broadcast S8x256 NEG)) σ .sbuf)
      (runV M (firstScores M tile s ss (broadcast S8x256 NEG)) σ) := by
  refine each_keeps M (firstScore M tile s ss)
    (fun n σ' m => (∀ k, k ≠ .sbuf → σ' k = σ k) ∧ Scored S (n * 32) (σ' .sbuf) m)
    (fun n σ' m hI => ⟨fun k hk => (firstScore_keeps M tile s ss n m σ' k hk).trans (hI.1 k hk), ?_⟩) σ _
    ⟨fun _ _ => rfl, Scored.zero S _⟩
  have hn := Scored.next hS 4 (w' := runS M (firstScore M tile s ss n m) σ' .sbuf)
    (m' := runV M (firstScore M tile s ss n m) σ') hI.2 ?_ ?_ ?_
  · have e : (n.val + 1) * 32 = n.val * 32 + 4 * 8 := by omega
    rw [e]; exact hn
  · intro r hr e hlt
    rw [firstScore_run]
    refine (overlay_in _ _ _ _ _ _ (ix2 ⟨r, by omega⟩ e) fun a => ?_).trans ?_
    · match a with
      | ⟨0, _⟩ => change n.val * 32 + r = 32 * n.val + r; omega
      | ⟨1, _⟩ => exact (Nat.zero_add _).symm
    · refine (put32_read tile s ss n ⟨r, by omega⟩ e).trans ((h n ⟨r, by omega⟩ e).trans ?_)
      exact congrArg (fun y => S y e) (by change 32 * n.val + r = n.val * 32 + r; omega)
  · intro r hr e hlt
    rw [firstScore_run]
    exact overlay_out _ _ _ _ _ _ 0 (.inl (by change r < 32 * n.val; omega))
  · intro a e
    refine (max32_read m (groupScore tile n s (ss n)) a e).trans ?_
    refine congrArg (fun y => max (m (ix2 a e)) (Finset.univ.fold max ⊥ y)) (funext fun x => ?_)
    refine (h n ⟨x.val * 8 + a.val, by omega⟩ e).trans ?_
    exact congrArg (fun y => S y e) (by change 32 * n.val + (x.val * 8 + a.val) = n.val * 32 + (x.val * 8 + a.val); omega)

end First

section Chunk

variable (i : grid0.Coords) (h2 : k0_cond2 i = 1#1) (t1 : Fin k0_t1_loop.trips) (q : FVec Ideal S256x128 .fp8e4m3)

def cK (c : Fin 5) (σ : Si) : Vec Ideal S1x256x128 .fp8e4m3 := fun j =>
  σ .ksc ((Rect.unit (s := S4x8192x128) (cOff i t1 c) S1x256x128.size (cOff_inb i h2 t1 c)).toLoadRect.idx j)
def cS (c : Fin 5) (σ : Si) : Vec Ideal S1x256x128 .f32 := fun j =>
  σ .ksb ((Rect.unit (s := S4x8192x128) (cOff i t1 c) S1x256x128.size (cOff_inb i h2 t1 c)).toLoadRect.idx j)

def chunkT (k : Vec Ideal S1x256x128 .fp8e4m3) (s : Vec Ideal S1x256x128 .f32) : FVec Ideal S256x256 .f32 :=
  mulf (scores (shapeCast S256x128 (k : FVec Ideal S1x256x128 .fp8e4m3) shapeCasts_S1x256x128_S256x128) q)
    (twice256 (shapeCast S256x128 (s : FVec Ideal S1x256x128 .f32) shapeCasts_S1x256x128_S256x128))

def rect256 (c : Fin 5) : Rect S1536x256 := Rect.unit (s := S1536x256) ![256 * (c.val + 1), 0] S256x256.size (inb_sb256 c)
def put256 (t : FVec Ideal S256x256 .f32) : Vec Ideal S256x256 .f32 := shapeCast S256x256 t shapeCasts_S256x256_S256x256
theorem put256_read (t : FVec Ideal S256x256 .f32) (r e : Fin 256) : put256 t (ix2 r e) = t (ix2 r e) := by
  pointwise [put256]

theorem chunkT_read (k : Vec Ideal S1x256x128 .fp8e4m3) (s : Vec Ideal S1x256x128 .f32) (r e : Fin 256) (f g : Fin 128 → EReal)
    (hk : ∀ d, k (ix3 0 r d) = code f d) (hs : ∀ d, s (ix3 0 r d) = scale f) (hq : ∀ d, q (ix2 e d) = code g d) :
    chunkT q k s (ix2 r e) = raw g f := by
  have e1 : chunkT q k s (ix2 r e) =
      scores (shapeCast S256x128 (k : FVec Ideal S1x256x128 .fp8e4m3) shapeCasts_S1x256x128_S256x128) q (ix2 r e) *
        twice256 (shapeCast S256x128 (s : FVec Ideal S1x256x128 .f32) shapeCasts_S1x256x128_S256x128) (ix2 r e) := rfl
  rw [e1, scores_read, twice256_same _ r e (scale f) fun d => ?_]
  · refine congrArg (fun y => y * scale f) (Finset.sum_congr rfl fun d _ => ?_)
    rw [hq]
    refine congrArg (fun y => y * code g d) (Eq.trans ?_ (hk d))
    pointwise []
  · refine Eq.trans ?_ (hs d)
    pointwise []

/-- Store one chunk's scores. -/
def chunkScore (c : Fin 5) (m8 : FVec Ideal S8x256 .f32) : Kc Ideal M (FVec Ideal S8x256 .f32) :=
  .ld (B := bank M) .ksc (Rect.unit (s := S4x8192x128) (cOff i t1 c) S1x256x128.size (cOff_inb i h2 t1 c)).toLoadRect
    (View.loadsAt_vmem h_S1x256x128) fun (k : Vec Ideal S1x256x128 .fp8e4m3) =>
  .ld (B := bank M) .ksb (Rect.unit (s := S4x8192x128) (cOff i t1 c) S1x256x128.size (cOff_inb i h2 t1 c)).toLoadRect
    (View.loadsAt_vmem h_S1x256x128) fun (s : Vec Ideal S1x256x128 .f32) =>
  .ld (B := bank M) .sbuf (Rect.unit (s := S1536x256) ![256 * (c.val + 1), 0] S256x256.size (inb_sb256 c)).toLoadRect
    (View.loadsAt_vmem h_S256x256) fun _ =>
  .st (B := bank M) .sbuf (Rect.unit (s := S1536x256) ![256 * (c.val + 1), 0] S256x256.size (inb_sb256 c))
    (shapeCast S256x256 (chunkT q k s) shapeCasts_S256x256_S256x256) (View.stores_vmem_bits_univ h_S256x256 rfl) <|
  .ret (max256 m8 (chunkT q k s))

theorem chunkScore_put (c : Fin 5) (m8 : FVec Ideal S8x256 .f32) (σ : Si) :
    runS M (chunkScore M i h2 t1 q c m8) σ =
      upd M σ .sbuf (rect256 c) (put256 (chunkT q (cK i h2 t1 c σ) (cS i h2 t1 c σ))) := rfl
theorem chunkScore_run (c : Fin 5) (m8 : FVec Ideal S8x256 .f32) (σ : Si) :
    (runS M (chunkScore M i h2 t1 q c m8) σ .sbuf : S1536x256.Idx → EReal) =
      (rect256 c).overlay (σ .sbuf : S1536x256.Idx → EReal) (put256 (chunkT q (cK i h2 t1 c σ) (cS i h2 t1 c σ))) :=
  (congrFun (chunkScore_put M i h2 t1 q c m8 σ) .sbuf).trans
    (upd_self M σ .sbuf (rect256 c) (put256 (chunkT q (cK i h2 t1 c σ) (cS i h2 t1 c σ))))
theorem chunkScore_keeps (c : Fin 5) (m8 : FVec Ideal S8x256 .f32) (σ : Si) (k : Bf) (hk : k ≠ .sbuf) :
    runS M (chunkScore M i h2 t1 q c m8) σ k = σ k :=
  (congrFun (chunkScore_put M i h2 t1 q c m8 σ) k).trans
    (upd_ne M σ .sbuf (rect256 c) (put256 (chunkT q (cK i h2 t1 c σ) (cS i h2 t1 c σ))) k hk)

theorem keyF_chunk (T j c r : Nat) (hT : 12 ≤ T) (hT' : T < 64) (hc : c < 5) (hr : r < 256) :
    (keyF T j ((c + 1) * 256 + r)).val = 128 * (T - 10 + 2 * c) + r := by
  change keyS T j _ % 8192 = _
  unfold keyS
  rw [if_neg (by omega)]
  omega

variable (kh : Fin 8192 → Fin 128 → EReal) (h : Fin 4) (hh : h.val = t1.val)

include hh in
/-- A chunk's scores. -/
theorem chunkT_eq (tile : Fin 4) (Q : Fin 256 → Fin 128 → EReal) (hq : ∀ e d, q (ix2 e d) = code (Q e) d) (c : Fin 5) (σ : Si)
    (hk : Keys kh h (i 1).val σ) (r e : Fin 256) : chunkT q (cK i h2 t1 c σ) (cS i h2 t1 c σ) (ix2 r e) =
      rowScore (visS tile.val) (keyF (i 1).val tile.val) kh Q ((c.val + 1) * 256 + r.val) e := by
  have hT := (cond2_iff i).1 h2
  have hT' : (i 1).val < 64 := (i 1).isLt
  have hF := keyF_chunk (i 1).val tile.val c.val r.val hT hT' c.isLt r.isLt
  unfold rowScore
  have hv : visS tile.val ((c.val + 1) * 256 + r.val) e := fun hlt => absurd hlt (by omega)
  rw [if_pos hv]
  refine chunkT_read q _ _ r e _ _ (fun d => ?_) (fun d => ?_) (hq e)
  · refine Eq.trans ?_ (hk.code (keyF (i 1).val tile.val ((c.val + 1) * 256 + r.val)) d (by rw [hF]; omega))
    exact ld3 (σ .ksc) _ _ _ _ _ _ (off16_eq i h2 t1 c) (ix3 0 r d) h _ d hh hF (Nat.zero_add _).symm
  · refine Eq.trans ?_ (hk.scale (keyF (i 1).val tile.val ((c.val + 1) * 256 + r.val)) d (by rw [hF]; omega))
    exact ld3 (σ .ksb) _ _ _ _ _ _ (off16_eq i h2 t1 c) (ix3 0 r d) h _ d hh hF (Nat.zero_add _).symm

theorem Keys.of {T : Nat} {σ σ' : Si} (hk : Keys kh h T σ) (h1 : σ' .ksc = σ .ksc) (h2 : σ' .ksb = σ .ksb) : Keys kh h T σ' :=
  ⟨by rw [h1]; exact hk.code, by rw [h2]; exact hk.scale⟩

include hh in
/-- All rows are stored, and only they. -/
theorem chunkScores_run (tile : Fin 4) (Q : Fin 256 → Fin 128 → EReal) (hq : ∀ e d, q (ix2 e d) = code (Q e) d)
    (hS : ∀ r e, rowScore (visS tile.val) (keyF (i 1).val tile.val) kh Q r e < ⊤) (σ : Si) (hk : Keys kh h (i 1).val σ)
    (m8 : FVec Ideal S8x256 .f32)
    (h0 : Scored (rowScore (visS tile.val) (keyF (i 1).val tile.val) kh Q) 256 (σ .sbuf) m8) :
    (∀ k, k ≠ .sbuf → runS M (chunkScores M i h2 t1 q m8) σ k = σ k) ∧
    Scored (rowScore (visS tile.val) (keyF (i 1).val tile.val) kh Q) 1536 (runS M (chunkScores M i h2 t1 q m8) σ .sbuf)
      (runV M (chunkScores M i h2 t1 q m8) σ) := by
  refine each_keeps M (chunkScore M i h2 t1 q)
    (fun n σ' m => (∀ k, k ≠ .sbuf → σ' k = σ k) ∧
      Scored (rowScore (visS tile.val) (keyF (i 1).val tile.val) kh Q) ((n + 1) * 256) (σ' .sbuf) m)
    (fun c σ' m hI => ⟨fun k hk => (chunkScore_keeps M i h2 t1 q c m σ' k hk).trans (hI.1 k hk), ?_⟩) σ _
    ⟨fun _ _ => rfl, h0⟩
  have ht := chunkT_eq i h2 t1 q kh h hh tile Q hq c σ' (hk.of kh h (hI.1 .ksc (by decide)) (hI.1 .ksb (by decide)))
  have hn := Scored.next hS 32 (w' := runS M (chunkScore M i h2 t1 q c m) σ' .sbuf)
    (m' := runV M (chunkScore M i h2 t1 q c m) σ') hI.2 ?_ ?_ ?_
  · have e : (c.val + 1 + 1) * 256 = (c.val + 1) * 256 + 32 * 8 := by omega
    rw [e]; exact hn
  · intro r hr e hlt
    rw [chunkScore_run]
    refine (overlay_in _ _ _ _ _ _ (ix2 ⟨r, by omega⟩ e) fun a => ?_).trans ?_
    · match a with
      | ⟨0, _⟩ => change (c.val + 1) * 256 + r = 256 * (c.val + 1) + r; omega
      | ⟨1, _⟩ => exact (Nat.zero_add _).symm
    · exact (put256_read _ ⟨r, by omega⟩ e).trans (ht ⟨r, by omega⟩ e)
  · intro r hr e hlt
    rw [chunkScore_run]
    exact overlay_out _ _ _ _ _ _ 0 (.inl (by change r < 256 * (c.val + 1); omega))
  · intro a e
    refine (max256_read m (chunkT q (cK i h2 t1 c σ') (cS i h2 t1 c σ')) a e).trans ?_
    exact congrArg (fun y => max (m (ix2 a e)) (Finset.univ.fold max ⊥ y))
      (funext fun x => ht ⟨x.val * 8 + a.val, by omega⟩ e)

end Chunk

end Cert.KernelIdeal

end
-- ==== Proof.Sums.lean ====
module

public import proofs.«01_k».proof.Proof.Marks

@[expose] public section

set_option maxRecDepth 16384

noncomputable section

namespace Cert.KernelIdeal

open Idealize.ShloMosaic
open Facts₀ Facts Cert.Num Cert.Proof

/-! ## A steady tile's weighted sums -/

variable (M : Mems)

/-- The value cache holds head `h`'s values up to the point's block. -/
def Vals (vv : Fin 8192 → Fin 128 → EReal) (h : Fin 4) (T : Nat) (w : S4x64x128x128.Idx → EReal) : Prop :=
  ∀ (p : Fin 64) (d r : Fin 128), p.val < T + 1 → w (ix4 h p d r) = vv ⟨128 * p.val + r.val, by omega⟩ d

/-- A value tile, loaded. -/
theorem vld4 (h : Fin 4) (t1 : Fin k0_t1_loop.trips) (hh : h.val = t1.val) (σ : Si) (off : Fin 4 → Nat)
    (inb : ∀ a, off a + S1x1x128x128.size a ≤ S4x64x128x128.size a) (b : Nat) (ho : off = ![t1.val, b, 0, 0]) (p : Fin 64)
    (hp : p.val = b) (d l : Fin 128) :
    (σ .vtc : S4x64x128x128.Idx → EReal) ((Rect.unit (s := S4x64x128x128) off S1x1x128x128.size inb).toLoadRect.idx
      (ix4 (0 : Fin 1) (0 : Fin 1) d l)) = (σ .vtc : S4x64x128x128.Idx → EReal) (ix4 h p d l) :=
  ld4 (σ .vtc) off S1x1x128x128.size inb _ _ _ _ ho (ix4 (0 : Fin 1) (0 : Fin 1) d l) h p d l hh hp (Nat.zero_add _).symm
    (Nat.zero_add _).symm

section FirstVals

variable (i : grid0.Coords) (h2 : k0_cond2 i = 1#1) (t1 : Fin k0_t1_loop.trips) (tile : Fin 4)

def vNew (σ : Si) : Vec Ideal S1x1x128x128 .fp8e4m3 := fun j =>
  σ .vtc ((Rect.unit (s := S4x64x128x128) (k0_off17 i t1) S1x1x128x128.size (k0_off17_inb i t1 h2)).toLoadRect.idx j)
def vNext (σ : Si) : Vec Ideal S1x1x128x128 .fp8e4m3 := fun j =>
  σ .vtc ((Rect.unit (s := S4x64x128x128) (k0_off18 i t1 11#32) S1x1x128x128.size (k0_off18_inb i t1 h2 0)).toLoadRect.idx j)
def vSink (σ : Si) : Vec Ideal S1x1x128x128 .fp8e4m3 := fun j =>
  σ .vtc ((Rect.unit (s := S4x64x128x128) (k0_off19 t1) S1x1x128x128.size (k0_off19_inb i t1 h2)).toLoadRect.idx j)
def vOld (σ : Si) : Vec Ideal S1x1x128x128 .fp8e4m3 := fun j =>
  σ .vtc ((Rect.unit (s := S4x64x128x128) (k0_off18 i t1 12#32) S1x1x128x128.size (k0_off18_inb i t1 h2 1)).toLoadRect.idx j)

/-- The two value tiles. -/
def firstVal (σ : Si) : FVec Ideal S128x128 .fp8e4m3 × FVec Ideal S128x128 .fp8e4m3 :=
  if tile.val < 3 then (valsA tile (vSink i h2 t1 σ) (vNew i h2 t1 σ) (vOld i h2 t1 σ), vtile (vNext i h2 t1 σ))
  else (vtile (vNew i h2 t1 σ), valsB (vSink i h2 t1 σ) (vNext i h2 t1 σ))

theorem firstVals_run (σ : Si) : Cmd.run (B := bank M) (Val := Elt Ideal) (firstVals M i h2 t1 tile) σ =
    (σ, firstVal i h2 t1 tile σ) := by
  unfold firstVal
  by_cases h : tile.val < 3
  · rw [if_pos h]
    exact (dif_pos h : (dite (tile.val < 3) _ _ : Si × _) = _)
  · rw [if_neg h]
    exact (dif_neg h : (dite (tile.val < 3) _ _ : Si × _) = _)

variable (vv : Fin 8192 → Fin 128 → EReal) (h : Fin 4) (hh : h.val = t1.val)

include hh

theorem firstVal_read (σ : Si) (hv : Vals vv h (i 1).val (σ .vtc)) (d : Fin 128) (r : Fin 256) :
    cat2v (firstVal i h2 t1 tile σ).1 (firstVal i h2 t1 tile σ).2 (ix2 d r) = vv (keyF (i 1).val tile.val r.val) d := by
  have hT := (cond2_iff i).1 h2
  have hT' : (i 1).val < 64 := (i 1).isLt
  have hF := keyF_val (i 1).val tile.val r.val hT hT' tile.isLt (by omega)
  have hS : keyS (i 1).val tile.val r.val = if r.val / 32 = tile.val + 1 ∧ r.val % 32 < 4 then r.val % 32 else
      if r.val / 32 ≤ tile.val then 128 * (i 1).val + r.val else 128 * ((i 1).val - 12) + r.val := by
    unfold keyS
    rw [if_pos (by omega)]
  have key : ∀ (p : Fin 64) (l : Fin 128), p.val < (i 1).val + 1 → 128 * p.val + l.val = keyS (i 1).val tile.val r.val →
      (σ .vtc : S4x64x128x128.Idx → EReal) (ix4 h p d l) = vv (keyF (i 1).val tile.val r.val) d := fun p l hp e =>
    (hv p d l hp).trans (congrArg (fun y => vv y d) (Fin.ext (by rw [hF]; exact e)))
  have eNew : ∀ l : Fin 128, 128 * (i 1).val + l.val = keyS (i 1).val tile.val r.val →
      vNew i h2 t1 σ (ix4 0 0 d l) = vv (keyF (i 1).val tile.val r.val) d := fun l e =>
    Eq.trans (vld4 h t1 hh σ _ _ _ (Gen.k0_off17_eq i t1) ⟨(i 1).val, hT'⟩ rfl d l)
      (key ⟨(i 1).val, hT'⟩ l (by change (i 1).val < _; omega) e)
  have eOld : ∀ l : Fin 128, 128 * ((i 1).val - 12) + l.val = keyS (i 1).val tile.val r.val →
      vOld i h2 t1 σ (ix4 0 0 d l) = vv (keyF (i 1).val tile.val r.val) d := fun l e =>
    Eq.trans (vld4 h t1 hh σ _ _ _ (off18_oldest i h2 t1) ⟨(i 1).val - 12, by omega⟩ rfl d l)
      (key ⟨(i 1).val - 12, by omega⟩ l (by change (i 1).val - 12 < _; omega) e)
  have eNext : ∀ l : Fin 128, 128 * ((i 1).val - 11) + l.val = keyS (i 1).val tile.val r.val →
      vNext i h2 t1 σ (ix4 0 0 d l) = vv (keyF (i 1).val tile.val r.val) d := fun l e =>
    Eq.trans (vld4 h t1 hh σ _ _ _ (off18_next i h2 t1) ⟨(i 1).val - 11, by omega⟩ rfl d l)
      (key ⟨(i 1).val - 11, by omega⟩ l (by change (i 1).val - 11 < _; omega) e)
  have eSink : ∀ l : Fin 128, l.val = keyS (i 1).val tile.val r.val →
      vSink i h2 t1 σ (ix4 0 0 d l) = vv (keyF (i 1).val tile.val r.val) d := fun l e =>
    Eq.trans (vld4 h t1 hh σ _ _ _ (Gen.k0_off19_eq t1) 0 rfl d l)
      (key 0 l (by change 0 < _; omega) (by change 128 * 0 + l.val = _; omega))
  rw [cat2v_read]
  unfold firstVal
  by_cases h3 : tile.val < 3
  · rw [if_pos h3]
    dsimp only
    by_cases hr : r.val < 128
    · rw [dif_pos hr, valsA_read tile h3]
      dsimp only
      split_ifs with ha hb
      · exact eSink ⟨r.val % 32, by omega⟩ (by rw [hS, if_pos (by omega)])
      · exact eNew ⟨r.val, hr⟩ (by rw [hS, if_neg (by omega), if_pos (by omega)])
      · exact eOld ⟨r.val, hr⟩ (by rw [hS, if_neg (by omega), if_neg (by omega)])
    · rw [dif_neg hr, vtile_read]
      exact eNext ⟨r.val - 128, by omega⟩ (by
        rw [hS, if_neg (by omega), if_neg (by omega)]; change 128 * ((i 1).val - 11) + (r.val - 128) = _; omega)
  · rw [if_neg h3]
    dsimp only
    by_cases hr : r.val < 128
    · rw [dif_pos hr, vtile_read]
      exact eNew ⟨r.val, hr⟩ (by rw [hS, if_neg (by omega), if_pos (by omega)])
    · rw [dif_neg hr, valsB_read]
      dsimp only
      split_ifs with ha
      · exact eSink ⟨r.val - 128, by omega⟩ (by rw [hS, if_pos (by omega)]; change r.val - 128 = _; omega)
      · exact eNext ⟨r.val - 128, by omega⟩ (by
          rw [hS, if_neg (by omega), if_neg (by omega)]; change 128 * ((i 1).val - 11) + (r.val - 128) = _; omega)

end FirstVals

section FirstSoft

variable (tile : Fin 4) (a b : FVec Ideal S1x256 .f32)

theorem yOf32_read (t : FVec Ideal S32x256 .f32) (p : Fin 32) (e : Fin 256) :
    yOf t a b broadcasts_S1x256_S32x256 (ix2 p e) = t (ix2 p e) * a (ix2 0 e) - b (ix2 0 e) := by pointwise [yOf]
theorem yOf128_read (t : FVec Ideal S128x256 .f32) (p : Fin 128) (e : Fin 256) :
    yOf t a b broadcasts_S1x256_S128x256 (ix2 p e) = t (ix2 p e) * a (ix2 0 e) - b (ix2 0 e) := by pointwise [yOf]
theorem yOf256_read (t : FVec Ideal S256x256 .f32) (p : Fin 256) (e : Fin 256) :
    yOf t a b broadcasts_S1x256_S256x256 (ix2 p e) = t (ix2 p e) * a (ix2 0 e) - b (ix2 0 e) := by pointwise [yOf]

theorem groupExp_read (n : Fin 8) (t : Vec Ideal S32x256 .f32) (p : Fin 32) (e : Fin 256) : groupExp tile n a b t (ix2 p e) =
    Ideal.exp2 (if Shown tile.val n.val p.val (e.val % 32) then t (ix2 p e) * a (ix2 0 e) - b (ix2 0 e) else ⊥) := by
  have e1 := masked_read tile n (Ideal.ofBits .f32 0xFF800000#32) (yOf (t : FVec Ideal S32x256 .f32) a b broadcasts_S1x256_S32x256) p e
  rw [cbot, yOf32_read] at e1
  rw [← e1, ← cbot]
  rfl

/-- A row group's stored scores. -/
def sRows (n : Fin 8) (σ : Si) : Vec Ideal S32x256 .f32 := fun j =>
  σ .sbuf ((Rect.unit (s := S1536x256) ![32 * n.val, 0] S32x256.size (inb_sb32 n)).toLoadRect.idx j)

/-- The first sums. -/
def firstSum (v : FVec Ideal S128x128 .fp8e4m3 × FVec Ideal S128x128 .fp8e4m3) (e : Fin 8 → FVec Ideal S32x256 .f32) :
    FVec Ideal S128x256 .f32 × FVec Ideal S8x256 .f32 :=
  (weigh (cat2v v.1 v.2) (cat8p fun n => clip8 (e n)),
    add32 (add32 (add32 (add32 (add32 (add32 (add32 (add32 (broadcast S8x256 (Scalar.ofBits .f32 0x00000000#32))
      (e 0)) (e 1)) (e 2)) (e 3)) (e 4)) (e 5)) (e 6)) (e 7))

theorem firstSoft_run (v : FVec Ideal S128x128 .fp8e4m3 × FVec Ideal S128x128 .fp8e4m3) (σ : Si) :
    Cmd.run (B := bank M) (Val := Elt Ideal) (firstSoft M tile a b v) σ =
      (σ, firstSum v fun n => groupExp tile n a b (sRows n σ)) := by
  have e1 := eight_run M (fun n => .ld (B := bank M) .sbuf (Rect.unit (s := S1536x256) ![32 * n.val, 0] S32x256.size
      (inb_sb32 n)).toLoadRect (View.loadsAt_vmem h_S32x256) fun (t : Vec Ideal S32x256 .f32) =>
    .ret (groupExp tile n a b t)) (fun n => groupExp tile n a b (sRows n σ)) σ (fun n => rfl)
  refine Eq.trans (b := Cmd.run (B := bank M) (Val := Elt Ideal) (.ret (firstSum v _)) _) (congrArg (fun z : Si × (Fin 8 → FVec Ideal S32x256 .f32) =>
    Cmd.run (B := bank M) (Val := Elt Ideal) (.ret (firstSum v z.2)) z.1) e1) rfl

theorem add32_tot (l : FVec Ideal S8x256 .f32) (t : FVec Ideal S32x256 .f32) (E : Nat → EReal) (n : Nat) (e : Fin 256)
    (ht : ∀ p : Fin 32, t (ix2 p e) = E (n + p.val)) (hl : tot l e = ∑ r ∈ Finset.range n, E r) :
    tot (add32 l t) e = ∑ r ∈ Finset.range (n + 32), E r := by
  rw [tot_rows l (add32 l t) e 4 (fun r => E (n + r)) fun s => ?_, hl, Finset.sum_range_add]
  rw [add32_read]
  exact congrArg (fun y => l (ix2 s e) + y) (Finset.sum_congr rfl fun x _ => ht _)

theorem tot_zero (e : Fin 256) : tot (broadcast S8x256 (Scalar.ofBits (F := Ideal) .f32 0x00000000#32)) e = 0 := by
  have h : ∀ s, (broadcast S8x256 (Scalar.ofBits (F := Ideal) .f32 0x00000000#32) : S8x256.Idx → EReal) (ix2 s e) = 0 :=
    fun _ => by pointwise []
  unfold tot
  exact Finset.sum_eq_zero fun s _ => h s

/-- The first 256 rows' sums. -/
theorem firstSum_read (V : Nat → Fin 128 → EReal) (E : Nat → Fin 256 → EReal)
    (v : FVec Ideal S128x128 .fp8e4m3 × FVec Ideal S128x128 .fp8e4m3) (x : Fin 8 → FVec Ideal S32x256 .f32)
    (hv : ∀ d (r : Fin 256), cat2v v.1 v.2 (ix2 d r) = V r.val d)
    (hx : ∀ (n : Fin 8) (p : Fin 32) (e : Fin 256), x n (ix2 p e) = E (32 * n.val + p.val) e) :
    Summed V E 256 (firstSum v x).1 (firstSum v x).2 := by
  refine ⟨fun d e => ?_, fun e => ?_⟩
  · refine (weigh_read _ _ d e).trans ?_
    rw [Finset.sum_range fun r => V r d * clip (E r e)]
    refine Finset.sum_congr rfl fun r _ => ?_
    rw [hv, cat8p_read, clip8_read, hx]
    exact congrArg (fun y => V r.val d * clip (E y e)) (by change 32 * (r.val / 32) + r.val % 32 = r.val; omega)
  · have h0 := add32_tot _ (x 0) (fun r => E r e) 0 e (fun p => hx 0 p e) (tot_zero e)
    have h1 := add32_tot _ (x 1) (fun r => E r e) 32 e (fun p => hx 1 p e) h0
    have h2 := add32_tot _ (x 2) (fun r => E r e) 64 e (fun p => hx 2 p e) h1
    have h3 := add32_tot _ (x 3) (fun r => E r e) 96 e (fun p => hx 3 p e) h2
    have h4 := add32_tot _ (x 4) (fun r => E r e) 128 e (fun p => hx 4 p e) h3
    have h5 := add32_tot _ (x 5) (fun r => E r e) 160 e (fun p => hx 5 p e) h4
    have h6 := add32_tot _ (x 6) (fun r => E r e) 192 e (fun p => hx 6 p e) h5
    exact add32_tot _ (x 7) (fun r => E r e) 224 e (fun p => hx 7 p e) h6

/-- The weights of the first 256 rows. -/
theorem groupExp_eq (S : Nat → Fin 256 → EReal) (σ : Si) (m8 : FVec Ideal S8x256 .f32) (hs : Scored S 1536 (σ .sbuf) m8)
    (n : Fin 8) (p : Fin 32) (e : Fin 256) : groupExp tile n a b (sRows n σ) (ix2 p e) =
      rowExp (visS tile.val) S (fun e => a (ix2 0 e)) (fun e => b (ix2 0 e)) (32 * n.val + p.val) e := by
  rw [groupExp_read]
  have e1 : sRows n σ (ix2 p e) = S (32 * n.val + p.val) e := by
    refine Eq.trans ?_ (hs.buf (32 * n.val + p.val) (by omega) e (by omega))
    exact ld2 (σ .sbuf) _ _ _ _ _ rfl (ix2 p e) ⟨32 * n.val + p.val, by omega⟩ e rfl (Nat.zero_add _).symm
  rw [e1]
  refine congrArg Ideal.exp2 (if_congr ?_ rfl rfl)
  have hn : (32 * n.val + p.val) / 32 = n.val := by omega
  have hp : (32 * n.val + p.val) % 32 = p.val := by omega
  unfold visS
  rw [hn, hp]
  exact ⟨fun h _ => h, fun h => h (by omega)⟩

end FirstSoft

section ChunkSoft

variable (i : grid0.Coords) (h2 : k0_cond2 i = 1#1) (t1 : Fin k0_t1_loop.trips) (tile : Fin 4) (a b : FVec Ideal S1x256 .f32)

def sChunk (c : Fin 5) (σ : Si) : Vec Ideal S256x256 .f32 := fun j =>
  σ .sbuf ((Rect.unit (s := S1536x256) ![256 * (c.val + 1), 0] S256x256.size (inb_sb256 c)).toLoadRect.idx j)
def vEven (c : Fin 5) (σ : Si) : Vec Ideal S1x1x128x128 .fp8e4m3 := fun j =>
  σ .vtc ((Rect.unit (s := S4x64x128x128) (k0_off20 i t1 12#32 (BitVec.ofNat 32 (2 + 2 * c.val)))
      S1x1x128x128.size (k0_off20_inb i t1 h2 1 c)).toLoadRect.idx j)
def vOdd (c : Fin 5) (σ : Si) : Vec Ideal S1x1x128x128 .fp8e4m3 := fun j =>
  σ .vtc ((Rect.unit (s := S4x64x128x128) (k0_off20 i t1 11#32 (BitVec.ofNat 32 (2 + 2 * c.val)))
      S1x1x128x128.size (k0_off20_inb i t1 h2 0 c)).toLoadRect.idx j)

def chunkE (t : Vec Ideal S256x256 .f32) : FVec Ideal S256x256 .f32 :=
  exp2 (yOf (t : FVec Ideal S256x256 .f32) a b broadcasts_S1x256_S256x256)

theorem chunkE_read (t : Vec Ideal S256x256 .f32) (r e : Fin 256) :
    chunkE a b t (ix2 r e) = Ideal.exp2 (t (ix2 r e) * a (ix2 0 e) - b (ix2 0 e)) :=
  congrArg Ideal.exp2 (yOf256_read a b t r e)

/-- One chunk's sums added. -/
def chunkSum (c : Fin 5) (σ : Si) (ol : FVec Ideal S128x256 .f32 × FVec Ideal S8x256 .f32) :
    FVec Ideal S128x256 .f32 × FVec Ideal S8x256 .f32 :=
  (addf ol.1 (weigh (cat2v (vtile (vEven i h2 t1 c σ)) (vtile (vOdd i h2 t1 c σ))) (clip8 (chunkE a b (sChunk c σ)))),
    add256 ol.2 (chunkE a b (sChunk c σ)))

/-- Add one chunk's sums. -/
def chunkAdd (c : Fin 5) (ol : FVec Ideal S128x256 .f32 × FVec Ideal S8x256 .f32) :
    Kc Ideal M (FVec Ideal S128x256 .f32 × FVec Ideal S8x256 .f32) :=
  .ld (B := bank M) .sbuf (Rect.unit (s := S1536x256) ![256 * (c.val + 1), 0] S256x256.size (inb_sb256 c)).toLoadRect
    (View.loadsAt_vmem h_S256x256) fun (t : Vec Ideal S256x256 .f32) =>
  .ld (B := bank M) .vtc (Rect.unit (s := S4x64x128x128) (k0_off20 i t1 12#32 (BitVec.ofNat 32 (2 + 2 * c.val)))
    S1x1x128x128.size (k0_off20_inb i t1 h2 1 c)).toLoadRect (View.loadsAt_vmem h_S1x1x128x128) fun (v0 : Vec Ideal S1x1x128x128 .fp8e4m3) =>
  .ld (B := bank M) .vtc (Rect.unit (s := S4x64x128x128) (k0_off20 i t1 11#32 (BitVec.ofNat 32 (2 + 2 * c.val)))
    S1x1x128x128.size (k0_off20_inb i t1 h2 0 c)).toLoadRect (View.loadsAt_vmem h_S1x1x128x128) fun (v1 : Vec Ideal S1x1x128x128 .fp8e4m3) =>
  .ret (addf ol.1 (weigh (cat2v (vtile v0) (vtile v1)) (clip8 (chunkE a b t))), add256 ol.2 (chunkE a b t))

variable (vv : Fin 8192 → Fin 128 → EReal) (h : Fin 4) (hh : h.val = t1.val)

include hh in
theorem chunkVal_read (c : Fin 5) (σ : Si) (hv : Vals vv h (i 1).val (σ .vtc)) (d : Fin 128) (r : Fin 256) :
    cat2v (vtile (vEven i h2 t1 c σ)) (vtile (vOdd i h2 t1 c σ)) (ix2 d r) =
      vv (keyF (i 1).val tile.val ((c.val + 1) * 256 + r.val)) d := by
  have hT := (cond2_iff i).1 h2
  have hT' : (i 1).val < 64 := (i 1).isLt
  have hF := keyF_chunk (i 1).val tile.val c.val r.val hT hT' c.isLt r.isLt
  have key : ∀ (p : Fin 64) (l : Fin 128), p.val < (i 1).val + 1 →
      128 * p.val + l.val = 128 * ((i 1).val - 10 + 2 * c.val) + r.val →
      (σ .vtc : S4x64x128x128.Idx → EReal) (ix4 h p d l) = vv (keyF (i 1).val tile.val ((c.val + 1) * 256 + r.val)) d :=
    fun p l hp e => (hv p d l hp).trans (congrArg (fun y => vv y d) (Fin.ext (by rw [hF]; exact e)))
  rw [cat2v_read]
  split_ifs with hr
  · rw [vtile_read]
    refine Eq.trans (vld4 h t1 hh σ _ _ _ (off20_even i h2 t1 c) ⟨(i 1).val - 10 + 2 * c.val, by omega⟩ rfl d ⟨r.val, hr⟩)
      (key _ _ ?_ ?_)
    · change (i 1).val - 10 + 2 * c.val < _; omega
    · rfl
  · rw [vtile_read]
    refine Eq.trans (vld4 h t1 hh σ _ _ _ (off20_odd i h2 t1 c) ⟨(i 1).val - 9 + 2 * c.val, by omega⟩ rfl d
      ⟨r.val - 128, by omega⟩) (key _ _ ?_ ?_)
    · change (i 1).val - 9 + 2 * c.val < _; omega
    · change 128 * ((i 1).val - 9 + 2 * c.val) + (r.val - 128) = _; omega

include hh in
/-- All rows' sums. -/
theorem chunkSoft_run (S : Nat → Fin 256 → EReal) (σ : Si) (m8 : FVec Ideal S8x256 .f32) (hs : Scored S 1536 (σ .sbuf) m8)
    (hv : Vals vv h (i 1).val (σ .vtc)) (ol : FVec Ideal S128x256 .f32 × FVec Ideal S8x256 .f32)
    (h0 : Summed (fun r d => vv (keyF (i 1).val tile.val r) d)
      (rowExp (visS tile.val) S (fun e => a (ix2 0 e)) (fun e => b (ix2 0 e))) 256 ol.1 ol.2) :
    runS M (chunkSoft M i h2 t1 a b ol) σ = σ ∧
    Summed (fun r d => vv (keyF (i 1).val tile.val r) d)
      (rowExp (visS tile.val) S (fun e => a (ix2 0 e)) (fun e => b (ix2 0 e))) 1536
      (runV M (chunkSoft M i h2 t1 a b ol) σ).1 (runV M (chunkSoft M i h2 t1 a b ol) σ).2 := by
  refine each_keeps M (chunkAdd M i h2 t1 a b)
    (fun n σ' ol => σ' = σ ∧ Summed (fun r d => vv (keyF (i 1).val tile.val r) d)
      (rowExp (visS tile.val) S (fun e => a (ix2 0 e)) (fun e => b (ix2 0 e))) ((n + 1) * 256) ol.1 ol.2)
    (fun c σ' ol hI => ⟨hI.1, ?_⟩) σ _ ⟨rfl, h0⟩
  obtain ⟨rfl, hI⟩ := hI
  have ht : ∀ r e : Fin 256, chunkE a b (sChunk c σ') (ix2 r e) =
      rowExp (visS tile.val) S (fun e => a (ix2 0 e)) (fun e => b (ix2 0 e)) ((c.val + 1) * 256 + r.val) e := fun r e => by
    rw [chunkE_read]
    have e1 : sChunk c σ' (ix2 r e) = S ((c.val + 1) * 256 + r.val) e := by
      refine Eq.trans ?_ (hs.buf ((c.val + 1) * 256 + r.val) (by omega) e (by omega))
      exact ld2 (σ' .sbuf) _ _ _ _ _ rfl (ix2 r e) ⟨(c.val + 1) * 256 + r.val, by omega⟩ e
        (by change (c.val + 1) * 256 + r.val = 256 * (c.val + 1) + r.val; omega) (Nat.zero_add _).symm
    have hvis : visS tile.val ((c.val + 1) * 256 + r.val) e := fun hlt => absurd hlt (by omega)
    unfold rowExp
    rw [e1, if_pos hvis]
  change Summed _ _ _ (chunkSum i h2 t1 a b c σ' ol).1 (chunkSum i h2 t1 a b c σ' ol).2
  have hn := Summed.next 32 (o' := (chunkSum i h2 t1 a b c σ' ol).1) (l' := (chunkSum i h2 t1 a b c σ' ol).2) hI ?_ ?_
  · have e : (c.val + 1 + 1) * 256 = (c.val + 1) * 256 + 32 * 8 := by omega
    rw [e]; exact hn
  · intro d e
    refine congrArg (fun y => ol.1 (ix2 d e) + y) ((weigh_read _ _ d e).trans (Finset.sum_congr rfl fun x _ => ?_))
    rw [chunkVal_read i h2 t1 tile vv h hh c σ' hv, clip8_read, ht]
  · intro s e
    refine (add256_read ol.2 _ s e).trans ?_
    exact congrArg (fun y => ol.2 (ix2 s e) + y) (Finset.sum_congr rfl fun x _ => ht _ e)

end ChunkSoft

end Cert.KernelIdeal

end
-- ==== Proof.Outs.lean ====
module

public import proofs.«01_k».proof.Proof.Sums

@[expose] public section

set_option maxRecDepth 16384

noncomputable section

namespace Cert.KernelIdeal

open Idealize.ShloMosaic
open Facts₀ Facts Cert.Num Cert.Proof
open Cert.ReferenceIdeal (qrow krow vscale attn Vis soft)

variable (M : Mems)

theorem runS_seq {α β : Type} (p : Kc Ideal M β) (k : β → Kc Ideal M α) (σ σ1 : Si) (v : β)
    (h : Cmd.run (B := bank M) (Val := Elt Ideal) p σ = (σ1, v)) : runS M (.seq p k) σ = runS M (k v) σ1 :=
  congrArg (fun z : Si × β => runS M (k z.2) z.1) h

/-! ## A tile's stores -/

/-- Store one head's rows. -/
def headPut (off : Fin 8 → Fin 3 → Nat) (inb : ∀ g a, off g a + S1x32x128.size a ≤ S1x128x4096.size a)
    (pk : ∀ g, (Rect.unit (s := S1x128x4096) (off g) S1x32x128.size (inb g)).PackedRows (EltTy.packing .bf16))
    (ot : FVec Ideal S256x128 .bf16) (g : Fin 8) (_ : Unit) : Kc Ideal M Unit :=
  .ld (B := bank M) .out (Rect.unit (s := S1x128x4096) (off g) S1x32x128.size (inb g)).toLoadRect
    (View.loadsAt_vmem h_S1x32x128) fun _ =>
  .st (B := bank M) .out (Rect.unit (s := S1x128x4096) (off g) S1x32x128.size (inb g)) (otRows ot g)
    (View.stores_vmem h_S1x32x128 ((M.whole .out).storeExact_slice rfl _ (pk g)) (fun _ => rfl)) <|
  .ret ()

section Puts

variable (off : Fin 8 → Fin 3 → Nat) (inb : ∀ g a, off g a + S1x32x128.size a ≤ S1x128x4096.size a)
  (pk : ∀ g, (Rect.unit (s := S1x128x4096) (off g) S1x32x128.size (inb g)).PackedRows (EltTy.packing .bf16))
  (ot : FVec Ideal S256x128 .bf16)

def oRect (g : Fin 8) : Rect S1x128x4096 := Rect.unit (s := S1x128x4096) (off g) S1x32x128.size (inb g)
def oVal (g : Fin 8) : Vec Ideal S1x32x128 .bf16 := otRows ot g

theorem headPut_put (g : Fin 8) (u : Unit) (σ : Si) :
    runS M (headPut M off inb pk ot g u) σ = upd M σ .out (oRect off inb g) (oVal ot g) := rfl
theorem headPut_run (g : Fin 8) (u : Unit) (σ : Si) : (runS M (headPut M off inb pk ot g u) σ .out : S1x128x4096.Idx → EReal) =
    (oRect off inb g).overlay (σ .out : S1x128x4096.Idx → EReal) (oVal ot g) :=
  (congrFun (headPut_put M off inb pk ot g u σ) .out).trans (upd_self M σ .out (oRect off inb g) (oVal ot g))

/-- The first `k` tiles' results are stored: tile `4·h + j` holds rows `32·j` to `32·j + 31` of KV head `h`'s eight heads. -/
def OutUpTo (G : Fin 128 → Fin 4096 → EReal) (k : Nat) (w : S1x128x4096.Idx → EReal) : Prop :=
  ∀ (r : Fin 128) (l : Fin 4096), 4 * (l.val / 1024) + r.val / 32 < k → w (ix3 0 r l) = G r l

theorem outs_run (G : Fin 128 → Fin 4096 → EReal) (h tile : Fin 4)
    (ho : ∀ g, off g = ![0, 32 * tile.val, 1024 * h.val + 128 * g.val])
    (hot : ∀ (e : Fin 256) (d : Fin 128), ot (ix2 e d) = G ⟨32 * tile.val + e.val % 32, by omega⟩
      ⟨1024 * h.val + 128 * (e.val / 32) + d.val, by omega⟩)
    (σ : Si) (h0 : OutUpTo G (4 * h.val + tile.val) (σ .out)) :
    OutUpTo G (4 * h.val + tile.val + 1) (runS M (Cmd.each 8 (headPut M off inb pk ot) ()) σ .out) := by
  have := each_keeps M (headPut M off inb pk ot)
    (fun n σ' _ => ∀ (r : Fin 128) (l : Fin 4096), 4 * (l.val / 1024) + r.val / 32 < 4 * h.val + tile.val ∨
      (4 * (l.val / 1024) + r.val / 32 = 4 * h.val + tile.val ∧ l.val / 128 % 8 < n) →
      (σ' .out : S1x128x4096.Idx → EReal) (ix3 0 r l) = G r l)
    (fun g σ' u hI => ?_) σ () (fun r l hl => h0 r l (by omega))
  · intro r l hl
    exact this r l (by omega)
  · intro r l hl
    rw [headPut_run]
    by_cases hg : 4 * (l.val / 1024) + r.val / 32 = 4 * h.val + tile.val ∧ l.val / 128 % 8 = g.val
    · have h1 : l.val / 1024 = h.val := by omega
      have h2 : r.val / 32 = tile.val := by omega
      refine (overlay_in _ _ _ _ _ _ (ix3 (0 : Fin 1) (⟨r.val % 32, by omega⟩ : Fin 32) (⟨l.val % 128, by omega⟩ : Fin 128))
        fun a => ?_).trans ?_
      · refine Eq.trans ?_ (congrArg (fun y => y + _) (congrFun (ho g) a).symm)
        match a with
        | ⟨0, _⟩ => rfl
        | ⟨1, _⟩ => change r.val = 32 * tile.val + r.val % 32; omega
        | ⟨2, _⟩ => change l.val = 1024 * h.val + 128 * g.val + l.val % 128; omega
      · refine (otRows_read ot g ⟨r.val % 32, by omega⟩ ⟨l.val % 128, by omega⟩).trans ((hot _ _).trans ?_)
        refine congr (congrArg G (Fin.ext ?_)) (Fin.ext ?_)
        · change 32 * tile.val + (32 * g.val + r.val % 32) % 32 = r.val; omega
        · change 1024 * h.val + 128 * ((32 * g.val + r.val % 32) / 32) + l.val % 128 = l.val; omega
    · refine Eq.trans ?_ (hI r l (by omega))
      have hc : r.val / 32 ≠ tile.val ∨ l.val / 128 ≠ 8 * h.val + g.val := by omega
      by_cases hr : r.val / 32 = tile.val
      · refine overlay_out _ _ _ _ _ _ 2 ?_
        rw [ho g]
        change l.val < 1024 * h.val + 128 * g.val ∨ 1024 * h.val + 128 * g.val + 128 ≤ l.val
        omega
      · refine overlay_out _ _ _ _ _ _ 1 ?_
        rw [ho g]
        change r.val < 32 * tile.val ∨ 32 * tile.val + 32 ≤ r.val
        omega

end Puts

/-! ## From the sums to attention -/

section Attn

variable (x0 : (⟨3, ![4, 8192, 4096]⟩ : Shape).Idx → EReal) (x1 x2 : (⟨3, ![4, 8192, 512]⟩ : Shape).Idx → EReal)
  (x3 : (⟨3, ![4, 1, 512]⟩ : Shape).Idx → EReal)

/-- A row's score is below the infinite. -/
theorem rowScore_lt (vis : Nat → Fin 256 → Prop) [∀ r e, Decidable (vis r e)] (key : Nat → Fin 8192)
    (kh : Fin 8192 → Fin 128 → EReal) (Q : Fin 256 → Fin 128 → EReal) (hk : ∀ p, Finite (kh p)) (r : Nat) (e : Fin 256) :
    rowScore vis key kh Q r e < ⊤ := by
  unfold rowScore
  split_ifs
  · obtain ⟨y, hy⟩ := raw_real (Q e) (kh (key r)) (hk _)
    rw [hy]; exact EReal.coe_lt_top y
  · obtain ⟨y, hy⟩ := cneg
    exact lt_of_eq_of_lt hy (EReal.coe_lt_top y)

theorem attn_tile (b h : Fin 4) (e : Fin 256) (q : Fin 8192) (d : Fin 128) (n : Nat) (vis : Nat → Fin 256 → Prop)
    [∀ r e, Decidable (vis r e)] (key : Nat → Fin 8192) (Q : Fin 256 → Fin 128 → EReal)
    (hQ : Q e = qrow x0 b q h ⟨e.val / 32, by omega⟩)
    (hq : Finite (qrow x0 b q h ⟨e.val / 32, by omega⟩)) (hk : ∀ t, Finite (krow x1 b t h))
    (inj : ∀ r r', r < n → r' < n → vis r e → vis r' e → key r = key r' → r = r')
    (sound : ∀ r, r < n → vis r e → Vis q (key r)) (complete : ∀ t, Vis q t → ∃ r, r < n ∧ vis r e ∧ key r = t)
    (A B : Fin 256 → EReal) (hA : A e = scale (Q e) * Ideal.ofBits .f32 0x3E0293EE#32) (w : S1536x256.Idx → EReal)
    (m l : S8x256.Idx → EReal) (o : S128x256.Idx → EReal) (hB : B e = top m e * A e - Ideal.ofBits .f32 0x41000000#32)
    (hm : Scored (rowScore vis key (fun p => krow x1 b p h) Q) n w m)
    (ho : Summed (fun r d => clip (krow x2 b (key r) h d * Ideal.div 1 (vscale x3 b h d)))
      (rowExp vis (rowScore vis key (fun p => krow x1 b p h) Q) A B) n o l) :
    o (ix2 d e) * vscale x3 b h d * Ideal.div 1 (tot l e) = attn x0 x1 x2 x3 b q h ⟨e.val / 32, by omega⟩ d := by
  have hs : ∀ r, vis r e → rowScore vis key (fun p => krow x1 b p h) Q r e =
      raw (qrow x0 b q h ⟨e.val / 32, by omega⟩) (krow x1 b (key r) h) := fun r hv => by
    unfold rowScore
    rw [if_pos hv, hQ]
  have hE : ∀ r, rowExp vis (rowScore vis key (fun p => krow x1 b p h) Q) A B r e =
      Ideal.exp2 (if vis r e then raw (qrow x0 b q h ⟨e.val / 32, by omega⟩) (krow x1 b (key r) h) * A e -
          (top m e * A e - Ideal.ofBits .f32 0x41000000#32) else ⊥) := fun r => by
    unfold rowExp
    by_cases hv : vis r e
    · rw [if_pos hv, if_pos hv, hs r hv, hB]
    · rw [if_neg hv, if_neg hv]
  rw [ho.o, ho.l, ← soft x0 x1 x2 x3 b h ⟨e.val / 32, by omega⟩ q d hq hk n (fun r => vis r e) key inj sound complete (A e)
    (top m e) (by rw [hA, hQ]) (hm.lo e) (hm.hi e) (fun r hr hv => (hs r hv) ▸ hm.le r e hr)]
  simp only [hE]

end Attn

end Cert.KernelIdeal

end
-- ==== Proof.SteadyTile.lean ====
module

public import proofs.«01_k».proof.Proof.Outs

@[expose] public section

set_option maxRecDepth 16384

noncomputable section

namespace Cert.KernelIdeal

open Idealize.ShloMosaic
open Facts₀ Facts Cert.Num Cert.Proof
open Cert.ReferenceIdeal (qrow krow vscale attn Vis)

variable (M : Mems)

/-! ## One steady tile, command by command -/

section Runs

variable (i : grid0.Coords) (h2 : k0_cond2 i = 1#1) (t1 : Fin k0_t1_loop.trips) (tile : Fin 4)

def tQ (σ : Si) : Vec Ideal S1x1x256x128 .fp8e4m3 := fun j =>
  σ .qsc ((Rect.unit (s := S4x4x256x128) (qOff t1 tile) S1x1x256x128.size (qOff_inb i h2 t1 tile)).toLoadRect.idx j)
def tA0 (σ : Si) : Vec Ideal S1x1x1x1x128 .f32 := fun j =>
  σ .aq ((Rect.unit (s := S4x4x2x1x128) (aOff0 t1 tile) S1x1x1x1x128.size (aOff0_inb i h2 t1 tile)).toLoadRect.idx j)
def tA1 (σ : Si) : Vec Ideal S1x1x1x1x128 .f32 := fun j =>
  σ .aq ((Rect.unit (s := S4x4x2x1x128) (aOff1 t1 tile) S1x1x1x1x128.size (aOff1_inb i h2 t1 tile)).toLoadRect.idx j)
def tVs (σ : Si) : Vec Ideal S1x128x128 .f32 := fun j =>
  σ .vsb ((Rect.unit (s := S4x128x128) (k0_off21 t1) S1x128x128.size (k0_off21_inb i t1 h2)).toLoadRect.idx j)

def codesOf (q : Vec Ideal S1x1x256x128 .fp8e4m3) : FVec Ideal S256x128 .fp8e4m3 :=
  shapeCast S256x128 (q : FVec Ideal S1x1x256x128 .fp8e4m3) shapeCasts_S1x1x256x128_S256x128
theorem codesOf_read (q : Vec Ideal S1x1x256x128 .fp8e4m3) (e : Fin 256) (d : Fin 128) :
    codesOf q (ix2 e d) = q (ix4 0 0 e d) := by pointwise [codesOf]
def vsOver (vs : Vec Ideal S1x128x128 .f32) : FVec Ideal S128x256 .f32 :=
  twice128 (shapeCast S128x128 (vs : FVec Ideal S1x128x128 .f32) shapeCasts_S1x128x128_S128x128)
theorem vsOver_read (vs : Vec Ideal S1x128x128 .f32) (d : Fin 128) (e : Fin 256) (c : EReal) (h : ∀ r, vs (ix3 0 d r) = c) :
    vsOver vs (ix2 d e) = c := by
  refine twice128_same _ d e c fun r => Eq.trans ?_ (h r)
  pointwise []

/-- The tile's result. -/
def tileOt (ol : FVec Ideal S128x256 .f32 × FVec Ideal S8x256 .f32) (vs : Vec Ideal S1x128x128 .f32) : FVec Ideal S256x128 .bf16 :=
  outTile ol.1 (vsOver vs) (recRow ol.2)

def tailF (ol : FVec Ideal S128x256 .f32 × FVec Ideal S8x256 .f32) : Kc Ideal M Unit :=
  .ld (B := bank M) .vsb (Rect.unit (s := S4x128x128) (k0_off21 t1) S1x128x128.size (k0_off21_inb i t1 h2)).toLoadRect
    (View.loadsAt_vmem h_S1x128x128) fun (vs : Vec Ideal S1x128x128 .f32) => outCmd M i h2 t1 tile (tileOt ol vs)
def tailE (a b : FVec Ideal S1x256 .f32) (ol : FVec Ideal S128x256 .f32 × FVec Ideal S8x256 .f32) : Kc Ideal M Unit :=
  .seq (chunkSoft M i h2 t1 a b ol) fun ol => tailF M i h2 t1 tile ol
def tailD (a b : FVec Ideal S1x256 .f32) (v : FVec Ideal S128x128 .fp8e4m3 × FVec Ideal S128x128 .fp8e4m3) : Kc Ideal M Unit :=
  .seq (firstSoft M tile a b v) fun ol => tailE M i h2 t1 tile a b ol
def tailC (a b : FVec Ideal S1x256 .f32) : Kc Ideal M Unit :=
  .seq (firstVals M i h2 t1 tile) fun v => tailD M i h2 t1 tile a b v
def tailB (q : FVec Ideal S256x128 .fp8e4m3) (a : FVec Ideal S1x256 .f32) (m8 : FVec Ideal S8x256 .f32) : Kc Ideal M Unit :=
  .seq (chunkScores M i h2 t1 q m8) fun m8 => tailC M i h2 t1 tile a (bRow m8 a)
def firstS (q : FVec Ideal S256x128 .fp8e4m3) (kss : Fin 8 → FVec Ideal S32x128 .fp8e4m3 × FVec Ideal S32x128 .f32) :
    Kc Ideal M (FVec Ideal S8x256 .f32) :=
  firstScores M tile (scores (cat8k fun n => (kss n).1) q) (fun n => (kss n).2) (broadcast S8x256 NEG)
def tailA (q : FVec Ideal S256x128 .fp8e4m3) (a : FVec Ideal S1x256 .f32)
    (kss : Fin 8 → FVec Ideal S32x128 .fp8e4m3 × FVec Ideal S32x128 .f32) : Kc Ideal M Unit :=
  .seq (firstS M tile q kss) fun m8 => tailB M i h2 t1 tile q a m8

theorem tile_runA (σ : Si) : runS M (tileCmd M i h2 t1 tile) σ = runS M (tailA M i h2 t1 tile (codesOf (tQ i h2 t1 tile σ))
    (aRow (tA0 i h2 t1 tile σ) (tA1 i h2 t1 tile σ)) fun n => groupVal i h2 t1 tile n σ) σ :=
  runS_seq M (eight M (groupCmd M i h2 t1 tile)) (tailA M i h2 t1 tile (codesOf (tQ i h2 t1 tile σ))
    (aRow (tA0 i h2 t1 tile σ) (tA1 i h2 t1 tile σ))) σ σ _
    (eight_run M _ (fun n => groupVal i h2 t1 tile n σ) σ fun n => group_run M i h2 t1 tile n σ)

theorem tile_runC (a b : FVec Ideal S1x256 .f32) (σ : Si) : runS M (tailC M i h2 t1 tile a b) σ =
    runS M (tailE M i h2 t1 tile a b (firstSum (firstVal i h2 t1 tile σ) fun n => groupExp tile n a b (sRows n σ))) σ :=
  (runS_seq M _ _ σ σ _ (firstVals_run M i h2 t1 tile σ)).trans (runS_seq M _ _ σ σ _ (firstSoft_run M tile a b _ σ))

end Runs

/-! ## One steady tile -/

section Tile

variable (x0 : (⟨3, ![4, 8192, 4096]⟩ : Shape).Idx → EReal) (x1 x2 : (⟨3, ![4, 8192, 512]⟩ : Shape).Idx → EReal)
  (x3 : (⟨3, ![4, 1, 512]⟩ : Shape).Idx → EReal) (b : Fin 4) (i : grid0.Coords)

theorem coord_lt : (i 1).val < 64 := (i 1).isLt

/-- The position of a row of the point's block. -/
def posT (r : Fin 128) : Fin 8192 := ⟨128 * (i 1).val + r.val, by have := coord_lt i; omega⟩

/-- What the caches and the scratch buffers hold when a point's attention begins. -/
structure Set0 (σ : Si) : Prop where
  qsc : ∀ (h j : Fin 4) (e : Fin 256) (d : Fin 128), (σ .qsc : S4x4x256x128.Idx → EReal) (ix4 h j e d) =
    code (qrow x0 b (posT i ⟨32 * j.val + e.val % 32, by omega⟩) h ⟨e.val / 32, by omega⟩) d
  aq : ∀ (h j : Fin 4) (half : Fin 2) (l : Fin 128), (σ .aq : S4x4x2x1x128.Idx → EReal) (ix5 h j half 0 l) =
    scale (qrow x0 b (posT i ⟨32 * j.val + l.val % 32, by omega⟩) h ⟨l.val / 32 + 4 * half.val, by omega⟩) *
      Ideal.ofBits .f32 0x3E0293EE#32
  keys : ∀ h : Fin 4, Keys (fun p => krow x1 b p h) h (i 1).val σ
  vals : ∀ h : Fin 4, Vals (fun p d => clip (krow x2 b p h d * Ideal.div 1 (vscale x3 b h d))) h (i 1).val (σ .vtc)
  vsb : ∀ (h : Fin 4) (d r : Fin 128), (σ .vsb : S4x128x128.Idx → EReal) (ix3 h d r) = vscale x3 b h d

theorem Set0.of {σ σ' : Si} (hs : Set0 x0 x1 x2 x3 b i σ) (h : ∀ k, k ≠ .sbuf → k ≠ .out → σ' k = σ k) :
    Set0 x0 x1 x2 x3 b i σ' where
  qsc := by rw [h .qsc (by decide) (by decide)]; exact hs.qsc
  aq := by rw [h .aq (by decide) (by decide)]; exact hs.aq
  keys a := (hs.keys a).of _ _ (h .ksc (by decide) (by decide)) (h .ksb (by decide) (by decide))
  vals := by rw [h .vtc (by decide) (by decide)]; exact hs.vals
  vsb := by rw [h .vsb (by decide) (by decide)]; exact hs.vsb

/-- The attention of the point's queries, as the result's rows. -/
def outT (r : Fin 128) (l : Fin 4096) : EReal :=
  attn x0 x1 x2 x3 b (posT i r) ⟨l.val / 1024, by omega⟩ ⟨l.val / 128 % 8, by omega⟩ ⟨l.val % 128, by omega⟩

/-- A tile's query of column `e`. -/
def colQ (h j : Fin 4) (e : Fin 256) : Fin 128 → EReal :=
  qrow x0 b (posT i ⟨32 * j.val + e.val % 32, by omega⟩) h ⟨e.val / 32, by omega⟩

theorem outT_col (h j : Fin 4) (e : Fin 256) (d : Fin 128) : outT x0 x1 x2 x3 b i ⟨32 * j.val + e.val % 32, by omega⟩
    ⟨1024 * h.val + 128 * (e.val / 32) + d.val, by omega⟩ =
      attn x0 x1 x2 x3 b (posT i ⟨32 * j.val + e.val % 32, by omega⟩) h ⟨e.val / 32, by omega⟩ d := by
  unfold outT
  have e1 : (⟨(1024 * h.val + 128 * (e.val / 32) + d.val) / 1024, by omega⟩ : Fin 4) = h := Fin.ext (by
    change (1024 * h.val + 128 * (e.val / 32) + d.val) / 1024 = h.val; omega)
  have e2 : (⟨(1024 * h.val + 128 * (e.val / 32) + d.val) / 128 % 8, by omega⟩ : Fin 8) = ⟨e.val / 32, by omega⟩ := Fin.ext (by
    change (1024 * h.val + 128 * (e.val / 32) + d.val) / 128 % 8 = e.val / 32; omega)
  have e3 : (⟨(1024 * h.val + 128 * (e.val / 32) + d.val) % 128, by omega⟩ : Fin 128) = d := Fin.ext (by
    change (1024 * h.val + 128 * (e.val / 32) + d.val) % 128 = d.val; omega)
  rw [e1, e2, e3]

theorem aRow_col (h j : Fin 4) (a0 a1 : Vec Ideal S1x1x1x1x128 .f32)
    (h0 : ∀ l : Fin 128, a0 (ix5 0 0 0 0 l) =
      scale (qrow x0 b (posT i ⟨32 * j.val + l.val % 32, by omega⟩) h ⟨l.val / 32 + 4 * 0, by omega⟩) * Ideal.ofBits .f32 0x3E0293EE#32)
    (h1 : ∀ l : Fin 128, a1 (ix5 0 0 0 0 l) =
      scale (qrow x0 b (posT i ⟨32 * j.val + l.val % 32, by omega⟩) h ⟨l.val / 32 + 4 * 1, by omega⟩) * Ideal.ofBits .f32 0x3E0293EE#32)
    (e : Fin 256) : aRow a0 a1 (ix2 0 e) = scale (colQ x0 b i h j e) * Ideal.ofBits .f32 0x3E0293EE#32 := by
  rw [aRow_read]
  unfold colQ
  split_ifs with he
  · rw [h0]
    rfl
  · rw [h1]
    have e1 : (⟨32 * j.val + (e.val - 128) % 32, by omega⟩ : Fin 128) = ⟨32 * j.val + e.val % 32, by omega⟩ := Fin.ext (by
      change 32 * j.val + (e.val - 128) % 32 = 32 * j.val + e.val % 32; omega)
    have e2 : (⟨(e.val - 128) / 32 + 4 * 1, by omega⟩ : Fin 8) = ⟨e.val / 32, by omega⟩ := Fin.ext (by
      change (e.val - 128) / 32 + 4 * 1 = e.val / 32; omega)
    rw [e1, e2]

theorem scores_col (h j : Fin 4) (q : FVec Ideal S256x128 .fp8e4m3) (hq : ∀ e d, q (ix2 e d) = code (colQ x0 b i h j e) d)
    (h2 : k0_cond2 i = 1#1) (t1 : Fin k0_t1_loop.trips) (hh : h.val = t1.val) (σ : Si)
    (hk : Keys (fun p => krow x1 b p h) h (i 1).val σ) (n : Fin 8) (p : Fin 32) (e : Fin 256) :
    groupScore j n (scores (cat8k fun n => (groupVal i h2 t1 j n σ).1) q) (groupVal i h2 t1 j n σ).2
        (ix2 p e) = rowScore (visS j.val) (keyF (i 1).val j.val) (fun p => krow x1 b p h) (colQ x0 b i h j) (32 * n.val + p.val) e := by
  have hr := fun p d => group_read i h2 t1 j (fun p => krow x1 b p h) h hh n σ hk p d
  refine (groupScore_read j _ (fun n => (groupVal i h2 t1 j n σ).2) n p e).trans ?_
  have hn : (32 * n.val + p.val) / 32 = n.val := by omega
  have hp : (32 * n.val + p.val) % 32 = p.val := by omega
  unfold rowScore
  refine if_congr ?_ ?_ rfl
  · unfold visS
    rw [hn, hp]
    exact ⟨fun h _ => h, fun h => h (by omega)⟩
  · rw [scores_read, twice32_same _ p e _ fun d => (hr p d).2]
    refine congrArg (fun y => y * scale _) (Finset.sum_congr rfl fun d _ => ?_)
    rw [hq, cat8k_read]
    refine congrArg (fun y => y * code (colQ x0 b i h j e) d) (Eq.trans ?_ (hr p d).1)
    have e1 : (⟨(32 * n.val + p.val) / 32, by omega⟩ : Fin 8) = n := Fin.ext hn
    have e2 : (⟨(32 * n.val + p.val) % 32, by omega⟩ : Fin 32) = p := Fin.ext hp
    dsimp only
    rw [e1, e2]

variable (hx : ∀ r h g, Finite (qrow x0 b r h g)) (hkf : ∀ r h, Finite (krow x1 b r h))

include hx hkf in
/-- A tile's stores are its queries' attention. -/
theorem tile_run (h2 : k0_cond2 i = 1#1) (t1 : Fin k0_t1_loop.trips) (h j : Fin 4) (hh : h.val = t1.val) (σ : Si)
    (hs : Set0 x0 x1 x2 x3 b i σ) (h0 : OutUpTo (outT x0 x1 x2 x3 b i) (4 * h.val + j.val) (σ .out)) :
    OutUpTo (outT x0 x1 x2 x3 b i) (4 * h.val + j.val + 1) (runS M (tileCmd M i h2 t1 j) σ .out) := by
  have hT := (cond2_iff i).1 h2
  have hT' := coord_lt i
  set q := codesOf (tQ i h2 t1 j σ) with hqdef
  set a := aRow (tA0 i h2 t1 j σ) (tA1 i h2 t1 j σ) with hadef
  have hq : ∀ e d, q (ix2 e d) = code (colQ x0 b i h j e) d := fun e d => by
    rw [hqdef, codesOf_read]
    refine Eq.trans ?_ (hs.qsc h j e d)
    exact ld4 (σ .qsc) _ _ _ _ _ _ _ (qOff_eq t1 j) (ix4 (0 : Fin 1) (0 : Fin 1) e d) h j e d hh rfl (Nat.zero_add _).symm
      (Nat.zero_add _).symm
  have ha : ∀ e, a (ix2 0 e) = scale (colQ x0 b i h j e) * Ideal.ofBits .f32 0x3E0293EE#32 := fun e => by
    rw [hadef]
    refine aRow_col x0 b i h j _ _ (fun l => ?_) (fun l => ?_) e
    · refine Eq.trans ?_ (hs.aq h j 0 l)
      exact ld5 (σ .aq) _ _ _ _ _ _ _ _ (aOff0_eq t1 j) (ix5 (0 : Fin 1) (0 : Fin 1) (0 : Fin 1) (0 : Fin 1) l) h j 0 0 l hh rfl rfl
        rfl (Nat.zero_add _).symm
    · refine Eq.trans ?_ (hs.aq h j 1 l)
      exact ld5 (σ .aq) _ _ _ _ _ _ _ _ (aOff1_eq t1 j) (ix5 (0 : Fin 1) (0 : Fin 1) (0 : Fin 1) (0 : Fin 1) l) h j 1 0 l hh rfl rfl
        rfl (Nat.zero_add _).symm
  have hS := rowScore_lt (visS j.val) (keyF (i 1).val j.val) (fun p => krow x1 b p h) (colQ x0 b i h j) (fun p => hkf p h)
  rw [tile_runA]
  -- the first rows' scores
  have f1 := firstScores_run M j (scores (cat8k fun n => (groupVal i h2 t1 j n σ).1) q) (fun n => (groupVal i h2 t1 j n σ).2) _ hS σ
    (fun n p e => scores_col x0 x1 b i h j q hq h2 t1 hh σ (hs.keys h) n p e)
  set σ1 := runS M (firstS M j q fun n => groupVal i h2 t1 j n σ) σ with hσ1
  set m1 := runV M (firstS M j q fun n => groupVal i h2 t1 j n σ) σ with hm1
  have k1 : ∀ k, k ≠ .sbuf → σ1 k = σ k := f1.1
  -- the other rows' scores
  have f2 := chunkScores_run M i h2 t1 q (fun p => krow x1 b p h) h hh j (colQ x0 b i h j) hq hS σ1
    ((hs.keys h).of _ _ (k1 .ksc (by decide)) (k1 .ksb (by decide))) m1 f1.2
  set σ2 := runS M (chunkScores M i h2 t1 q m1) σ1 with hσ2
  set m2 := runV M (chunkScores M i h2 t1 q m1) σ1 with hm2
  have k2 : ∀ k, k ≠ .sbuf → σ2 k = σ k := fun k hk => (f2.1 k hk).trans (k1 k hk)
  have hs2 : Set0 x0 x1 x2 x3 b i σ2 := hs.of x0 x1 x2 x3 b i fun k h1 _ => k2 k h1
  -- the sums
  have f3 := firstSum_read (fun r d => clip (krow x2 b (keyF (i 1).val j.val r) h d * Ideal.div 1 (vscale x3 b h d))) _
    (firstVal i h2 t1 j σ2) (fun n => groupExp j n a (bRow m2 a) (sRows n σ2))
    (firstVal_read i h2 t1 j _ h hh σ2 (hs2.vals h)) (groupExp_eq j a (bRow m2 a) _ σ2 m2 f2.2)
  set ol1 := firstSum (firstVal i h2 t1 j σ2) (fun n => groupExp j n a (bRow m2 a) (sRows n σ2)) with hol1
  have f4 := chunkSoft_run M i h2 t1 j a (bRow m2 a) _ h hh _ σ2 m2 f2.2 (hs2.vals h) ol1 f3
  set ol2 := runV M (chunkSoft M i h2 t1 a (bRow m2 a) ol1) σ2 with hol2
  have e1 : runS M (tailA M i h2 t1 j q a fun n => groupVal i h2 t1 j n σ) σ = runS M (tailC M i h2 t1 j a (bRow m2 a)) σ2 := rfl
  have e2 : runS M (tailE M i h2 t1 j a (bRow m2 a) ol1) σ2 =
      runS M (outCmd M i h2 t1 j (tileOt ol2 (tVs i h2 t1 σ2))) σ2 :=
    congrArg (fun z : Si => runS M (tailF M i h2 t1 j ol2) z) f4.1
  rw [e1, tile_runC, ← hol1, e2]
  refine outs_run M _ (oOff_inb i h2 t1 j) (oOff_packed i h2 t1 j) (tileOt ol2 (tVs i h2 t1 σ2)) _ h j
    (fun g => hh ▸ oOff_eq t1 j g) (fun e d => ?_) σ2 ?_
  · rw [outT_col, tileOt, outTile_read, recRow_read, vsOver_read _ d e (vscale x3 b h d) fun r => ?_]
    · have hF := fun r hr => keyF_val (i 1).val j.val r hT hT' j.isLt hr
      refine attn_tile x0 x1 x2 x3 b h e (posT i ⟨32 * j.val + e.val % 32, by omega⟩) d 1536 (visS j.val)
        (keyF (i 1).val j.val) (colQ x0 b i h j) rfl (hx _ _ _) (fun t => hkf t h)
        (fun r r' hr hr' hv hv' he => keyS_inj (i 1).val j.val r r' e hT j.isLt hr hr' hv hv' ?_) (fun r hr hv => ?_)
        (fun t ht => ?_) (fun e => a (ix2 0 e)) (fun e => bRow m2 a (ix2 0 e)) (ha e) _ m2 ol2.2 ol2.1 (bRow_read m2 a e) f2.2 f4.2
      · rw [← hF r hr, ← hF r' hr', he]
      · have := keyS_sound (i 1).val j.val r e hT j.isLt hr hv
        rw [← hF r hr] at this
        change _ ≤ 128 * (i 1).val + (32 * j.val + e.val % 32) ∧ (128 * (i 1).val + (32 * j.val + e.val % 32) < _ ∨ _)
        rw [← Nat.add_assoc]
        exact this
      · change _ ≤ 128 * (i 1).val + (32 * j.val + e.val % 32) ∧ (128 * (i 1).val + (32 * j.val + e.val % 32) < _ ∨ _) at ht
        rw [← Nat.add_assoc] at ht
        obtain ⟨r, hr, hv, hk⟩ := keyS_complete (i 1).val j.val t.val e hT j.isLt ht
        exact ⟨r, hr, hv, Fin.ext ((hF r hr).trans hk)⟩
    · refine Eq.trans ?_ (hs2.vsb h d r)
      exact ld3 (σ2 .vsb) _ _ _ _ _ _ (Gen.k0_off21_eq t1) (ix3 (0 : Fin 1) d r) h d r hh (Nat.zero_add _).symm (Nat.zero_add _).symm
  · rw [k2 .out (by decide)]
    exact h0

end Tile

end Cert.KernelIdeal

end
-- ==== Proof.Early.lean ====
module

public import proofs.«01_k».proof.Proof.SteadyTile

@[expose] public section

set_option maxRecDepth 16384

noncomputable section

namespace Cert.KernelIdeal

open Idealize.ShloMosaic
open Facts₀ Facts Cert.Num Cert.Proof
open Cert.ReferenceIdeal (qrow krow vscale attn Vis)

variable (M : Mems)

/-! ## Loops -/

theorem fold_keeps {β : Type} : ∀ (N : Nat) (f : Fin N → β → β) (Inv : Nat → β → Prop)
    (_ : ∀ (j : Fin N) s, Inv j.val s → Inv (j.val + 1) (f j s)) (s : β) (_ : Inv 0 s),
    Inv N ((List.finRange N).foldl (fun s i => f i s) s)
  | 0, _, _, _, _, h0 => h0
  | n + 1, f, Inv, hs, s, h0 => by
    rw [List.finRange_succ_last, List.foldl_append, List.foldl_map]
    exact hs (Fin.last n) _ (fold_keeps n (fun i => f i.castSucc) Inv (fun j s h => hs j.castSucc s h) s h0)

/-- A loop's contents and result. -/
def loopR {α : Type} {w : Nat} (L : Scf.Loop w) (f : Fin L.trips → α → Kc Ideal M α) (σ : Si) (a : α) : Si × α :=
  (List.finRange L.trips).foldl (fun s i => Cmd.run (B := bank M) (Val := Elt Ideal) (f i s.2) s.1) (σ, a)

theorem loop_keeps {α : Type} {w : Nat} (L : Scf.Loop w) (f : Fin L.trips → α → Kc Ideal M α) (Inv : Nat → Si → α → Prop)
    (hs : ∀ (j : Fin L.trips) σ a, Inv j.val σ a → Inv (j.val + 1) (runS M (f j a) σ) (runV M (f j a) σ))
    (σ : Si) (a : α) (h0 : Inv 0 σ a) : Inv L.trips (loopR M L f σ a).1 (loopR M L f σ a).2 :=
  fold_keeps L.trips (fun i (s : Si × α) => Cmd.run (B := bank M) (Val := Elt Ideal) (f i s.2) s.1)
    (fun n s => Inv n s.1 s.2) (fun j s h => hs j s.1 s.2 h) (σ, a) h0

theorem loop_none {α : Type} {w : Nat} (L : Scf.Loop w) (f : Fin L.trips → α → Kc Ideal M α) (s : Si × α) (h : L.trips = 0) :
    loopR M L f s.1 s.2 = s :=
  fold_keeps L.trips (fun i (s : Si × α) => Cmd.run (B := bank M) (Val := Elt Ideal) (f i s.2) s.1)
    (fun _ z => z = s) (fun j _ _ => absurd j.isLt (by omega)) s rfl

/-! ## One block's scores and sums -/

section Blocks

variable (i : grid0.Coords) (t2 : Fin k0_t2_loop.trips) (q : FVec Ideal S256x128 .fp8e4m3) (bl : BitVec 32)

def blkT (k : Vec Ideal S1x128x128 .fp8e4m3) (s : Vec Ideal S1x128x128 .f32) : FVec Ideal S128x256 .f32 :=
  select (visible i t2 bl)
    (mulf (scores128 (shapeCast S128x128 (k : FVec Ideal S1x128x128 .fp8e4m3) shapeCasts_S1x128x128_S128x128) q)
      (twice128 (shapeCast S128x128 (s : FVec Ideal S1x128x128 .f32) shapeCasts_S1x128x128_S128x128)))
    (broadcast S128x256 NEG)

theorem blkT_read (b : Nat) (hb : b < 64) (k : Vec Ideal S1x128x128 .fp8e4m3) (s : Vec Ideal S1x128x128 .f32) (r : Fin 128)
    (e : Fin 256) (f g : Fin 128 → EReal) (hk : ∀ d, k (ix3 0 r d) = code f d) (hs : ∀ d, s (ix3 0 r d) = scale f)
    (hq : ∀ d, q (ix2 e d) = code g d) : blkT i t2 q (BitVec.ofNat 32 b) k s (ix2 r e) =
      if Seen (128 * (i 1).val + 32 * (t2.val % 4) + e.val % 32) (128 * b + r.val) then raw g f
      else Ideal.ofBits .f32 0xFF61B1E6#32 := by
  have e1 : blkT i t2 q (BitVec.ofNat 32 b) k s (ix2 r e) = Scalar.select (visible i t2 (BitVec.ofNat 32 b) (ix2 r e))
      (scores128 (shapeCast S128x128 (k : FVec Ideal S1x128x128 .fp8e4m3) shapeCasts_S1x128x128_S128x128) q (ix2 r e) *
        twice128 (shapeCast S128x128 (s : FVec Ideal S1x128x128 .f32) shapeCasts_S1x128x128_S128x128) (ix2 r e))
      (Ideal.ofBits .f32 0xFF61B1E6#32) := rfl
  rw [e1, visible_read i t2 b hb, select_bit]
  refine if_congr Iff.rfl ?_ rfl
  rw [scores128_read, twice128_same _ r e (scale f) fun d => ?_]
  · refine congrArg (fun y => y * scale f) (Finset.sum_congr rfl fun d _ => ?_)
    rw [hq]
    refine congrArg (fun y => y * code g d) (Eq.trans ?_ (hk d))
    pointwise []
  · refine Eq.trans ?_ (hs d)
    pointwise []

variable (off : Fin 3 → Nat) (inb : ∀ a, off a + S1x128x128.size a ≤ S4x8192x128.size a) (off' : Fin 2 → Nat)
  (inb' : ∀ a, off' a + S128x256.size a ≤ S1536x256.size a)

def bK (σ : Si) : Vec Ideal S1x128x128 .fp8e4m3 := fun j =>
  σ .ksc ((Rect.unit (s := S4x8192x128) off S1x128x128.size inb).toLoadRect.idx j)
def bS (σ : Si) : Vec Ideal S1x128x128 .f32 := fun j =>
  σ .ksb ((Rect.unit (s := S4x8192x128) off S1x128x128.size inb).toLoadRect.idx j)
def bRect : Rect S1536x256 := Rect.unit (s := S1536x256) off' S128x256.size inb'
def put128 (t : FVec Ideal S128x256 .f32) : Vec Ideal S128x256 .f32 := shapeCast S128x256 t shapeCasts_S128x256_S128x256
theorem put128_read (t : FVec Ideal S128x256 .f32) (r : Fin 128) (e : Fin 256) : put128 t (ix2 r e) = t (ix2 r e) := by
  pointwise [put128]

theorem blkScore_put (m8 : FVec Ideal S8x256 .f32) (σ : Si) : runS M (blkScore M i t2 q bl off inb off' inb' m8) σ =
    upd M σ .sbuf (bRect off' inb') (put128 (blkT i t2 q bl (bK off inb σ) (bS off inb σ))) := rfl
theorem blkScore_val (m8 : FVec Ideal S8x256 .f32) (σ : Si) : runV M (blkScore M i t2 q bl off inb off' inb' m8) σ =
    max128 m8 (blkT i t2 q bl (bK off inb σ) (bS off inb σ)) := rfl
theorem blkScore_run (m8 : FVec Ideal S8x256 .f32) (σ : Si) :
    (runS M (blkScore M i t2 q bl off inb off' inb' m8) σ .sbuf : S1536x256.Idx → EReal) =
      (bRect off' inb').overlay (σ .sbuf : S1536x256.Idx → EReal) (put128 (blkT i t2 q bl (bK off inb σ) (bS off inb σ))) :=
  (congrFun (blkScore_put M i t2 q bl off inb off' inb' m8 σ) .sbuf).trans
    (upd_self M σ .sbuf (bRect off' inb') (put128 (blkT i t2 q bl (bK off inb σ) (bS off inb σ))))
theorem blkScore_keeps (m8 : FVec Ideal S8x256 .f32) (σ : Si) (k : Bf) (hk : k ≠ .sbuf) :
    runS M (blkScore M i t2 q bl off inb off' inb' m8) σ k = σ k :=
  (congrFun (blkScore_put M i t2 q bl off inb off' inb' m8 σ) k).trans
    (upd_ne M σ .sbuf (bRect off' inb') (put128 (blkT i t2 q bl (bK off inb σ) (bS off inb σ))) k hk)

variable (a b : FVec Ideal S1x256 .f32)

def blkE (t : Vec Ideal S128x256 .f32) : FVec Ideal S128x256 .f32 :=
  exp2 (select (visible i t2 bl) (yOf (t : FVec Ideal S128x256 .f32) a b broadcasts_S1x256_S128x256)
    (broadcast S128x256 (Scalar.ofBits .f32 0xFF800000#32)))

theorem blkE_read (n : Nat) (hn : n < 64) (t : Vec Ideal S128x256 .f32) (r : Fin 128) (e : Fin 256) :
    blkE i t2 (BitVec.ofNat 32 n) a b t (ix2 r e) =
      Ideal.exp2 (if Seen (128 * (i 1).val + 32 * (t2.val % 4) + e.val % 32) (128 * n + r.val)
        then t (ix2 r e) * a (ix2 0 e) - b (ix2 0 e) else ⊥) := by
  have e1 : blkE i t2 (BitVec.ofNat 32 n) a b t (ix2 r e) = Ideal.exp2 (Scalar.select (visible i t2 (BitVec.ofNat 32 n) (ix2 r e))
      (yOf (t : FVec Ideal S128x256 .f32) a b broadcasts_S1x256_S128x256 (ix2 r e)) (Ideal.ofBits .f32 0xFF800000#32)) := rfl
  rw [e1, visible_read i t2 n hn, select_bit, yOf128_read, cbot]

end Blocks

/-! ## An early tile's scores and sums -/

/-- The early blocks' rows are the keys themselves. -/
def keyE (r : Nat) : Fin 8192 := ⟨r % 8192, by omega⟩
def visE (T j r : Nat) (e : Fin 256) : Prop := Seen (128 * T + 32 * j + e.val % 32) r
instance (T j r : Nat) (e : Fin 256) : Decidable (visE T j r e) := inferInstanceAs (Decidable (Seen _ _))

section Loops

variable (i : grid0.Coords) (h3 : k0_cond3 i = 1#1) (t2 : Fin k0_t2_loop.trips) (h j : Fin 4) (hh : h.val = t2.val / 4)
  (hj : j.val = t2.val % 4) (kh : Fin 8192 → Fin 128 → EReal) (Q : Fin 256 → Fin 128 → EReal)

def score3 (q : FVec Ideal S256x128 .fp8e4m3) (t3 : Fin (k0_t3_loop i).trips) (m8 : FVec Ideal S8x256 .f32) :
    Kc Ideal M (FVec Ideal S8x256 .f32) :=
  blkScore M i t2 q (Scf.iv 0#32 1#32 t3.val) (k0_off38 i t2 t3) (k0_off38_inb i t2 t3 h3)
      (k0_off39 i t3) (k0_off39_inb i t3 h3) m8

def soft5 (a b : FVec Ideal S1x256 .f32) (t5 : Fin (k0_t5_loop i).trips) (ol : FVec Ideal S128x256 .f32 × FVec Ideal S8x256 .f32) :
    Kc Ideal M (FVec Ideal S128x256 .f32 × FVec Ideal S8x256 .f32) :=
  blkSoft M i t2 a b (Scf.iv 0#32 1#32 t5.val) (k0_off43 i t2 t5) (k0_off43_inb i t2 t5 h3)
      (k0_off42 i t5) (k0_off42_inb i t5 h3) ol

include hh hj h3 in
theorem score3_run (q : FVec Ideal S256x128 .fp8e4m3) (hq : ∀ e d, q (ix2 e d) = code (Q e) d)
    (hS : ∀ r e, rowScore (visE (i 1).val j.val) keyE kh Q r e < ⊤) (σ : Si) (hk : Keys kh h (i 1).val σ) :
    (∀ k, k ≠ .sbuf → (loopR M (k0_t3_loop i) (score3 M i h3 t2 q) σ (broadcast S8x256 NEG)).1 k = σ k) ∧
    Scored (rowScore (visE (i 1).val j.val) keyE kh Q) (128 * ((i 1).val + 1))
      ((loopR M (k0_t3_loop i) (score3 M i h3 t2 q) σ (broadcast S8x256 NEG)).1 .sbuf)
      (loopR M (k0_t3_loop i) (score3 M i h3 t2 q) σ (broadcast S8x256 NEG)).2 := by
  have hT := (cond3_iff i).1 h3
  have htr := t3_trips i
  have := loop_keeps M (k0_t3_loop i) (score3 M i h3 t2 q)
    (fun n σ' m => (∀ k, k ≠ .sbuf → σ' k = σ k) ∧ Scored (rowScore (visE (i 1).val j.val) keyE kh Q) (128 * n) (σ' .sbuf) m)
    (fun t3 σ' m hI => ⟨fun k hk => (blkScore_keeps M i t2 q _ _ _ _ _ m σ' k hk).trans (hI.1 k hk), ?_⟩) σ
    (broadcast S8x256 NEG) ⟨fun _ _ => rfl, Scored.zero _ _⟩
  · rw [htr] at this
    exact this
  have hlt : t3.val < (i 1).val + 1 := htr ▸ t3.isLt
  have hks := hk.of kh h (hI.1 .ksc (by decide)) (hI.1 .ksb (by decide))
  have ht : ∀ (r : Fin 128) (e : Fin 256), blkT i t2 q (Scf.iv 0#32 1#32 t3.val) (bK (k0_off38 i t2 t3) (k0_off38_inb i t2 t3 h3) σ')
      (bS (k0_off38 i t2 t3) (k0_off38_inb i t2 t3 h3) σ') (ix2 r e) =
      rowScore (visE (i 1).val j.val) keyE kh Q (128 * t3.val + r.val) e := fun r e => by
    have hF : (keyE (128 * t3.val + r.val)).val = 128 * t3.val + r.val := Nat.mod_eq_of_lt (by omega)
    rw [iv_eq]
    refine (blkT_read i t2 q t3.val (by omega) _ _ r e (kh (keyE (128 * t3.val + r.val))) (Q e) (fun d => ?_) (fun d => ?_) (hq e)).trans ?_
    · refine Eq.trans ?_ (hks.code (keyE (128 * t3.val + r.val)) d (by rw [hF]; omega))
      exact ld3 (σ' .ksc) _ _ _ _ _ _ (off38_eq i h3 t2 t3) (ix3 (0 : Fin 1) r d) h _ d hh hF (Nat.zero_add _).symm
    · refine Eq.trans ?_ (hks.scale (keyE (128 * t3.val + r.val)) d (by rw [hF]; omega))
      exact ld3 (σ' .ksb) _ _ _ _ _ _ (off38_eq i h3 t2 t3) (ix3 (0 : Fin 1) r d) h _ d hh hF (Nat.zero_add _).symm
    · unfold rowScore
      exact if_congr (by unfold visE; rw [hj]) rfl rfl
  have hn := Scored.next hS 16 (w' := runS M (score3 M i h3 t2 q t3 m) σ' .sbuf)
    (m' := runV M (score3 M i h3 t2 q t3 m) σ') hI.2 ?_ ?_ ?_
  · have e : 128 * (t3.val + 1) = 128 * t3.val + 16 * 8 := by omega
    rw [e]; exact hn
  · intro r hr e hr'
    unfold score3
    rw [blkScore_run]
    refine (overlay_in _ _ _ _ _ _ (ix2 (⟨r, by omega⟩ : Fin 128) e) fun a => ?_).trans ?_
    · refine Eq.trans ?_ (congrArg (fun y => y + _) (congrFun (Gen.k0_off39_eq i t3) a).symm)
      match a with
      | ⟨0, _⟩ => rfl
      | ⟨1, _⟩ => exact (Nat.zero_add _).symm
    · exact (put128_read _ ⟨r, by omega⟩ e).trans (ht ⟨r, by omega⟩ e)
  · intro r hr e hr'
    unfold score3
    rw [blkScore_run]
    refine overlay_out _ _ _ _ _ _ 0 (.inl ?_)
    rw [Gen.k0_off39_eq i t3]
    change r < 128 * t3.val; omega
  · intro s e
    refine (max128_read m _ s e).trans ?_
    exact congrArg (fun y => max (m (ix2 s e)) (Finset.univ.fold max ⊥ y)) (funext fun x => ht ⟨x.val * 8 + s.val, by omega⟩ e)

def bT (off' : Fin 2 → Nat) (inb' : ∀ a, off' a + S128x256.size a ≤ S1536x256.size a) (σ : Si) : Vec Ideal S128x256 .f32 :=
  fun j => σ .sbuf ((Rect.unit (s := S1536x256) off' S128x256.size inb').toLoadRect.idx j)
def bV (off : Fin 4 → Nat) (inb : ∀ a, off a + S1x1x128x128.size a ≤ S4x64x128x128.size a) (σ : Si) :
    Vec Ideal S1x1x128x128 .fp8e4m3 :=
  fun j => σ .vtc ((Rect.unit (s := S4x64x128x128) off S1x1x128x128.size inb).toLoadRect.idx j)

theorem soft5_val (a b : FVec Ideal S1x256 .f32) (t5 : Fin (k0_t5_loop i).trips)
    (ol : FVec Ideal S128x256 .f32 × FVec Ideal S8x256 .f32) (σ : Si) : runV M (soft5 M i h3 t2 a b t5 ol) σ =
    (addf ol.1 (weigh128 (vtile (bV (k0_off43 i t2 t5) (k0_off43_inb i t2 t5 h3) σ))
        (clip8 (blkE i t2 (Scf.iv 0#32 1#32 t5.val) a b (bT (k0_off42 i t5) (k0_off42_inb i t5 h3) σ)))),
      add128 ol.2 (blkE i t2 (Scf.iv 0#32 1#32 t5.val) a b (bT (k0_off42 i t5) (k0_off42_inb i t5 h3) σ))) := rfl

def zeroSum : FVec Ideal S128x256 .f32 × FVec Ideal S8x256 .f32 :=
  (broadcast S128x256 (Scalar.ofBits .f32 0x00000000#32), broadcast S8x256 (Scalar.ofBits .f32 0x00000000#32))

theorem zeroSum_sums (V : Nat → Fin 128 → EReal) (E : Nat → Fin 256 → EReal) : Summed V E 0 zeroSum.1 zeroSum.2 :=
  ⟨fun d e => by
    have h : (broadcast S128x256 (Scalar.ofBits (F := Ideal) .f32 0x00000000#32) : S128x256.Idx → EReal) (ix2 d e) = 0 := by
      pointwise []
    exact h.trans (Finset.sum_range_zero _).symm, fun e => (tot_zero e).trans (Finset.sum_range_zero _).symm⟩

/-- A value tile of an early block, loaded. -/
theorem vld5 (h : Fin 4) (t2 : Fin k0_t2_loop.trips) (hh : h.val = t2.val / 4) (σ : Si) (off : Fin 4 → Nat)
    (inb : ∀ a, off a + S1x1x128x128.size a ≤ S4x64x128x128.size a) (b : Nat) (ho : off = ![t2.val / 4, b, 0, 0]) (p : Fin 64)
    (hp : p.val = b) (d l : Fin 128) : bV off inb σ (ix4 (0 : Fin 1) (0 : Fin 1) d l) =
      (σ .vtc : S4x64x128x128.Idx → EReal) (ix4 h p d l) :=
  ld4 (σ .vtc) off S1x1x128x128.size inb _ _ _ _ ho (ix4 (0 : Fin 1) (0 : Fin 1) d l) h p d l hh hp (Nat.zero_add _).symm
    (Nat.zero_add _).symm

include hh hj h3 in
theorem soft5_run (vv : Fin 8192 → Fin 128 → EReal) (S : Nat → Fin 256 → EReal) (a b : FVec Ideal S1x256 .f32) (σ : Si)
    (m8 : FVec Ideal S8x256 .f32) (hs : Scored S (128 * ((i 1).val + 1)) (σ .sbuf) m8) (hv : Vals vv h (i 1).val (σ .vtc)) :
    (loopR M (k0_t5_loop i) (soft5 M i h3 t2 a b) σ zeroSum).1 = σ ∧
    Summed (fun r d => vv (keyE r) d) (rowExp (visE (i 1).val j.val) S (fun e => a (ix2 0 e)) (fun e => b (ix2 0 e)))
      (128 * ((i 1).val + 1)) (loopR M (k0_t5_loop i) (soft5 M i h3 t2 a b) σ zeroSum).2.1
      (loopR M (k0_t5_loop i) (soft5 M i h3 t2 a b) σ zeroSum).2.2 := by
  have hT := (cond3_iff i).1 h3
  have htr := t5_trips i
  have := loop_keeps M (k0_t5_loop i) (soft5 M i h3 t2 a b)
    (fun n σ' ol => σ' = σ ∧ Summed (fun r d => vv (keyE r) d)
      (rowExp (visE (i 1).val j.val) S (fun e => a (ix2 0 e)) (fun e => b (ix2 0 e))) (128 * n) ol.1 ol.2)
    (fun t5 σ' ol hI => ⟨hI.1, ?_⟩) σ zeroSum ⟨rfl, zeroSum_sums _ _⟩
  · rw [htr] at this
    exact this
  obtain ⟨rfl, hI⟩ := hI
  have hlt : t5.val < (i 1).val + 1 := htr ▸ t5.isLt
  have ht : ∀ (r : Fin 128) (e : Fin 256),
      blkE i t2 (Scf.iv 0#32 1#32 t5.val) a b (bT (k0_off42 i t5) (k0_off42_inb i t5 h3) σ') (ix2 r e) =
      rowExp (visE (i 1).val j.val) S (fun e => a (ix2 0 e)) (fun e => b (ix2 0 e)) (128 * t5.val + r.val) e := fun r e => by
    have e1 : bT (k0_off42 i t5) (k0_off42_inb i t5 h3) σ' (ix2 r e) = S (128 * t5.val + r.val) e := by
      refine Eq.trans ?_ (hs.buf (128 * t5.val + r.val) (by omega) e (by omega))
      exact ld2 (σ' .sbuf) _ _ _ _ _ (Gen.k0_off42_eq i t5) (ix2 r e) ⟨128 * t5.val + r.val, by omega⟩ e rfl (Nat.zero_add _).symm
    rw [iv_eq, blkE_read i t2 a b t5.val (by omega), e1]
    unfold rowExp
    exact congrArg Ideal.exp2 (if_congr (by unfold visE; rw [hj]) rfl rfl)
  rw [soft5_val]
  have hn := Summed.next 16 (o' := (addf ol.1 (weigh128 (vtile (bV (k0_off43 i t2 t5) (k0_off43_inb i t2 t5 h3) σ'))
        (clip8 (blkE i t2 (Scf.iv 0#32 1#32 t5.val) a b (bT (k0_off42 i t5) (k0_off42_inb i t5 h3) σ')))) : FVec Ideal S128x256 .f32))
      (l' := add128 ol.2 (blkE i t2 (Scf.iv 0#32 1#32 t5.val) a b (bT (k0_off42 i t5) (k0_off42_inb i t5 h3) σ'))) hI ?_ ?_
  · have e : 128 * (t5.val + 1) = 128 * t5.val + 16 * 8 := by omega
    rw [e]; exact hn
  · intro d e
    refine congrArg (fun y => ol.1 (ix2 d e) + y) ((weigh128_read _ _ d e).trans (Finset.sum_congr rfl fun x _ => ?_))
    rw [vtile_read, clip8_read, ht]
    refine congrArg (fun y => y * clip _) ?_
    refine Eq.trans (vld5 h t2 hh σ' _ _ _ (off43_eq i h3 t2 t5) ⟨t5.val, by omega⟩ rfl d x) ?_
    refine (hv ⟨t5.val, by omega⟩ d x hlt).trans (congrArg (fun y => vv y d) (Fin.ext ?_))
    exact (Nat.mod_eq_of_lt (show 128 * t5.val + x.val < 8192 by omega)).symm
  · intro s e
    refine (add128_read ol.2 _ s e).trans ?_
    exact congrArg (fun y => ol.2 (ix2 s e) + y) (Finset.sum_congr rfl fun x _ => ht _ e)

end Loops

end Cert.KernelIdeal

end
-- ==== Proof.Attend.lean ====
module

public import proofs.«01_k».proof.Proof.Early

@[expose] public section

set_option maxRecDepth 16384

noncomputable section

namespace Cert.KernelIdeal

open Idealize.ShloMosaic
open Facts₀ Facts Cert.Num Cert.Proof
open Cert.ReferenceIdeal (qrow krow vscale attn Vis)

variable (M : Mems)

theorem runS_pos {α : Type} (c : Prop) [Decidable c] (t : c → Kc Ideal M α) (e : ¬c → Kc Ideal M α) (h : c) (σ : Si) :
    runS M (.cond c t e) σ = runS M (t h) σ := by
  change (dite c (fun h => Cmd.run (t h) σ) (fun h => Cmd.run (e h) σ)).1 = _
  rw [dif_pos h]
  rfl
theorem runS_neg {α : Type} (c : Prop) [Decidable c] (t : c → Kc Ideal M α) (e : ¬c → Kc Ideal M α) (h : ¬c) (σ : Si) :
    runS M (.cond c t e) σ = runS M (e h) σ := by
  change (dite c (fun h => Cmd.run (t h) σ) (fun h => Cmd.run (e h) σ)).1 = _
  rw [dif_neg h]
  rfl
theorem runS_loop {α β : Type} {w : Nat} (L : Scf.Loop w) (ok : L.OK) (a : β) (f : Fin L.trips → β → Kc Ideal M β)
    (k : β → Kc Ideal M α) (σ : Si) :
    runS M (.loop L ok a f k) σ = runS M (k (loopR M L f σ a).2) (loopR M L f σ a).1 := rfl
theorem runS_ret {α : Type} (a : α) (σ : Si) : runS M (.ret a) σ = σ := rfl

/-! ## One early tile, command by command -/

section Runs

variable (i : grid0.Coords) (h3 : k0_cond3 i = 1#1) (t2 : Fin k0_t2_loop.trips)

def uQ (σ : Si) : Vec Ideal S1x1x256x128 .fp8e4m3 := fun j =>
  σ .qsc ((Rect.unit (s := S4x4x256x128) (k0_off35 t2) S1x1x256x128.size (k0_off35_inb i t2 h3)).toLoadRect.idx j)
def uA0 (σ : Si) : Vec Ideal S1x1x1x1x128 .f32 := fun j =>
  σ .aq ((Rect.unit (s := S4x4x2x1x128) (k0_off36 t2) S1x1x1x1x128.size (k0_off36_inb i t2 h3)).toLoadRect.idx j)
def uA1 (σ : Si) : Vec Ideal S1x1x1x1x128 .f32 := fun j =>
  σ .aq ((Rect.unit (s := S4x4x2x1x128) (k0_off37 t2) S1x1x1x1x128.size (k0_off37_inb i t2 h3)).toLoadRect.idx j)
def uVs (σ : Si) : Vec Ideal S1x128x128 .f32 := fun j =>
  σ .vsb ((Rect.unit (s := S4x128x128) (k0_off46 t2) S1x128x128.size (k0_off46_inb i t2 h3)).toLoadRect.idx j)

def score4 (q : FVec Ideal S256x128 .fp8e4m3) (t4 : Fin (k0_t4_loop i).trips) (m8 : FVec Ideal S8x256 .f32) :
    Kc Ideal M (FVec Ideal S8x256 .f32) :=
  blkScore M i t2 q (Scf.iv (pastNo i) 1#32 t4.val) (k0_off40 i t2 t4) (k0_off40_inb i t2 t4 h3)
      (k0_off41 i t4) (k0_off41_inb i t4 h3) m8

def soft6 (a b : FVec Ideal S1x256 .f32) (t6 : Fin (k0_t6_loop i).trips) (ol : FVec Ideal S128x256 .f32 × FVec Ideal S8x256 .f32) :
    Kc Ideal M (FVec Ideal S128x256 .f32 × FVec Ideal S8x256 .f32) :=
  blkSoft M i t2 a b (Scf.iv (pastNo i) 1#32 t6.val) (k0_off45 i t2 t6) (k0_off45_inb i t2 t6 h3)
      (k0_off44 i t6) (k0_off44_inb i t6 h3) ol

def maxima (q : FVec Ideal S256x128 .fp8e4m3) (σ : Si) : Si × FVec Ideal S8x256 .f32 :=
  loopR M (k0_t3_loop i) (score3 M i h3 t2 q) σ (broadcast S8x256 NEG)
def maxima' (q : FVec Ideal S256x128 .fp8e4m3) (s : Si × FVec Ideal S8x256 .f32) : Si × FVec Ideal S8x256 .f32 :=
  loopR M (k0_t4_loop i) (score4 M i h3 t2 q) s.1 s.2
def sums (a : FVec Ideal S1x256 .f32) (s : Si × FVec Ideal S8x256 .f32) : Si × FVec Ideal S128x256 .f32 × FVec Ideal S8x256 .f32 :=
  loopR M (k0_t5_loop i) (soft5 M i h3 t2 a (bRow s.2 a)) s.1 zeroSum
def sums' (a b : FVec Ideal S1x256 .f32) (s : Si × FVec Ideal S128x256 .f32 × FVec Ideal S8x256 .f32) :
    Si × FVec Ideal S128x256 .f32 × FVec Ideal S8x256 .f32 :=
  loopR M (k0_t6_loop i) (soft6 M i h3 t2 a b) s.1 s.2

def puts47 (ot : FVec Ideal S256x128 .bf16) : Kc Ideal M Unit :=
  Cmd.each 8 (headPut M (fun g => k0_off47 t2 (BitVec.ofNat 32 g.val)) (k0_off47_inb i t2 h3) (k0_off47_packedbf16 i t2 h3) ot) ()

theorem early_run0 (σ : Si) (q : FVec Ideal S256x128 .fp8e4m3) (a : FVec Ideal S1x256 .f32)
    (hq : q = codesOf (uQ i h3 t2 σ)) (ha : a = aRow (uA0 i h3 t2 σ) (uA1 i h3 t2 σ)) :
    runS M (earlyCmd M i h3 t2) σ =
      (fun r4 : Si × FVec Ideal S8x256 .f32 => (fun r6 : Si × FVec Ideal S128x256 .f32 × FVec Ideal S8x256 .f32 =>
          runS M (puts47 M i h3 t2 (tileOt r6.2 (uVs i h3 t2 r6.1))) r6.1)
        (sums' M i h3 t2 a (bRow r4.2 a) (sums M i h3 t2 a r4))) (maxima' M i h3 t2 q (maxima M i h3 t2 q σ)) := by
  subst hq ha
  rfl

theorem early_run1 (σ : Si) (q : FVec Ideal S256x128 .fp8e4m3) (a : FVec Ideal S1x256 .f32)
    (hq : q = codesOf (uQ i h3 t2 σ)) (ha : a = aRow (uA0 i h3 t2 σ) (uA1 i h3 t2 σ)) :
    runS M (earlyCmd M i h3 t2) σ =
      (fun r6 : Si × FVec Ideal S128x256 .f32 × FVec Ideal S8x256 .f32 =>
        runS M (puts47 M i h3 t2 (tileOt r6.2 (uVs i h3 t2 r6.1))) r6.1) (sums M i h3 t2 a (maxima M i h3 t2 q σ)) := by
  have e4 : maxima' M i h3 t2 q (maxima M i h3 t2 q σ) = maxima M i h3 t2 q σ := loop_none M _ _ _ (t4_trips i)
  have e6 : ∀ b s, sums' M i h3 t2 a b s = s := fun b s => loop_none M _ _ _ (t6_trips i)
  rw [early_run0 M i h3 t2 σ q a hq ha, e4]
  dsimp only
  rw [e6]

end Runs

/-- One head's four steady tiles. -/
def headTiles (i : grid0.Coords) (h2 : k0_cond2 i = 1#1) (t1 : Fin k0_t1_loop.trips) (_ : PUnit) : Kc Ideal M PUnit :=
  .seq (Cmd.each 4 (fun tile (_ : Unit) => tileCmd M i h2 t1 tile) ()) fun _ => .ret ⟨⟩

theorem headTiles_run (i : grid0.Coords) (h2 : k0_cond2 i = 1#1) (t1 : Fin k0_t1_loop.trips) (u : PUnit) (σ : Si) :
    runS M (headTiles M i h2 t1 u) σ = runS M (Cmd.each 4 (fun tile (_ : Unit) => tileCmd M i h2 t1 tile) ()) σ := rfl

section Tile

variable (x0 : (⟨3, ![4, 8192, 4096]⟩ : Shape).Idx → EReal) (x1 x2 : (⟨3, ![4, 8192, 512]⟩ : Shape).Idx → EReal)
  (x3 : (⟨3, ![4, 1, 512]⟩ : Shape).Idx → EReal) (b : Fin 4) (i : grid0.Coords)
  (hx : ∀ r h g, Finite (qrow x0 b r h g)) (hkf : ∀ r h, Finite (krow x1 b r h))

include hx hkf in
/-- An early tile's stores are its queries' attention. -/
theorem early_run (h3 : k0_cond3 i = 1#1) (t2 : Fin k0_t2_loop.trips) (h j : Fin 4) (hh : h.val = t2.val / 4)
    (hj : j.val = t2.val % 4) (σ : Si) (hs : Set0 x0 x1 x2 x3 b i σ)
    (h0 : OutUpTo (outT x0 x1 x2 x3 b i) (4 * h.val + j.val) (σ .out)) :
    OutUpTo (outT x0 x1 x2 x3 b i) (4 * h.val + j.val + 1) (runS M (earlyCmd M i h3 t2) σ .out) := by
  have hT := (cond3_iff i).1 h3
  obtain ⟨q, hqd⟩ : ∃ q, q = codesOf (uQ i h3 t2 σ) := ⟨_, rfl⟩
  obtain ⟨a, had⟩ : ∃ a, a = aRow (uA0 i h3 t2 σ) (uA1 i h3 t2 σ) := ⟨_, rfl⟩
  have hq : ∀ e d, q (ix2 e d) = code (colQ x0 b i h j e) d := fun e d => by
    rw [hqd, codesOf_read]
    refine Eq.trans ?_ (hs.qsc h j e d)
    exact ld4 (σ .qsc) _ _ _ _ _ _ _ (off35_eq t2) (ix4 (0 : Fin 1) (0 : Fin 1) e d) h j e d hh hj (Nat.zero_add _).symm
      (Nat.zero_add _).symm
  have ha : ∀ e, a (ix2 0 e) = scale (colQ x0 b i h j e) * Ideal.ofBits .f32 0x3E0293EE#32 := fun e => by
    rw [had]
    refine aRow_col x0 b i h j _ _ (fun l => ?_) (fun l => ?_) e
    · refine Eq.trans ?_ (hs.aq h j 0 l)
      exact ld5 (σ .aq) _ _ _ _ _ _ _ _ (off36_eq t2) (ix5 (0 : Fin 1) (0 : Fin 1) (0 : Fin 1) (0 : Fin 1) l) h j 0 0 l hh hj rfl
        rfl (Nat.zero_add _).symm
    · refine Eq.trans ?_ (hs.aq h j 1 l)
      exact ld5 (σ .aq) _ _ _ _ _ _ _ _ (off37_eq t2) (ix5 (0 : Fin 1) (0 : Fin 1) (0 : Fin 1) (0 : Fin 1) l) h j 1 0 l hh hj rfl
        rfl (Nat.zero_add _).symm
  have hS := rowScore_lt (visE (i 1).val j.val) keyE (fun p => krow x1 b p h) (colQ x0 b i h j) (fun p => hkf p h)
  have f1 := score3_run M i h3 t2 h j hh hj (fun p => krow x1 b p h) (colQ x0 b i h j) q hq hS σ (hs.keys h)
  rw [early_run1 M i h3 t2 σ q a hqd had]
  obtain ⟨r3, hr3⟩ : ∃ r3, r3 = maxima M i h3 t2 q σ := ⟨_, rfl⟩
  rw [← hr3]
  change (∀ k, k ≠ .sbuf → (maxima M i h3 t2 q σ).1 k = σ k) ∧ Scored _ _ ((maxima M i h3 t2 q σ).1 .sbuf)
    (maxima M i h3 t2 q σ).2 at f1
  rw [← hr3] at f1
  have hs3 : Set0 x0 x1 x2 x3 b i r3.1 := hs.of x0 x1 x2 x3 b i fun k h1 _ => f1.1 k h1
  have f2 := soft5_run M i h3 t2 h j hh hj (fun p d => clip (krow x2 b p h d * Ideal.div 1 (vscale x3 b h d)))
    _ a (bRow r3.2 a) r3.1 r3.2 f1.2 (hs3.vals h)
  obtain ⟨r5, hr5⟩ : ∃ r5, r5 = sums M i h3 t2 a r3 := ⟨_, rfl⟩
  rw [← hr5]
  change (sums M i h3 t2 a r3).1 = r3.1 ∧ Summed _ _ _ (sums M i h3 t2 a r3).2.1 (sums M i h3 t2 a r3).2.2 at f2
  rw [← hr5] at f2
  dsimp only
  rw [f2.1]
  refine outs_run M _ (k0_off47_inb i t2 h3) (k0_off47_packedbf16 i t2 h3) (tileOt r5.2 (uVs i h3 t2 r3.1)) _ h j
    (fun g => by rw [hh, hj]; exact off47_eq t2 g) (fun e d => ?_) r3.1 ?_
  · rw [outT_col, tileOt, outTile_read, recRow_read, vsOver_read _ d e (vscale x3 b h d) fun r => ?_]
    · have hF : ∀ r, r < 128 * ((i 1).val + 1) → (keyE r).val = r := fun r hr => Nat.mod_eq_of_lt (by omega)
      refine attn_tile x0 x1 x2 x3 b h e (posT i ⟨32 * j.val + e.val % 32, by omega⟩) d (128 * ((i 1).val + 1))
        (visE (i 1).val j.val) keyE (colQ x0 b i h j) rfl (hx _ _ _) (fun t => hkf t h)
        (fun r r' hr hr' _ _ he => ?_) (fun r hr hv => ?_)
        (fun t ht => ?_) (fun e => a (ix2 0 e)) (fun e => bRow r3.2 a (ix2 0 e)) (ha e) _ r3.2 r5.2.2 r5.2.1
        (bRow_read r3.2 a e) f1.2 f2.2
      · rw [← hF r hr, ← hF r' hr', he]
      · change _ ≤ 128 * (i 1).val + (32 * j.val + e.val % 32) ∧ (128 * (i 1).val + (32 * j.val + e.val % 32) < _ ∨ _)
        rw [← Nat.add_assoc, hF r hr]
        exact hv
      · change _ ≤ 128 * (i 1).val + (32 * j.val + e.val % 32) ∧ (128 * (i 1).val + (32 * j.val + e.val % 32) < _ ∨ _) at ht
        have hr : t.val < 128 * ((i 1).val + 1) := by omega
        rw [← Nat.add_assoc] at ht
        exact ⟨t.val, hr, ht, Fin.ext (hF _ hr)⟩
    · refine Eq.trans ?_ (hs3.vsb h d r)
      exact ld3 (r3.1 .vsb) _ _ _ _ _ _ (off46_eq t2) (ix3 (0 : Fin 1) d r) h d r hh (Nat.zero_add _).symm (Nat.zero_add _).symm
  · rw [f1.1 .out (by decide)]
    exact h0

theorem only_out {α : Type} (p : Kc Ideal M α) (h : p.Only (B := bank M) (fun k => k = .sbuf ∨ k = .out)) (σ : Si)
    (hs : Set0 x0 x1 x2 x3 b i σ) : Set0 x0 x1 x2 x3 b i (runS M p σ) :=
  hs.of x0 x1 x2 x3 b i fun k h1 h2 => runS_only M (fun k => k = .sbuf ∨ k = .out) p h σ k (by
    rintro (e | e)
    · exact h1 e
    · exact h2 e)

include hx hkf in
/-- Attention over an early block. -/
theorem earlyPart_run (h3 : k0_cond3 i = 1#1) (σ : Si) (hs : Set0 x0 x1 x2 x3 b i σ) :
    OutUpTo (outT x0 x1 x2 x3 b i) 16 (runS M (earlyPart M i) σ .out) := by
  have e : runS M (earlyPart M i) σ = (loopR M k0_t2_loop (fun t2 (_ : PUnit) => earlyCmd M i h3 t2) σ ⟨⟩).1 :=
    (runS_pos M _ _ _ h3 σ).trans (runS_loop M _ _ _ _ _ σ)
  rw [e]
  have := loop_keeps M k0_t2_loop (fun t2 (_ : PUnit) => earlyCmd M i h3 t2)
    (fun n σ' _ => Set0 x0 x1 x2 x3 b i σ' ∧ OutUpTo (outT x0 x1 x2 x3 b i) n (σ' .out))
    (fun t2 σ' _ hI => ⟨only_out M x0 x1 x2 x3 b i _ (early_only M i _ (.inl rfl) (.inr rfl) h3 t2) σ' hI.1, ?_⟩) σ ⟨⟩
    ⟨hs, fun _ _ h => absurd h (Nat.not_lt_zero _)⟩
  · exact fun r l hl => this.2 r l (lt_of_lt_of_eq hl t2_trips.symm)
  · have ht : t2.val < 16 := lt_of_lt_of_eq t2.isLt t2_trips
    have e : 4 * (t2.val / 4) + t2.val % 4 = t2.val := by omega
    have := early_run M x0 x1 x2 x3 b i hx hkf h3 t2 ⟨t2.val / 4, by omega⟩ ⟨t2.val % 4, by omega⟩ rfl rfl σ' hI.1 (by
      change OutUpTo _ (4 * (t2.val / 4) + t2.val % 4) _
      rw [e]; exact hI.2)
    change OutUpTo _ (4 * (t2.val / 4) + t2.val % 4 + 1) _ at this
    rw [e] at this
    exact this

include hx hkf in
/-- The attention of a point. -/
theorem attnPart_run (σ : Si) (hs : Set0 x0 x1 x2 x3 b i σ) :
    OutUpTo (outT x0 x1 x2 x3 b i) 16 (runS M (attnPart M i) σ .out) := by
  by_cases h2 : k0_cond2 i = 1#1
  · have h3 : ¬ k0_cond3 i = 1#1 := fun h => by
      have := (cond2_iff i).1 h2
      have := (cond3_iff i).1 h
      omega
    have e : runS M (attnPart M i) σ = runS M (earlyPart M i) (loopR M k0_t1_loop (headTiles M i h2) σ ⟨⟩).1 := by
      refine Eq.trans (runS_pos M (k0_cond2 i = 1#1) (fun h2 => .loop k0_t1_loop (k0_t1_ok i h2) (⟨⟩ : PUnit) (headTiles M i h2)
        fun _ => earlyPart M i) (fun _ => earlyPart M i) h2 σ) ?_
      exact runS_loop M k0_t1_loop (k0_t1_ok i h2) (⟨⟩ : PUnit) (headTiles M i h2) (fun _ => earlyPart M i) σ
    have e' : ∀ σ, runS M (earlyPart M i) σ = σ := fun σ =>
      runS_neg M _ _ _ h3 σ
    rw [e, e']
    have := loop_keeps M k0_t1_loop (headTiles M i h2)
      (fun n σ' _ => Set0 x0 x1 x2 x3 b i σ' ∧ OutUpTo (outT x0 x1 x2 x3 b i) (4 * n) (σ' .out))
      (fun t1 σ' _ hI => ?_) σ ⟨⟩ ⟨hs, fun _ _ h => absurd h (Nat.not_lt_zero _)⟩
    · exact fun r l hl => this.2 r l (lt_of_lt_of_eq hl (congrArg (fun n => 4 * n) t1_trips).symm)
    · have ht : t1.val < 4 := lt_of_lt_of_eq t1.isLt t1_trips
      have := each_keeps M (fun tile (_ : Unit) => tileCmd M i h2 t1 tile)
        (fun n σ'' _ => Set0 x0 x1 x2 x3 b i σ'' ∧ OutUpTo (outT x0 x1 x2 x3 b i) (4 * t1.val + n) (σ'' .out))
        (fun j σ'' _ hJ => ⟨only_out M x0 x1 x2 x3 b i _ (tile_only M i _ (.inl rfl) (.inr rfl) h2 t1 j) σ'' hJ.1,
          tile_run M x0 x1 x2 x3 b i hx hkf h2 t1 ⟨t1.val, ht⟩ j rfl σ'' hJ.1 hJ.2⟩) σ' () hI
      rw [headTiles_run, Nat.mul_succ]
      exact this
  · have h3 : k0_cond3 i = 1#1 := (cond3_iff i).2 (by
      have := mt (cond2_iff i).2 h2
      omega)
    have e : runS M (attnPart M i) σ = runS M (earlyPart M i) σ :=
      runS_neg M _ _ _ h2 σ
    rw [e]
    exact earlyPart_run M x0 x1 x2 x3 b i hx hkf h3 σ hs

end Tile

end Cert.KernelIdeal

end
-- ==== Proof.Final.lean ====
module

public import proofs.«01_k».proof.Proof.Attend
public import proofs.«01_k».proof.Proof.Fin

@[expose] public section

set_option maxRecDepth 16384

noncomputable section

namespace Cert.KernelIdeal

open Idealize.ShloMosaic
open Facts₀ Facts Cert.Num Cert.Proof
open Cert.ReferenceIdeal (qrow krow vscale attn Vis)

variable (m : (ℓ : Loc nD τ sig) → Buf (Elt Ideal) ℓ) (c : Dev nD)

/-- A grid point's query row, counted from the batch's first. -/
theorem posT_eq (t : Fin cfg0.N) (r : Fin 128) : posT (grid0.coords t) r = posOf t r :=
  Fin.ext (congrArg (fun n => 128 * n + r.val) (coords1 t))

/-- A head's query row, by its position, its KV head and its head within that. -/
theorem qrow_at (x0 : (⟨3, ![4, 8192, 4096]⟩ : Shape).Idx → EReal) (b : Fin 4) (t : Fin cfg0.N) (r : Fin 128) (h : Fin 4) (g : Fin 8)
    (l : Fin 32) (hl : l.val = 8 * h.val + g.val) :
    qrow x0 b (posOf t r) ⟨l.val / 8, by omega⟩ ⟨l.val % 8, by omega⟩ = qrow x0 b (posT (grid0.coords t) r) h g := by
  have e1 : (⟨l.val / 8, by omega⟩ : Fin 4) = h := Fin.ext (by change l.val / 8 = _; omega)
  have e2 : (⟨l.val % 8, by omega⟩ : Fin 8) = g := Fin.ext (by change l.val % 8 = _; omega)
  rw [e1, e2, posT_eq]

/-- What a point finds when its attention begins is what the attention needs: the codes and scales of the queries of
this point, of the keys and values so far, and the values' scales. -/
theorem set0_of (t : Fin cfg0.N) (σ σ' : Si) (hx : σ .x = Gen.iblk m c 0 t) (hr : ReadyAt m c t σ σ') :
    Set0 (ax m c) (ak m c) (av m c) (avs m c) (bat t.val) (grid0.coords t) σ' where
  qsc h j e d := (hr.qsc h j e d (by omega)).trans (congrArg (fun f => code f d)
    ((xrow_eq m c t σ hx _ _).trans (qrow_at _ _ _ _ h _ _ rfl)))
  aq h j half l := (hr.aq h j half l (by omega)).trans (congrArg (fun f => scale f * Ideal.ofBits .f32 0x3E0293EE#32)
    ((xrow_eq m c t σ hx _ _).trans (qrow_at _ _ _ _ h _ _ rfl)))
  keys h := ⟨fun p d hp => hr.caches.ksc h p d (.inl hp), fun p d hp => hr.caches.ksb h p d (.inl hp)⟩
  vals h := fun p d r hp => hr.caches.vtc h p d r (.inl hp)
  vsb h d r := hr.vsb h d r h.isLt

/-- The attention of a point gives the reference's result at the point's rows. -/
theorem out_at (t : Fin cfg0.N) (σ σ' : Si) (hfin : AllFinite m c) (hx : σ .x = Gen.iblk m c 0 t)
    (hr : ReadyAt m c t σ σ') (r : Fin 128) (l : Fin 4096) :
    (runS (memsAt t) (attnPart (memsAt t) (grid0.coords t)) σ' .out : S1x128x4096.Idx → EReal) (ix3 0 r l) =
      Cert.ReferenceIdeal.Read.val_main_v111 (F := Ideal) (ax m c) (ak m c) (av m c) (avs m c)
        (ix3 (bat t.val) (posOf t r) l) := by
  refine (attnPart_run (memsAt t) _ _ _ _ _ _ (fun r h g => hfin.x _ r h g) (fun r h => hfin.k _ r h) σ'
    (set0_of m c t σ σ' hx hr) r l (by omega)).trans ?_
  refine Eq.trans ?_ (Cert.ReferenceIdeal.v111_read _ _ _ _ _ _ _).symm
  unfold outT
  rw [posT_eq]

end Cert.KernelIdeal

end
-- ==== Proof.VScale.lean ====
/-
  The call that finds the values' scales: per batch and lane, the largest magnitude over the sequence, eight rows at a
  time and 1024 rows a grid point, and the power of two that is the scale.
-/
module

public import proofs.«01_k».proof.Proof.Gen.ValueScalesIdeal.Value
public import proofs.«01_k».proof.Proof.QOps
public import Idealize.ShloMosaic.Lib.Pipeline.ReadBack
public import Idealize.ShloMosaic.Lib.Pointwise
public import proofs.«01_k».proof.Proof.Words
public import Idealize.ShloMosaic.Lib.Pipeline.ValueKit

@[expose] public section

set_option maxRecDepth 16384

noncomputable section

namespace Cert.Num

open Idealize.ShloMosaic

/-- A magnitude. -/
def mag (x : EReal) : EReal := max x (-x)

/-- A lane's largest magnitude. -/
def colMax (f : Fin 8192 → EReal) : EReal := Finset.univ.fold max ⊥ fun p => mag (f p)

/-- The scale of a lane's values. -/
def colScale (f : Fin 8192 → EReal) : EReal :=
  if topPow (colMax f * Ideal.ofBits .f32 0x3B124925#32) = 0 then 1 else topPow (colMax f * Ideal.ofBits .f32 0x3B124925#32)

/-- Of finite values, the scale is the number that the exponent word gives. -/
theorem colScale_word (f : Fin 8192 → EReal) (hf : ∀ p, mag (f p) ≤ Ideal.ofBits .f32 0x7F7F0000#32) :
    wordScale (colMax f * Ideal.ofBits .f32 0x3B124925#32) = colScale f := by
  obtain ⟨c, hc, ec⟩ := cfinite
  obtain ⟨k, hk0, hk, ek⟩ := cbound
  have h1 : colMax f ≤ (c : EReal) := (fold_max_iff _ _ _).2 fun d _ => ec ▸ hf d
  have h0 : 0 ≤ colMax f := (abs_nonneg' (f 0)).trans
    ((fold_max_iff (Finset.univ : Finset (Fin 8192)) (fun d => mag (f d)) _).1 le_rfl 0 (Finset.mem_univ _))
  obtain ⟨m, hm⟩ : ∃ m : ℝ, colMax f = (m : EReal) :=
    ⟨(colMax f).toReal, (EReal.coe_toReal (ne_of_lt (lt_of_le_of_lt h1 (EReal.coe_lt_top c)))
      (ne_of_gt (lt_of_lt_of_le (EReal.bot_lt_coe 0) h0))).symm⟩
  rw [hm] at h0 h1
  have m0 : 0 ≤ m := EReal.coe_nonneg.1 h0
  have m1 : m ≤ c := EReal.coe_le_coe_iff.1 h1
  have y0 : 0 ≤ colMax f * Ideal.ofBits .f32 0x3B124925#32 := by
    rw [hm, ek, ← EReal.coe_mul]
    exact EReal.coe_nonneg.2 (by positivity)
  have y1 : colMax f * Ideal.ofBits .f32 0x3B124925#32 < (((2 : ℝ) ^ (126 : ℤ) : ℝ) : EReal) := by
    rw [hm, ek, ← EReal.coe_mul]
    refine EReal.coe_lt_coe_iff.2 ?_
    have : m * k ≤ 2 ^ 128 * (1 / 256) := mul_le_mul (by linarith) hk.le hk0.le (by norm_num)
    exact lt_of_le_of_lt this (by norm_num)
  obtain ⟨s, -, e1, e2, -⟩ := scale_facts _ y0 y1
  exact e2.trans e1.symm

end Cert.Num

namespace Cert.ValueScalesIdeal

open Idealize.ShloMosaic
open Facts₀ Facts Cert.Num Gen

variable (m : (ℓ : Loc nD τ sig) → Buf (Elt Ideal) ℓ) (c : Dev nD)

/-- The values, as the program's argument holds them. -/
def vals : S4x8192x512.Idx → EReal := m ((c.tc : Thread nD τ).loc main_arg0)

/-- A lane's values along the sequence. -/
def col (x : S4x8192x512.Idx → EReal) (b : Fin 4) (l : Fin 512) : Fin 8192 → EReal := fun p => x (ix3 b p l)

theorem index0 (t : Fin cfg0.N) : win0_0.index t = ![t.val / 8, t.val % 8, 0] :=
  (by decide +kernel : ∀ t : Fin grid0.N, win0_0.index t = ![t.val / 8, t.val % 8, 0]) t
theorem points (t : Fin cfg0.N) : t.val < 32 := t.isLt

/-- A grid point's block of values. -/
theorem blk_v (t : Fin cfg0.N) (r : Fin 1024) (l : Fin 512) :
    (Gen.iblk m c 0 t : S1x1024x512.Idx → EReal) (ix3 0 r l) =
      vals m c (ix3 ⟨t.val / 8, by have := points t; omega⟩ ⟨1024 * (t.val % 8) + r.val, by omega⟩ l) := by
  blk_simp [Gen.iblk, index0]
  refine congrArg (vals m c) ?_
  blk_ext [index0]

/-- A block's maxima, one row in eight. -/
theorem part_read (X : Vec Ideal S1x1024x512 .bf16) (s : Fin 8) (l : Fin 512) :
    k0_pay1 X (ix2 s l) = Finset.univ.fold max ⊥ fun a : Fin 128 =>
      mag ((X : S1x1024x512.Idx → EReal) (ix3 0 ⟨8 * a.val + s.val, by omega⟩ l)) := by
  have e : Ideal.ofBits FTy.f32 4286578688#32 = ⊥ := cbot
  pointwise [k0_pay1]
  rw [e]
  rfl

/-- The largest of eight rows, as the last step bounds it. -/
def peak (A : S8x512.Idx → EReal) (l : Fin 512) : EReal := Finset.univ.fold max ⊥ fun s : Fin 8 => A (ix2 s l)

/-- The scale that the last step finds. -/
theorem last_read (A : Vec Ideal S8x512 .f32) (l : Fin 512) :
    k0_pay4 A (ix3 0 0 l) = wordScale (peak A l * Ideal.ofBits .f32 0x3B124925#32) := by
  have e : Ideal.ofBits FTy.f32 4286578688#32 = ⊥ := cbot
  pointwise [k0_pay4]
  rw [e, cmpi_eq, select_bit]
  rfl

/-- What the accumulator holds after a point: bounds of it are the bounds of the rows so far of its residue. -/
def Held (n : Nat) (b : Fin 4) (j : Nat) (A : S8x512.Idx → EReal) : Prop :=
  ∀ (s : Fin 8) (l : Fin 512) (C : EReal), A (ix2 s l) ≤ C ↔
    ∀ p : Fin 8192, p.val < 1024 * (j + n) → p.val % 8 = s.val → mag (col (vals m c) b l p) ≤ C

/-- A block's maxima, by their bounds. -/
theorem part_le (t : Fin cfg0.N) (s : Fin 8) (l : Fin 512) (C : EReal) :
    k0_pay1 (Gen.iblk m c 0 t) (ix2 s l) ≤ C ↔ ∀ p : Fin 8192, 1024 * (t.val % 8) ≤ p.val → p.val < 1024 * (t.val % 8 + 1) →
      p.val % 8 = s.val → mag (col (vals m c) ⟨t.val / 8, by have := points t; omega⟩ l p) ≤ C := by
  refine Iff.trans (Eq.to_iff (congrArg (· ≤ C) (part_read (Gen.iblk m c 0 t) s l))) ((fold_max_iff _ _ _).trans ?_)
  constructor
  · intro h p h1 h2 h3
    have := h ⟨(p.val - 1024 * (t.val % 8)) / 8, by omega⟩ (Finset.mem_univ _)
    refine le_trans (le_of_eq (congrArg mag ?_)) this
    refine Eq.trans ?_ (blk_v m c t _ l).symm
    refine congrArg (fun q => vals m c (ix3 _ q l)) (Fin.ext ?_)
    change p.val = 1024 * (t.val % 8) + (8 * ((p.val - 1024 * (t.val % 8)) / 8) + s.val)
    omega
  · intro h a _
    refine le_trans (le_of_eq (congrArg mag (blk_v m c t _ l))) (h ⟨1024 * (t.val % 8) + (8 * a.val + s.val), by omega⟩ ?_ ?_ ?_)
    · change _ ≤ 1024 * (t.val % 8) + (8 * a.val + s.val); omega
    · change 1024 * (t.val % 8) + (8 * a.val + s.val) < _; omega
    · change (1024 * (t.val % 8) + (8 * a.val + s.val)) % 8 = _; omega

theorem first_held (t : Fin cfg0.N) (h0 : t.val % 8 = 0) :
    Held m c 1 ⟨t.val / 8, by have := points t; omega⟩ (t.val % 8) (outsAt0 m c t.val t.isLt).2 := by
  rw [outsAt0_A m c t h0 (by omega) (by omega)]
  frame_out
  intro s l C
  refine Iff.trans (Eq.to_iff (congrArg (· ≤ C) ?_)) ((part_le m c t s l C).trans ⟨fun h p => h p (by omega), fun h p _ => h p⟩)
  pointwise [k0_pay2]

/-- The next maxima, by their bounds. -/
theorem next_le (t : Fin cfg0.N) (h0 : t.val % 8 ≠ 0) (A : Vec Ideal S8x512 .f32)
    (hA : Held m c 0 ⟨t.val / 8, by have := points t; omega⟩ (t.val % 8) A) :
    Held m c 1 ⟨t.val / 8, by have := points t; omega⟩ (t.val % 8) (k0_pay3 (Gen.iblk m c 0 t) A) := by
  intro s l C
  have e : k0_pay3 (Gen.iblk m c 0 t) A (ix2 s l) = max ((A : S8x512.Idx → EReal) (ix2 s l)) (k0_pay1 (Gen.iblk m c 0 t) (ix2 s l)) := by
    pointwise [k0_pay3]
  rw [e, max_le_iff, hA s l C, part_le m c t s l C]
  constructor
  · rintro ⟨h1, h2⟩ p hp hs
    by_cases hl : p.val < 1024 * (t.val % 8 + 0)
    · exact h1 p hl hs
    · exact h2 p (by omega) hp hs
  · intro h
    exact ⟨fun p hp hs => h p (by omega) hs, fun p _ hp hs => h p hp hs⟩

/-- The accumulator after every point. -/
theorem held (n : Nat) (hn : n < cfg0.N) :
    Held m c 1 ⟨n / 8, by have := points ⟨n, hn⟩; dsimp only at this; omega⟩ (n % 8) (outsAt0 m c n hn).2 := by
  induction n with
  | zero => exact first_held m c ⟨0, hn⟩ rfl
  | succ n ih =>
    by_cases h0 : (n + 1) % 8 = 0
    · exact first_held m c ⟨n + 1, hn⟩ h0
    · have hb := ih (Nat.lt_of_succ_lt hn)
      have hA : Held m c 0 ⟨(n + 1) / 8, by have := points ⟨n + 1, hn⟩; dsimp only at this; omega⟩ ((n + 1) % 8)
          (outsAt0 m c n (Nat.lt_of_succ_lt hn)).2 := by
        have e1 : (n + 1) / 8 = n / 8 := by omega
        have e2 : (n + 1) % 8 + 0 = n % 8 + 1 := by omega
        intro s l C
        refine (hb s l C).trans ?_
        rw [e2]
        simp only [e1]
      have hc := next_le m c ⟨n + 1, hn⟩ h0 _ hA
      by_cases h2 : (n + 1) % 8 = 7
      · rw [outsAt0_C m c ⟨n + 1, hn⟩ h0 (by dsimp only; omega) h2]
        frame_out
        rw [read_unread_whole]
        exact hc
      · rw [outsAt0_B m c ⟨n + 1, hn⟩ h0 (by dsimp only; omega) h2]
        frame_out
        rw [read_unread_whole]
        exact hc

/-- A batch's last point writes the scales. -/
theorem out_last (t : Fin cfg0.N) (h7 : t.val % 8 = 7) (l : Fin 512)
    (hf : ∀ p, mag (col (vals m c) ⟨t.val / 8, by have := points t; omega⟩ l p) ≤ Ideal.ofBits .f32 0x7F7F0000#32) :
    ((outsAt0 m c t.val t.isLt).1 : S1x1x512.Idx → EReal) (ix3 0 0 l) =
      colScale (col (vals m c) ⟨t.val / 8, by have := points t; omega⟩ l) := by
  have hh := held m c t.val t.isLt
  rw [outsAt0_C m c t (by omega) (by omega) h7] at hh ⊢
  revert hh
  frame_out
  intro hh
  refine (last_read _ l).trans (Eq.trans ?_ (colScale_word _ hf))
  refine congrArg (fun y => wordScale (y * _)) (eq_of_forall_ge_iff fun C => ?_)
  refine (fold_max_iff _ _ _).trans (Iff.trans ?_ (fold_max_iff _ _ _).symm)
  constructor
  · intro h p _
    exact (hh ⟨p.val % 8, by omega⟩ l C).1 (h _ (Finset.mem_univ _)) p (by omega) rfl
  · intro h s _
    exact (hh s l C).2 fun p _ _ => h p (Finset.mem_univ _)

/-- The program's result, of finite values: every lane's scale. -/
theorem result (hf : ∀ i, mag (vals m c i) ≤ Ideal.ofBits .f32 0x7F7F0000#32) (b : Fin 4) (l : Fin 512) :
    (Value.G1 m c : S4x1x512.Idx → EReal) (ix3 b 0 l) = colScale (col (vals m c) b l) := by
  have hp : Value.pt1Of (ix3 b (0 : Fin 1) l) = 8 * b.val + 7 := by
    change 8 * (1 * (b.val / 1 - 0) + 1 * (0 / 1 - 0) + 1 * (l.val / 512 - 0)) + 7 = _
    omega
  have hlt : 8 * b.val + 7 < cfg0.N := by change 8 * b.val + 7 < 32; omega
  have hl : Value.loc1Of (ix3 b (0 : Fin 1) l) = ix3 0 0 l := by
    funext a
    match a with
    | ⟨0, _⟩ => exact Fin.ext (by change b.val % 1 = 0; omega)
    | ⟨1, _⟩ => rfl
    | ⟨2, _⟩ => exact Fin.ext (by change l.val % 512 = l.val; omega)
  unfold Value.G1
  rw [dif_pos (by rw [hp]; exact hlt), hl, Value.fold0_congr m c _ _ (8 * b.val + 7) (by omega) hp,
    ← Value.outsAt0_sweep m c (8 * b.val + 7) hlt]
  have hb : (⟨(8 * b.val + 7) / 8, by omega⟩ : Fin 4) = b := Fin.ext (by change (8 * b.val + 7) / 8 = b.val; omega)
  refine (out_last m c ⟨8 * b.val + 7, hlt⟩ (by change (8 * b.val + 7) % 8 = 7; omega) l (fun p => hf _)).trans ?_
  exact congrArg (fun b => colScale (col (vals m c) b l)) hb

end Cert.ValueScalesIdeal

end
-- ==== Proof.VRef.lean ====
/-
  The values' scales, as the reference finds them, and the two programs set side by side.
-/
module

public import proofs.«01_k».proof.Defs
public import proofs.«01_k».proof.Proof.Gen.ValueScalesReferenceIdeal.Run
public import proofs.«01_k».proof.Proof.Gen.ValueScalesReferenceIdeal.Read
public import proofs.«01_k».proof.Proof.VScale
public import proofs.«01_k».proof.Proof.Ref
public import Idealize.ShloMosaic.Lib.ReduceAll

@[expose] public section

set_option maxRecDepth 16384

noncomputable section

namespace Cert.ValueScalesReferenceIdeal

open Idealize.ShloMosaic
open Read Gen Facts Facts₀ Cert.Num
open Cert.ValueScalesIdeal (col)

variable (x0 : (⟨S4x8192x512, .bf16⟩ : BufTy).Contents (Elt Ideal))

/-- A lane's bound. -/
theorem bound_read (b : Fin 4) (l : Fin 512) :
    val_main_v5 (F := Ideal) x0 (ix3 b 0 l) = colMax (col x0 b l) * Ideal.ofBits .f32 0x3B124925#32 := by
  have e : val_main_cst (F := Ideal) (Shape.Idx.first Gen.h_S_) = ⊥ := by rw [val_main_cst_apply]; exact cbot
  have e1 : ∀ p : Fin 8192, val_main_v1 (F := Ideal) x0 (ix3 b p l) = mag (col x0 b l p) := by
    intro p
    pointwise [val_main_v1, val_main_v0]
    rfl
  have e2 : val_main_v2 (F := Ideal) x0 (ix2 b l) = colMax (col x0 b l) := by
    pointwise [val_main_v2]
    rw [e]
    simp only [e1]
    rfl
  have e3 : val_main_v3 (F := Ideal) x0 (ix3 b 0 l) = val_main_v2 (F := Ideal) x0 (ix2 b l) := by
    pointwise [val_main_v3]
  have e4 : val_main_v4 (F := Ideal) (ix3 b 0 l) = Ideal.ofBits .f32 0x3B124925#32 := by
    rw [val_main_v4_apply, val_main_cst_0_apply]; rfl
  rw [val_main_v5_apply, e3, e4, e2]
  rfl

/-- The powers of two. -/
theorem powers_read (a : Fin 253) : val_main_v10 (F := Ideal) (ix1 a) = (((2 : ℝ) ^ ((a.val : ℤ) - 126) : ℝ) : EReal) := by
  rw [← Cert.ReferenceIdeal.pow_read a]
  pointwise [val_main_v10, val_main_v9, val_main_v8, val_main_v7, val_main_v6, val_main_cst_1, val_main_cst_2]

/-- Their doubles. -/
theorem doubles_read (a : Fin 253) : val_main_v17 (F := Ideal) (ix1 a) = (((2 : ℝ) ^ ((a.val : ℤ) - 125) : ℝ) : EReal) := by
  have e : val_main_v16 (F := Ideal) (ix1 a) = ((2 : ℝ) : EReal) := by
    rw [← c2]
    pointwise [val_main_v16, val_main_cst_3]
  rw [val_main_v17_apply, powers_read, e]
  change (_ * _ : EReal) = _
  rw [← EReal.coe_mul]
  congr 1
  rw [← zpow_add_one₀ (by norm_num)]
  congr 1
  ring

/-- A power's double where the power is at most the bound. -/
theorem chosen_read (b : Fin 4) (l : Fin 512) (a : Fin 253) :
    val_main_v18 (F := Ideal) x0 (ix4 b 0 l a) =
      if (((2 : ℝ) ^ ((a.val : ℤ) - 126) : ℝ) : EReal) ≤ colMax (col x0 b l) * Ideal.ofBits .f32 0x3B124925#32 then
        (((2 : ℝ) ^ ((a.val : ℤ) - 125) : ℝ) : EReal) else 0 := by
  have e14 : val_main_v14 (F := Ideal) x0 (ix4 b 0 l a) = colMax (col x0 b l) * Ideal.ofBits .f32 0x3B124925#32 := by
    rw [← bound_read]
    pointwise [val_main_v14, val_main_v11]
  have e13 : val_main_v13 (F := Ideal) (ix4 b 0 l a) = val_main_v10 (F := Ideal) (ix1 a) := by
    pointwise [val_main_v13, val_main_v12]
  have ec1 : val_main_call0_v1 (F := Ideal) (ix4 b 0 l a) = val_main_v17 (F := Ideal) (ix1 a) := by
    pointwise [val_main_call0_v1, val_main_call0_v0]
  have ec2 : val_main_call0_v2 (F := Ideal) (ix4 b 0 l a) = 0 := by
    rw [val_main_call0_v2_apply, val_main_call0_v0_apply, val_main_cst_4_apply]
    exact Ideal.ofBits_zero_f32
  rw [val_main_v18_apply, val_main_v15_apply, e14, e13, ec1, ec2, powers_read, doubles_read]
  pointwise

/-- The reference's scales. -/
theorem scales_read (b : Fin 4) (l : Fin 512) :
    val_main_v22 (F := Ideal) x0 (ix3 b 0 l) = colScale (col x0 b l) := by
  have e19 : val_main_v19 (F := Ideal) x0 (ix3 b 0 l) = topPow (colMax (col x0 b l) * Ideal.ofBits .f32 0x3B124925#32) := by
    have e0 : val_main_cst_5 (F := Ideal) (Shape.Idx.first Gen.h_S_) = ⊥ := by rw [val_main_cst_5_apply]; exact cbot
    pointwise [val_main_v19]
    rw [e0]
    simp only [chosen_read]
    rfl
  have e1 : val_main_call1_v1 (F := Ideal) (ix3 b 0 l) = 1 := by
    rw [val_main_call1_v1_apply, val_main_call1_v0_apply, val_main_cst_7_apply]
    pointwise
  have e2 : val_main_v20 (F := Ideal) (ix3 b 0 l) = 0 := by
    rw [val_main_v20_apply, val_main_cst_6_apply]
    pointwise
  rw [val_main_v22_apply, val_main_v21_apply, e1, e2, e19]
  unfold colScale
  pointwise

end Cert.ValueScalesReferenceIdeal

namespace Cert.Pre_finite_values

open Idealize.ShloMosaic

/-- The side conditions of the precondition's operations. -/
theorem facts : Facts where
  bitsLt_bf16_f32 := by decide
  bcast_S_S4x8192x512 := by decide
  reducesTo_S4x8192x512_S_d0_1_2 := by decide
  h_S_ := by decide

variable [Facts]

instance : Subsingleton S_.Idx := ⟨fun a b => funext fun k => absurd k.isLt (Nat.not_lt_zero _)⟩

/-- Where the precondition holds, no value is larger than the largest finite value. -/
theorem of_fn (v : FVec Ideal S4x8192x512 .bf16) (h : fn (F := Ideal) v = fun _ => 1#1) (i : S4x8192x512.Idx) :
    Cert.Num.mag (v i) ≤ Ideal.ofBits .f32 0x7F7F0000#32 := by
  have hb : ∀ b : Bool, BitVec.ofBool b = 1#1 → b = true := by decide
  exact of_decide_eq_true (hb _ (Host.reduce_andi_all _ _ _ _ _
    (congrFun h (fun k => absurd k.isLt (Nat.not_lt_zero _))) i))

end Cert.Pre_finite_values

namespace Cert.ValueScalesIdeal

open Idealize.ShloMosaic Idealize.SL.Sem

/-- An index of the scales' array. -/
theorem idx_scales (y : (⟨3, ![4, 1, 512]⟩ : Shape).Idx) : y = ix3 (y 0) (0 : Fin 1) (y 2) := by
  funext a
  match a with
  | ⟨0, _⟩ => rfl
  | ⟨1, _⟩ => exact Subsingleton.elim (α := Fin 1) _ _
  | ⟨2, _⟩ => rfl

/-- The call's scales are the reference's, of values that are finite. -/
theorem algebraic [Cert.Pre_finite_values.Facts] :
    Cert.algebraic_ValueScalesIdeal_ValueScalesReferenceIdeal_pre_finite_values := by
  intro m g m' g' hpre heq
  refine ⟨fun c => Value.G1 m c, Value.run m g, ?_⟩
  refine (θ_run _ _ _).mono (fun r h c => ⟨(h c).1.trans ?_, (h c).2⟩) (ValueScalesReferenceIdeal.Value.run m' g')
  refine (Cert.ValueScalesReferenceIdeal.Read.val_main_v22_eq _).trans ?_
  funext y
  rw [idx_scales y]
  refine (Cert.ValueScalesReferenceIdeal.scales_read _ _ _).trans (Eq.trans ?_ (result m c
    (fun i => Cert.Pre_finite_values.of_fn _ (hpre c) i) (y 0) (y 2)).symm)
  unfold vals
  rw [← heq c]

end Cert.ValueScalesIdeal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ValueScales
public import proofs.«01_k».proof.Proof.Gen.ValueScales.Frame
public import proofs.«01_k».proof.Proof.Gen.ValueScalesIdeal
public import proofs.«01_k».proof.Proof.Gen.ValueScalesIdeal.Value
public import proofs.«01_k».proof.Proof.Gen.ValueScalesReferenceIdeal
public import proofs.«01_k».proof.Proof.Gen.ValueScalesReferenceIdeal.Run
public import proofs.«01_k».proof.Proof.Gen.ValueScalesReferenceIdeal.Read
public import proofs.«01_k».proof.Proof.Same
public import proofs.«01_k».proof.Proof.Fin
public import proofs.«01_k».proof.Proof.Final
public import proofs.«01_k».proof.Proof.VRef

@[expose] public section

set_option maxRecDepth 16384

noncomputable section

namespace Cert.Proof

open Idealize.ShloMosaic Idealize.SL.Sem
open Cert.KernelIdeal (ax ak av avs)

/-- An index of three coordinates. -/
theorem idx_three {p q r : Nat} (y : (⟨3, ![p, q, r]⟩ : Shape).Idx) : y = ix3 (y 0) (y 1) (y 2) := by
  funext a
  match a with
  | ⟨0, _⟩ => rfl
  | ⟨1, _⟩ => rfl
  | ⟨2, _⟩ => rfl

/-- The kernel's results are the reference's, of arguments whose queries and keys are finite. -/
theorem algebraic [Cert.Pre_finite.Facts] : Cert.algebraic_KernelIdeal_ReferenceIdeal_pre_finite := by
  intro m g m' g' hpre heq
  have hfin : ∀ c, Cert.KernelIdeal.AllFinite m c := fun c => Cert.KernelIdeal.allFinite m c (hpre c)
  have hK := Cert.KernelIdeal.results m g hfin
    (fun c => Cert.ReferenceIdeal.Read.val_main_v111 (F := Ideal) (ax m c) (ak m c) (av m c) (avs m c)) true
    (fun _ c t σ σ' hx _ hr r l => Cert.KernelIdeal.out_at m c t σ σ' (hfin c) hx hr r l)
  refine ⟨_, _, _, (θ_run _ _ _).mono (fun r h c => ⟨(h c).1 rfl, (h c).2⟩) hK, ?_⟩
  refine (θ_run _ _ _).mono (fun r h c => ⟨(h c).1.trans ?_, (h c).2.1.trans ?_, (h c).2.2.1.trans ?_, (h c).2.2.2⟩)
    (ReferenceIdeal.Value.run m' g')
  · refine (Cert.ReferenceIdeal.Read.val_main_v111_eq _).trans ?_
    obtain ⟨e0, e1, e2, e3⟩ := heq c
    unfold ax ak av avs
    rw [← e0, ← e1, ← e2, ← e3]
  · refine (Cert.ReferenceIdeal.Read.val_main_v112_eq _).trans ?_
    funext y
    rw [idx_three (p := 4) (q := 8192) (r := 32) y]
    refine (Cert.ReferenceIdeal.v112_read _ _ _ _).trans ?_
    unfold Cert.KernelIdeal.qsRes ax
    rw [← (heq c).1]
    rfl
  · refine (Cert.ReferenceIdeal.Read.val_main_v113_eq _).trans ?_
    funext y
    rw [idx_three (p := 4) (q := 8192) (r := 4) y]
    refine (Cert.ReferenceIdeal.v113_read _ _ _ _).trans ?_
    unfold Cert.KernelIdeal.ksRes ak
    rw [← (heq c).2.1]
    rfl

/-- The certificate's claims. -/
theorem claim : Cert.Claim := ⟨Cert.Kernel.Gen.facts, Cert.KernelIdeal.Gen.facts, Cert.ReferenceIdeal.Gen.facts,
    Cert.ValueScales.Gen.facts, Cert.ValueScalesIdeal.Gen.facts, Cert.ValueScalesReferenceIdeal.Gen.facts,
    Cert.Pre_finite.facts, Cert.Pre_finite_values.facts, by
  refine ⟨fun m g _ => kernel_quiescent m g, fun m g _ => KernelIdeal.quiescent m g, fun m g _ => KernelIdeal.quiescent m g,
    fun m g _ => ?_, fun m g _ => ?_, fun m g _ => Cert.ValueScales.Gen.frame m g,
    fun m g _ => Cert.ValueScalesIdeal.Gen.frame m g, fun m g _ => Cert.ValueScalesIdeal.Gen.frame m g,
    fun m g _ => ?_, fun m g _ => ?_, trivial, @algebraic Cert.Pre_finite.facts, trivial,
    @Cert.ValueScalesIdeal.algebraic Cert.Pre_finite_values.facts⟩
  · exact (θ_run _ _ _).mono (fun r h => ⟨fun c => (h c).2.2.2, sem_eq_zero_of_no_sems (by decide) r.2⟩)
      (ReferenceIdeal.Value.run m g)
  · exact (θ_run _ _ _).mono (fun r h => ⟨fun c => (h c).2.2.2, sem_eq_zero_of_no_sems (by decide) r.2⟩)
      (ReferenceIdeal.Value.run m g)
  · exact (θ_run _ _ _).mono (fun r h => ⟨fun c => (h c).2, sem_eq_zero_of_no_sems (by decide) r.2⟩)
      (ValueScalesReferenceIdeal.Value.run m g)
  · exact (θ_run _ _ _).mono (fun r h => ⟨fun c => (h c).2, sem_eq_zero_of_no_sems (by decide) r.2⟩)
      (ValueScalesReferenceIdeal.Value.run m g)⟩

end Cert.Proof

end
